-- ==== Defs.lean ====
def Pre_Coarse (m : (ℓ : Loc Cert.Coarse.nD Cert.Coarse.τ Cert.Coarse.sig) → Buf (Elt Bits) ℓ) : Prop :=
  True

def Pre_CoarseIdeal (m : (ℓ : Loc Cert.CoarseIdeal.nD Cert.CoarseIdeal.τ Cert.CoarseIdeal.sig) → Buf (Elt Ideal) ℓ) : Prop :=
  True

def Pre_CoarseIdeal_coarse_finite [hPre_coarse_finite : Cert.Pre_coarse_finite.Facts] (m : (ℓ : Loc Cert.CoarseIdeal.nD Cert.CoarseIdeal.τ Cert.CoarseIdeal.sig) → Buf (Elt Ideal) ℓ) : Prop :=
  ∀ c : Dev Cert.CoarseIdeal.nD,
    (Cert.Pre_coarse_finite.fn (F := Ideal) (m ((c.tc : Thread Cert.CoarseIdeal.nD Cert.CoarseIdeal.τ).loc Cert.CoarseIdeal.main_arg0)) (m ((c.tc : Thread Cert.CoarseIdeal.nD Cert.CoarseIdeal.τ).loc Cert.CoarseIdeal.main_arg1)) (m ((c.tc : Thread Cert.CoarseIdeal.nD Cert.CoarseIdeal.τ).loc Cert.CoarseIdeal.main_arg2)) (m ((c.tc : Thread Cert.CoarseIdeal.nD Cert.CoarseIdeal.τ).loc Cert.CoarseIdeal.main_arg3)) (m ((c.tc : Thread Cert.CoarseIdeal.nD Cert.CoarseIdeal.τ).loc Cert.CoarseIdeal.main_arg4))) = (fun _ => 1#1)

def Pre_CoarseRefIdeal (m : (ℓ : Loc Cert.CoarseRefIdeal.nD Cert.CoarseRefIdeal.τ Cert.CoarseRefIdeal.sig) → Buf (Elt Ideal) ℓ) : Prop :=
  True

def Pre_CoarseRefIdeal_coarse_finite [hPre_coarse_finite : Cert.Pre_coarse_finite.Facts] (m : (ℓ : Loc Cert.CoarseRefIdeal.nD Cert.CoarseRefIdeal.τ Cert.CoarseRefIdeal.sig) → Buf (Elt Ideal) ℓ) : Prop :=
  ∀ c : Dev Cert.CoarseRefIdeal.nD,
    (Cert.Pre_coarse_finite.fn (F := Ideal) (m ((c.tc : Thread Cert.CoarseRefIdeal.nD Cert.CoarseRefIdeal.τ).loc Cert.CoarseRefIdeal.main_arg0)) (m ((c.tc : Thread Cert.CoarseRefIdeal.nD Cert.CoarseRefIdeal.τ).loc Cert.CoarseRefIdeal.main_arg1)) (m ((c.tc : Thread Cert.CoarseRefIdeal.nD Cert.CoarseRefIdeal.τ).loc Cert.CoarseRefIdeal.main_arg2)) (m ((c.tc : Thread Cert.CoarseRefIdeal.nD Cert.CoarseRefIdeal.τ).loc Cert.CoarseRefIdeal.main_arg3)) (m ((c.tc : Thread Cert.CoarseRefIdeal.nD Cert.CoarseRefIdeal.τ).loc Cert.CoarseRefIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_whole_finite [hPre_whole_finite : Cert.Pre_whole_finite.Facts] (m : (ℓ : Loc Cert.KernelIdeal.nD Cert.KernelIdeal.τ Cert.KernelIdeal.sig) → Buf (Elt Ideal) ℓ) : Prop :=
  ∀ c : Dev Cert.KernelIdeal.nD,
    (Cert.Pre_whole_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_finite [hPre_whole_finite : Cert.Pre_whole_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Coarse [hCoarse : Cert.Coarse.Facts] : Prop :=
  ∀ (m : (ℓ : Loc Cert.Coarse.nD Cert.Coarse.τ Cert.Coarse.sig) → Buf (Elt Bits) ℓ) (g : Dev Cert.Coarse.nD → PrngReg), Pre_Coarse m →
    θ_run (Cert.Coarse.defs (F := Bits)) (onTc (τ := Cert.Coarse.τ) (Cert.Coarse.main (F := Bits))) ⟨m, fun _ => 0, g⟩ (fun r => (∀ c : Dev Cert.Coarse.nD,
      r.2.mem ((c.tc : Thread Cert.Coarse.nD Cert.Coarse.τ).loc Cert.Coarse.main_arg0) = m ((c.tc : Thread Cert.Coarse.nD Cert.Coarse.τ).loc Cert.Coarse.main_arg0)
      ∧ r.2.mem ((c.tc : Thread Cert.Coarse.nD Cert.Coarse.τ).loc Cert.Coarse.main_arg1) = m ((c.tc : Thread Cert.Coarse.nD Cert.Coarse.τ).loc Cert.Coarse.main_arg1)
      ∧ r.2.mem ((c.tc : Thread Cert.Coarse.nD Cert.Coarse.τ).loc Cert.Coarse.main_arg2) = m ((c.tc : Thread Cert.Coarse.nD Cert.Coarse.τ).loc Cert.Coarse.main_arg2)
      ∧ r.2.mem ((c.tc : Thread Cert.Coarse.nD Cert.Coarse.τ).loc Cert.Coarse.main_arg3) = m ((c.tc : Thread Cert.Coarse.nD Cert.Coarse.τ).loc Cert.Coarse.main_arg3)
      ∧ r.2.mem ((c.tc : Thread Cert.Coarse.nD Cert.Coarse.τ).loc Cert.Coarse.main_arg4) = m ((c.tc : Thread Cert.Coarse.nD Cert.Coarse.τ).loc Cert.Coarse.main_arg4))
      ∧ r.2.sem = fun _ => 0)

def quiescent_CoarseIdeal [hCoarseIdeal : Cert.CoarseIdeal.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
      ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
      ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ r.2.sem = fun _ => 0)

def quiescent_CoarseIdeal_pre_coarse_finite [hCoarseIdeal : Cert.CoarseIdeal.Facts] [hPre_coarse_finite : Cert.Pre_coarse_finite.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal_coarse_finite m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
      ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
      ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ r.2.sem = fun _ => 0)

def quiescent_CoarseRefIdeal [hCoarseRefIdeal : Cert.CoarseRefIdeal.Facts] : Prop :=
  ∀ (m : (ℓ : Loc Cert.CoarseRefIdeal.nD Cert.CoarseRefIdeal.τ Cert.CoarseRefIdeal.sig) → Buf (Elt Ideal) ℓ) (g : Dev Cert.CoarseRefIdeal.nD → PrngReg), Pre_CoarseRefIdeal m →
    θ_run (Cert.CoarseRefIdeal.defs (F := Ideal)) (onTc (τ := Cert.CoarseRefIdeal.τ) (Cert.CoarseRefIdeal.main (F := Ideal))) ⟨m, fun _ => 0, g⟩ (fun r => (∀ c : Dev Cert.CoarseRefIdeal.nD,
      r.2.mem ((c.tc : Thread Cert.CoarseRefIdeal.nD Cert.CoarseRefIdeal.τ).loc Cert.CoarseRefIdeal.main_arg0) = m ((c.tc : Thread Cert.CoarseRefIdeal.nD Cert.CoarseRefIdeal.τ).loc Cert.CoarseRefIdeal.main_arg0)
      ∧ r.2.mem ((c.tc : Thread Cert.CoarseRefIdeal.nD Cert.CoarseRefIdeal.τ).loc Cert.CoarseRefIdeal.main_arg1) = m ((c.tc : Thread Cert.CoarseRefIdeal.nD Cert.CoarseRefIdeal.τ).loc Cert.CoarseRefIdeal.main_arg1)
      ∧ r.2.mem ((c.tc : Thread Cert.CoarseRefIdeal.nD Cert.CoarseRefIdeal.τ).loc Cert.CoarseRefIdeal.main_arg2) = m ((c.tc : Thread Cert.CoarseRefIdeal.nD Cert.CoarseRefIdeal.τ).loc Cert.CoarseRefIdeal.main_arg2)
      ∧ r.2.mem ((c.tc : Thread Cert.CoarseRefIdeal.nD Cert.CoarseRefIdeal.τ).loc Cert.CoarseRefIdeal.main_arg3) = m ((c.tc : Thread Cert.CoarseRefIdeal.nD Cert.CoarseRefIdeal.τ).loc Cert.CoarseRefIdeal.main_arg3)
      ∧ r.2.mem ((c.tc : Thread Cert.CoarseRefIdeal.nD Cert.CoarseRefIdeal.τ).loc Cert.CoarseRefIdeal.main_arg4) = m ((c.tc : Thread Cert.CoarseRefIdeal.nD Cert.CoarseRefIdeal.τ).loc Cert.CoarseRefIdeal.main_arg4))
      ∧ r.2.sem = fun _ => 0)

def quiescent_CoarseRefIdeal_pre_coarse_finite [hCoarseRefIdeal : Cert.CoarseRefIdeal.Facts] [hPre_coarse_finite : Cert.Pre_coarse_finite.Facts] : Prop :=
  ∀ (m : (ℓ : Loc Cert.CoarseRefIdeal.nD Cert.CoarseRefIdeal.τ Cert.CoarseRefIdeal.sig) → Buf (Elt Ideal) ℓ) (g : Dev Cert.CoarseRefIdeal.nD → PrngReg), Pre_CoarseRefIdeal_coarse_finite m →
    θ_run (Cert.CoarseRefIdeal.defs (F := Ideal)) (onTc (τ := Cert.CoarseRefIdeal.τ) (Cert.CoarseRefIdeal.main (F := Ideal))) ⟨m, fun _ => 0, g⟩ (fun r => (∀ c : Dev Cert.CoarseRefIdeal.nD,
      r.2.mem ((c.tc : Thread Cert.CoarseRefIdeal.nD Cert.CoarseRefIdeal.τ).loc Cert.CoarseRefIdeal.main_arg0) = m ((c.tc : Thread Cert.CoarseRefIdeal.nD Cert.CoarseRefIdeal.τ).loc Cert.CoarseRefIdeal.main_arg0)
      ∧ r.2.mem ((c.tc : Thread Cert.CoarseRefIdeal.nD Cert.CoarseRefIdeal.τ).loc Cert.CoarseRefIdeal.main_arg1) = m ((c.tc : Thread Cert.CoarseRefIdeal.nD Cert.CoarseRefIdeal.τ).loc Cert.CoarseRefIdeal.main_arg1)
      ∧ r.2.mem ((c.tc : Thread Cert.CoarseRefIdeal.nD Cert.CoarseRefIdeal.τ).loc Cert.CoarseRefIdeal.main_arg2) = m ((c.tc : Thread Cert.CoarseRefIdeal.nD Cert.CoarseRefIdeal.τ).loc Cert.CoarseRefIdeal.main_arg2)
      ∧ r.2.mem ((c.tc : Thread Cert.CoarseRefIdeal.nD Cert.CoarseRefIdeal.τ).loc Cert.CoarseRefIdeal.main_arg3) = m ((c.tc : Thread Cert.CoarseRefIdeal.nD Cert.CoarseRefIdeal.τ).loc Cert.CoarseRefIdeal.main_arg3)
      ∧ r.2.mem ((c.tc : Thread Cert.CoarseRefIdeal.nD Cert.CoarseRefIdeal.τ).loc Cert.CoarseRefIdeal.main_arg4) = m ((c.tc : Thread Cert.CoarseRefIdeal.nD Cert.CoarseRefIdeal.τ).loc Cert.CoarseRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_whole_finite [hKernelIdeal : Cert.KernelIdeal.Facts] [hPre_whole_finite : Cert.Pre_whole_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_whole_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_whole_finite [hReferenceIdeal : Cert.ReferenceIdeal.Facts] [hPre_whole_finite : Cert.Pre_whole_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Coarse_CoarseIdeal : Prop :=
  True

def algebraic_CoarseIdeal_CoarseRefIdeal_pre_coarse_finite [hCoarseIdeal : Cert.CoarseIdeal.Facts] [hCoarseRefIdeal : Cert.CoarseRefIdeal.Facts] [hPre_coarse_finite : Cert.Pre_coarse_finite.Facts] : Prop :=
  ∀ (m : (ℓ : Loc Cert.CoarseIdeal.nD Cert.CoarseIdeal.τ Cert.CoarseIdeal.sig) → Buf (Elt Ideal) ℓ) (g : Dev Cert.CoarseIdeal.nD → PrngReg)
    (m' : (ℓ : Loc Cert.CoarseRefIdeal.nD Cert.CoarseRefIdeal.τ Cert.CoarseRefIdeal.sig) → Buf (Elt Ideal) ℓ) (g' : Dev Cert.CoarseRefIdeal.nD → PrngReg), Pre_CoarseIdeal_coarse_finite m →
    (∀ c : Dev Cert.CoarseIdeal.nD,
      m' ((c.tc : Thread Cert.CoarseRefIdeal.nD Cert.CoarseRefIdeal.τ).loc Cert.CoarseRefIdeal.main_arg0) = m ((c.tc : Thread Cert.CoarseIdeal.nD Cert.CoarseIdeal.τ).loc Cert.CoarseIdeal.main_arg0)
      ∧ m' ((c.tc : Thread Cert.CoarseRefIdeal.nD Cert.CoarseRefIdeal.τ).loc Cert.CoarseRefIdeal.main_arg1) = m ((c.tc : Thread Cert.CoarseIdeal.nD Cert.CoarseIdeal.τ).loc Cert.CoarseIdeal.main_arg1)
      ∧ m' ((c.tc : Thread Cert.CoarseRefIdeal.nD Cert.CoarseRefIdeal.τ).loc Cert.CoarseRefIdeal.main_arg2) = m ((c.tc : Thread Cert.CoarseIdeal.nD Cert.CoarseIdeal.τ).loc Cert.CoarseIdeal.main_arg2)
      ∧ m' ((c.tc : Thread Cert.CoarseRefIdeal.nD Cert.CoarseRefIdeal.τ).loc Cert.CoarseRefIdeal.main_arg3) = m ((c.tc : Thread Cert.CoarseIdeal.nD Cert.CoarseIdeal.τ).loc Cert.CoarseIdeal.main_arg3)
      ∧ m' ((c.tc : Thread Cert.CoarseRefIdeal.nD Cert.CoarseRefIdeal.τ).loc Cert.CoarseRefIdeal.main_arg4) = m ((c.tc : Thread Cert.CoarseIdeal.nD Cert.CoarseIdeal.τ).loc Cert.CoarseIdeal.main_arg4)) →
    ∃ (v0 : (c : Dev Cert.CoarseIdeal.nD) → Buf (Elt Ideal) ((c.tc : Thread Cert.CoarseIdeal.nD Cert.CoarseIdeal.τ).loc Cert.CoarseIdeal.main_v66_0)) (v1 : (c : Dev Cert.CoarseIdeal.nD) → Buf (Elt Ideal) ((c.tc : Thread Cert.CoarseIdeal.nD Cert.CoarseIdeal.τ).loc Cert.CoarseIdeal.main_v66_1)),
      θ_run (Cert.CoarseIdeal.defs (F := Ideal)) (onTc (τ := Cert.CoarseIdeal.τ) (Cert.CoarseIdeal.main (F := Ideal))) ⟨m, fun _ => 0, g⟩ (fun r => ∀ c : Dev Cert.CoarseIdeal.nD,
          r.2.mem ((c.tc : Thread Cert.CoarseIdeal.nD Cert.CoarseIdeal.τ).loc Cert.CoarseIdeal.main_v66_0) = v0 c
          ∧ r.2.mem ((c.tc : Thread Cert.CoarseIdeal.nD Cert.CoarseIdeal.τ).loc Cert.CoarseIdeal.main_v66_1) = v1 c
          ∧ r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
          ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
          ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
          ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
          ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ θ_run (Cert.CoarseRefIdeal.defs (F := Ideal)) (onTc (τ := Cert.CoarseRefIdeal.τ) (Cert.CoarseRefIdeal.main (F := Ideal))) ⟨m', fun _ => 0, g'⟩ (fun r => ∀ c : Dev Cert.CoarseRefIdeal.nD,
          r.2.mem ((c.tc : Thread Cert.CoarseRefIdeal.nD Cert.CoarseRefIdeal.τ).loc Cert.CoarseRefIdeal.main_v124) = v0 c
          ∧ r.2.mem ((c.tc : Thread Cert.CoarseRefIdeal.nD Cert.CoarseRefIdeal.τ).loc Cert.CoarseRefIdeal.main_v125) = v1 c
          ∧ r.2.mem ((c.tc : Thread Cert.CoarseRefIdeal.nD Cert.CoarseRefIdeal.τ).loc Cert.CoarseRefIdeal.main_arg0) = m' ((c.tc : Thread Cert.CoarseRefIdeal.nD Cert.CoarseRefIdeal.τ).loc Cert.CoarseRefIdeal.main_arg0)
          ∧ r.2.mem ((c.tc : Thread Cert.CoarseRefIdeal.nD Cert.CoarseRefIdeal.τ).loc Cert.CoarseRefIdeal.main_arg1) = m' ((c.tc : Thread Cert.CoarseRefIdeal.nD Cert.CoarseRefIdeal.τ).loc Cert.CoarseRefIdeal.main_arg1)
          ∧ r.2.mem ((c.tc : Thread Cert.CoarseRefIdeal.nD Cert.CoarseRefIdeal.τ).loc Cert.CoarseRefIdeal.main_arg2) = m' ((c.tc : Thread Cert.CoarseRefIdeal.nD Cert.CoarseRefIdeal.τ).loc Cert.CoarseRefIdeal.main_arg2)
          ∧ r.2.mem ((c.tc : Thread Cert.CoarseRefIdeal.nD Cert.CoarseRefIdeal.τ).loc Cert.CoarseRefIdeal.main_arg3) = m' ((c.tc : Thread Cert.CoarseRefIdeal.nD Cert.CoarseRefIdeal.τ).loc Cert.CoarseRefIdeal.main_arg3)
          ∧ r.2.mem ((c.tc : Thread Cert.CoarseRefIdeal.nD Cert.CoarseRefIdeal.τ).loc Cert.CoarseRefIdeal.main_arg4) = m' ((c.tc : Thread Cert.CoarseRefIdeal.nD Cert.CoarseRefIdeal.τ).loc Cert.CoarseRefIdeal.main_arg4))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v20)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v20) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v197) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v15)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v92) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Kernel_KernelIdeal : Prop :=
  True

def algebraic_KernelIdeal_ReferenceIdeal_pre_whole_finite [hKernelIdeal : Cert.KernelIdeal.Facts] [hReferenceIdeal : Cert.ReferenceIdeal.Facts] [hPre_whole_finite : Cert.Pre_whole_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_whole_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v414) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hCoarse : Cert.Coarse.Facts) (hCoarseIdeal : Cert.CoarseIdeal.Facts) (hCoarseRefIdeal : Cert.CoarseRefIdeal.Facts) (hUp : Cert.Up.Facts) (hUpIdeal : Cert.UpIdeal.Facts) (hUpRefIdeal : Cert.UpRefIdeal.Facts) (hMix : Cert.Mix.Facts) (hMixIdeal : Cert.MixIdeal.Facts) (hMixRefIdeal : Cert.MixRefIdeal.Facts) (hKernel : Cert.Kernel.Facts) (hKernelIdeal : Cert.KernelIdeal.Facts) (hReferenceIdeal : Cert.ReferenceIdeal.Facts) (hPre_coarse_finite : Cert.Pre_coarse_finite.Facts) (hPre_up_finite : Cert.Pre_up_finite.Facts) (hPre_whole_finite : Cert.Pre_whole_finite.Facts),
    quiescent_Coarse (hCoarse := hCoarse)
    ∧ quiescent_CoarseIdeal (hCoarseIdeal := hCoarseIdeal)
    ∧ quiescent_CoarseIdeal_pre_coarse_finite (hCoarseIdeal := hCoarseIdeal) (hPre_coarse_finite := hPre_coarse_finite)
    ∧ quiescent_CoarseRefIdeal (hCoarseRefIdeal := hCoarseRefIdeal)
    ∧ quiescent_CoarseRefIdeal_pre_coarse_finite (hCoarseRefIdeal := hCoarseRefIdeal) (hPre_coarse_finite := hPre_coarse_finite)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Mix (hMix := hMix)
    ∧ quiescent_MixIdeal (hMixIdeal := hMixIdeal)
    ∧ quiescent_MixRefIdeal (hMixRefIdeal := hMixRefIdeal)
    ∧ quiescent_Kernel (hKernel := hKernel)
    ∧ quiescent_KernelIdeal (hKernelIdeal := hKernelIdeal)
    ∧ quiescent_KernelIdeal_pre_whole_finite (hKernelIdeal := hKernelIdeal) (hPre_whole_finite := hPre_whole_finite)
    ∧ quiescent_ReferenceIdeal (hReferenceIdeal := hReferenceIdeal)
    ∧ quiescent_ReferenceIdeal_pre_whole_finite (hReferenceIdeal := hReferenceIdeal) (hPre_whole_finite := hPre_whole_finite)
    ∧ preserves_Coarse_CoarseIdeal
    ∧ algebraic_CoarseIdeal_CoarseRefIdeal_pre_coarse_finite (hCoarseIdeal := hCoarseIdeal) (hCoarseRefIdeal := hCoarseRefIdeal) (hPre_coarse_finite := hPre_coarse_finite)
    ∧ preserves_Up_UpIdeal
    ∧ algebraic_UpIdeal_UpRefIdeal_pre_up_finite (hUpIdeal := hUpIdeal) (hUpRefIdeal := hUpRefIdeal) (hPre_up_finite := hPre_up_finite)
    ∧ preserves_Mix_MixIdeal
    ∧ algebraic_MixIdeal_MixRefIdeal (hMixIdeal := hMixIdeal) (hMixRefIdeal := hMixRefIdeal)
    ∧ preserves_Kernel_KernelIdeal
    ∧ algebraic_KernelIdeal_ReferenceIdeal_pre_whole_finite (hKernelIdeal := hKernelIdeal) (hReferenceIdeal := hReferenceIdeal) (hPre_whole_finite := hPre_whole_finite)
-- ==== Pre_coarse_finite.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S_ : Shape := ⟨0, ![]⟩

class Facts : Prop where
  bcast_S_S4x192x34x34 : S_.BroadcastsInDim S4x192x34x34 (![] : Fin 0 → Fin S4x192x34x34.rank)
  reducesTo_S4x192x34x34_S_d0_1_2_3 : S4x192x34x34.ReducesTo [0, 1, 2, 3] S_
  h_S_ : 0 < S_.numel
  bcast_S_S384x192x4x4 : S_.BroadcastsInDim S384x192x4x4 (![] : Fin 0 → Fin S384x192x4x4.rank)
  reducesTo_S384x192x4x4_S_d0_1_2_3 : S384x192x4x4.ReducesTo [0, 1, 2, 3] S_
  bcast_S_S384 : S_.BroadcastsInDim S384 (![] : Fin 0 → Fin S384.rank)
  reducesTo_S384_S_d0 : S384.ReducesTo [0] S_
  bcast_S_S4x12 : S_.BroadcastsInDim S4x12 (![] : Fin 0 → Fin S4x12.rank)
  reducesTo_S4x12_S_d0_1 : S4x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S12 .f32) (main_v13 : IVec S_ 1) (main_v16 : IVec S4x12 1) : IVec S_ 1 :=
  let main_c_5 : IVec S_ 1 := constantI S_ 1 1#1
  let main_v17 : IVec S_ 1 := (fun x v => Host.reduce IntOp.andi x v reducesTo_S4x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S4x192x34x34 .f32) (main_arg1 : FVec F S384x192x4x4 .f32) (main_arg2 : FVec F S384 .f32) (main_arg3 : FVec F S4x12 .f32) (main_arg4 : FVec F S12 .f32) : IVec S_ 1 :=
  let main_v0 : FVec F S4x192x34x34 .f32 := Host.absf main_arg0
  let main_cst : FVec F S_ .f32 := constant S_ .f32 0x7F800000#32
  let main_v1 : FVec F S4x192x34x34 .f32 := broadcastInDim S4x192x34x34 ![] bcast_S_S4x192x34x34 main_cst
  let main_v2 : IVec S4x192x34x34 1 := cmpf .olt main_v0 main_v1
  let main_c : IVec S_ 1 := constantI S_ 1 1#1
  let main_v3 : IVec S_ 1 := (fun x v => Host.reduce IntOp.andi x v reducesTo_S4x192x34x34_S_d0_1_2_3 h_S_) main_v2 main_c
  let main_v4 : FVec F S384x192x4x4 .f32 := Host.absf main_arg1
  let main_cst_0 : FVec F S_ .f32 := constant S_ .f32 0x7F800000#32
  let main_v5 : FVec F S384x192x4x4 .f32 := broadcastInDim S384x192x4x4 ![] bcast_S_S384x192x4x4 main_cst_0
  let main_v6 : IVec S384x192x4x4 1 := cmpf .olt main_v4 main_v5
  let main_c_1 : IVec S_ 1 := constantI S_ 1 1#1
  let main_v7 : IVec S_ 1 := (fun x v => Host.reduce IntOp.andi x v reducesTo_S384x192x4x4_S_d0_1_2_3 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S4x12 .f32 := Host.absf main_arg3
  let main_cst_4 : FVec F S_ .f32 := constant S_ .f32 0x7F800000#32
  let main_v15 : FVec F S4x12 .f32 := broadcastInDim S4x12 ![] bcast_S_S4x12 main_cst_4
  let main_v16 : IVec S4x12 1 := cmpf .olt main_v14 main_v15
  fn_part1 (F := F) main_arg4 main_v13 main_v16
-- ==== Pre_up_finite.lean ====
abbrev S4x384x256 : Shape := ⟨3, ![4, 384, 256]⟩
abbrev S4x256x1 : Shape := ⟨3, ![4, 256, 1]⟩
abbrev S384x192x4x4 : Shape := ⟨4, ![384, 192, 4, 4]⟩
abbrev S192 : Shape := ⟨1, ![192]⟩
abbrev S4x12 : Shape := ⟨2, ![4, 12]⟩
abbrev S12 : Shape := ⟨1, ![12]⟩
abbrev S_ : Shape := ⟨0, ![]⟩

class Facts : Prop where
  bcast_S_S4x384x256 : S_.BroadcastsInDim S4x384x256 (![] : Fin 0 → Fin S4x384x256.rank)
  reducesTo_S4x384x256_S_d0_1_2 : S4x384x256.ReducesTo [0, 1, 2] S_
  h_S_ : 0 < S_.numel
  bcast_S_S384x192x4x4 : S_.BroadcastsInDim S384x192x4x4 (![] : Fin 0 → Fin S384x192x4x4.rank)
  reducesTo_S384x192x4x4_S_d0_1_2_3 : S384x192x4x4.ReducesTo [0, 1, 2, 3] S_
  bcast_S_S192 : S_.BroadcastsInDim S192 (![] : Fin 0 → Fin S192.rank)
  reducesTo_S192_S_d0 : S192.ReducesTo [0] S_
  bcast_S_S4x12 : S_.BroadcastsInDim S4x12 (![] : Fin 0 → Fin S4x12.rank)
  reducesTo_S4x12_S_d0_1 : S4x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg5 : FVec F S12 .f32) (main_v13 : IVec S_ 1) (main_v16 : IVec S4x12 1) : IVec S_ 1 :=
  let main_c_5 : IVec S_ 1 := constantI S_ 1 1#1
  let main_v17 : IVec S_ 1 := (fun x v => Host.reduce IntOp.andi x v reducesTo_S4x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S4x384x256 .f32) (main_arg1 : FVec F S4x256x1 .f32) (main_arg2 : FVec F S384x192x4x4 .f32) (main_arg3 : FVec F S192 .f32) (main_arg4 : FVec F S4x12 .f32) (main_arg5 : FVec F S12 .f32) : IVec S_ 1 :=
  let main_v0 : FVec F S4x384x256 .f32 := Host.absf main_arg0
  let main_cst : FVec F S_ .f32 := constant S_ .f32 0x7F800000#32
  let main_v1 : FVec F S4x384x256 .f32 := broadcastInDim S4x384x256 ![] bcast_S_S4x384x256 main_cst
  let main_v2 : IVec S4x384x256 1 := cmpf .olt main_v0 main_v1
  let main_c : IVec S_ 1 := constantI S_ 1 1#1
  let main_v3 : IVec S_ 1 := (fun x v => Host.reduce IntOp.andi x v reducesTo_S4x384x256_S_d0_1_2 h_S_) main_v2 main_c
  let main_v4 : FVec F S384x192x4x4 .f32 := Host.absf main_arg2
  let main_cst_0 : FVec F S_ .f32 := constant S_ .f32 0x7F800000#32
  let main_v5 : FVec F S384x192x4x4 .f32 := broadcastInDim S384x192x4x4 ![] bcast_S_S384x192x4x4 main_cst_0
  let main_v6 : IVec S384x192x4x4 1 := cmpf .olt main_v4 main_v5
  let main_c_1 : IVec S_ 1 := constantI S_ 1 1#1
  let main_v7 : IVec S_ 1 := (fun x v => Host.reduce IntOp.andi x v reducesTo_S384x192x4x4_S_d0_1_2_3 h_S_) main_v6 main_c_1
  let main_v8 : IVec S_ 1 := andi main_v3 main_v7
  let main_v9 : FVec F S192 .f32 := Host.absf main_arg3
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S4x12 .f32 := Host.absf main_arg4
  let main_cst_4 : FVec F S_ .f32 := constant S_ .f32 0x7F800000#32
  let main_v15 : FVec F S4x12 .f32 := broadcastInDim S4x12 ![] bcast_S_S4x12 main_cst_4
  let main_v16 : IVec S4x12 1 := cmpf .olt main_v14 main_v15
  fn_part1 (F := F) main_arg5 main_v13 main_v16
-- ==== Pre_whole_finite.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S192 : Shape := ⟨1, ![192]⟩
abbrev S192x1x3x3 : Shape := ⟨4, ![192, 1, 3, 3]⟩
abbrev S192x192x1x1 : Shape := ⟨4, ![192, 192, 1, 1]⟩
abbrev S_ : Shape := ⟨0, ![]⟩

class Facts : Prop where
  bcast_S_S4x192x34x34 : S_.BroadcastsInDim S4x192x34x34 (![] : Fin 0 → Fin S4x192x34x34.rank)
  reducesTo_S4x192x34x34_S_d0_1_2_3 : S4x192x34x34.ReducesTo [0, 1, 2, 3] S_
  h_S_ : 0 < S_.numel
  bcast_S_S384x192x4x4 : S_.BroadcastsInDim S384x192x4x4 (![] : Fin 0 → Fin S384x192x4x4.rank)
  reducesTo_S384x192x4x4_S_d0_1_2_3 : S384x192x4x4.ReducesTo [0, 1, 2, 3] S_
  bcast_S_S384 : S_.BroadcastsInDim S384 (![] : Fin 0 → Fin S384.rank)
  reducesTo_S384_S_d0 : S384.ReducesTo [0] S_
  bcast_S_S4x12 : S_.BroadcastsInDim S4x12 (![] : Fin 0 → Fin S4x12.rank)
  reducesTo_S4x12_S_d0_1 : S4x12.ReducesTo [0, 1] S_
  bcast_S_S12 : S_.BroadcastsInDim S12 (![] : Fin 0 → Fin S12.rank)
  reducesTo_S12_S_d0 : S12.ReducesTo [0] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S4x12 .f32) (main_arg8 : FVec F S12 .f32) (main_v33 : IVec S_ 1) : IVec S_ 1 :=
  let main_v34 : FVec F S4x12 .f32 := Host.absf main_arg7
  let main_cst_12 : FVec F S_ .f32 := constant S_ .f32 0x7F800000#32
  let main_v35 : FVec F S4x12 .f32 := broadcastInDim S4x12 ![] bcast_S_S4x12 main_cst_12
  let main_v36 : IVec S4x12 1 := cmpf .olt main_v34 main_v35
  let main_c_13 : IVec S_ 1 := constantI S_ 1 1#1
  let main_v37 : IVec S_ 1 := (fun x v => Host.reduce IntOp.andi x v reducesTo_S4x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S12 .f32) (main_arg5 : FVec F S384x192x4x4 .f32) (main_arg6 : FVec F S192 .f32) (main_arg7 : FVec F S4x12 .f32) (main_arg8 : FVec F S12 .f32) (main_v13 : IVec S_ 1) (main_v16 : IVec S4x12 1) : IVec S_ 1 :=
  let main_c_5 : IVec S_ 1 := constantI S_ 1 1#1
  let main_v17 : IVec S_ 1 := (fun x v => Host.reduce IntOp.andi x v reducesTo_S4x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S384x192x4x4 .f32 := Host.absf main_arg5
  let main_cst_8 : FVec F S_ .f32 := constant S_ .f32 0x7F800000#32
  let main_v25 : FVec F S384x192x4x4 .f32 := broadcastInDim S384x192x4x4 ![] bcast_S_S384x192x4x4 main_cst_8
  let main_v26 : IVec S384x192x4x4 1 := cmpf .olt main_v24 main_v25
  let main_c_9 : IVec S_ 1 := constantI S_ 1 1#1
  let main_v27 : IVec S_ 1 := (fun x v => Host.reduce IntOp.andi x v reducesTo_S384x192x4x4_S_d0_1_2_3 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_v33

def fn {F : FTy → Type} [FloatOps F] (main_arg0 : FVec F S4x192x34x34 .f32) (main_arg1 : FVec F S384x192x4x4 .f32) (main_arg2 : FVec F S384 .f32) (main_arg3 : FVec F S4x12 .f32) (main_arg4 : FVec F S12 .f32) (main_arg5 : FVec F S384x192x4x4 .f32) (main_arg6 : FVec F S192 .f32) (main_arg7 : FVec F S4x12 .f32) (main_arg8 : FVec F S12 .f32) (main_arg9 : FVec F S192x1x3x3 .f32) (main_arg10 : FVec F S192 .f32) (main_arg11 : FVec F S192 .f32) (main_arg12 : FVec F S192x192x1x1 .f32) (main_arg13 : FVec F S192 .f32) (main_arg14 : FVec F S192 .f32) : IVec S_ 1 :=
  let main_v0 : FVec F S4x192x34x34 .f32 := Host.absf main_arg0
  let main_cst : FVec F S_ .f32 := constant S_ .f32 0x7F800000#32
  let main_v1 : FVec F S4x192x34x34 .f32 := broadcastInDim S4x192x34x34 ![] bcast_S_S4x192x34x34 main_cst
  let main_v2 : IVec S4x192x34x34 1 := cmpf .olt main_v0 main_v1
  let main_c : IVec S_ 1 := constantI S_ 1 1#1
  let main_v3 : IVec S_ 1 := (fun x v => Host.reduce IntOp.andi x v reducesTo_S4x192x34x34_S_d0_1_2_3 h_S_) main_v2 main_c
  let main_v4 : FVec F S384x192x4x4 .f32 := Host.absf main_arg1
  let main_cst_0 : FVec F S_ .f32 := constant S_ .f32 0x7F800000#32
  let main_v5 : FVec F S384x192x4x4 .f32 := broadcastInDim S384x192x4x4 ![] bcast_S_S384x192x4x4 main_cst_0
  let main_v6 : IVec S384x192x4x4 1 := cmpf .olt main_v4 main_v5
  let main_c_1 : IVec S_ 1 := constantI S_ 1 1#1
  let main_v7 : IVec S_ 1 := (fun x v => Host.reduce IntOp.andi x v reducesTo_S384x192x4x4_S_d0_1_2_3 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S4x12 .f32 := Host.absf main_arg3
  let main_cst_4 : FVec F S_ .f32 := constant S_ .f32 0x7F800000#32
  let main_v15 : FVec F S4x12 .f32 := broadcastInDim S4x12 ![] bcast_S_S4x12 main_cst_4
  let main_v16 : IVec S4x12 1 := cmpf .olt main_v14 main_v15
  fn_part1 (F := F) main_arg4 main_arg5 main_arg6 main_arg7 main_arg8 main_v13 main_v16
-- ==== Coarse.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S4x192x16x16 : Shape := ⟨4, ![4, 192, 16, 16]⟩
abbrev S4x1x192x16x16 : Shape := ⟨5, ![4, 1, 192, 16, 16]⟩
abbrev S4x16x192x16x16 : Shape := ⟨5, ![4, 16, 192, 16, 16]⟩
abbrev S4x3072x256 : Shape := ⟨3, ![4, 3072, 256]⟩
abbrev S384x4x4x192 : Shape := ⟨4, ![384, 4, 4, 192]⟩
abbrev S384x3072 : Shape := ⟨2, ![384, 3072]⟩
abbrev S8x8 : Shape := ⟨2, ![8, 8]⟩
abbrev S_ : Shape := ⟨0, ![]⟩
abbrev S12x4 : Shape := ⟨2, ![12, 4]⟩
abbrev S8x1x8x1 : Shape := ⟨4, ![8, 1, 8, 1]⟩
abbrev S1x12x1x4 : Shape := ⟨4, ![1, 12, 1, 4]⟩
abbrev S8x12x8x4 : Shape := ⟨4, ![8, 12, 8, 4]⟩
abbrev S96x32 : Shape := ⟨2, ![96, 32]⟩
abbrev S1x12 : Shape := ⟨2, ![1, 12]⟩
abbrev S8x12 : Shape := ⟨2, ![8, 12]⟩
abbrev S96 : Shape := ⟨1, ![96]⟩
abbrev S96x1 : Shape := ⟨2, ![96, 1]⟩
abbrev S384x1 : Shape := ⟨2, ![384, 1]⟩
abbrev S4x384x256 : Shape := ⟨3, ![4, 384, 256]⟩
abbrev S4x256x1 : Shape := ⟨3, ![4, 256, 1]⟩
abbrev S1x3072x256 : Shape := ⟨3, ![1, 3072, 256]⟩
abbrev S1x384x256 : Shape := ⟨3, ![1, 384, 256]⟩
abbrev S1x256x1 : Shape := ⟨3, ![1, 256, 1]⟩
abbrev S3072x256 : Shape := ⟨2, ![3072, 256]⟩
abbrev S384x256 : Shape := ⟨2, ![384, 256]⟩
abbrev S256x256 : Shape := ⟨2, ![256, 256]⟩
abbrev S32x256 : Shape := ⟨2, ![32, 256]⟩
abbrev S96x256 : Shape := ⟨2, ![96, 256]⟩
abbrev S4x256 : Shape := ⟨2, ![4, 256]⟩
abbrev S256 : Shape := ⟨1, ![256]⟩
abbrev S1x256 : Shape := ⟨2, ![1, 256]⟩
abbrev S1x32x256 : Shape := ⟨3, ![1, 32, 256]⟩
abbrev S256x1 : Shape := ⟨2, ![256, 1]⟩

abbrev nBuf : Space → Nat
  | .hbm => 74
  | .vmem => 14
  | .smem => 0
  | _ => 0

abbrev bufTy : (tb : Table) → Fin (tcTables nBuf tb) → BufTy
  | .hbm, ⟨0, _⟩ => ⟨S4x192x34x34, .f32⟩
  | .hbm, ⟨1, _⟩ => ⟨S384x192x4x4, .f32⟩
  | .hbm, ⟨2, _⟩ => ⟨S384, .f32⟩
  | .hbm, ⟨3, _⟩ => ⟨S4x12, .f32⟩
  | .hbm, ⟨4, _⟩ => ⟨S12, .f32⟩
  | .hbm, ⟨5, _⟩ => ⟨S4x192x16x16, .f32⟩
  | .hbm, ⟨6, _⟩ => ⟨S4x192x16x16, .f32⟩
  | .hbm, ⟨7, _⟩ => ⟨S4x192x16x16, .f32⟩
  | .hbm, ⟨8, _⟩ => ⟨S4x192x16x16, .f32⟩
  | .hbm, ⟨9, _⟩ => ⟨S4x192x16x16, .f32⟩
  | .hbm, ⟨10, _⟩ => ⟨S4x192x16x16, .f32⟩
  | .hbm, ⟨11, _⟩ => ⟨S4x192x16x16, .f32⟩
  | .hbm, ⟨12, _⟩ => ⟨S4x192x16x16, .f32⟩
  | .hbm, ⟨13, _⟩ => ⟨S4x192x16x16, .f32⟩
  | .hbm, ⟨14, _⟩ => ⟨S4x192x16x16, .f32⟩
  | .hbm, ⟨15, _⟩ => ⟨S4x192x16x16, .f32⟩
  | .hbm, ⟨16, _⟩ => ⟨S4x192x16x16, .f32⟩
  | .hbm, ⟨17, _⟩ => ⟨S4x192x16x16, .f32⟩
  | .hbm, ⟨18, _⟩ => ⟨S4x192x16x16, .f32⟩
  | .hbm, ⟨19, _⟩ => ⟨S4x192x16x16, .f32⟩
  | .hbm, ⟨20, _⟩ => ⟨S4x192x16x16, .f32⟩
  | .hbm, ⟨21, _⟩ => ⟨S4x1x192x16x16, .f32⟩
  | .hbm, ⟨22, _⟩ => ⟨S4x1x192x16x16, .f32⟩
  | .hbm, ⟨23, _⟩ => ⟨S4x1x192x16x16, .f32⟩
  | .hbm, ⟨24, _⟩ => ⟨S4x1x192x16x16, .f32⟩
  | .hbm, ⟨25, _⟩ => ⟨S4x1x192x16x16, .f32⟩
  | .hbm, ⟨26, _⟩ => ⟨S4x1x192x16x16, .f32⟩
  | .hbm, ⟨27, _⟩ => ⟨S4x1x192x16x16, .f32⟩
  | .hbm, ⟨28, _⟩ => ⟨S4x1x192x16x16, .f32⟩
  | .hbm, ⟨29, _⟩ => ⟨S4x1x192x16x16, .f32⟩
  | .hbm, ⟨30, _⟩ => ⟨S4x1x192x16x16, .f32⟩
  | .hbm, ⟨31, _⟩ => ⟨S4x1x192x16x16, .f32⟩
  | .hbm, ⟨32, _⟩ => ⟨S4x1x192x16x16, .f32⟩
  | .hbm, ⟨33, _⟩ => ⟨S4x1x192x16x16, .f32⟩
  | .hbm, ⟨34, _⟩ => ⟨S4x1x192x16x16, .f32⟩
  | .hbm, ⟨35, _⟩ => ⟨S4x1x192x16x16, .f32⟩
  | .hbm, ⟨36, _⟩ => ⟨S4x1x192x16x16, .f32⟩
  | .hbm, ⟨37, _⟩ => ⟨S4x16x192x16x16, .f32⟩
  | .hbm, ⟨38, _⟩ => ⟨S4x3072x256, .f32⟩
  | .hbm, ⟨39, _⟩ => ⟨S4x3072x256, .bf16⟩
  | .hbm, ⟨40, _⟩ => ⟨S4x3072x256, .f32⟩
  | .hbm, ⟨41, _⟩ => ⟨S4x3072x256, .f32⟩
  | .hbm, ⟨42, _⟩ => ⟨S4x3072x256, .bf16⟩
  | .hbm, ⟨43, _⟩ => ⟨S384x4x4x192, .f32⟩
  | .hbm, ⟨44, _⟩ => ⟨S384x3072, .f32⟩
  | .hbm, ⟨45, _⟩ => ⟨S384x3072, .bf16⟩
  | .hbm, ⟨46, _⟩ => ⟨S384x3072, .f32⟩
  | .hbm, ⟨47, _⟩ => ⟨S384x3072, .f32⟩
  | .hbm, ⟨48, _⟩ => ⟨S384x3072, .bf16⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S12x4, .f32⟩
  | .hbm, ⟨57, _⟩ => ⟨S8x1x8x1, .f32⟩
  | .hbm, ⟨58, _⟩ => ⟨S1x12x1x4, .f32⟩
  | .hbm, ⟨59, _⟩ => ⟨S8x12x8x4, .f32⟩
  | .hbm, ⟨60, _⟩ => ⟨S8x12x8x4, .f32⟩
  | .hbm, ⟨61, _⟩ => ⟨S8x12x8x4, .f32⟩
  | .hbm, ⟨62, _⟩ => ⟨S96x32, .f32⟩
  | .hbm, ⟨63, _⟩ => ⟨S96x32, .bf16⟩
  | .hbm, ⟨64, _⟩ => ⟨S96x32, .f32⟩
  | .hbm, ⟨65, _⟩ => ⟨S96x32, .f32⟩
  | .hbm, ⟨66, _⟩ => ⟨S96x32, .bf16⟩
  | .hbm, ⟨67, _⟩ => ⟨S1x12, .f32⟩
  | .hbm, ⟨68, _⟩ => ⟨S8x12, .f32⟩
  | .hbm, ⟨69, _⟩ => ⟨S96, .f32⟩
  | .hbm, ⟨70, _⟩ => ⟨S96x1, .f32⟩
  | .hbm, ⟨71, _⟩ => ⟨S384x1, .f32⟩
  | .hbm, ⟨72, _⟩ => ⟨S4x384x256, .f32⟩
  | .hbm, ⟨73, _⟩ => ⟨S4x256x1, .f32⟩
  | .local _ .vmem, ⟨0, _⟩ => ⟨S1x3072x256, .bf16⟩
  | .local _ .vmem, ⟨1, _⟩ => ⟨S1x3072x256, .bf16⟩
  | .local _ .vmem, ⟨2, _⟩ => ⟨S1x3072x256, .bf16⟩
  | .local _ .vmem, ⟨3, _⟩ => ⟨S1x3072x256, .bf16⟩
  | .local _ .vmem, ⟨4, _⟩ => ⟨S384x3072, .bf16⟩
  | .local _ .vmem, ⟨5, _⟩ => ⟨S384x3072, .bf16⟩
  | .local _ .vmem, ⟨6, _⟩ => ⟨S384x1, .f32⟩
  | .local _ .vmem, ⟨7, _⟩ => ⟨S96x32, .bf16⟩
  | .local _ .vmem, ⟨8, _⟩ => ⟨S96x32, .bf16⟩
  | .local _ .vmem, ⟨9, _⟩ => ⟨S96x1, .f32⟩
  | .local _ .vmem, ⟨10, _⟩ => ⟨S1x384x256, .f32⟩
  | .local _ .vmem, ⟨11, _⟩ => ⟨S1x384x256, .f32⟩
  | .local _ .vmem, ⟨12, _⟩ => ⟨S1x256x1, .f32⟩
  | .local _ .vmem, ⟨13, _⟩ => ⟨S1x256x1, .f32⟩
  | _, _ => ⟨S4x192x34x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_c : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66_0 : Ref sig .tc := ⟨.hbm, 72, rfl⟩
abbrev main_v66_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CoarseRefIdeal.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S1x384x1x1 : Shape := ⟨4, ![1, 384, 1, 1]⟩
abbrev S384x192x1x1 : Shape := ⟨4, ![384, 192, 1, 1]⟩
abbrev S384x192 : Shape := ⟨2, ![384, 192]⟩
abbrev S4x192x16x16 : Shape := ⟨4, ![4, 192, 16, 16]⟩
abbrev S4x16x16x384 : Shape := ⟨4, ![4, 16, 16, 384]⟩
abbrev S4x384x16x16 : Shape := ⟨4, ![4, 384, 16, 16]⟩
abbrev S4x96x4x256 : Shape := ⟨4, ![4, 96, 4, 256]⟩
abbrev S4x96x256x4 : Shape := ⟨4, ![4, 96, 256, 4]⟩
abbrev S4x96x256x12 : Shape := ⟨4, ![4, 96, 256, 12]⟩
abbrev S1x1x1x12 : Shape := ⟨4, ![1, 1, 1, 12]⟩
abbrev S4x96x256x256 : Shape := ⟨4, ![4, 96, 256, 256]⟩
abbrev S_ : Shape := ⟨0, ![]⟩
abbrev S4x96x256 : Shape := ⟨3, ![4, 96, 256]⟩
abbrev S4x96x256x1 : Shape := ⟨4, ![4, 96, 256, 1]⟩
abbrev S4x256 : Shape := ⟨2, ![4, 256]⟩
abbrev S4x384x256 : Shape := ⟨3, ![4, 384, 256]⟩
abbrev S4x256x1 : Shape := ⟨3, ![4, 256, 1]⟩

abbrev nBuf : Space → Nat
  | .hbm => 136
  | .vmem => 0
  | .smem => 0
  | _ => 0

abbrev hbmTy0_0 (i : Nat) : BufTy := match i % 128 with
  | 0 => ⟨S4x192x34x34, .f32⟩
  | 1 => ⟨S384x192x4x4, .f32⟩
  | 2 => ⟨S384, .f32⟩
  | 3 => ⟨S4x12, .f32⟩
  | 4 => ⟨S12, .f32⟩
  | 5 => ⟨S1x384x1x1, .f32⟩
  | 6 => ⟨S384x192x1x1, .f32⟩
  | 7 => ⟨S384x192, .f32⟩
  | 8 => ⟨S4x192x16x16, .f32⟩
  | 9 => ⟨S4x16x16x384, .f32⟩
  | 10 => ⟨S4x384x16x16, .f32⟩
  | 11 => ⟨S4x384x16x16, .f32⟩
  | 12 => ⟨S4x384x16x16, .f32⟩
  | 13 => ⟨S384x192x1x1, .f32⟩
  | 14 => ⟨S384x192, .f32⟩
  | 15 => ⟨S4x192x16x16, .f32⟩
  | 16 => ⟨S4x16x16x384, .f32⟩
  | 17 => ⟨S4x384x16x16, .f32⟩
  | 18 => ⟨S4x384x16x16, .f32⟩
  | 19 => ⟨S384x192x1x1, .f32⟩
  | 20 => ⟨S384x192, .f32⟩
  | 21 => ⟨S4x192x16x16, .f32⟩
  | 22 => ⟨S4x16x16x384, .f32⟩
  | 23 => ⟨S4x384x16x16, .f32⟩
  | 24 => ⟨S4x384x16x16, .f32⟩
  | 25 => ⟨S384x192x1x1, .f32⟩
  | 26 => ⟨S384x192, .f32⟩
  | 27 => ⟨S4x192x16x16, .f32⟩
  | 28 => ⟨S4x16x16x384, .f32⟩
  | 29 => ⟨S4x384x16x16, .f32⟩
  | 30 => ⟨S4x384x16x16, .f32⟩
  | 31 => ⟨S384x192x1x1, .f32⟩
  | 32 => ⟨S384x192, .f32⟩
  | 33 => ⟨S4x192x16x16, .f32⟩
  | 34 => ⟨S4x16x16x384, .f32⟩
  | 35 => ⟨S4x384x16x16, .f32⟩
  | 36 => ⟨S4x384x16x16, .f32⟩
  | 37 => ⟨S384x192x1x1, .f32⟩
  | 38 => ⟨S384x192, .f32⟩
  | 39 => ⟨S4x192x16x16, .f32⟩
  | 40 => ⟨S4x16x16x384, .f32⟩
  | 41 => ⟨S4x384x16x16, .f32⟩
  | 42 => ⟨S4x384x16x16, .f32⟩
  | 43 => ⟨S384x192x1x1, .f32⟩
  | 44 => ⟨S384x192, .f32⟩
  | 45 => ⟨S4x192x16x16, .f32⟩
  | 46 => ⟨S4x16x16x384, .f32⟩
  | 47 => ⟨S4x384x16x16, .f32⟩
  | 48 => ⟨S4x384x16x16, .f32⟩
  | 49 => ⟨S384x192x1x1, .f32⟩
  | 50 => ⟨S384x192, .f32⟩
  | 51 => ⟨S4x192x16x16, .f32⟩
  | 52 => ⟨S4x16x16x384, .f32⟩
  | 53 => ⟨S4x384x16x16, .f32⟩
  | 54 => ⟨S4x384x16x16, .f32⟩
  | 55 => ⟨S384x192x1x1, .f32⟩
  | 56 => ⟨S384x192, .f32⟩
  | 57 => ⟨S4x192x16x16, .f32⟩
  | 58 => ⟨S4x16x16x384, .f32⟩
  | 59 => ⟨S4x384x16x16, .f32⟩
  | 60 => ⟨S4x384x16x16, .f32⟩
  | 61 => ⟨S384x192x1x1, .f32⟩
  | 62 => ⟨S384x192, .f32⟩
  | 63 => ⟨S4x192x16x16, .f32⟩
  | 64 => ⟨S4x16x16x384, .f32⟩
  | 65 => ⟨S4x384x16x16, .f32⟩
  | 66 => ⟨S4x384x16x16, .f32⟩
  | 67 => ⟨S384x192x1x1, .f32⟩
  | 68 => ⟨S384x192, .f32⟩
  | 69 => ⟨S4x192x16x16, .f32⟩
  | 70 => ⟨S4x16x16x384, .f32⟩
  | 71 => ⟨S4x384x16x16, .f32⟩
  | 72 => ⟨S4x384x16x16, .f32⟩
  | 73 => ⟨S384x192x1x1, .f32⟩
  | 74 => ⟨S384x192, .f32⟩
  | 75 => ⟨S4x192x16x16, .f32⟩
  | 76 => ⟨S4x16x16x384, .f32⟩
  | 77 => ⟨S4x384x16x16, .f32⟩
  | 78 => ⟨S4x384x16x16, .f32⟩
  | 79 => ⟨S384x192x1x1, .f32⟩
  | 80 => ⟨S384x192, .f32⟩
  | 81 => ⟨S4x192x16x16, .f32⟩
  | 82 => ⟨S4x16x16x384, .f32⟩
  | 83 => ⟨S4x384x16x16, .f32⟩
  | 84 => ⟨S4x384x16x16, .f32⟩
  | 85 => ⟨S384x192x1x1, .f32⟩
  | 86 => ⟨S384x192, .f32⟩
  | 87 => ⟨S4x192x16x16, .f32⟩
  | 88 => ⟨S4x16x16x384, .f32⟩
  | 89 => ⟨S4x384x16x16, .f32⟩
  | 90 => ⟨S4x384x16x16, .f32⟩
  | 91 => ⟨S384x192x1x1, .f32⟩
  | 92 => ⟨S384x192, .f32⟩
  | 93 => ⟨S4x192x16x16, .f32⟩
  | 94 => ⟨S4x16x16x384, .f32⟩
  | 95 => ⟨S4x384x16x16, .f32⟩
  | 96 => ⟨S4x384x16x16, .f32⟩
  | 97 => ⟨S384x192x1x1, .f32⟩
  | 98 => ⟨S384x192, .f32⟩
  | 99 => ⟨S4x192x16x16, .f32⟩
  | 100 => ⟨S4x16x16x384, .f32⟩
  | 101 => ⟨S4x384x16x16, .f32⟩
  | 102 => ⟨S4x384x16x16, .f32⟩
  | 103 => ⟨S4x96x4x256, .f32⟩
  | 104 => ⟨S4x96x256x4, .f32⟩
  | 105 => ⟨S4x96x256x12, .f32⟩
  | 106 => ⟨S1x1x1x12, .f32⟩
  | 107 => ⟨S4x96x256x12, .f32⟩
  | 108 => ⟨S4x96x256x12, .f32⟩
  | 109 => ⟨S4x96x256x4, .f32⟩
  | 110 => ⟨S4x96x256x4, .f32⟩
  | 111 => ⟨S4x96x256x4, .f32⟩
  | 112 => ⟨S4x96x4x256, .f32⟩
  | 113 => ⟨S4x96x256x256, .f32⟩
  | 114 => ⟨S_, .f32⟩
  | 115 => ⟨S4x96x256, .f32⟩
  | 116 => ⟨S_, .f32⟩
  | 117 => ⟨S4x96x256, .f32⟩
  | 118 => ⟨S4x96x256, .f32⟩
  | 119 => ⟨S4x96x256x1, .f32⟩
  | 120 => ⟨S4x96x256x256, .f32⟩
  | 121 => ⟨S4x96x256x256, .f32⟩
  | 122 => ⟨S4x96x256x256, .f32⟩
  | 123 => ⟨S_, .f32⟩
  | 124 => ⟨S4x96x256, .f32⟩
  | 125 => ⟨S4x96x256x1, .f32⟩
  | 126 => ⟨S4x96x256x256, .f32⟩
  | 127 => ⟨S4x96x256x256, .f32⟩
  | _ => ⟨S4x192x34x34, .f32⟩

abbrev hbmTy0_1 (i : Nat) : BufTy := match i % 128 with
  | 0 => ⟨S_, .f32⟩
  | 1 => ⟨S4x96x256, .f32⟩
  | 2 => ⟨S_, .f32⟩
  | 3 => ⟨S4x256, .f32⟩
  | 4 => ⟨S4x96x256x4, .f32⟩
  | 5 => ⟨S4x96x4x256, .f32⟩
  | 6 => ⟨S4x384x256, .f32⟩
  | 7 => ⟨S4x256x1, .f32⟩
  | _ => ⟨S4x192x34x34, .f32⟩

abbrev hbmTy (i : Nat) : BufTy := match i / 128 with
  | 0 => hbmTy0_0 i
  | 1 => hbmTy0_1 i
  | _ => ⟨S4x192x34x34, .f32⟩

abbrev bufTy : (tb : Table) → Fin (tcTables nBuf tb) → BufTy
  | .hbm, ⟨i, _⟩ => hbmTy i
  | _, _ => ⟨S4x192x34x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_cst : Ref sig .tc := ⟨.hbm, 114, rfl⟩
abbrev main_v109 : Ref sig .tc := ⟨.hbm, 115, rfl⟩
abbrev main_cst_0 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_cst_1 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_cst_2 : Ref sig .tc := ⟨.hbm, 128, rfl⟩
abbrev main_v120 : Ref sig .tc := ⟨.hbm, 129, rfl⟩
abbrev main_cst_3 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩

abbrev nD : Nat := 1
abbrev τ : Topo := Topo.v7x

variable {F : FTy → Type} [FloatOps F]
-- ==== Up.lean ====
abbrev S4x384x256 : Shape := ⟨3, ![4, 384, 256]⟩
abbrev S4x256x1 : Shape := ⟨3, ![4, 256, 1]⟩
abbrev S384x192x4x4 : Shape := ⟨4, ![384, 192, 4, 4]⟩
abbrev S192 : Shape := ⟨1, ![192]⟩
abbrev S4x12 : Shape := ⟨2, ![4, 12]⟩
abbrev S12 : Shape := ⟨1, ![12]⟩
abbrev S8x8 : Shape := ⟨2, ![8, 8]⟩
abbrev S_ : Shape := ⟨0, ![]⟩
abbrev S12x4 : Shape := ⟨2, ![12, 4]⟩
abbrev S8x1x8x1 : Shape := ⟨4, ![8, 1, 8, 1]⟩
abbrev S1x12x1x4 : Shape := ⟨4, ![1, 12, 1, 4]⟩
abbrev S8x12x8x4 : Shape := ⟨4, ![8, 12, 8, 4]⟩
abbrev S96x32 : Shape := ⟨2, ![96, 32]⟩
abbrev S1x12 : Shape := ⟨2, ![1, 12]⟩
abbrev S8x12 : Shape := ⟨2, ![8, 12]⟩
abbrev S96 : Shape := ⟨1, ![96]⟩
abbrev S96x1 : Shape := ⟨2, ![96, 1]⟩
abbrev S4x4x192x384 : Shape := ⟨4, ![4, 4, 192, 384]⟩
abbrev S16x192x384 : Shape := ⟨3, ![16, 192, 384]⟩
abbrev S192x1 : Shape := ⟨2, ![192, 1]⟩
abbrev S4x4x192x256 : Shape := ⟨4, ![4, 4, 192, 256]⟩
abbrev S1x384x256 : Shape := ⟨3, ![1, 384, 256]⟩
abbrev S1x256x1 : Shape := ⟨3, ![1, 256, 1]⟩
abbrev S1x4x192x256 : Shape := ⟨4, ![1, 4, 192, 256]⟩
abbrev S384x256 : Shape := ⟨2, ![384, 256]⟩
abbrev S384x17 : Shape := ⟨2, ![384, 17]⟩
abbrev S384x239 : Shape := ⟨2, ![384, 239]⟩
abbrev S1x256 : Shape := ⟨2, ![1, 256]⟩
abbrev S384x16 : Shape := ⟨2, ![384, 16]⟩
abbrev S384x240 : Shape := ⟨2, ![384, 240]⟩
abbrev S384x15 : Shape := ⟨2, ![384, 15]⟩
abbrev S384x241 : Shape := ⟨2, ![384, 241]⟩
abbrev S384x1 : Shape := ⟨2, ![384, 1]⟩
abbrev S384x255 : Shape := ⟨2, ![384, 255]⟩
abbrev S192x256 : Shape := ⟨2, ![192, 256]⟩
abbrev S1x192x384 : Shape := ⟨3, ![1, 192, 384]⟩
abbrev S192x384 : Shape := ⟨2, ![192, 384]⟩
abbrev S256x1 : Shape := ⟨2, ![256, 1]⟩
abbrev S256x256 : Shape := ⟨2, ![256, 256]⟩
abbrev S256 : Shape := ⟨1, ![256]⟩
abbrev S1x64 : Shape := ⟨2, ![1, 64]⟩
abbrev S256x64 : Shape := ⟨2, ![256, 64]⟩
abbrev S64x256 : Shape := ⟨2, ![64, 256]⟩
abbrev S32x256 : Shape := ⟨2, ![32, 256]⟩
abbrev S96x256 : Shape := ⟨2, ![96, 256]⟩
abbrev S4x256 : Shape := ⟨2, ![4, 256]⟩
abbrev S1x1x192x256 : Shape := ⟨4, ![1, 1, 192, 256]⟩

abbrev nBuf : Space → Nat
  | .hbm => 28
  | .vmem => 10
  | .smem => 0
  | _ => 0

abbrev bufTy : (tb : Table) → Fin (tcTables nBuf tb) → BufTy
  | .hbm, ⟨0, _⟩ => ⟨S4x384x256, .f32⟩
  | .hbm, ⟨1, _⟩ => ⟨S4x256x1, .f32⟩
  | .hbm, ⟨2, _⟩ => ⟨S384x192x4x4, .f32⟩
  | .hbm, ⟨3, _⟩ => ⟨S192, .f32⟩
  | .hbm, ⟨4, _⟩ => ⟨S4x12, .f32⟩
  | .hbm, ⟨5, _⟩ => ⟨S12, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S12x4, .f32⟩
  | .hbm, ⟨14, _⟩ => ⟨S8x1x8x1, .f32⟩
  | .hbm, ⟨15, _⟩ => ⟨S1x12x1x4, .f32⟩
  | .hbm, ⟨16, _⟩ => ⟨S8x12x8x4, .f32⟩
  | .hbm, ⟨17, _⟩ => ⟨S8x12x8x4, .f32⟩
  | .hbm, ⟨18, _⟩ => ⟨S8x12x8x4, .f32⟩
  | .hbm, ⟨19, _⟩ => ⟨S96x32, .f32⟩
  | .hbm, ⟨20, _⟩ => ⟨S1x12, .f32⟩
  | .hbm, ⟨21, _⟩ => ⟨S8x12, .f32⟩
  | .hbm, ⟨22, _⟩ => ⟨S96, .f32⟩
  | .hbm, ⟨23, _⟩ => ⟨S96x1, .f32⟩
  | .hbm, ⟨24, _⟩ => ⟨S4x4x192x384, .f32⟩
  | .hbm, ⟨25, _⟩ => ⟨S16x192x384, .f32⟩
  | .hbm, ⟨26, _⟩ => ⟨S192x1, .f32⟩
  | .hbm, ⟨27, _⟩ => ⟨S4x4x192x256, .f32⟩
  | .local _ .vmem, ⟨0, _⟩ => ⟨S1x384x256, .f32⟩
  | .local _ .vmem, ⟨1, _⟩ => ⟨S1x384x256, .f32⟩
  | .local _ .vmem, ⟨2, _⟩ => ⟨S1x256x1, .f32⟩
  | .local _ .vmem, ⟨3, _⟩ => ⟨S1x256x1, .f32⟩
  | .local _ .vmem, ⟨4, _⟩ => ⟨S16x192x384, .f32⟩
  | .local _ .vmem, ⟨5, _⟩ => ⟨S192x1, .f32⟩
  | .local _ .vmem, ⟨6, _⟩ => ⟨S96x32, .f32⟩
  | .local _ .vmem, ⟨7, _⟩ => ⟨S96x1, .f32⟩
  | .local _ .vmem, ⟨8, _⟩ => ⟨S1x4x192x256, .f32⟩
  | .local _ .vmem, ⟨9, _⟩ => ⟨S1x4x192x256, .f32⟩
  | _, _ => ⟨S4x384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x192x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S4x384x256 : Shape := ⟨3, ![4, 384, 256]⟩
abbrev S4x256x1 : Shape := ⟨3, ![4, 256, 1]⟩
abbrev S384x192x4x4 : Shape := ⟨4, ![384, 192, 4, 4]⟩
abbrev S192 : Shape := ⟨1, ![192]⟩
abbrev S4x12 : Shape := ⟨2, ![4, 12]⟩
abbrev S12 : Shape := ⟨1, ![12]⟩
abbrev S4x384x16x16 : Shape := ⟨4, ![4, 384, 16, 16]⟩
abbrev S_ : Shape := ⟨0, ![]⟩
abbrev S4x384x35x35 : Shape := ⟨4, ![4, 384, 35, 35]⟩
abbrev S4x192x32x32 : Shape := ⟨4, ![4, 192, 32, 32]⟩
abbrev S384x192x1x1 : Shape := ⟨4, ![384, 192, 1, 1]⟩
abbrev S384x192 : Shape := ⟨2, ![384, 192]⟩
abbrev S4x384x32x32 : Shape := ⟨4, ![4, 384, 32, 32]⟩
abbrev S4x32x32x192 : Shape := ⟨4, ![4, 32, 32, 192]⟩
abbrev S1x192x1x1 : Shape := ⟨4, ![1, 192, 1, 1]⟩
abbrev S4x256 : Shape := ⟨2, ![4, 256]⟩
abbrev S4x64 : Shape := ⟨2, ![4, 64]⟩
abbrev S4x48x4x16x2x16x2 : Shape := ⟨7, ![4, 48, 4, 16, 2, 16, 2]⟩
abbrev S4x48x4x16x16x2x2 : Shape := ⟨7, ![4, 48, 4, 16, 16, 2, 2]⟩
abbrev S4x48x4x256x2x2 : Shape := ⟨6, ![4, 48, 4, 256, 2, 2]⟩
abbrev S4x1x1x64x1x1 : Shape := ⟨6, ![4, 1, 1, 64, 1, 1]⟩
abbrev S4x48x4x64x2x2 : Shape := ⟨6, ![4, 48, 4, 64, 2, 2]⟩
abbrev S4x48x4x64x2x2x1 : Shape := ⟨7, ![4, 48, 4, 64, 2, 2, 1]⟩
abbrev S4x48x4x256 : Shape := ⟨4, ![4, 48, 4, 256]⟩
abbrev S4x48x256x4 : Shape := ⟨4, ![4, 48, 256, 4]⟩
abbrev S4x48x256x12 : Shape := ⟨4, ![4, 48, 256, 12]⟩
abbrev S1x1x1x12 : Shape := ⟨4, ![1, 1, 1, 12]⟩
abbrev S4x48x256x256 : Shape := ⟨4, ![4, 48, 256, 256]⟩
abbrev S4x48x256 : Shape := ⟨3, ![4, 48, 256]⟩
abbrev S4x48x256x1 : Shape := ⟨4, ![4, 48, 256, 1]⟩
abbrev S1x48x4x256x2x2 : Shape := ⟨6, ![1, 48, 4, 256, 2, 2]⟩
abbrev S48x4x256x2x2 : Shape := ⟨5, ![48, 4, 256, 2, 2]⟩
abbrev S1x64 : Shape := ⟨2, ![1, 64]⟩
abbrev S64 : Shape := ⟨1, ![64]⟩
abbrev S1x48x4x64x2x2 : Shape := ⟨6, ![1, 48, 4, 64, 2, 2]⟩
abbrev S48x4x64x2x2 : Shape := ⟨5, ![48, 4, 64, 2, 2]⟩
abbrev S64x1 : Shape := ⟨2, ![64, 1]⟩
abbrev S4x192x16x2x16x2 : Shape := ⟨6, ![4, 192, 16, 2, 16, 2]⟩
abbrev S4x2x2x192x16x16 : Shape := ⟨6, ![4, 2, 2, 192, 16, 16]⟩
abbrev S4x4x192x256 : Shape := ⟨4, ![4, 4, 192, 256]⟩

abbrev nBuf : Space → Nat
  | .hbm => 227
  | .vmem => 0
  | .smem => 0
  | _ => 0

abbrev hbmTy0_0 (i : Nat) : BufTy := match i % 128 with
  | 0 => ⟨S4x384x256, .f32⟩
  | 1 => ⟨S4x256x1, .f32⟩
  | 2 => ⟨S384x192x4x4, .f32⟩
  | 3 => ⟨S192, .f32⟩
  | 4 => ⟨S4x12, .f32⟩
  | 5 => ⟨S12, .f32⟩
  | 6 => ⟨S4x384x16x16, .f32⟩
  | 7 => ⟨S_, .f32⟩
  | 8 => ⟨S4x384x35x35, .f32⟩
  | 9 => ⟨S_, .f32⟩
  | 10 => ⟨S4x192x32x32, .f32⟩
  | 11 => ⟨S384x192x1x1, .f32⟩
  | 12 => ⟨S384x192, .f32⟩
  | 13 => ⟨S4x384x32x32, .f32⟩
  | 14 => ⟨S4x32x32x192, .f32⟩
  | 15 => ⟨S4x192x32x32, .f32⟩
  | 16 => ⟨S4x192x32x32, .f32⟩
  | 17 => ⟨S384x192x1x1, .f32⟩
  | 18 => ⟨S384x192, .f32⟩
  | 19 => ⟨S4x384x32x32, .f32⟩
  | 20 => ⟨S4x32x32x192, .f32⟩
  | 21 => ⟨S4x192x32x32, .f32⟩
  | 22 => ⟨S4x192x32x32, .f32⟩
  | 23 => ⟨S384x192x1x1, .f32⟩
  | 24 => ⟨S384x192, .f32⟩
  | 25 => ⟨S4x384x32x32, .f32⟩
  | 26 => ⟨S4x32x32x192, .f32⟩
  | 27 => ⟨S4x192x32x32, .f32⟩
  | 28 => ⟨S4x192x32x32, .f32⟩
  | 29 => ⟨S384x192x1x1, .f32⟩
  | 30 => ⟨S384x192, .f32⟩
  | 31 => ⟨S4x384x32x32, .f32⟩
  | 32 => ⟨S4x32x32x192, .f32⟩
  | 33 => ⟨S4x192x32x32, .f32⟩
  | 34 => ⟨S4x192x32x32, .f32⟩
  | 35 => ⟨S384x192x1x1, .f32⟩
  | 36 => ⟨S384x192, .f32⟩
  | 37 => ⟨S4x384x32x32, .f32⟩
  | 38 => ⟨S4x32x32x192, .f32⟩
  | 39 => ⟨S4x192x32x32, .f32⟩
  | 40 => ⟨S4x192x32x32, .f32⟩
  | 41 => ⟨S384x192x1x1, .f32⟩
  | 42 => ⟨S384x192, .f32⟩
  | 43 => ⟨S4x384x32x32, .f32⟩
  | 44 => ⟨S4x32x32x192, .f32⟩
  | 45 => ⟨S4x192x32x32, .f32⟩
  | 46 => ⟨S4x192x32x32, .f32⟩
  | 47 => ⟨S384x192x1x1, .f32⟩
  | 48 => ⟨S384x192, .f32⟩
  | 49 => ⟨S4x384x32x32, .f32⟩
  | 50 => ⟨S4x32x32x192, .f32⟩
  | 51 => ⟨S4x192x32x32, .f32⟩
  | 52 => ⟨S4x192x32x32, .f32⟩
  | 53 => ⟨S384x192x1x1, .f32⟩
  | 54 => ⟨S384x192, .f32⟩
  | 55 => ⟨S4x384x32x32, .f32⟩
  | 56 => ⟨S4x32x32x192, .f32⟩
  | 57 => ⟨S4x192x32x32, .f32⟩
  | 58 => ⟨S4x192x32x32, .f32⟩
  | 59 => ⟨S384x192x1x1, .f32⟩
  | 60 => ⟨S384x192, .f32⟩
  | 61 => ⟨S4x384x32x32, .f32⟩
  | 62 => ⟨S4x32x32x192, .f32⟩
  | 63 => ⟨S4x192x32x32, .f32⟩
  | 64 => ⟨S4x192x32x32, .f32⟩
  | 65 => ⟨S384x192x1x1, .f32⟩
  | 66 => ⟨S384x192, .f32⟩
  | 67 => ⟨S4x384x32x32, .f32⟩
  | 68 => ⟨S4x32x32x192, .f32⟩
  | 69 => ⟨S4x192x32x32, .f32⟩
  | 70 => ⟨S4x192x32x32, .f32⟩
  | 71 => ⟨S384x192x1x1, .f32⟩
  | 72 => ⟨S384x192, .f32⟩
  | 73 => ⟨S4x384x32x32, .f32⟩
  | 74 => ⟨S4x32x32x192, .f32⟩
  | 75 => ⟨S4x192x32x32, .f32⟩
  | 76 => ⟨S4x192x32x32, .f32⟩
  | 77 => ⟨S384x192x1x1, .f32⟩
  | 78 => ⟨S384x192, .f32⟩
  | 79 => ⟨S4x384x32x32, .f32⟩
  | 80 => ⟨S4x32x32x192, .f32⟩
  | 81 => ⟨S4x192x32x32, .f32⟩
  | 82 => ⟨S4x192x32x32, .f32⟩
  | 83 => ⟨S384x192x1x1, .f32⟩
  | 84 => ⟨S384x192, .f32⟩
  | 85 => ⟨S4x384x32x32, .f32⟩
  | 86 => ⟨S4x32x32x192, .f32⟩
  | 87 => ⟨S4x192x32x32, .f32⟩
  | 88 => ⟨S4x192x32x32, .f32⟩
  | 89 => ⟨S384x192x1x1, .f32⟩
  | 90 => ⟨S384x192, .f32⟩
  | 91 => ⟨S4x384x32x32, .f32⟩
  | 92 => ⟨S4x32x32x192, .f32⟩
  | 93 => ⟨S4x192x32x32, .f32⟩
  | 94 => ⟨S4x192x32x32, .f32⟩
  | 95 => ⟨S384x192x1x1, .f32⟩
  | 96 => ⟨S384x192, .f32⟩
  | 97 => ⟨S4x384x32x32, .f32⟩
  | 98 => ⟨S4x32x32x192, .f32⟩
  | 99 => ⟨S4x192x32x32, .f32⟩
  | 100 => ⟨S4x192x32x32, .f32⟩
  | 101 => ⟨S384x192x1x1, .f32⟩
  | 102 => ⟨S384x192, .f32⟩
  | 103 => ⟨S4x384x32x32, .f32⟩
  | 104 => ⟨S4x32x32x192, .f32⟩
  | 105 => ⟨S4x192x32x32, .f32⟩
  | 106 => ⟨S4x192x32x32, .f32⟩
  | 107 => ⟨S1x192x1x1, .f32⟩
  | 108 => ⟨S4x192x32x32, .f32⟩
  | 109 => ⟨S4x192x32x32, .f32⟩
  | 110 => ⟨S4x256, .f32⟩
  | 111 => ⟨S4x64, .f32⟩
  | 112 => ⟨S4x64, .i32⟩
  | 113 => ⟨S4x48x4x16x2x16x2, .f32⟩
  | 114 => ⟨S4x48x4x16x16x2x2, .f32⟩
  | 115 => ⟨S4x48x4x256x2x2, .f32⟩
  | 116 => ⟨S4x1x1x64x1x1, .i32⟩
  | 117 => ⟨S4x48x4x64x2x2, .i32⟩
  | 118 => ⟨S_, .i32⟩
  | 119 => ⟨S4x48x4x64x2x2, .i32⟩
  | 120 => ⟨S4x48x4x64x2x2, .i1⟩
  | 121 => ⟨S_, .i32⟩
  | 122 => ⟨S4x48x4x64x2x2, .i32⟩
  | 123 => ⟨S4x48x4x64x2x2, .i32⟩
  | 124 => ⟨S4x48x4x64x2x2, .i32⟩
  | 125 => ⟨S4x48x4x64x2x2x1, .i32⟩
  | 126 => ⟨S4x48x4x64x2x2, .f32⟩
  | 127 => ⟨S4x48x4x256, .f32⟩
  | _ => ⟨S4x384x256, .f32⟩

abbrev hbmTy0_1 (i : Nat) : BufTy := match i % 128 with
  | 0 => ⟨S4x48x256x4, .f32⟩
  | 1 => ⟨S4x48x256x12, .f32⟩
  | 2 => ⟨S1x1x1x12, .f32⟩
  | 3 => ⟨S4x48x256x12, .f32⟩
  | 4 => ⟨S4x48x256x12, .f32⟩
  | 5 => ⟨S4x48x256x4, .f32⟩
  | 6 => ⟨S4x48x256x4, .f32⟩
  | 7 => ⟨S4x48x256x4, .f32⟩
  | 8 => ⟨S4x48x4x256, .f32⟩
  | 9 => ⟨S4x48x256x256, .f32⟩
  | 10 => ⟨S_, .f32⟩
  | 11 => ⟨S4x48x256, .f32⟩
  | 12 => ⟨S_, .f32⟩
  | 13 => ⟨S4x48x256, .f32⟩
  | 14 => ⟨S4x48x256, .f32⟩
  | 15 => ⟨S4x48x256x1, .f32⟩
  | 16 => ⟨S4x48x256x256, .f32⟩
  | 17 => ⟨S4x48x256x256, .f32⟩
  | 18 => ⟨S4x48x256x256, .f32⟩
  | 19 => ⟨S_, .f32⟩
  | 20 => ⟨S4x48x256, .f32⟩
  | 21 => ⟨S4x48x256x1, .f32⟩
  | 22 => ⟨S4x48x256x256, .f32⟩
  | 23 => ⟨S4x48x256x256, .f32⟩
  | 24 => ⟨S4x48x256x4, .f32⟩
  | 25 => ⟨S4x48x4x256, .f32⟩
  | 26 => ⟨S4x48x4x64x2x2, .f32⟩
  | 27 => ⟨S1x48x4x256x2x2, .f32⟩
  | 28 => ⟨S48x4x256x2x2, .f32⟩
  | 29 => ⟨S1x64, .i32⟩
  | 30 => ⟨S64, .i32⟩
  | 31 => ⟨S1x48x4x64x2x2, .f32⟩
  | 32 => ⟨S48x4x64x2x2, .f32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S64x1, .i32⟩
  | 41 => ⟨S48x4x256x2x2, .f32⟩
  | 42 => ⟨S1x48x4x256x2x2, .f32⟩
  | 43 => ⟨S48x4x256x2x2, .f32⟩
  | 44 => ⟨S1x64, .i32⟩
  | 45 => ⟨S64, .i32⟩
  | 46 => ⟨S1x48x4x64x2x2, .f32⟩
  | 47 => ⟨S48x4x64x2x2, .f32⟩
  | 48 => ⟨S_, .i32⟩
  | 49 => ⟨S64, .i32⟩
  | 50 => ⟨S64, .i1⟩
  | 51 => ⟨S_, .i32⟩
  | 52 => ⟨S64, .i32⟩
  | 53 => ⟨S64, .i32⟩
  | 54 => ⟨S64, .i32⟩
  | 55 => ⟨S64x1, .i32⟩
  | 56 => ⟨S48x4x256x2x2, .f32⟩
  | 57 => ⟨S1x48x4x256x2x2, .f32⟩
  | 58 => ⟨S48x4x256x2x2, .f32⟩
  | 59 => ⟨S1x64, .i32⟩
  | 60 => ⟨S64, .i32⟩
  | 61 => ⟨S1x48x4x64x2x2, .f32⟩
  | 62 => ⟨S48x4x64x2x2, .f32⟩
  | 63 => ⟨S_, .i32⟩
  | 64 => ⟨S64, .i32⟩
  | 65 => ⟨S64, .i1⟩
  | 66 => ⟨S_, .i32⟩
  | 67 => ⟨S64, .i32⟩
  | 68 => ⟨S64, .i32⟩
  | 69 => ⟨S64, .i32⟩
  | 70 => ⟨S64x1, .i32⟩
  | 71 => ⟨S48x4x256x2x2, .f32⟩
  | 72 => ⟨S1x48x4x256x2x2, .f32⟩
  | 73 => ⟨S48x4x256x2x2, .f32⟩
  | 74 => ⟨S1x64, .i32⟩
  | 75 => ⟨S64, .i32⟩
  | 76 => ⟨S1x48x4x64x2x2, .f32⟩
  | 77 => ⟨S48x4x64x2x2, .f32⟩
  | 78 => ⟨S_, .i32⟩
  | 79 => ⟨S64, .i32⟩
  | 80 => ⟨S64, .i1⟩
  | 81 => ⟨S_, .i32⟩
  | 82 => ⟨S64, .i32⟩
  | 83 => ⟨S64, .i32⟩
  | 84 => ⟨S64, .i32⟩
  | 85 => ⟨S64x1, .i32⟩
  | 86 => ⟨S48x4x256x2x2, .f32⟩
  | 87 => ⟨S1x48x4x256x2x2, .f32⟩
  | 88 => ⟨S1x48x4x256x2x2, .f32⟩
  | 89 => ⟨S1x48x4x256x2x2, .f32⟩
  | 90 => ⟨S1x48x4x256x2x2, .f32⟩
  | 91 => ⟨S4x48x4x256x2x2, .f32⟩
  | 92 => ⟨S4x48x4x16x16x2x2, .f32⟩
  | 93 => ⟨S4x48x4x16x2x16x2, .f32⟩
  | 94 => ⟨S4x192x32x32, .f32⟩
  | 95 => ⟨S4x192x32x32, .f32⟩
  | 96 => ⟨S4x192x16x2x16x2, .f32⟩
  | 97 => ⟨S4x2x2x192x16x16, .f32⟩
  | 98 => ⟨S4x4x192x256, .f32⟩
  | _ => ⟨S4x384x256, .f32⟩

abbrev hbmTy (i : Nat) : BufTy := match i / 128 with
  | 0 => hbmTy0_0 i
  | 1 => hbmTy0_1 i
  | _ => ⟨S4x384x256, .f32⟩

abbrev bufTy : (tb : Table) → Fin (tcTables nBuf tb) → BufTy
  | .hbm, ⟨i, _⟩ => hbmTy i
  | _, _ => ⟨S4x384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_values : Ref sig .tc := ⟨.hbm, 111, rfl⟩
abbrev main_indices : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_call0_c : Ref sig .tc := ⟨.hbm, 118, rfl⟩
abbrev main_call0_v0 : Ref sig .tc := ⟨.hbm, 119, rfl⟩
abbrev main_call0_v1 : Ref sig .tc := ⟨.hbm, 120, rfl⟩
abbrev main_call0_c_0 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_v5 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_1 : Ref sig .tc := ⟨.hbm, 138, rfl⟩
abbrev main_v120 : Ref sig .tc := ⟨.hbm, 139, rfl⟩
abbrev main_cst_2 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_3 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_c : Ref sig .tc := ⟨.hbm, 161, rfl⟩
abbrev main_v140 : Ref sig .tc := ⟨.hbm, 162, rfl⟩
abbrev main_v141 : Ref sig .tc := ⟨.hbm, 163, rfl⟩
abbrev main_c_4 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_c_5 : Ref sig .tc := ⟨.hbm, 176, rfl⟩
abbrev main_v153 : Ref sig .tc := ⟨.hbm, 177, rfl⟩
abbrev main_v154 : Ref sig .tc := ⟨.hbm, 178, rfl⟩
abbrev main_c_6 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_c_7 : Ref sig .tc := ⟨.hbm, 191, rfl⟩
abbrev main_v166 : Ref sig .tc := ⟨.hbm, 192, rfl⟩
abbrev main_v167 : Ref sig .tc := ⟨.hbm, 193, rfl⟩
abbrev main_c_8 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_c_9 : Ref sig .tc := ⟨.hbm, 206, rfl⟩
abbrev main_v179 : Ref sig .tc := ⟨.hbm, 207, rfl⟩
abbrev main_v180 : Ref sig .tc := ⟨.hbm, 208, rfl⟩
abbrev main_c_10 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩

abbrev nD : Nat := 1
abbrev τ : Topo := Topo.v7x

variable {F : FTy → Type} [FloatOps F]
-- ==== Mix.lean ====
abbrev S4x192x32x32 : Shape := ⟨4, ![4, 192, 32, 32]⟩
abbrev S192x1x3x3 : Shape := ⟨4, ![192, 1, 3, 3]⟩
abbrev S192 : Shape := ⟨1, ![192]⟩
abbrev S192x192x1x1 : Shape := ⟨4, ![192, 192, 1, 1]⟩
abbrev S4x192x1024 : Shape := ⟨3, ![4, 192, 1024]⟩
abbrev S_ : Shape := ⟨0, ![]⟩
abbrev S192x9 : Shape := ⟨2, ![192, 9]⟩
abbrev S192x1 : Shape := ⟨2, ![192, 1]⟩
abbrev S192x192 : Shape := ⟨2, ![192, 192]⟩
abbrev S1x192x1024 : Shape := ⟨3, ![1, 192, 1024]⟩
abbrev S192x1024 : Shape := ⟨2, ![192, 1024]⟩
abbrev S192x33 : Shape := ⟨2, ![192, 33]⟩
abbrev S192x991 : Shape := ⟨2, ![192, 991]⟩
abbrev S1x1024 : Shape := ⟨2, ![1, 1024]⟩
abbrev S192x32 : Shape := ⟨2, ![192, 32]⟩
abbrev S192x992 : Shape := ⟨2, ![192, 992]⟩
abbrev S192x31 : Shape := ⟨2, ![192, 31]⟩
abbrev S192x993 : Shape := ⟨2, ![192, 993]⟩
abbrev S192x1023 : Shape := ⟨2, ![192, 1023]⟩

abbrev nBuf : Space → Nat
  | .hbm => 25
  | .vmem => 10
  | .smem => 0
  | _ => 0

abbrev bufTy : (tb : Table) → Fin (tcTables nBuf tb) → BufTy
  | .hbm, ⟨0, _⟩ => ⟨S4x192x32x32, .f32⟩
  | .hbm, ⟨1, _⟩ => ⟨S192x1x3x3, .f32⟩
  | .hbm, ⟨2, _⟩ => ⟨S192, .f32⟩
  | .hbm, ⟨3, _⟩ => ⟨S192, .f32⟩
  | .hbm, ⟨4, _⟩ => ⟨S192x192x1x1, .f32⟩
  | .hbm, ⟨5, _⟩ => ⟨S192, .f32⟩
  | .hbm, ⟨6, _⟩ => ⟨S192, .f32⟩
  | .hbm, ⟨7, _⟩ => ⟨S4x192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S192x9, .f32⟩
  | .hbm, ⟨13, _⟩ => ⟨S_, .f32⟩
  | .hbm, ⟨14, _⟩ => ⟨S192, .f32⟩
  | .hbm, ⟨15, _⟩ => ⟨S192, .f32⟩
  | .hbm, ⟨16, _⟩ => ⟨S192x1, .f32⟩
  | .hbm, ⟨17, _⟩ => ⟨S192x1, .f32⟩
  | .hbm, ⟨18, _⟩ => ⟨S192x192, .f32⟩
  | .hbm, ⟨19, _⟩ => ⟨S_, .f32⟩
  | .hbm, ⟨20, _⟩ => ⟨S192, .f32⟩
  | .hbm, ⟨21, _⟩ => ⟨S192, .f32⟩
  | .hbm, ⟨22, _⟩ => ⟨S192x1, .f32⟩
  | .hbm, ⟨23, _⟩ => ⟨S192x1, .f32⟩
  | .hbm, ⟨24, _⟩ => ⟨S4x192x1024, .f32⟩
  | .local _ .vmem, ⟨0, _⟩ => ⟨S1x192x1024, .f32⟩
  | .local _ .vmem, ⟨1, _⟩ => ⟨S1x192x1024, .f32⟩
  | .local _ .vmem, ⟨2, _⟩ => ⟨S192x9, .f32⟩
  | .local _ .vmem, ⟨3, _⟩ => ⟨S192x1, .f32⟩
  | .local _ .vmem, ⟨4, _⟩ => ⟨S192x1, .f32⟩
  | .local _ .vmem, ⟨5, _⟩ => ⟨S192x192, .f32⟩
  | .local _ .vmem, ⟨6, _⟩ => ⟨S192x1, .f32⟩
  | .local _ .vmem, ⟨7, _⟩ => ⟨S192x1, .f32⟩
  | .local _ .vmem, ⟨8, _⟩ => ⟨S1x192x1024, .f32⟩
  | .local _ .vmem, ⟨9, _⟩ => ⟨S1x192x1024, .f32⟩
  | _, _ => ⟨S4x192x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S4x192x32x32 : Shape := ⟨4, ![4, 192, 32, 32]⟩
abbrev S192x1x3x3 : Shape := ⟨4, ![192, 1, 3, 3]⟩
abbrev S192 : Shape := ⟨1, ![192]⟩
abbrev S192x192x1x1 : Shape := ⟨4, ![192, 192, 1, 1]⟩
abbrev S_ : Shape := ⟨0, ![]⟩
abbrev S4x192x34x34 : Shape := ⟨4, ![4, 192, 34, 34]⟩
abbrev S192x1x1x1 : Shape := ⟨4, ![192, 1, 1, 1]⟩
abbrev S1x192x1x1 : Shape := ⟨4, ![1, 192, 1, 1]⟩
abbrev S192x192 : Shape := ⟨2, ![192, 192]⟩
abbrev S4x32x32x192 : Shape := ⟨4, ![4, 32, 32, 192]⟩
abbrev S4x192x1024 : Shape := ⟨3, ![4, 192, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x192x32x32, .f32⟩
  | .hbm, ⟨1, _⟩ => ⟨S192x1x3x3, .f32⟩
  | .hbm, ⟨2, _⟩ => ⟨S192, .f32⟩
  | .hbm, ⟨3, _⟩ => ⟨S192, .f32⟩
  | .hbm, ⟨4, _⟩ => ⟨S192x192x1x1, .f32⟩
  | .hbm, ⟨5, _⟩ => ⟨S192, .f32⟩
  | .hbm, ⟨6, _⟩ => ⟨S192, .f32⟩
  | .hbm, ⟨7, _⟩ => ⟨S_, .i32⟩
  | .hbm, ⟨8, _⟩ => ⟨S_, .f32⟩
  | .hbm, ⟨9, _⟩ => ⟨S4x192x34x34, .f32⟩
  | .hbm, ⟨10, _⟩ => ⟨S_, .f32⟩
  | .hbm, ⟨11, _⟩ => ⟨S4x192x32x32, .f32⟩
  | .hbm, ⟨12, _⟩ => ⟨S4x192x32x32, .f32⟩
  | .hbm, ⟨13, _⟩ => ⟨S192x1x1x1, .f32⟩
  | .hbm, ⟨14, _⟩ => ⟨S192, .f32⟩
  | .hbm, ⟨15, _⟩ => ⟨S1x192x1x1, .f32⟩
  | .hbm, ⟨16, _⟩ => ⟨S4x192x32x32, .f32⟩
  | .hbm, ⟨17, _⟩ => ⟨S4x192x32x32, .f32⟩
  | .hbm, ⟨18, _⟩ => ⟨S4x192x32x32, .f32⟩
  | .hbm, ⟨19, _⟩ => ⟨S4x192x32x32, .f32⟩
  | .hbm, ⟨20, _⟩ => ⟨S192x1x1x1, .f32⟩
  | .hbm, ⟨21, _⟩ => ⟨S192, .f32⟩
  | .hbm, ⟨22, _⟩ => ⟨S1x192x1x1, .f32⟩
  | .hbm, ⟨23, _⟩ => ⟨S4x192x32x32, .f32⟩
  | .hbm, ⟨24, _⟩ => ⟨S4x192x32x32, .f32⟩
  | .hbm, ⟨25, _⟩ => ⟨S4x192x32x32, .f32⟩
  | .hbm, ⟨26, _⟩ => ⟨S4x192x32x32, .f32⟩
  | .hbm, ⟨27, _⟩ => ⟨S192x1x1x1, .f32⟩
  | .hbm, ⟨28, _⟩ => ⟨S192, .f32⟩
  | .hbm, ⟨29, _⟩ => ⟨S1x192x1x1, .f32⟩
  | .hbm, ⟨30, _⟩ => ⟨S4x192x32x32, .f32⟩
  | .hbm, ⟨31, _⟩ => ⟨S4x192x32x32, .f32⟩
  | .hbm, ⟨32, _⟩ => ⟨S4x192x32x32, .f32⟩
  | .hbm, ⟨33, _⟩ => ⟨S4x192x32x32, .f32⟩
  | .hbm, ⟨34, _⟩ => ⟨S192x1x1x1, .f32⟩
  | .hbm, ⟨35, _⟩ => ⟨S192, .f32⟩
  | .hbm, ⟨36, _⟩ => ⟨S1x192x1x1, .f32⟩
  | .hbm, ⟨37, _⟩ => ⟨S4x192x32x32, .f32⟩
  | .hbm, ⟨38, _⟩ => ⟨S4x192x32x32, .f32⟩
  | .hbm, ⟨39, _⟩ => ⟨S4x192x32x32, .f32⟩
  | .hbm, ⟨40, _⟩ => ⟨S4x192x32x32, .f32⟩
  | .hbm, ⟨41, _⟩ => ⟨S192x1x1x1, .f32⟩
  | .hbm, ⟨42, _⟩ => ⟨S192, .f32⟩
  | .hbm, ⟨43, _⟩ => ⟨S1x192x1x1, .f32⟩
  | .hbm, ⟨44, _⟩ => ⟨S4x192x32x32, .f32⟩
  | .hbm, ⟨45, _⟩ => ⟨S4x192x32x32, .f32⟩
  | .hbm, ⟨46, _⟩ => ⟨S4x192x32x32, .f32⟩
  | .hbm, ⟨47, _⟩ => ⟨S4x192x32x32, .f32⟩
  | .hbm, ⟨48, _⟩ => ⟨S192x1x1x1, .f32⟩
  | .hbm, ⟨49, _⟩ => ⟨S192, .f32⟩
  | .hbm, ⟨50, _⟩ => ⟨S1x192x1x1, .f32⟩
  | .hbm, ⟨51, _⟩ => ⟨S4x192x32x32, .f32⟩
  | .hbm, ⟨52, _⟩ => ⟨S4x192x32x32, .f32⟩
  | .hbm, ⟨53, _⟩ => ⟨S4x192x32x32, .f32⟩
  | .hbm, ⟨54, _⟩ => ⟨S4x192x32x32, .f32⟩
  | .hbm, ⟨55, _⟩ => ⟨S192x1x1x1, .f32⟩
  | .hbm, ⟨56, _⟩ => ⟨S192, .f32⟩
  | .hbm, ⟨57, _⟩ => ⟨S1x192x1x1, .f32⟩
  | .hbm, ⟨58, _⟩ => ⟨S4x192x32x32, .f32⟩
  | .hbm, ⟨59, _⟩ => ⟨S4x192x32x32, .f32⟩
  | .hbm, ⟨60, _⟩ => ⟨S4x192x32x32, .f32⟩
  | .hbm, ⟨61, _⟩ => ⟨S4x192x32x32, .f32⟩
  | .hbm, ⟨62, _⟩ => ⟨S192x1x1x1, .f32⟩
  | .hbm, ⟨63, _⟩ => ⟨S192, .f32⟩
  | .hbm, ⟨64, _⟩ => ⟨S1x192x1x1, .f32⟩
  | .hbm, ⟨65, _⟩ => ⟨S4x192x32x32, .f32⟩
  | .hbm, ⟨66, _⟩ => ⟨S4x192x32x32, .f32⟩
  | .hbm, ⟨67, _⟩ => ⟨S4x192x32x32, .f32⟩
  | .hbm, ⟨68, _⟩ => ⟨S4x192x32x32, .f32⟩
  | .hbm, ⟨69, _⟩ => ⟨S192x1x1x1, .f32⟩
  | .hbm, ⟨70, _⟩ => ⟨S192, .f32⟩
  | .hbm, ⟨71, _⟩ => ⟨S1x192x1x1, .f32⟩
  | .hbm, ⟨72, _⟩ => ⟨S4x192x32x32, .f32⟩
  | .hbm, ⟨73, _⟩ => ⟨S4x192x32x32, .f32⟩
  | .hbm, ⟨74, _⟩ => ⟨S4x192x32x32, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S192, .f32⟩
  | .hbm, ⟨81, _⟩ => ⟨S192, .f32⟩
  | .hbm, ⟨82, _⟩ => ⟨S1x192x1x1, .f32⟩
  | .hbm, ⟨83, _⟩ => ⟨S4x192x32x32, .f32⟩
  | .hbm, ⟨84, _⟩ => ⟨S4x192x32x32, .f32⟩
  | .hbm, ⟨85, _⟩ => ⟨S1x192x1x1, .f32⟩
  | .hbm, ⟨86, _⟩ => ⟨S4x192x32x32, .f32⟩
  | .hbm, ⟨87, _⟩ => ⟨S4x192x32x32, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4x192x32x32, .f32⟩
  | .hbm, ⟨92, _⟩ => ⟨S4x192x32x32, .f32⟩
  | .hbm, ⟨93, _⟩ => ⟨S_, .f32⟩
  | .hbm, ⟨94, _⟩ => ⟨S4x192x32x32, .f32⟩
  | .hbm, ⟨95, _⟩ => ⟨S4x192x32x32, .f32⟩
  | .hbm, ⟨96, _⟩ => ⟨S192x192, .f32⟩
  | .hbm, ⟨97, _⟩ => ⟨S4x32x32x192, .f32⟩
  | .hbm, ⟨98, _⟩ => ⟨S4x192x32x32, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S192, .f32⟩
  | .hbm, ⟨105, _⟩ => ⟨S192, .f32⟩
  | .hbm, ⟨106, _⟩ => ⟨S1x192x1x1, .f32⟩
  | .hbm, ⟨107, _⟩ => ⟨S4x192x32x32, .f32⟩
  | .hbm, ⟨108, _⟩ => ⟨S4x192x32x32, .f32⟩
  | .hbm, ⟨109, _⟩ => ⟨S1x192x1x1, .f32⟩
  | .hbm, ⟨110, _⟩ => ⟨S4x192x32x32, .f32⟩
  | .hbm, ⟨111, _⟩ => ⟨S4x192x32x32, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S4x192x32x32, .f32⟩
  | .hbm, ⟨116, _⟩ => ⟨S4x192x32x32, .f32⟩
  | .hbm, ⟨117, _⟩ => ⟨S_, .f32⟩
  | .hbm, ⟨118, _⟩ => ⟨S4x192x32x32, .f32⟩
  | .hbm, ⟨119, _⟩ => ⟨S4x192x32x32, .f32⟩
  | .hbm, ⟨120, _⟩ => ⟨S4x192x1024, .f32⟩
  | _, _ => ⟨S4x192x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_0 : Ref sig .tc := ⟨.hbm, 75, rfl⟩
abbrev main_v65 : Ref sig .tc := ⟨.hbm, 76, rfl⟩
abbrev main_cst_1 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_2 : Ref sig .tc := ⟨.hbm, 88, rfl⟩
abbrev main_cst_3 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_4 : Ref sig .tc := ⟨.hbm, 99, rfl⟩
abbrev main_v80 : Ref sig .tc := ⟨.hbm, 100, rfl⟩
abbrev main_cst_5 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_6 : Ref sig .tc := ⟨.hbm, 112, rfl⟩
abbrev main_cst_7 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]
-- ==== Kernel.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S192 : Shape := ⟨1, ![192]⟩
abbrev S192x1x3x3 : Shape := ⟨4, ![192, 1, 3, 3]⟩
abbrev S192x192x1x1 : Shape := ⟨4, ![192, 192, 1, 1]⟩
abbrev S4x192x16x16 : Shape := ⟨4, ![4, 192, 16, 16]⟩
abbrev S4x1x192x16x16 : Shape := ⟨5, ![4, 1, 192, 16, 16]⟩
abbrev S4x16x192x16x16 : Shape := ⟨5, ![4, 16, 192, 16, 16]⟩
abbrev S4x3072x256 : Shape := ⟨3, ![4, 3072, 256]⟩
abbrev S384x4x4x192 : Shape := ⟨4, ![384, 4, 4, 192]⟩
abbrev S384x3072 : Shape := ⟨2, ![384, 3072]⟩
abbrev S8x8 : Shape := ⟨2, ![8, 8]⟩
abbrev S_ : Shape := ⟨0, ![]⟩
abbrev S12x4 : Shape := ⟨2, ![12, 4]⟩
abbrev S8x1x8x1 : Shape := ⟨4, ![8, 1, 8, 1]⟩
abbrev S1x12x1x4 : Shape := ⟨4, ![1, 12, 1, 4]⟩
abbrev S8x12x8x4 : Shape := ⟨4, ![8, 12, 8, 4]⟩
abbrev S96x32 : Shape := ⟨2, ![96, 32]⟩
abbrev S1x12 : Shape := ⟨2, ![1, 12]⟩
abbrev S8x12 : Shape := ⟨2, ![8, 12]⟩
abbrev S96 : Shape := ⟨1, ![96]⟩
abbrev S96x1 : Shape := ⟨2, ![96, 1]⟩
abbrev S384x1 : Shape := ⟨2, ![384, 1]⟩
abbrev S4x384x256 : Shape := ⟨3, ![4, 384, 256]⟩
abbrev S4x256x1 : Shape := ⟨3, ![4, 256, 1]⟩
abbrev S1x3072x256 : Shape := ⟨3, ![1, 3072, 256]⟩
abbrev S1x384x256 : Shape := ⟨3, ![1, 384, 256]⟩
abbrev S1x256x1 : Shape := ⟨3, ![1, 256, 1]⟩
abbrev S3072x256 : Shape := ⟨2, ![3072, 256]⟩
abbrev S384x256 : Shape := ⟨2, ![384, 256]⟩
abbrev S256x256 : Shape := ⟨2, ![256, 256]⟩
abbrev S32x256 : Shape := ⟨2, ![32, 256]⟩
abbrev S96x256 : Shape := ⟨2, ![96, 256]⟩
abbrev S4x256 : Shape := ⟨2, ![4, 256]⟩
abbrev S256 : Shape := ⟨1, ![256]⟩
abbrev S1x256 : Shape := ⟨2, ![1, 256]⟩
abbrev S1x32x256 : Shape := ⟨3, ![1, 32, 256]⟩
abbrev S256x1 : Shape := ⟨2, ![256, 1]⟩
abbrev S4x4x192x384 : Shape := ⟨4, ![4, 4, 192, 384]⟩
abbrev S16x192x384 : Shape := ⟨3, ![16, 192, 384]⟩
abbrev S192x1 : Shape := ⟨2, ![192, 1]⟩
abbrev S4x4x192x256 : Shape := ⟨4, ![4, 4, 192, 256]⟩
abbrev S1x4x192x256 : Shape := ⟨4, ![1, 4, 192, 256]⟩
abbrev S384x17 : Shape := ⟨2, ![384, 17]⟩
abbrev S384x239 : Shape := ⟨2, ![384, 239]⟩
abbrev S384x16 : Shape := ⟨2, ![384, 16]⟩
abbrev S384x240 : Shape := ⟨2, ![384, 240]⟩
abbrev S384x15 : Shape := ⟨2, ![384, 15]⟩
abbrev S384x241 : Shape := ⟨2, ![384, 241]⟩
abbrev S384x255 : Shape := ⟨2, ![384, 255]⟩
abbrev S192x256 : Shape := ⟨2, ![192, 256]⟩
abbrev S1x192x384 : Shape := ⟨3, ![1, 192, 384]⟩
abbrev S192x384 : Shape := ⟨2, ![192, 384]⟩
abbrev S1x64 : Shape := ⟨2, ![1, 64]⟩
abbrev S256x64 : Shape := ⟨2, ![256, 64]⟩
abbrev S64x256 : Shape := ⟨2, ![64, 256]⟩
abbrev S1x1x192x256 : Shape := ⟨4, ![1, 1, 192, 256]⟩
abbrev S4x2x2x192x16x16 : Shape := ⟨6, ![4, 2, 2, 192, 16, 16]⟩
abbrev S4x192x16x2x16x2 : Shape := ⟨6, ![4, 192, 16, 2, 16, 2]⟩
abbrev S4x192x1024 : Shape := ⟨3, ![4, 192, 1024]⟩
abbrev S192x9 : Shape := ⟨2, ![192, 9]⟩
abbrev S192x192 : Shape := ⟨2, ![192, 192]⟩
abbrev S1x192x1024 : Shape := ⟨3, ![1, 192, 1024]⟩
abbrev S192x1024 : Shape := ⟨2, ![192, 1024]⟩
abbrev S192x33 : Shape := ⟨2, ![192, 33]⟩
abbrev S192x991 : Shape := ⟨2, ![192, 991]⟩
abbrev S1x1024 : Shape := ⟨2, ![1, 1024]⟩
abbrev S192x32 : Shape := ⟨2, ![192, 32]⟩
abbrev S192x992 : Shape := ⟨2, ![192, 992]⟩
abbrev S192x31 : Shape := ⟨2, ![192, 31]⟩
abbrev S192x993 : Shape := ⟨2, ![192, 993]⟩
abbrev S192x1023 : Shape := ⟨2, ![192, 1023]⟩
abbrev S4x192x32x32 : Shape := ⟨4, ![4, 192, 32, 32]⟩

abbrev nBuf : Space → Nat
  | .hbm => 120
  | .vmem => 34
  | .smem => 0
  | _ => 0

abbrev bufTy : (tb : Table) → Fin (tcTables nBuf tb) → BufTy
  | .hbm, ⟨0, _⟩ => ⟨S4x192x34x34, .f32⟩
  | .hbm, ⟨1, _⟩ => ⟨S384x192x4x4, .f32⟩
  | .hbm, ⟨2, _⟩ => ⟨S384, .f32⟩
  | .hbm, ⟨3, _⟩ => ⟨S4x12, .f32⟩
  | .hbm, ⟨4, _⟩ => ⟨S12, .f32⟩
  | .hbm, ⟨5, _⟩ => ⟨S384x192x4x4, .f32⟩
  | .hbm, ⟨6, _⟩ => ⟨S192, .f32⟩
  | .hbm, ⟨7, _⟩ => ⟨S4x12, .f32⟩
  | .hbm, ⟨8, _⟩ => ⟨S12, .f32⟩
  | .hbm, ⟨9, _⟩ => ⟨S192x1x3x3, .f32⟩
  | .hbm, ⟨10, _⟩ => ⟨S192, .f32⟩
  | .hbm, ⟨11, _⟩ => ⟨S192, .f32⟩
  | .hbm, ⟨12, _⟩ => ⟨S192x192x1x1, .f32⟩
  | .hbm, ⟨13, _⟩ => ⟨S192, .f32⟩
  | .hbm, ⟨14, _⟩ => ⟨S192, .f32⟩
  | .hbm, ⟨15, _⟩ => ⟨S4x192x16x16, .f32⟩
  | .hbm, ⟨16, _⟩ => ⟨S4x192x16x16, .f32⟩
  | .hbm, ⟨17, _⟩ => ⟨S4x192x16x16, .f32⟩
  | .hbm, ⟨18, _⟩ => ⟨S4x192x16x16, .f32⟩
  | .hbm, ⟨19, _⟩ => ⟨S4x192x16x16, .f32⟩
  | .hbm, ⟨20, _⟩ => ⟨S4x192x16x16, .f32⟩
  | .hbm, ⟨21, _⟩ => ⟨S4x192x16x16, .f32⟩
  | .hbm, ⟨22, _⟩ => ⟨S4x192x16x16, .f32⟩
  | .hbm, ⟨23, _⟩ => ⟨S4x192x16x16, .f32⟩
  | .hbm, ⟨24, _⟩ => ⟨S4x192x16x16, .f32⟩
  | .hbm, ⟨25, _⟩ => ⟨S4x192x16x16, .f32⟩
  | .hbm, ⟨26, _⟩ => ⟨S4x192x16x16, .f32⟩
  | .hbm, ⟨27, _⟩ => ⟨S4x192x16x16, .f32⟩
  | .hbm, ⟨28, _⟩ => ⟨S4x192x16x16, .f32⟩
  | .hbm, ⟨29, _⟩ => ⟨S4x192x16x16, .f32⟩
  | .hbm, ⟨30, _⟩ => ⟨S4x192x16x16, .f32⟩
  | .hbm, ⟨31, _⟩ => ⟨S4x1x192x16x16, .f32⟩
  | .hbm, ⟨32, _⟩ => ⟨S4x1x192x16x16, .f32⟩
  | .hbm, ⟨33, _⟩ => ⟨S4x1x192x16x16, .f32⟩
  | .hbm, ⟨34, _⟩ => ⟨S4x1x192x16x16, .f32⟩
  | .hbm, ⟨35, _⟩ => ⟨S4x1x192x16x16, .f32⟩
  | .hbm, ⟨36, _⟩ => ⟨S4x1x192x16x16, .f32⟩
  | .hbm, ⟨37, _⟩ => ⟨S4x1x192x16x16, .f32⟩
  | .hbm, ⟨38, _⟩ => ⟨S4x1x192x16x16, .f32⟩
  | .hbm, ⟨39, _⟩ => ⟨S4x1x192x16x16, .f32⟩
  | .hbm, ⟨40, _⟩ => ⟨S4x1x192x16x16, .f32⟩
  | .hbm, ⟨41, _⟩ => ⟨S4x1x192x16x16, .f32⟩
  | .hbm, ⟨42, _⟩ => ⟨S4x1x192x16x16, .f32⟩
  | .hbm, ⟨43, _⟩ => ⟨S4x1x192x16x16, .f32⟩
  | .hbm, ⟨44, _⟩ => ⟨S4x1x192x16x16, .f32⟩
  | .hbm, ⟨45, _⟩ => ⟨S4x1x192x16x16, .f32⟩
  | .hbm, ⟨46, _⟩ => ⟨S4x1x192x16x16, .f32⟩
  | .hbm, ⟨47, _⟩ => ⟨S4x16x192x16x16, .f32⟩
  | .hbm, ⟨48, _⟩ => ⟨S4x3072x256, .f32⟩
  | .hbm, ⟨49, _⟩ => ⟨S4x3072x256, .bf16⟩
  | .hbm, ⟨50, _⟩ => ⟨S4x3072x256, .f32⟩
  | .hbm, ⟨51, _⟩ => ⟨S4x3072x256, .f32⟩
  | .hbm, ⟨52, _⟩ => ⟨S4x3072x256, .bf16⟩
  | .hbm, ⟨53, _⟩ => ⟨S384x4x4x192, .f32⟩
  | .hbm, ⟨54, _⟩ => ⟨S384x3072, .f32⟩
  | .hbm, ⟨55, _⟩ => ⟨S384x3072, .bf16⟩
  | .hbm, ⟨56, _⟩ => ⟨S384x3072, .f32⟩
  | .hbm, ⟨57, _⟩ => ⟨S384x3072, .f32⟩
  | .hbm, ⟨58, _⟩ => ⟨S384x3072, .bf16⟩
  | .hbm, ⟨59, _⟩ => ⟨S8x8, .i32⟩
  | .hbm, ⟨60, _⟩ => ⟨S8x8, .i32⟩
  | .hbm, ⟨61, _⟩ => ⟨S_, .i32⟩
  | .hbm, ⟨62, _⟩ => ⟨S8x8, .i32⟩
  | .hbm, ⟨63, _⟩ => ⟨S8x8, .i32⟩
  | .hbm, ⟨64, _⟩ => ⟨S8x8, .i1⟩
  | .hbm, ⟨65, _⟩ => ⟨S8x8, .f32⟩
  | .hbm, ⟨66, _⟩ => ⟨S12x4, .f32⟩
  | .hbm, ⟨67, _⟩ => ⟨S8x1x8x1, .f32⟩
  | .hbm, ⟨68, _⟩ => ⟨S1x12x1x4, .f32⟩
  | .hbm, ⟨69, _⟩ => ⟨S8x12x8x4, .f32⟩
  | .hbm, ⟨70, _⟩ => ⟨S8x12x8x4, .f32⟩
  | .hbm, ⟨71, _⟩ => ⟨S8x12x8x4, .f32⟩
  | .hbm, ⟨72, _⟩ => ⟨S96x32, .f32⟩
  | .hbm, ⟨73, _⟩ => ⟨S96x32, .bf16⟩
  | .hbm, ⟨74, _⟩ => ⟨S96x32, .f32⟩
  | .hbm, ⟨75, _⟩ => ⟨S96x32, .f32⟩
  | .hbm, ⟨76, _⟩ => ⟨S96x32, .bf16⟩
  | .hbm, ⟨77, _⟩ => ⟨S1x12, .f32⟩
  | .hbm, ⟨78, _⟩ => ⟨S8x12, .f32⟩
  | .hbm, ⟨79, _⟩ => ⟨S96, .f32⟩
  | .hbm, ⟨80, _⟩ => ⟨S96x1, .f32⟩
  | .hbm, ⟨81, _⟩ => ⟨S12x4, .f32⟩
  | .hbm, ⟨82, _⟩ => ⟨S8x1x8x1, .f32⟩
  | .hbm, ⟨83, _⟩ => ⟨S1x12x1x4, .f32⟩
  | .hbm, ⟨84, _⟩ => ⟨S8x12x8x4, .f32⟩
  | .hbm, ⟨85, _⟩ => ⟨S8x12x8x4, .f32⟩
  | .hbm, ⟨86, _⟩ => ⟨S8x12x8x4, .f32⟩
  | .hbm, ⟨87, _⟩ => ⟨S96x32, .f32⟩
  | .hbm, ⟨88, _⟩ => ⟨S1x12, .f32⟩
  | .hbm, ⟨89, _⟩ => ⟨S8x12, .f32⟩
  | .hbm, ⟨90, _⟩ => ⟨S96, .f32⟩
  | .hbm, ⟨91, _⟩ => ⟨S96x1, .f32⟩
  | .hbm, ⟨92, _⟩ => ⟨S384x1, .f32⟩
  | .hbm, ⟨93, _⟩ => ⟨S4x384x256, .f32⟩
  | .hbm, ⟨94, _⟩ => ⟨S4x256x1, .f32⟩
  | .hbm, ⟨95, _⟩ => ⟨S4x4x192x384, .f32⟩
  | .hbm, ⟨96, _⟩ => ⟨S16x192x384, .f32⟩
  | .hbm, ⟨97, _⟩ => ⟨S192x1, .f32⟩
  | .hbm, ⟨98, _⟩ => ⟨S4x4x192x256, .f32⟩
  | .hbm, ⟨99, _⟩ => ⟨S4x2x2x192x16x16, .f32⟩
  | .hbm, ⟨100, _⟩ => ⟨S4x192x16x2x16x2, .f32⟩
  | .hbm, ⟨101, _⟩ => ⟨S4x192x1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S192x9, .f32⟩
  | .hbm, ⟨107, _⟩ => ⟨S_, .f32⟩
  | .hbm, ⟨108, _⟩ => ⟨S192, .f32⟩
  | .hbm, ⟨109, _⟩ => ⟨S192, .f32⟩
  | .hbm, ⟨110, _⟩ => ⟨S192x1, .f32⟩
  | .hbm, ⟨111, _⟩ => ⟨S192x1, .f32⟩
  | .hbm, ⟨112, _⟩ => ⟨S192x192, .f32⟩
  | .hbm, ⟨113, _⟩ => ⟨S_, .f32⟩
  | .hbm, ⟨114, _⟩ => ⟨S192, .f32⟩
  | .hbm, ⟨115, _⟩ => ⟨S192, .f32⟩
  | .hbm, ⟨116, _⟩ => ⟨S192x1, .f32⟩
  | .hbm, ⟨117, _⟩ => ⟨S192x1, .f32⟩
  | .hbm, ⟨118, _⟩ => ⟨S4x192x1024, .f32⟩
  | .hbm, ⟨119, _⟩ => ⟨S4x192x32x32, .f32⟩
  | .local _ .vmem, ⟨0, _⟩ => ⟨S1x3072x256, .bf16⟩
  | .local _ .vmem, ⟨1, _⟩ => ⟨S1x3072x256, .bf16⟩
  | .local _ .vmem, ⟨2, _⟩ => ⟨S1x3072x256, .bf16⟩
  | .local _ .vmem, ⟨3, _⟩ => ⟨S1x3072x256, .bf16⟩
  | .local _ .vmem, ⟨4, _⟩ => ⟨S384x3072, .bf16⟩
  | .local _ .vmem, ⟨5, _⟩ => ⟨S384x3072, .bf16⟩
  | .local _ .vmem, ⟨6, _⟩ => ⟨S384x1, .f32⟩
  | .local _ .vmem, ⟨7, _⟩ => ⟨S96x32, .bf16⟩
  | .local _ .vmem, ⟨8, _⟩ => ⟨S96x32, .bf16⟩
  | .local _ .vmem, ⟨9, _⟩ => ⟨S96x1, .f32⟩
  | .local _ .vmem, ⟨10, _⟩ => ⟨S1x384x256, .f32⟩
  | .local _ .vmem, ⟨11, _⟩ => ⟨S1x384x256, .f32⟩
  | .local _ .vmem, ⟨12, _⟩ => ⟨S1x256x1, .f32⟩
  | .local _ .vmem, ⟨13, _⟩ => ⟨S1x256x1, .f32⟩
  | .local _ .vmem, ⟨14, _⟩ => ⟨S1x384x256, .f32⟩
  | .local _ .vmem, ⟨15, _⟩ => ⟨S1x384x256, .f32⟩
  | .local _ .vmem, ⟨16, _⟩ => ⟨S1x256x1, .f32⟩
  | .local _ .vmem, ⟨17, _⟩ => ⟨S1x256x1, .f32⟩
  | .local _ .vmem, ⟨18, _⟩ => ⟨S16x192x384, .f32⟩
  | .local _ .vmem, ⟨19, _⟩ => ⟨S192x1, .f32⟩
  | .local _ .vmem, ⟨20, _⟩ => ⟨S96x32, .f32⟩
  | .local _ .vmem, ⟨21, _⟩ => ⟨S96x1, .f32⟩
  | .local _ .vmem, ⟨22, _⟩ => ⟨S1x4x192x256, .f32⟩
  | .local _ .vmem, ⟨23, _⟩ => ⟨S1x4x192x256, .f32⟩
  | .local _ .vmem, ⟨24, _⟩ => ⟨S1x192x1024, .f32⟩
  | .local _ .vmem, ⟨25, _⟩ => ⟨S1x192x1024, .f32⟩
  | .local _ .vmem, ⟨26, _⟩ => ⟨S192x9, .f32⟩
  | .local _ .vmem, ⟨27, _⟩ => ⟨S192x1, .f32⟩
  | .local _ .vmem, ⟨28, _⟩ => ⟨S192x1, .f32⟩
  | .local _ .vmem, ⟨29, _⟩ => ⟨S192x192, .f32⟩
  | .local _ .vmem, ⟨30, _⟩ => ⟨S192x1, .f32⟩
  | .local _ .vmem, ⟨31, _⟩ => ⟨S192x1, .f32⟩
  | .local _ .vmem, ⟨32, _⟩ => ⟨S1x192x1024, .f32⟩
  | .local _ .vmem, ⟨33, _⟩ => ⟨S1x192x1024, .f32⟩
  | _, _ => ⟨S4x192x34x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77_0 : Ref sig .tc := ⟨.hbm, 93, rfl⟩
abbrev main_v77_1 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst : Ref sig .tc := ⟨.hbm, 102, rfl⟩
abbrev main_v85 : Ref sig .tc := ⟨.hbm, 103, rfl⟩
abbrev main_cst_0 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x384x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x192x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x4x192x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x192x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x9 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S192x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S192x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S192x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x192x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S4x192x34x34 : Shape := ⟨4, ![4, 192, 34, 34]⟩
abbrev S384x192x4x4 : Shape := ⟨4, ![384, 192, 4, 4]⟩
abbrev S384 : Shape := ⟨1, ![384]⟩
abbrev S4x12 : Shape := ⟨2, ![4, 12]⟩
abbrev S12 : Shape := ⟨1, ![12]⟩
abbrev S192 : Shape := ⟨1, ![192]⟩
abbrev S192x1x3x3 : Shape := ⟨4, ![192, 1, 3, 3]⟩
abbrev S192x192x1x1 : Shape := ⟨4, ![192, 192, 1, 1]⟩
abbrev S1x384x1x1 : Shape := ⟨4, ![1, 384, 1, 1]⟩
abbrev S384x192x1x1 : Shape := ⟨4, ![384, 192, 1, 1]⟩
abbrev S384x192 : Shape := ⟨2, ![384, 192]⟩
abbrev S4x192x16x16 : Shape := ⟨4, ![4, 192, 16, 16]⟩
abbrev S4x16x16x384 : Shape := ⟨4, ![4, 16, 16, 384]⟩
abbrev S4x384x16x16 : Shape := ⟨4, ![4, 384, 16, 16]⟩
abbrev S4x96x4x256 : Shape := ⟨4, ![4, 96, 4, 256]⟩
abbrev S4x96x256x4 : Shape := ⟨4, ![4, 96, 256, 4]⟩
abbrev S4x96x256x12 : Shape := ⟨4, ![4, 96, 256, 12]⟩
abbrev S1x1x1x12 : Shape := ⟨4, ![1, 1, 1, 12]⟩
abbrev S4x96x256x256 : Shape := ⟨4, ![4, 96, 256, 256]⟩
abbrev S_ : Shape := ⟨0, ![]⟩
abbrev S4x96x256 : Shape := ⟨3, ![4, 96, 256]⟩
abbrev S4x96x256x1 : Shape := ⟨4, ![4, 96, 256, 1]⟩
abbrev S4x256 : Shape := ⟨2, ![4, 256]⟩
abbrev S4x384x256 : Shape := ⟨3, ![4, 384, 256]⟩
abbrev S4x256x1 : Shape := ⟨3, ![4, 256, 1]⟩
abbrev S4x384x35x35 : Shape := ⟨4, ![4, 384, 35, 35]⟩
abbrev S4x192x32x32 : Shape := ⟨4, ![4, 192, 32, 32]⟩
abbrev S4x384x32x32 : Shape := ⟨4, ![4, 384, 32, 32]⟩
abbrev S4x32x32x192 : Shape := ⟨4, ![4, 32, 32, 192]⟩
abbrev S1x192x1x1 : Shape := ⟨4, ![1, 192, 1, 1]⟩
abbrev S4x64 : Shape := ⟨2, ![4, 64]⟩
abbrev S4x48x4x16x2x16x2 : Shape := ⟨7, ![4, 48, 4, 16, 2, 16, 2]⟩
abbrev S4x48x4x16x16x2x2 : Shape := ⟨7, ![4, 48, 4, 16, 16, 2, 2]⟩
abbrev S4x48x4x256x2x2 : Shape := ⟨6, ![4, 48, 4, 256, 2, 2]⟩
abbrev S4x1x1x64x1x1 : Shape := ⟨6, ![4, 1, 1, 64, 1, 1]⟩
abbrev S4x48x4x64x2x2 : Shape := ⟨6, ![4, 48, 4, 64, 2, 2]⟩
abbrev S4x48x4x64x2x2x1 : Shape := ⟨7, ![4, 48, 4, 64, 2, 2, 1]⟩
abbrev S4x48x4x256 : Shape := ⟨4, ![4, 48, 4, 256]⟩
abbrev S4x48x256x4 : Shape := ⟨4, ![4, 48, 256, 4]⟩
abbrev S4x48x256x12 : Shape := ⟨4, ![4, 48, 256, 12]⟩
abbrev S4x48x256x256 : Shape := ⟨4, ![4, 48, 256, 256]⟩
abbrev S4x48x256 : Shape := ⟨3, ![4, 48, 256]⟩
abbrev S4x48x256x1 : Shape := ⟨4, ![4, 48, 256, 1]⟩
abbrev S1x48x4x256x2x2 : Shape := ⟨6, ![1, 48, 4, 256, 2, 2]⟩
abbrev S48x4x256x2x2 : Shape := ⟨5, ![48, 4, 256, 2, 2]⟩
abbrev S1x64 : Shape := ⟨2, ![1, 64]⟩
abbrev S64 : Shape := ⟨1, ![64]⟩
abbrev S1x48x4x64x2x2 : Shape := ⟨6, ![1, 48, 4, 64, 2, 2]⟩
abbrev S48x4x64x2x2 : Shape := ⟨5, ![48, 4, 64, 2, 2]⟩
abbrev S64x1 : Shape := ⟨2, ![64, 1]⟩
abbrev S192x1x1x1 : Shape := ⟨4, ![192, 1, 1, 1]⟩
abbrev S192x192 : Shape := ⟨2, ![192, 192]⟩
abbrev S4x192x1024 : Shape := ⟨3, ![4, 192, 1024]⟩

abbrev nBuf : Space → Nat
  | .hbm => 479
  | .vmem => 0
  | .smem => 0
  | _ => 0

abbrev hbmTy0_0 (i : Nat) : BufTy := match i % 128 with
  | 0 => ⟨S4x192x34x34, .f32⟩
  | 1 => ⟨S384x192x4x4, .f32⟩
  | 2 => ⟨S384, .f32⟩
  | 3 => ⟨S4x12, .f32⟩
  | 4 => ⟨S12, .f32⟩
  | 5 => ⟨S384x192x4x4, .f32⟩
  | 6 => ⟨S192, .f32⟩
  | 7 => ⟨S4x12, .f32⟩
  | 8 => ⟨S12, .f32⟩
  | 9 => ⟨S192x1x3x3, .f32⟩
  | 10 => ⟨S192, .f32⟩
  | 11 => ⟨S192, .f32⟩
  | 12 => ⟨S192x192x1x1, .f32⟩
  | 13 => ⟨S192, .f32⟩
  | 14 => ⟨S192, .f32⟩
  | 15 => ⟨S1x384x1x1, .f32⟩
  | 16 => ⟨S384x192x1x1, .f32⟩
  | 17 => ⟨S384x192, .f32⟩
  | 18 => ⟨S4x192x16x16, .f32⟩
  | 19 => ⟨S4x16x16x384, .f32⟩
  | 20 => ⟨S4x384x16x16, .f32⟩
  | 21 => ⟨S4x384x16x16, .f32⟩
  | 22 => ⟨S4x384x16x16, .f32⟩
  | 23 => ⟨S384x192x1x1, .f32⟩
  | 24 => ⟨S384x192, .f32⟩
  | 25 => ⟨S4x192x16x16, .f32⟩
  | 26 => ⟨S4x16x16x384, .f32⟩
  | 27 => ⟨S4x384x16x16, .f32⟩
  | 28 => ⟨S4x384x16x16, .f32⟩
  | 29 => ⟨S384x192x1x1, .f32⟩
  | 30 => ⟨S384x192, .f32⟩
  | 31 => ⟨S4x192x16x16, .f32⟩
  | 32 => ⟨S4x16x16x384, .f32⟩
  | 33 => ⟨S4x384x16x16, .f32⟩
  | 34 => ⟨S4x384x16x16, .f32⟩
  | 35 => ⟨S384x192x1x1, .f32⟩
  | 36 => ⟨S384x192, .f32⟩
  | 37 => ⟨S4x192x16x16, .f32⟩
  | 38 => ⟨S4x16x16x384, .f32⟩
  | 39 => ⟨S4x384x16x16, .f32⟩
  | 40 => ⟨S4x384x16x16, .f32⟩
  | 41 => ⟨S384x192x1x1, .f32⟩
  | 42 => ⟨S384x192, .f32⟩
  | 43 => ⟨S4x192x16x16, .f32⟩
  | 44 => ⟨S4x16x16x384, .f32⟩
  | 45 => ⟨S4x384x16x16, .f32⟩
  | 46 => ⟨S4x384x16x16, .f32⟩
  | 47 => ⟨S384x192x1x1, .f32⟩
  | 48 => ⟨S384x192, .f32⟩
  | 49 => ⟨S4x192x16x16, .f32⟩
  | 50 => ⟨S4x16x16x384, .f32⟩
  | 51 => ⟨S4x384x16x16, .f32⟩
  | 52 => ⟨S4x384x16x16, .f32⟩
  | 53 => ⟨S384x192x1x1, .f32⟩
  | 54 => ⟨S384x192, .f32⟩
  | 55 => ⟨S4x192x16x16, .f32⟩
  | 56 => ⟨S4x16x16x384, .f32⟩
  | 57 => ⟨S4x384x16x16, .f32⟩
  | 58 => ⟨S4x384x16x16, .f32⟩
  | 59 => ⟨S384x192x1x1, .f32⟩
  | 60 => ⟨S384x192, .f32⟩
  | 61 => ⟨S4x192x16x16, .f32⟩
  | 62 => ⟨S4x16x16x384, .f32⟩
  | 63 => ⟨S4x384x16x16, .f32⟩
  | 64 => ⟨S4x384x16x16, .f32⟩
  | 65 => ⟨S384x192x1x1, .f32⟩
  | 66 => ⟨S384x192, .f32⟩
  | 67 => ⟨S4x192x16x16, .f32⟩
  | 68 => ⟨S4x16x16x384, .f32⟩
  | 69 => ⟨S4x384x16x16, .f32⟩
  | 70 => ⟨S4x384x16x16, .f32⟩
  | 71 => ⟨S384x192x1x1, .f32⟩
  | 72 => ⟨S384x192, .f32⟩
  | 73 => ⟨S4x192x16x16, .f32⟩
  | 74 => ⟨S4x16x16x384, .f32⟩
  | 75 => ⟨S4x384x16x16, .f32⟩
  | 76 => ⟨S4x384x16x16, .f32⟩
  | 77 => ⟨S384x192x1x1, .f32⟩
  | 78 => ⟨S384x192, .f32⟩
  | 79 => ⟨S4x192x16x16, .f32⟩
  | 80 => ⟨S4x16x16x384, .f32⟩
  | 81 => ⟨S4x384x16x16, .f32⟩
  | 82 => ⟨S4x384x16x16, .f32⟩
  | 83 => ⟨S384x192x1x1, .f32⟩
  | 84 => ⟨S384x192, .f32⟩
  | 85 => ⟨S4x192x16x16, .f32⟩
  | 86 => ⟨S4x16x16x384, .f32⟩
  | 87 => ⟨S4x384x16x16, .f32⟩
  | 88 => ⟨S4x384x16x16, .f32⟩
  | 89 => ⟨S384x192x1x1, .f32⟩
  | 90 => ⟨S384x192, .f32⟩
  | 91 => ⟨S4x192x16x16, .f32⟩
  | 92 => ⟨S4x16x16x384, .f32⟩
  | 93 => ⟨S4x384x16x16, .f32⟩
  | 94 => ⟨S4x384x16x16, .f32⟩
  | 95 => ⟨S384x192x1x1, .f32⟩
  | 96 => ⟨S384x192, .f32⟩
  | 97 => ⟨S4x192x16x16, .f32⟩
  | 98 => ⟨S4x16x16x384, .f32⟩
  | 99 => ⟨S4x384x16x16, .f32⟩
  | 100 => ⟨S4x384x16x16, .f32⟩
  | 101 => ⟨S384x192x1x1, .f32⟩
  | 102 => ⟨S384x192, .f32⟩
  | 103 => ⟨S4x192x16x16, .f32⟩
  | 104 => ⟨S4x16x16x384, .f32⟩
  | 105 => ⟨S4x384x16x16, .f32⟩
  | 106 => ⟨S4x384x16x16, .f32⟩
  | 107 => ⟨S384x192x1x1, .f32⟩
  | 108 => ⟨S384x192, .f32⟩
  | 109 => ⟨S4x192x16x16, .f32⟩
  | 110 => ⟨S4x16x16x384, .f32⟩
  | 111 => ⟨S4x384x16x16, .f32⟩
  | 112 => ⟨S4x384x16x16, .f32⟩
  | 113 => ⟨S4x96x4x256, .f32⟩
  | 114 => ⟨S4x96x256x4, .f32⟩
  | 115 => ⟨S4x96x256x12, .f32⟩
  | 116 => ⟨S1x1x1x12, .f32⟩
  | 117 => ⟨S4x96x256x12, .f32⟩
  | 118 => ⟨S4x96x256x12, .f32⟩
  | 119 => ⟨S4x96x256x4, .f32⟩
  | 120 => ⟨S4x96x256x4, .f32⟩
  | 121 => ⟨S4x96x256x4, .f32⟩
  | 122 => ⟨S4x96x4x256, .f32⟩
  | 123 => ⟨S4x96x256x256, .f32⟩
  | 124 => ⟨S_, .f32⟩
  | 125 => ⟨S4x96x256, .f32⟩
  | 126 => ⟨S_, .f32⟩
  | 127 => ⟨S4x96x256, .f32⟩
  | _ => ⟨S4x192x34x34, .f32⟩

abbrev hbmTy0_1 (i : Nat) : BufTy := match i % 128 with
  | 0 => ⟨S4x96x256, .f32⟩
  | 1 => ⟨S4x96x256x1, .f32⟩
  | 2 => ⟨S4x96x256x256, .f32⟩
  | 3 => ⟨S4x96x256x256, .f32⟩
  | 4 => ⟨S4x96x256x256, .f32⟩
  | 5 => ⟨S_, .f32⟩
  | 6 => ⟨S4x96x256, .f32⟩
  | 7 => ⟨S4x96x256x1, .f32⟩
  | 8 => ⟨S4x96x256x256, .f32⟩
  | 9 => ⟨S4x96x256x256, .f32⟩
  | 10 => ⟨S_, .f32⟩
  | 11 => ⟨S4x96x256, .f32⟩
  | 12 => ⟨S_, .f32⟩
  | 13 => ⟨S4x256, .f32⟩
  | 14 => ⟨S4x96x256x4, .f32⟩
  | 15 => ⟨S4x96x4x256, .f32⟩
  | 16 => ⟨S4x384x256, .f32⟩
  | 17 => ⟨S4x256x1, .f32⟩
  | 18 => ⟨S4x384x16x16, .f32⟩
  | 19 => ⟨S_, .f32⟩
  | 20 => ⟨S4x384x35x35, .f32⟩
  | 21 => ⟨S_, .f32⟩
  | 22 => ⟨S4x192x32x32, .f32⟩
  | 23 => ⟨S384x192x1x1, .f32⟩
  | 24 => ⟨S384x192, .f32⟩
  | 25 => ⟨S4x384x32x32, .f32⟩
  | 26 => ⟨S4x32x32x192, .f32⟩
  | 27 => ⟨S4x192x32x32, .f32⟩
  | 28 => ⟨S4x192x32x32, .f32⟩
  | 29 => ⟨S384x192x1x1, .f32⟩
  | 30 => ⟨S384x192, .f32⟩
  | 31 => ⟨S4x384x32x32, .f32⟩
  | 32 => ⟨S4x32x32x192, .f32⟩
  | 33 => ⟨S4x192x32x32, .f32⟩
  | 34 => ⟨S4x192x32x32, .f32⟩
  | 35 => ⟨S384x192x1x1, .f32⟩
  | 36 => ⟨S384x192, .f32⟩
  | 37 => ⟨S4x384x32x32, .f32⟩
  | 38 => ⟨S4x32x32x192, .f32⟩
  | 39 => ⟨S4x192x32x32, .f32⟩
  | 40 => ⟨S4x192x32x32, .f32⟩
  | 41 => ⟨S384x192x1x1, .f32⟩
  | 42 => ⟨S384x192, .f32⟩
  | 43 => ⟨S4x384x32x32, .f32⟩
  | 44 => ⟨S4x32x32x192, .f32⟩
  | 45 => ⟨S4x192x32x32, .f32⟩
  | 46 => ⟨S4x192x32x32, .f32⟩
  | 47 => ⟨S384x192x1x1, .f32⟩
  | 48 => ⟨S384x192, .f32⟩
  | 49 => ⟨S4x384x32x32, .f32⟩
  | 50 => ⟨S4x32x32x192, .f32⟩
  | 51 => ⟨S4x192x32x32, .f32⟩
  | 52 => ⟨S4x192x32x32, .f32⟩
  | 53 => ⟨S384x192x1x1, .f32⟩
  | 54 => ⟨S384x192, .f32⟩
  | 55 => ⟨S4x384x32x32, .f32⟩
  | 56 => ⟨S4x32x32x192, .f32⟩
  | 57 => ⟨S4x192x32x32, .f32⟩
  | 58 => ⟨S4x192x32x32, .f32⟩
  | 59 => ⟨S384x192x1x1, .f32⟩
  | 60 => ⟨S384x192, .f32⟩
  | 61 => ⟨S4x384x32x32, .f32⟩
  | 62 => ⟨S4x32x32x192, .f32⟩
  | 63 => ⟨S4x192x32x32, .f32⟩
  | 64 => ⟨S4x192x32x32, .f32⟩
  | 65 => ⟨S384x192x1x1, .f32⟩
  | 66 => ⟨S384x192, .f32⟩
  | 67 => ⟨S4x384x32x32, .f32⟩
  | 68 => ⟨S4x32x32x192, .f32⟩
  | 69 => ⟨S4x192x32x32, .f32⟩
  | 70 => ⟨S4x192x32x32, .f32⟩
  | 71 => ⟨S384x192x1x1, .f32⟩
  | 72 => ⟨S384x192, .f32⟩
  | 73 => ⟨S4x384x32x32, .f32⟩
  | 74 => ⟨S4x32x32x192, .f32⟩
  | 75 => ⟨S4x192x32x32, .f32⟩
  | 76 => ⟨S4x192x32x32, .f32⟩
  | 77 => ⟨S384x192x1x1, .f32⟩
  | 78 => ⟨S384x192, .f32⟩
  | 79 => ⟨S4x384x32x32, .f32⟩
  | 80 => ⟨S4x32x32x192, .f32⟩
  | 81 => ⟨S4x192x32x32, .f32⟩
  | 82 => ⟨S4x192x32x32, .f32⟩
  | 83 => ⟨S384x192x1x1, .f32⟩
  | 84 => ⟨S384x192, .f32⟩
  | 85 => ⟨S4x384x32x32, .f32⟩
  | 86 => ⟨S4x32x32x192, .f32⟩
  | 87 => ⟨S4x192x32x32, .f32⟩
  | 88 => ⟨S4x192x32x32, .f32⟩
  | 89 => ⟨S384x192x1x1, .f32⟩
  | 90 => ⟨S384x192, .f32⟩
  | 91 => ⟨S4x384x32x32, .f32⟩
  | 92 => ⟨S4x32x32x192, .f32⟩
  | 93 => ⟨S4x192x32x32, .f32⟩
  | 94 => ⟨S4x192x32x32, .f32⟩
  | 95 => ⟨S384x192x1x1, .f32⟩
  | 96 => ⟨S384x192, .f32⟩
  | 97 => ⟨S4x384x32x32, .f32⟩
  | 98 => ⟨S4x32x32x192, .f32⟩
  | 99 => ⟨S4x192x32x32, .f32⟩
  | 100 => ⟨S4x192x32x32, .f32⟩
  | 101 => ⟨S384x192x1x1, .f32⟩
  | 102 => ⟨S384x192, .f32⟩
  | 103 => ⟨S4x384x32x32, .f32⟩
  | 104 => ⟨S4x32x32x192, .f32⟩
  | 105 => ⟨S4x192x32x32, .f32⟩
  | 106 => ⟨S4x192x32x32, .f32⟩
  | 107 => ⟨S384x192x1x1, .f32⟩
  | 108 => ⟨S384x192, .f32⟩
  | 109 => ⟨S4x384x32x32, .f32⟩
  | 110 => ⟨S4x32x32x192, .f32⟩
  | 111 => ⟨S4x192x32x32, .f32⟩
  | 112 => ⟨S4x192x32x32, .f32⟩
  | 113 => ⟨S384x192x1x1, .f32⟩
  | 114 => ⟨S384x192, .f32⟩
  | 115 => ⟨S4x384x32x32, .f32⟩
  | 116 => ⟨S4x32x32x192, .f32⟩
  | 117 => ⟨S4x192x32x32, .f32⟩
  | 118 => ⟨S4x192x32x32, .f32⟩
  | 119 => ⟨S1x192x1x1, .f32⟩
  | 120 => ⟨S4x192x32x32, .f32⟩
  | 121 => ⟨S4x192x32x32, .f32⟩
  | 122 => ⟨S4x256, .f32⟩
  | 123 => ⟨S4x64, .f32⟩
  | 124 => ⟨S4x64, .i32⟩
  | 125 => ⟨S4x48x4x16x2x16x2, .f32⟩
  | 126 => ⟨S4x48x4x16x16x2x2, .f32⟩
  | 127 => ⟨S4x48x4x256x2x2, .f32⟩
  | _ => ⟨S4x192x34x34, .f32⟩

abbrev hbmTy0_2 (i : Nat) : BufTy := match i % 128 with
  | 0 => ⟨S4x1x1x64x1x1, .i32⟩
  | 1 => ⟨S4x48x4x64x2x2, .i32⟩
  | 2 => ⟨S_, .i32⟩
  | 3 => ⟨S4x48x4x64x2x2, .i32⟩
  | 4 => ⟨S4x48x4x64x2x2, .i1⟩
  | 5 => ⟨S_, .i32⟩
  | 6 => ⟨S4x48x4x64x2x2, .i32⟩
  | 7 => ⟨S4x48x4x64x2x2, .i32⟩
  | 8 => ⟨S4x48x4x64x2x2, .i32⟩
  | 9 => ⟨S4x48x4x64x2x2x1, .i32⟩
  | 10 => ⟨S4x48x4x64x2x2, .f32⟩
  | 11 => ⟨S4x48x4x256, .f32⟩
  | 12 => ⟨S4x48x256x4, .f32⟩
  | 13 => ⟨S4x48x256x12, .f32⟩
  | 14 => ⟨S1x1x1x12, .f32⟩
  | 15 => ⟨S4x48x256x12, .f32⟩
  | 16 => ⟨S4x48x256x12, .f32⟩
  | 17 => ⟨S4x48x256x4, .f32⟩
  | 18 => ⟨S4x48x256x4, .f32⟩
  | 19 => ⟨S4x48x256x4, .f32⟩
  | 20 => ⟨S4x48x4x256, .f32⟩
  | 21 => ⟨S4x48x256x256, .f32⟩
  | 22 => ⟨S_, .f32⟩
  | 23 => ⟨S4x48x256, .f32⟩
  | 24 => ⟨S_, .f32⟩
  | 25 => ⟨S4x48x256, .f32⟩
  | 26 => ⟨S4x48x256, .f32⟩
  | 27 => ⟨S4x48x256x1, .f32⟩
  | 28 => ⟨S4x48x256x256, .f32⟩
  | 29 => ⟨S4x48x256x256, .f32⟩
  | 30 => ⟨S4x48x256x256, .f32⟩
  | 31 => ⟨S_, .f32⟩
  | 32 => ⟨S4x48x256, .f32⟩
  | 33 => ⟨S4x48x256x1, .f32⟩
  | 34 => ⟨S4x48x256x256, .f32⟩
  | 35 => ⟨S4x48x256x256, .f32⟩
  | 36 => ⟨S4x48x256x4, .f32⟩
  | 37 => ⟨S4x48x4x256, .f32⟩
  | 38 => ⟨S4x48x4x64x2x2, .f32⟩
  | 39 => ⟨S1x48x4x256x2x2, .f32⟩
  | 40 => ⟨S48x4x256x2x2, .f32⟩
  | 41 => ⟨S1x64, .i32⟩
  | 42 => ⟨S64, .i32⟩
  | 43 => ⟨S1x48x4x64x2x2, .f32⟩
  | 44 => ⟨S48x4x64x2x2, .f32⟩
  | 45 => ⟨S_, .i32⟩
  | 46 => ⟨S64, .i32⟩
  | 47 => ⟨S64, .i1⟩
  | 48 => ⟨S_, .i32⟩
  | 49 => ⟨S64, .i32⟩
  | 50 => ⟨S64, .i32⟩
  | 51 => ⟨S64, .i32⟩
  | 52 => ⟨S64x1, .i32⟩
  | 53 => ⟨S48x4x256x2x2, .f32⟩
  | 54 => ⟨S1x48x4x256x2x2, .f32⟩
  | 55 => ⟨S48x4x256x2x2, .f32⟩
  | 56 => ⟨S1x64, .i32⟩
  | 57 => ⟨S64, .i32⟩
  | 58 => ⟨S1x48x4x64x2x2, .f32⟩
  | 59 => ⟨S48x4x64x2x2, .f32⟩
  | 60 => ⟨S_, .i32⟩
  | 61 => ⟨S64, .i32⟩
  | 62 => ⟨S64, .i1⟩
  | 63 => ⟨S_, .i32⟩
  | 64 => ⟨S64, .i32⟩
  | 65 => ⟨S64, .i32⟩
  | 66 => ⟨S64, .i32⟩
  | 67 => ⟨S64x1, .i32⟩
  | 68 => ⟨S48x4x256x2x2, .f32⟩
  | 69 => ⟨S1x48x4x256x2x2, .f32⟩
  | 70 => ⟨S48x4x256x2x2, .f32⟩
  | 71 => ⟨S1x64, .i32⟩
  | 72 => ⟨S64, .i32⟩
  | 73 => ⟨S1x48x4x64x2x2, .f32⟩
  | 74 => ⟨S48x4x64x2x2, .f32⟩
  | 75 => ⟨S_, .i32⟩
  | 76 => ⟨S64, .i32⟩
  | 77 => ⟨S64, .i1⟩
  | 78 => ⟨S_, .i32⟩
  | 79 => ⟨S64, .i32⟩
  | 80 => ⟨S64, .i32⟩
  | 81 => ⟨S64, .i32⟩
  | 82 => ⟨S64x1, .i32⟩
  | 83 => ⟨S48x4x256x2x2, .f32⟩
  | 84 => ⟨S1x48x4x256x2x2, .f32⟩
  | 85 => ⟨S48x4x256x2x2, .f32⟩
  | 86 => ⟨S1x64, .i32⟩
  | 87 => ⟨S64, .i32⟩
  | 88 => ⟨S1x48x4x64x2x2, .f32⟩
  | 89 => ⟨S48x4x64x2x2, .f32⟩
  | 90 => ⟨S_, .i32⟩
  | 91 => ⟨S64, .i32⟩
  | 92 => ⟨S64, .i1⟩
  | 93 => ⟨S_, .i32⟩
  | 94 => ⟨S64, .i32⟩
  | 95 => ⟨S64, .i32⟩
  | 96 => ⟨S64, .i32⟩
  | 97 => ⟨S64x1, .i32⟩
  | 98 => ⟨S48x4x256x2x2, .f32⟩
  | 99 => ⟨S1x48x4x256x2x2, .f32⟩
  | 100 => ⟨S1x48x4x256x2x2, .f32⟩
  | 101 => ⟨S1x48x4x256x2x2, .f32⟩
  | 102 => ⟨S1x48x4x256x2x2, .f32⟩
  | 103 => ⟨S4x48x4x256x2x2, .f32⟩
  | 104 => ⟨S4x48x4x16x16x2x2, .f32⟩
  | 105 => ⟨S4x48x4x16x2x16x2, .f32⟩
  | 106 => ⟨S4x192x32x32, .f32⟩
  | 107 => ⟨S4x192x32x32, .f32⟩
  | 108 => ⟨S_, .i32⟩
  | 109 => ⟨S_, .f32⟩
  | 110 => ⟨S4x192x34x34, .f32⟩
  | 111 => ⟨S_, .f32⟩
  | 112 => ⟨S4x192x32x32, .f32⟩
  | 113 => ⟨S4x192x32x32, .f32⟩
  | 114 => ⟨S192x1x1x1, .f32⟩
  | 115 => ⟨S192, .f32⟩
  | 116 => ⟨S1x192x1x1, .f32⟩
  | 117 => ⟨S4x192x32x32, .f32⟩
  | 118 => ⟨S4x192x32x32, .f32⟩
  | 119 => ⟨S4x192x32x32, .f32⟩
  | 120 => ⟨S4x192x32x32, .f32⟩
  | 121 => ⟨S192x1x1x1, .f32⟩
  | 122 => ⟨S192, .f32⟩
  | 123 => ⟨S1x192x1x1, .f32⟩
  | 124 => ⟨S4x192x32x32, .f32⟩
  | 125 => ⟨S4x192x32x32, .f32⟩
  | 126 => ⟨S4x192x32x32, .f32⟩
  | 127 => ⟨S4x192x32x32, .f32⟩
  | _ => ⟨S4x192x34x34, .f32⟩

abbrev hbmTy0_3 (i : Nat) : BufTy := match i % 128 with
  | 0 => ⟨S192x1x1x1, .f32⟩
  | 1 => ⟨S192, .f32⟩
  | 2 => ⟨S1x192x1x1, .f32⟩
  | 3 => ⟨S4x192x32x32, .f32⟩
  | 4 => ⟨S4x192x32x32, .f32⟩
  | 5 => ⟨S4x192x32x32, .f32⟩
  | 6 => ⟨S4x192x32x32, .f32⟩
  | 7 => ⟨S192x1x1x1, .f32⟩
  | 8 => ⟨S192, .f32⟩
  | 9 => ⟨S1x192x1x1, .f32⟩
  | 10 => ⟨S4x192x32x32, .f32⟩
  | 11 => ⟨S4x192x32x32, .f32⟩
  | 12 => ⟨S4x192x32x32, .f32⟩
  | 13 => ⟨S4x192x32x32, .f32⟩
  | 14 => ⟨S192x1x1x1, .f32⟩
  | 15 => ⟨S192, .f32⟩
  | 16 => ⟨S1x192x1x1, .f32⟩
  | 17 => ⟨S4x192x32x32, .f32⟩
  | 18 => ⟨S4x192x32x32, .f32⟩
  | 19 => ⟨S4x192x32x32, .f32⟩
  | 20 => ⟨S4x192x32x32, .f32⟩
  | 21 => ⟨S192x1x1x1, .f32⟩
  | 22 => ⟨S192, .f32⟩
  | 23 => ⟨S1x192x1x1, .f32⟩
  | 24 => ⟨S4x192x32x32, .f32⟩
  | 25 => ⟨S4x192x32x32, .f32⟩
  | 26 => ⟨S4x192x32x32, .f32⟩
  | 27 => ⟨S4x192x32x32, .f32⟩
  | 28 => ⟨S192x1x1x1, .f32⟩
  | 29 => ⟨S192, .f32⟩
  | 30 => ⟨S1x192x1x1, .f32⟩
  | 31 => ⟨S4x192x32x32, .f32⟩
  | 32 => ⟨S4x192x32x32, .f32⟩
  | 33 => ⟨S4x192x32x32, .f32⟩
  | 34 => ⟨S4x192x32x32, .f32⟩
  | 35 => ⟨S192x1x1x1, .f32⟩
  | 36 => ⟨S192, .f32⟩
  | 37 => ⟨S1x192x1x1, .f32⟩
  | 38 => ⟨S4x192x32x32, .f32⟩
  | 39 => ⟨S4x192x32x32, .f32⟩
  | 40 => ⟨S4x192x32x32, .f32⟩
  | 41 => ⟨S4x192x32x32, .f32⟩
  | 42 => ⟨S192x1x1x1, .f32⟩
  | 43 => ⟨S192, .f32⟩
  | 44 => ⟨S1x192x1x1, .f32⟩
  | 45 => ⟨S4x192x32x32, .f32⟩
  | 46 => ⟨S4x192x32x32, .f32⟩
  | 47 => ⟨S4x192x32x32, .f32⟩
  | 48 => ⟨S_, .f32⟩
  | 49 => ⟨S_, .f32⟩
  | 50 => ⟨S_, .f32⟩
  | 51 => ⟨S_, .f32⟩
  | 52 => ⟨S_, .f32⟩
  | 53 => ⟨S192, .f32⟩
  | 54 => ⟨S192, .f32⟩
  | 55 => ⟨S1x192x1x1, .f32⟩
  | 56 => ⟨S4x192x32x32, .f32⟩
  | 57 => ⟨S4x192x32x32, .f32⟩
  | 58 => ⟨S1x192x1x1, .f32⟩
  | 59 => ⟨S4x192x32x32, .f32⟩
  | 60 => ⟨S4x192x32x32, .f32⟩
  | 61 => ⟨S_, .f32⟩
  | 62 => ⟨S_, .f32⟩
  | 63 => ⟨S_, .f32⟩
  | 64 => ⟨S4x192x32x32, .f32⟩
  | 65 => ⟨S4x192x32x32, .f32⟩
  | 66 => ⟨S_, .f32⟩
  | 67 => ⟨S4x192x32x32, .f32⟩
  | 68 => ⟨S4x192x32x32, .f32⟩
  | 69 => ⟨S192x192, .f32⟩
  | 70 => ⟨S4x32x32x192, .f32⟩
  | 71 => ⟨S4x192x32x32, .f32⟩
  | 72 => ⟨S_, .f32⟩
  | 73 => ⟨S_, .f32⟩
  | 74 => ⟨S_, .f32⟩
  | 75 => ⟨S_, .f32⟩
  | 76 => ⟨S_, .f32⟩
  | 77 => ⟨S192, .f32⟩
  | 78 => ⟨S192, .f32⟩
  | 79 => ⟨S1x192x1x1, .f32⟩
  | 80 => ⟨S4x192x32x32, .f32⟩
  | 81 => ⟨S4x192x32x32, .f32⟩
  | 82 => ⟨S1x192x1x1, .f32⟩
  | 83 => ⟨S4x192x32x32, .f32⟩
  | 84 => ⟨S4x192x32x32, .f32⟩
  | 85 => ⟨S_, .f32⟩
  | 86 => ⟨S_, .f32⟩
  | 87 => ⟨S_, .f32⟩
  | 88 => ⟨S4x192x32x32, .f32⟩
  | 89 => ⟨S4x192x32x32, .f32⟩
  | 90 => ⟨S_, .f32⟩
  | 91 => ⟨S4x192x32x32, .f32⟩
  | 92 => ⟨S4x192x32x32, .f32⟩
  | 93 => ⟨S4x192x1024, .f32⟩
  | 94 => ⟨S4x192x32x32, .f32⟩
  | _ => ⟨S4x192x34x34, .f32⟩

abbrev hbmTy (i : Nat) : BufTy := match i / 128 with
  | 0 => hbmTy0_0 i
  | 1 => hbmTy0_1 i
  | 2 => hbmTy0_2 i
  | 3 => hbmTy0_3 i
  | _ => ⟨S4x192x34x34, .f32⟩

abbrev bufTy : (tb : Table) → Fin (tcTables nBuf tb) → BufTy
  | .hbm, ⟨i, _⟩ => hbmTy i
  | _, _ => ⟨S4x192x34x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst : Ref sig .tc := ⟨.hbm, 124, rfl⟩
abbrev main_v109 : Ref sig .tc := ⟨.hbm, 125, rfl⟩
abbrev main_cst_0 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_1 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_2 : Ref sig .tc := ⟨.hbm, 138, rfl⟩
abbrev main_v120 : Ref sig .tc := ⟨.hbm, 139, rfl⟩
abbrev main_cst_3 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_4 : Ref sig .tc := ⟨.hbm, 147, rfl⟩
abbrev main_v127 : Ref sig .tc := ⟨.hbm, 148, rfl⟩
abbrev main_cst_5 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_values : Ref sig .tc := ⟨.hbm, 251, rfl⟩
abbrev main_indices : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_call0_c : Ref sig .tc := ⟨.hbm, 258, rfl⟩
abbrev main_call0_v0 : Ref sig .tc := ⟨.hbm, 259, rfl⟩
abbrev main_call0_v1 : Ref sig .tc := ⟨.hbm, 260, rfl⟩
abbrev main_call0_c_0 : Ref sig .tc := ⟨.hbm, 261, rfl⟩
abbrev main_call0_v2 : Ref sig .tc := ⟨.hbm, 262, rfl⟩
abbrev main_call0_v3 : Ref sig .tc := ⟨.hbm, 263, rfl⟩
abbrev main_call0_v4 : Ref sig .tc := ⟨.hbm, 264, rfl⟩
abbrev main_call0_v5 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_cst_6 : Ref sig .tc := ⟨.hbm, 278, rfl⟩
abbrev main_v246 : Ref sig .tc := ⟨.hbm, 279, rfl⟩
abbrev main_cst_7 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_cst_8 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_c : Ref sig .tc := ⟨.hbm, 301, rfl⟩
abbrev main_v266 : Ref sig .tc := ⟨.hbm, 302, rfl⟩
abbrev main_v267 : Ref sig .tc := ⟨.hbm, 303, rfl⟩
abbrev main_c_9 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_c_10 : Ref sig .tc := ⟨.hbm, 316, rfl⟩
abbrev main_v279 : Ref sig .tc := ⟨.hbm, 317, rfl⟩
abbrev main_v280 : Ref sig .tc := ⟨.hbm, 318, rfl⟩
abbrev main_c_11 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_v289 : Ref sig .tc := ⟨.hbm, 328, rfl⟩
abbrev main_v290 : Ref sig .tc := ⟨.hbm, 329, rfl⟩
abbrev main_v291 : Ref sig .tc := ⟨.hbm, 330, rfl⟩
abbrev main_c_12 : Ref sig .tc := ⟨.hbm, 331, rfl⟩
abbrev main_v292 : Ref sig .tc := ⟨.hbm, 332, rfl⟩
abbrev main_v293 : Ref sig .tc := ⟨.hbm, 333, rfl⟩
abbrev main_c_13 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_c_14 : Ref sig .tc := ⟨.hbm, 346, rfl⟩
abbrev main_v305 : Ref sig .tc := ⟨.hbm, 347, rfl⟩
abbrev main_v306 : Ref sig .tc := ⟨.hbm, 348, rfl⟩
abbrev main_c_15 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_c_16 : Ref sig .tc := ⟨.hbm, 364, rfl⟩
abbrev main_call1_v0 : Ref sig .tc := ⟨.hbm, 365, rfl⟩
abbrev main_v321 : Ref sig .tc := ⟨.hbm, 366, rfl⟩
abbrev main_cst_17 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_v360 : Ref sig .tc := ⟨.hbm, 406, rfl⟩
abbrev main_v361 : Ref sig .tc := ⟨.hbm, 407, rfl⟩
abbrev main_v362 : Ref sig .tc := ⟨.hbm, 408, rfl⟩
abbrev main_v363 : Ref sig .tc := ⟨.hbm, 409, rfl⟩
abbrev main_v364 : Ref sig .tc := ⟨.hbm, 410, rfl⟩
abbrev main_v365 : Ref sig .tc := ⟨.hbm, 411, rfl⟩
abbrev main_v366 : Ref sig .tc := ⟨.hbm, 412, rfl⟩
abbrev main_v367 : Ref sig .tc := ⟨.hbm, 413, rfl⟩
abbrev main_v368 : Ref sig .tc := ⟨.hbm, 414, rfl⟩
abbrev main_v369 : Ref sig .tc := ⟨.hbm, 415, rfl⟩
abbrev main_v370 : Ref sig .tc := ⟨.hbm, 416, rfl⟩
abbrev main_v371 : Ref sig .tc := ⟨.hbm, 417, rfl⟩
abbrev main_v372 : Ref sig .tc := ⟨.hbm, 418, rfl⟩
abbrev main_v373 : Ref sig .tc := ⟨.hbm, 419, rfl⟩
abbrev main_v374 : Ref sig .tc := ⟨.hbm, 420, rfl⟩
abbrev main_v375 : Ref sig .tc := ⟨.hbm, 421, rfl⟩
abbrev main_v376 : Ref sig .tc := ⟨.hbm, 422, rfl⟩
abbrev main_v377 : Ref sig .tc := ⟨.hbm, 423, rfl⟩
abbrev main_v378 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_v383 : Ref sig .tc := ⟨.hbm, 429, rfl⟩
abbrev main_v384 : Ref sig .tc := ⟨.hbm, 430, rfl⟩
abbrev main_v385 : Ref sig .tc := ⟨.hbm, 431, rfl⟩
abbrev main_cst_18 : Ref sig .tc := ⟨.hbm, 432, rfl⟩
abbrev main_v386 : Ref sig .tc := ⟨.hbm, 433, rfl⟩
abbrev main_cst_19 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_v391 : Ref sig .tc := ⟨.hbm, 439, rfl⟩
abbrev main_v392 : Ref sig .tc := ⟨.hbm, 440, rfl⟩
abbrev main_v393 : Ref sig .tc := ⟨.hbm, 441, rfl⟩
abbrev main_v394 : Ref sig .tc := ⟨.hbm, 442, rfl⟩
abbrev main_v395 : Ref sig .tc := ⟨.hbm, 443, rfl⟩
abbrev main_v396 : Ref sig .tc := ⟨.hbm, 444, rfl⟩
abbrev main_cst_20 : Ref sig .tc := ⟨.hbm, 445, rfl⟩
abbrev main_cst_21 : Ref sig .tc := ⟨.hbm, 446, rfl⟩
abbrev main_call2_v0 : Ref sig .tc := ⟨.hbm, 447, rfl⟩
abbrev main_call2_v1 : Ref sig .tc := ⟨.hbm, 448, rfl⟩
abbrev main_call2_v2 : Ref sig .tc := ⟨.hbm, 449, rfl⟩
abbrev main_call2_v3 : Ref sig .tc := ⟨.hbm, 450, rfl⟩
abbrev main_call2_v4 : Ref sig .tc := ⟨.hbm, 451, rfl⟩
abbrev main_v397 : Ref sig .tc := ⟨.hbm, 452, rfl⟩
abbrev main_v398 : Ref sig .tc := ⟨.hbm, 453, rfl⟩
abbrev main_v399 : Ref sig .tc := ⟨.hbm, 454, rfl⟩
abbrev main_v400 : Ref sig .tc := ⟨.hbm, 455, rfl⟩
abbrev main_cst_22 : Ref sig .tc := ⟨.hbm, 456, rfl⟩
abbrev main_v401 : Ref sig .tc := ⟨.hbm, 457, rfl⟩
abbrev main_cst_23 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_cst_24 : Ref sig .tc := ⟨.hbm, 469, rfl⟩
abbrev main_cst_25 : Ref sig .tc := ⟨.hbm, 470, rfl⟩
abbrev main_call3_v0 : Ref sig .tc := ⟨.hbm, 471, rfl⟩
abbrev main_call3_v1 : Ref sig .tc := ⟨.hbm, 472, rfl⟩
abbrev main_call3_v2 : Ref sig .tc := ⟨.hbm, 473, rfl⟩
abbrev main_call3_v3 : Ref sig .tc := ⟨.hbm, 474, rfl⟩
abbrev main_call3_v4 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩

abbrev nD : Nat := 1
abbrev τ : Topo := Topo.v7x

variable {F : FTy → Type} [FloatOps F]
-- ==== Proof.CoarseFinite.lean ====
module

public import proofs.«01_k».proof.Pre_coarse_finite
public import Idealize.ShloMosaic.Lib.ReduceAll
public import Idealize.ShloMosaic.Lib.KernelVsHost

@[expose] public section

set_option maxRecDepth 16384

noncomputable section

namespace Cert.CoarseFinite

open Cert.Pre_coarse_finite Idealize.ShloMosaic

/-- The shape relations the precondition's operations take. -/
instance facts : Cert.Pre_coarse_finite.Facts where
  bcast_S_S4x192x34x34 := by decide
  reducesTo_S4x192x34x34_S_d0_1_2_3 := by decide
  h_S_ := by decide
  bcast_S_S384x192x4x4 := by decide
  reducesTo_S384x192x4x4_S_d0_1_2_3 := by decide
  bcast_S_S384 := by decide
  reducesTo_S384_S_d0 := by decide
  bcast_S_S4x12 := by decide
  reducesTo_S4x12_S_d0_1 := by decide
  bcast_S_S12 := by decide
  reducesTo_S12_S_d0 := by decide

instance : Subsingleton S_.Idx := ⟨fun a b => funext fun i => i.elim0⟩

/-- A value whose magnitude compares below infinity is a real number. -/
theorem real_of_lt (x : Ideal .f32) (h : FloatOps.cmpf .olt (FloatOps.hostAbsf x) (FloatOps.ofBits (F := Ideal) .f32 0x7F800000#32) = 1#1) :
    (x : EReal) = ((x : EReal).toReal : EReal) := by
  rw [← Ideal.xori_weird_eq_hostAbsf_olt_inf] at h
  change IntOp.xori (BitVec.ofBool (decide ((x : EReal) = ⊤ ∨ (x : EReal) = ⊥))) 1#1 = 1#1 at h
  by_cases hx : (x : EReal) = ⊤ ∨ (x : EReal) = ⊥
  · rw [decide_eq_true hx] at h
    exact absurd h (by decide)
  · push Not at hx
    exact (EReal.coe_toReal hx.1 hx.2).symm

/-- An array whose test for finiteness came out true holds reals. -/
theorem reals_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : (x i : EReal) = ((x i : EReal).toReal : EReal) :=
  real_of_lt (x i) (Host.reduce_andi_all _ _ hr hu j h i)

/-- Under the precondition every argument holds reals. -/
theorem reals (x : FVec Ideal S4x192x34x34 .f32) (W : FVec Ideal S384x192x4x4 .f32) (b : FVec Ideal S384 .f32) (wq : FVec Ideal S4x12 .f32) (bq : FVec Ideal S12 .f32)
    (h : fn (F := Ideal) x W b wq bq = fun _ => 1#1) :
    (∀ i, (x i : EReal) = ((x i : EReal).toReal : EReal)) ∧ (∀ i, (W i : EReal) = ((W i : EReal).toReal : EReal))
      ∧ (∀ i, (b i : EReal) = ((b i : EReal).toReal : EReal)) ∧ (∀ i, (wq i : EReal) = ((wq i : EReal).toReal : EReal))
      ∧ (∀ i, (bq i : EReal) = ((bq i : EReal).toReal : EReal)) := by
  have e := congrFun h (fun i => i.elim0)
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all x _ _ _ _ e0, reals_of_all W _ _ _ _ e1, reals_of_all b _ _ _ _ e2, reals_of_all wq _ _ _ _ e3, reals_of_all bq _ _ _ _ e4⟩

end Cert.CoarseFinite
-- ==== Proof.CoarseOps.lean ====
module

public import proofs.«01_k».proof.Proof.Gen.CoarseIdeal.Frame

@[expose] public section

set_option maxRecDepth 16384

noncomputable section

namespace Cert.CoarseOps

open Cert.CoarseIdeal Cert.CoarseIdeal.Gen Idealize.ShloMosaic Idealize.ShloMosaic.TcCoe

variable {F : FTy → Type} [FloatOps F]

/-- The twelve groups of 32 rows lie inside the 384 rows. -/
theorem groupSlices : ∀ g : Fin 12, S384x256.Slices ![32 * g.val, 0] S32x256 := by decide +kernel

/-- The query rows of a head lie inside the 96 rows. -/
theorem queryRows : ∀ p : Fin 8, S96x256.Slices ![12 * p.val, 0] S4x256 := by decide +kernel

/-- The key rows of a head lie inside the 96 rows. -/
theorem keyRows : ∀ p : Fin 8, S96x256.Slices ![12 * p.val + 4, 0] S4x256 := by decide +kernel

/-- The value rows of a head lie inside the 96 rows. -/
theorem valueRows : ∀ p : Fin 8, S96x256.Slices ![12 * p.val + 8, 0] S4x256 := by decide +kernel

/-- The strided convolution as the kernel computes it: three products of the parts, plus the bias. -/
def conv (x0 x1 : Vec F S1x3072x256 .bf16) (x2 x3 : Vec F S384x3072 .bf16) (x4 : Vec F S384x1 .f32) :
    FVec F S384x256 .f32 :=
  k0_pay2 (View.ld x2 r0_0) (View.ld x3 r0_0) (View.ld x0 r0_1) (View.ld x1 r0_1) (View.ld x4 r0_2)

/-- The rounded part of a block of 32 rows. -/
def hiRows (x : FVec F S32x256 .f32) : FVec F S32x256 .bf16 := truncf .bf16 x bitsLt_bf16_f32

/-- What the rounding of a block of 32 rows leaves. -/
def loRows (x : FVec F S32x256 .f32) : FVec F S32x256 .bf16 :=
  truncf .bf16 (subf x (extf .f32 (hiRows x) bitsLt_bf16_f32)) bitsLt_bf16_f32

/-- The product of the small weights with a block of 32 rows. -/
def mixRows (w : FVec F S96x32 .bf16) (x : FVec F S32x256 .bf16) : FVec F S96x256 .f32 :=
  matmul dot_S96x32_S32x256_S96x256_1_0_0_1_n_n none w x (constant S96x256 .f32 0x00000000#32)

/-- Queries, keys and values of the eight heads of group `g`. -/
def qkv (g : Fin 12) (X : FVec F S384x256 .f32) (wh wl : FVec F S96x32 .bf16) (b : FVec F S96x1 .f32) :
    FVec F S96x256 .f32 :=
  addf (addf (addf (mixRows wh (hiRows (extractStridedSlice S32x256 ![32 * g.val, 0] X (groupSlices g))))
      (mixRows wh (loRows (extractStridedSlice S32x256 ![32 * g.val, 0] X (groupSlices g)))))
      (mixRows wl (hiRows (extractStridedSlice S32x256 ![32 * g.val, 0] X (groupSlices g)))))
    (broadcastTo S96x256 b broadcasts_S96x1_S96x256)

/-- The rounded part of four rows. -/
def hi4 (x : FVec F S4x256 .f32) : FVec F S4x256 .bf16 := truncf .bf16 x bitsLt_bf16_f32

/-- What the rounding of four rows leaves. -/
def lo4 (x : FVec F S4x256 .f32) : FVec F S4x256 .bf16 :=
  truncf .bf16 (subf x (extf .f32 (hi4 x) bitsLt_bf16_f32)) bitsLt_bf16_f32

/-- The products of every pair of columns. -/
def gram (q k : FVec F S4x256 .bf16) : FVec F S256x256 .f32 :=
  matmul dot_S4x256_S4x256_S256x256_0_0_1_1_n_n none q k (constant S256x256 .f32 0x00000000#32)

/-- The exponentials of the scores. -/
def expo (q k : FVec F S4x256 .f32) : FVec F S256x256 .f32 :=
  exp (addf (addf (gram (hi4 q) (hi4 k)) (gram (hi4 q) (lo4 k))) (gram (lo4 q) (hi4 k)))

/-- Each column divided by its sum. -/
def normed (e : FVec F S256x256 .f32) : FVec F S256x256 .f32 :=
  mulf e (broadcastTo S256x256 (divf (broadcast S1x256 (Scalar.ofBits .f32 0x3F800000#32))
    (shapeCast S1x256 (multiReduction .add [0] S256 e 0x00000000#32 reduces_S256x256_S256 (.inl rfl) rfl)
      shapeCasts_S256_S1x256)) broadcasts_S1x256_S256x256)

/-- The attention weights of head `p`. -/
def weights (p : Fin 8) (Q : FVec F S96x256 .f32) : FVec F S256x256 .f32 :=
  normed (expo (extractStridedSlice S4x256 ![12 * p.val, 0] Q (queryRows p))
    (extractStridedSlice S4x256 ![12 * p.val + 4, 0] Q (keyRows p)))

/-- What head `p` returns: its values combined with its weights. -/
def headOut (p : Fin 8) (Q : FVec F S96x256 .f32) : FVec F S4x256 .f32 :=
  matmul dot_S4x256_S256x256_S4x256_1_0_0_1_n_n none
    (extractStridedSlice S4x256 ![12 * p.val + 8, 0] Q (valueRows p)) (weights p Q)
    (constant S4x256 .f32 0x00000000#32)

/-- The 32 rows the eight heads of a group return. -/
def groupOut (Q : FVec F S96x256 .f32) : FVec F S1x32x256 .f32 :=
  shapeCast S1x32x256 (concatenate S32x256 0 [⟨S4x256, headOut 0 Q⟩, ⟨S4x256, headOut 1 Q⟩, ⟨S4x256, headOut 2 Q⟩,
    ⟨S4x256, headOut 3 Q⟩, ⟨S4x256, headOut 4 Q⟩, ⟨S4x256, headOut 5 Q⟩, ⟨S4x256, headOut 6 Q⟩, ⟨S4x256, headOut 7 Q⟩]
    concatenates_S4x256_S4x256_S4x256_S4x256_S4x256_S4x256_S4x256_S4x256_S32x256_d0) shapeCasts_S32x256_S1x32x256

/-- The weights of the eight heads of a group added to what came before. -/
def addGroup (a : FVec F S256x256 .f32) (Q : FVec F S96x256 .f32) : FVec F S256x256 .f32 :=
  addf (addf (addf (addf (addf (addf (addf (addf a (weights 0 Q)) (weights 1 Q)) (weights 2 Q)) (weights 3 Q))
    (weights 4 Q)) (weights 5 Q)) (weights 6 Q)) (weights 7 Q)

variable (x0 x1 : Vec F S1x3072x256 .bf16) (x2 x3 : Vec F S384x3072 .bf16) (x4 : Vec F S384x1 .f32)
  (x5 x6 : Vec F S96x32 .bf16) (x7 : Vec F S96x1 .f32)

/-- Queries, keys and values of group `g`, from the blocks the body loads. -/
def blockQkv (g : Fin 12) : FVec F S96x256 .f32 :=
  qkv g (conv x0 x1 x2 x3 x4) (k0_pay3 (View.ld x5 r0_3)) (k0_pay4 (View.ld x6 r0_3)) (k0_pay5 (View.ld x7 r0_4))

/-- The weights of all 96 heads added up. -/
def total : FVec F S256x256 .f32 :=
  addGroup (addGroup (addGroup (addGroup (addGroup (addGroup (addGroup (addGroup (addGroup (addGroup (addGroup
    (addGroup k0_pay6 (blockQkv x0 x1 x2 x3 x4 x5 x6 x7 0)) (blockQkv x0 x1 x2 x3 x4 x5 x6 x7 1))
    (blockQkv x0 x1 x2 x3 x4 x5 x6 x7 2)) (blockQkv x0 x1 x2 x3 x4 x5 x6 x7 3)) (blockQkv x0 x1 x2 x3 x4 x5 x6 x7 4))
    (blockQkv x0 x1 x2 x3 x4 x5 x6 x7 5)) (blockQkv x0 x1 x2 x3 x4 x5 x6 x7 6)) (blockQkv x0 x1 x2 x3 x4 x5 x6 x7 7))
    (blockQkv x0 x1 x2 x3 x4 x5 x6 x7 8)) (blockQkv x0 x1 x2 x3 x4 x5 x6 x7 9)) (blockQkv x0 x1 x2 x3 x4 x5 x6 x7 10))
    (blockQkv x0 x1 x2 x3 x4 x5 x6 x7 11)

/-- What the body leaves in the block of outputs: twelve groups of 32 rows, one after another. -/
theorem out_pieces : out0_8 x0 x1 x2 x3 x4 x5 x6 x7 =
    View.canon [⟨r0_16, groupOut (blockQkv x0 x1 x2 x3 x4 x5 x6 x7 11)⟩,
      ⟨r0_15, groupOut (blockQkv x0 x1 x2 x3 x4 x5 x6 x7 10)⟩, ⟨r0_14, groupOut (blockQkv x0 x1 x2 x3 x4 x5 x6 x7 9)⟩,
      ⟨r0_13, groupOut (blockQkv x0 x1 x2 x3 x4 x5 x6 x7 8)⟩, ⟨r0_12, groupOut (blockQkv x0 x1 x2 x3 x4 x5 x6 x7 7)⟩,
      ⟨r0_11, groupOut (blockQkv x0 x1 x2 x3 x4 x5 x6 x7 6)⟩, ⟨r0_10, groupOut (blockQkv x0 x1 x2 x3 x4 x5 x6 x7 5)⟩,
      ⟨r0_9, groupOut (blockQkv x0 x1 x2 x3 x4 x5 x6 x7 4)⟩, ⟨r0_8, groupOut (blockQkv x0 x1 x2 x3 x4 x5 x6 x7 3)⟩,
      ⟨r0_7, groupOut (blockQkv x0 x1 x2 x3 x4 x5 x6 x7 2)⟩, ⟨r0_6, groupOut (blockQkv x0 x1 x2 x3 x4 x5 x6 x7 1)⟩,
      ⟨r0_5, groupOut (blockQkv x0 x1 x2 x3 x4 x5 x6 x7 0)⟩] := by
  rfl

/-- What the body leaves in the block of scores: the rows of the added weights, summed. -/
theorem score_pieces : out0_9 x0 x1 x2 x3 x4 x5 x6 x7 =
    View.canon [⟨r0_17, k0_pay1 (k0_pay499 (total x0 x1 x2 x3 x4 x5 x6 x7))⟩] := by
  rfl

end Cert.CoarseOps
-- ==== Proof.CoarseReal.lean ====
module

public import proofs.«01_k».proof.Proof.CoarseOps
public import Idealize.ShloMosaic.Lib.Pointwise

@[expose] public section

set_option maxRecDepth 16384

noncomputable section

namespace Cert.CoarseReal

open Cert.CoarseIdeal Cert.CoarseIdeal.Gen Cert.CoarseOps Idealize.ShloMosaic Idealize.ShloMosaic.TcCoe

/-- A finite sum of reals, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals with a divisor that is not zero, among the extended reals. -/
theorem coe_div {x y : ℝ} (h : y ≠ 0) : Ideal.div (x : EReal) (y : EReal) = ((x / y : ℝ) : EReal) := by
  rw [Ideal.div_coe h, ← EReal.coe_mul, one_div, div_eq_mul_inv]

/-- A real minus itself, among the extended reals. -/
theorem coe_sub_self (x : ℝ) : (x : EReal) - (x : EReal) = 0 := by
  rw [← EReal.coe_sub, sub_self, EReal.coe_zero]

/-- The strided convolution on real patches and weights: one sum over the 3072 entries, plus the bias. -/
theorem conv_coe (x0 x1 : Vec Ideal S1x3072x256 .bf16) (x2 x3 : Vec Ideal S384x3072 .bf16) (x4 : Vec Ideal S384x1 .f32)
    (P : Fin 3072 → Fin 256 → ℝ) (W : Fin 384 → Fin 3072 → ℝ) (b : Fin 384 → ℝ)
    (h0 : ∀ k n, x0 (ix3 0 k n) = (P k n : EReal)) (h1 : ∀ k n, x1 (ix3 0 k n) = (0 : EReal))
    (h2 : ∀ o k, x2 (ix2 o k) = (W o k : EReal)) (h3 : ∀ o k, x3 (ix2 o k) = (0 : EReal))
    (h4 : ∀ o, x4 (ix2 o 0) = (b o : EReal)) (o : Fin 384) (n : Fin 256) :
    conv x0 x1 x2 x3 x4 (ix2 o n) = ((∑ k, W o k * P k n + b o : ℝ) : EReal) := by
  pointwise [conv, k0_pay2]
  simp only [h0, h1, h2, h3, h4, mul_zero, zero_mul, Finset.sum_const_zero, add_zero, ← EReal.coe_mul, coe_sum, ← EReal.coe_add]

/-- Queries, keys and values on real inputs: one sum over the 32 rows of the group, plus the bias. -/
theorem qkv_coe (X : FVec Ideal S384x256 .f32) (g : Fin 12) (wh wl : FVec Ideal S96x32 .bf16) (b : FVec Ideal S96x1 .f32)
    (Xr : Fin 384 → Fin 256 → ℝ) (w : Fin 96 → Fin 32 → ℝ) (br : Fin 96 → ℝ)
    (hX : ∀ o n, X (ix2 o n) = (Xr o n : EReal)) (hw : ∀ r k, wh (ix2 r k) = (w r k : EReal))
    (hl : ∀ r k, wl (ix2 r k) = (0 : EReal)) (hb : ∀ r, b (ix2 r 0) = (br r : EReal)) (r : Fin 96) (n : Fin 256) :
    qkv g X wh wl b (ix2 r n)
      = ((∑ k : Fin 32, w r k * Xr ⟨32 * g.val + k.val, by omega⟩ n + br r : ℝ) : EReal) := by
  pointwise [qkv, mixRows, hiRows, loRows]
  simp only [hX, hw, hl, hb, coe_sub_self, mul_zero, zero_mul, Finset.sum_const_zero, add_zero, ← EReal.coe_mul, coe_sum,
    ← EReal.coe_add]

/-- Scores of a real query matrix against a real key matrix. -/
def scoreR (q k : Fin 4 → Fin 256 → ℝ) (j i : Fin 256) : ℝ := ∑ d, q d j * k d i

/-- Attention weights of real queries and keys: the exponentials over their sum along the queries. -/
def attnR (q k : Fin 4 → Fin 256 → ℝ) (j i : Fin 256) : ℝ :=
  Real.exp (scoreR q k j i) / ∑ j', Real.exp (scoreR q k j' i)

/-- A sum of exponentials over 256 positions is not zero. -/
theorem expSum_ne (f : Fin 256 → ℝ) : (∑ j, Real.exp (f j)) ≠ 0 :=
  (Finset.sum_pos (fun j _ => Real.exp_pos (f j)) ⟨0, Finset.mem_univ _⟩).ne'

/-- The weights on real queries and keys. -/
theorem normed_coe (q k : FVec Ideal S4x256 .f32) (qr kr : Fin 4 → Fin 256 → ℝ)
    (hq : ∀ d n, q (ix2 d n) = (qr d n : EReal)) (hk : ∀ d n, k (ix2 d n) = (kr d n : EReal)) (j i : Fin 256) :
    normed (expo q k) (ix2 j i) = ((attnR qr kr j i : ℝ) : EReal) := by
  pointwise [normed, expo, gram, hi4, lo4]
  simp only [hq, hk, coe_sub_self, mul_zero, zero_mul, Finset.sum_const_zero, add_zero, ← EReal.coe_mul, coe_sum,
    Ideal.exp_coe]
  rw [← EReal.coe_one, coe_div (expSum_ne _), ← EReal.coe_mul, attnR]
  unfold scoreR
  rw [mul_one_div]

variable (Q : FVec Ideal S96x256 .f32) (Qr : Fin 96 → Fin 256 → ℝ) (hQ : ∀ r n, Q (ix2 r n) = (Qr r n : EReal))

/-- The weights of head `p` of a group, from the 96 rows of queries, keys and values. -/
def headAttn (Qr : Fin 96 → Fin 256 → ℝ) (p : Fin 8) : Fin 256 → Fin 256 → ℝ :=
  attnR (fun d n => Qr ⟨12 * p.val + d.val, by omega⟩ n) (fun d n => Qr ⟨12 * p.val + 4 + d.val, by omega⟩ n)

include hQ in
/-- The weights of a head on real rows. -/
theorem weights_coe (p : Fin 8) (j i : Fin 256) : weights p Q (ix2 j i) = ((headAttn Qr p j i : ℝ) : EReal) := by
  refine normed_coe _ _ _ _ (fun d n => ?_) (fun d n => ?_) j i
  · pointwise []
    exact hQ _ _
  · pointwise []
    exact hQ _ _

include hQ in
/-- What a head returns on real rows. -/
theorem headOut_coe (p : Fin 8) (d : Fin 4) (i : Fin 256) : headOut p Q (ix2 d i)
    = ((∑ j, Qr ⟨12 * p.val + 8 + d.val, by omega⟩ j * headAttn Qr p j i : ℝ) : EReal) := by
  pointwise [headOut]
  simp only [hQ, weights_coe Q Qr hQ, ← EReal.coe_mul, coe_sum]

/-- What the eight heads of a group return, row `d` of 32. -/
theorem groupOut_apply (d : Fin 32) (i : Fin 256) :
    groupOut Q (ix3 0 d i) = headOut ⟨d.val / 4, by omega⟩ Q (ix2 ⟨d.val % 4, by omega⟩ i) := by
  pointwise [groupOut]
  obtain ⟨d, hd⟩ := d
  interval_cases d <;> first | (simp; done) | (simp; rfl)

include hQ in
/-- The weights of a group's heads, added to a real matrix. -/
theorem addGroup_coe (a : FVec Ideal S256x256 .f32) (ar : Fin 256 → Fin 256 → ℝ)
    (ha : ∀ j i, a (ix2 j i) = (ar j i : EReal)) (j i : Fin 256) :
    addGroup a Q (ix2 j i) = ((ar j i + ∑ p, headAttn Qr p j i : ℝ) : EReal) := by
  pointwise [addGroup]
  simp only [ha, weights_coe Q Qr hQ, ← EReal.coe_add]
  congr 1
  simp only [Fin.sum_univ_eight, add_assoc]

end Cert.CoarseReal
-- ==== Proof.CoarseRef.lean ====
module

public import proofs.«01_k».proof.Proof.CoarseReal
public import proofs.«01_k».proof.Proof.Gen.CoarseRefIdeal
public import Idealize.ShloMosaic.Lib.StableHlo.RunHlo
public import Idealize.ShloMosaic.Lib.StableHlo.RunRead
public import Idealize.ShloMosaic.Lib.Pointwise

@[expose] public section

set_option maxRecDepth 16384

noncomputable section

namespace Cert.CoarseRef

open Cert.CoarseRefIdeal Cert.CoarseRefIdeal.Gen Idealize.SL.Sem Idealize.ShloMosaic Idealize.ShloMosaic.TcCoe

variable {F : FTy → Type} [FloatOps F]

/-- One tap of the convolution: the strided slice of the input against the weight's slice. -/
def tapDot (u : FVec F S4x192x16x16 .f32) (w : FVec F S384x192x1x1 .f32) : FVec F S4x384x16x16 .f32 :=
  transpose S4x384x16x16 [0, 3, 1, 2] (Host.dotGeneral dot_S4x192x16x16_S384x192_S4x16x16x384_1_1_023_0_n_n none u
    (shapeCast _ w shapeCasts_S384x192x1x1_S384x192)) transposes_S4x16x16x384_S4x384x16x16_0_3_1_2

/-- The bias, spread over the positions. -/
def start (bd : FVec F S384 .f32) : FVec F S4x384x16x16 .f32 :=
  broadcastInDim S4x384x16x16 ![0, 1, 2, 3] bcast_S1x384x1x1_S4x384x16x16_0_1_2_3
    (broadcastInDim S1x384x1x1 ![1] bcast_S384_S1x384x1x1_1 bd)

/-- The strided convolution, tap after tap. -/
def conv (x : FVec F S4x192x34x34 .f32) (W : FVec F S384x192x4x4 .f32) (bd : FVec F S384 .f32) : FVec F S4x384x16x16 .f32 :=
  addf (addf (addf (addf (addf (addf (addf (addf (addf (addf (addf (addf (addf (addf (addf (addf (start bd) (tapDot (Host.slice S4x192x16x16 ![0, 0, 0, 0] ![1, 1, 2, 2] x slicesBy_S4x192x34x34_S4x192x16x16_0s1_0s1_0s2_0s2)
    (extractStridedSlice S384x192x1x1 ![0, 0, 0, 0] W slices_S384x192x4x4_S384x192x1x1_0_0_0_0))) (tapDot (Host.slice S4x192x16x16 ![0, 0, 0, 1] ![1, 1, 2, 2] x slicesBy_S4x192x34x34_S4x192x16x16_0s1_0s1_0s2_1s2)
    (extractStridedSlice S384x192x1x1 ![0, 0, 0, 1] W slices_S384x192x4x4_S384x192x1x1_0_0_0_1))) (tapDot (Host.slice S4x192x16x16 ![0, 0, 0, 2] ![1, 1, 2, 2] x slicesBy_S4x192x34x34_S4x192x16x16_0s1_0s1_0s2_2s2)
    (extractStridedSlice S384x192x1x1 ![0, 0, 0, 2] W slices_S384x192x4x4_S384x192x1x1_0_0_0_2))) (tapDot (Host.slice S4x192x16x16 ![0, 0, 0, 3] ![1, 1, 2, 2] x slicesBy_S4x192x34x34_S4x192x16x16_0s1_0s1_0s2_3s2)
    (extractStridedSlice S384x192x1x1 ![0, 0, 0, 3] W slices_S384x192x4x4_S384x192x1x1_0_0_0_3))) (tapDot (Host.slice S4x192x16x16 ![0, 0, 1, 0] ![1, 1, 2, 2] x slicesBy_S4x192x34x34_S4x192x16x16_0s1_0s1_1s2_0s2)
    (extractStridedSlice S384x192x1x1 ![0, 0, 1, 0] W slices_S384x192x4x4_S384x192x1x1_0_0_1_0))) (tapDot (Host.slice S4x192x16x16 ![0, 0, 1, 1] ![1, 1, 2, 2] x slicesBy_S4x192x34x34_S4x192x16x16_0s1_0s1_1s2_1s2)
    (extractStridedSlice S384x192x1x1 ![0, 0, 1, 1] W slices_S384x192x4x4_S384x192x1x1_0_0_1_1))) (tapDot (Host.slice S4x192x16x16 ![0, 0, 1, 2] ![1, 1, 2, 2] x slicesBy_S4x192x34x34_S4x192x16x16_0s1_0s1_1s2_2s2)
    (extractStridedSlice S384x192x1x1 ![0, 0, 1, 2] W slices_S384x192x4x4_S384x192x1x1_0_0_1_2))) (tapDot (Host.slice S4x192x16x16 ![0, 0, 1, 3] ![1, 1, 2, 2] x slicesBy_S4x192x34x34_S4x192x16x16_0s1_0s1_1s2_3s2)
    (extractStridedSlice S384x192x1x1 ![0, 0, 1, 3] W slices_S384x192x4x4_S384x192x1x1_0_0_1_3))) (tapDot (Host.slice S4x192x16x16 ![0, 0, 2, 0] ![1, 1, 2, 2] x slicesBy_S4x192x34x34_S4x192x16x16_0s1_0s1_2s2_0s2)
    (extractStridedSlice S384x192x1x1 ![0, 0, 2, 0] W slices_S384x192x4x4_S384x192x1x1_0_0_2_0))) (tapDot (Host.slice S4x192x16x16 ![0, 0, 2, 1] ![1, 1, 2, 2] x slicesBy_S4x192x34x34_S4x192x16x16_0s1_0s1_2s2_1s2)
    (extractStridedSlice S384x192x1x1 ![0, 0, 2, 1] W slices_S384x192x4x4_S384x192x1x1_0_0_2_1))) (tapDot (Host.slice S4x192x16x16 ![0, 0, 2, 2] ![1, 1, 2, 2] x slicesBy_S4x192x34x34_S4x192x16x16_0s1_0s1_2s2_2s2)
    (extractStridedSlice S384x192x1x1 ![0, 0, 2, 2] W slices_S384x192x4x4_S384x192x1x1_0_0_2_2))) (tapDot (Host.slice S4x192x16x16 ![0, 0, 2, 3] ![1, 1, 2, 2] x slicesBy_S4x192x34x34_S4x192x16x16_0s1_0s1_2s2_3s2)
    (extractStridedSlice S384x192x1x1 ![0, 0, 2, 3] W slices_S384x192x4x4_S384x192x1x1_0_0_2_3))) (tapDot (Host.slice S4x192x16x16 ![0, 0, 3, 0] ![1, 1, 2, 2] x slicesBy_S4x192x34x34_S4x192x16x16_0s1_0s1_3s2_0s2)
    (extractStridedSlice S384x192x1x1 ![0, 0, 3, 0] W slices_S384x192x4x4_S384x192x1x1_0_0_3_0))) (tapDot (Host.slice S4x192x16x16 ![0, 0, 3, 1] ![1, 1, 2, 2] x slicesBy_S4x192x34x34_S4x192x16x16_0s1_0s1_3s2_1s2)
    (extractStridedSlice S384x192x1x1 ![0, 0, 3, 1] W slices_S384x192x4x4_S384x192x1x1_0_0_3_1))) (tapDot (Host.slice S4x192x16x16 ![0, 0, 3, 2] ![1, 1, 2, 2] x slicesBy_S4x192x34x34_S4x192x16x16_0s1_0s1_3s2_2s2)
    (extractStridedSlice S384x192x1x1 ![0, 0, 3, 2] W slices_S384x192x4x4_S384x192x1x1_0_0_3_2))) (tapDot (Host.slice S4x192x16x16 ![0, 0, 3, 3] ![1, 1, 2, 2] x slicesBy_S4x192x34x34_S4x192x16x16_0s1_0s1_3s2_3s2)
    (extractStridedSlice S384x192x1x1 ![0, 0, 3, 3] W slices_S384x192x4x4_S384x192x1x1_0_0_3_3))

/-- Queries, keys and values of every head. -/
def qkv (X : FVec F S4x384x16x16 .f32) (wq : FVec F S4x12 .f32) (bq : FVec F S12 .f32) : FVec F S4x96x256x12 .f32 :=
  addf (Host.dotGeneral dot_S4x96x256x4_S4x12_S4x96x256x12_3_0_012_1_n_n none (transpose S4x96x256x4 [0, 1, 3, 2] (shapeCast _ X shapeCasts_S4x384x16x16_S4x96x4x256) transposes_S4x96x4x256_S4x96x256x4_0_1_3_2) wq)
    (broadcastInDim S4x96x256x12 ![0, 1, 2, 3] bcast_S1x1x1x12_S4x96x256x12_0_1_2_3 (broadcastInDim S1x1x1x12 ![3] bcast_S12_S1x1x1x12_3 bq))

/-- Keys against queries. -/
def logits (Q : FVec F S4x96x256x12 .f32) : FVec F S4x96x256x256 .f32 :=
  Host.dotGeneral dot_S4x96x256x4_S4x96x4x256_S4x96x256x256_3_2_2_3_01_01 none (extractStridedSlice S4x96x256x4 ![0, 0, 0, 4] Q slices_S4x96x256x12_S4x96x256x4_0_0_0_4) (transpose S4x96x4x256 [0, 1, 3, 2] (extractStridedSlice S4x96x256x4 ![0, 0, 0, 0] Q slices_S4x96x256x12_S4x96x256x4_0_0_0_0) transposes_S4x96x256x4_S4x96x4x256_0_1_3_2)

/-- A row's number, repeated along the row. -/
def along (v : FVec F S4x96x256 .f32) : FVec F S4x96x256x256 .f32 :=
  broadcastInDim S4x96x256x256 ![0, 1, 2, 3] bcast_S4x96x256x1_S4x96x256x256_0_1_2_3 (broadcastInDim S4x96x256x1 ![0, 1, 2] bcast_S4x96x256_S4x96x256x1_0_1_2 v)

/-- The largest entry of each row. -/
def top (T : FVec F S4x96x256x256 .f32) : FVec F S4x96x256 .f32 :=
  maximumf (broadcastInDim S4x96x256 ![] bcast_S_S4x96x256 (constant S_ .f32 0xFF800000#32)) (Host.reduce FloatOps.maximumf T (constant S_ .f32 0xFF800000#32) reducesTo_S4x96x256x256_S4x96x256_d3 h_S_)

/-- Exponentials of the entries, shifted by the largest of their row. -/
def shifted (T : FVec F S4x96x256x256 .f32) : FVec F S4x96x256x256 .f32 := Host.exp (subf T (along (top T)))

/-- The exponentials over the sum of their row. -/
def softmax (T : FVec F S4x96x256x256 .f32) : FVec F S4x96x256x256 .f32 :=
  Host.divf (shifted T) (along (Host.reduceAdd (shifted T) (constant S_ .f32 0x00000000#32) reducesTo_S4x96x256x256_S4x96x256_d3 h_S_))

/-- The weights applied to the values. -/
def applied (Q : FVec F S4x96x256x12 .f32) : FVec F S4x384x256 .f32 :=
  shapeCast _ (transpose S4x96x4x256 [0, 1, 3, 2] (Host.dotGeneral dot_S4x96x256x256_S4x96x256x4_S4x96x256x4_3_2_2_3_01_01 none (softmax (logits Q)) (extractStridedSlice S4x96x256x4 ![0, 0, 0, 8] Q slices_S4x96x256x12_S4x96x256x4_0_0_0_8)) transposes_S4x96x256x4_S4x96x4x256_0_1_3_2) shapeCasts_S4x96x4x256_S4x384x256

/-- The weights summed over the keys and over the heads. -/
def summed (Q : FVec F S4x96x256x12 .f32) : FVec F S4x256x1 .f32 :=
  broadcastInDim S4x256x1 ![0, 1] bcast_S4x256_S4x256x1_0_1 (Host.reduceAdd (Host.reduceAdd (softmax (logits Q)) (constant S_ .f32 0x00000000#32) reducesTo_S4x96x256x256_S4x96x256_d2 h_S_) (constant S_ .f32 0x00000000#32) reducesTo_S4x96x256_S4x256_d1 h_S_)

end Cert.CoarseRef
-- ==== Proof.CoarseRefRun.lean ====
module

public import proofs.«01_k».proof.Proof.CoarseRef
public import proofs.«01_k».proof.Proof.Gen.CoarseRefIdeal
public import Idealize.ShloMosaic.Lib.StableHlo.RunHlo
public import Idealize.ShloMosaic.Lib.StableHlo.RunRead
public import Idealize.ShloMosaic.Lib.Pointwise

@[expose] public section

set_option maxRecDepth 16384

noncomputable section

namespace Cert.CoarseRef

open Cert.CoarseRefIdeal Cert.CoarseRefIdeal.Gen Idealize.SL.Sem Idealize.ShloMosaic Idealize.ShloMosaic.TcCoe

variable {F : FTy → Type} [FloatOps F]

/-- A line of host operations cut in two. -/
theorem cut (n : ℕ) (ops : List (HloOp τ sig (Elt F))) (U : Valuation τ sig (Elt F)) (P : Valuation τ sig (Elt F) → Prop)
    (h : ∀ U', StableHlo.after (ops.take n) U = U' → P (StableHlo.after (ops.drop n) U')) : P (StableHlo.after ops U) := by
  have e : ∀ (l₁ l₂ : List (HloOp τ sig (Elt F))) (V : Valuation τ sig (Elt F)),
      StableHlo.after (l₁ ++ l₂) V = StableHlo.after l₂ (StableHlo.after l₁ V) := by
    intro l₁
    induction l₁ with
    | nil => exact fun _ _ => rfl
    | cons o l ih => exact fun l₂ V => ih l₂ _
  rw [← List.take_append_drop n ops, e]
  exact h _ rfl

/-- What the reference leaves, from the contents at its start. -/
def Leaves (V U : Valuation τ sig (Elt F)) : Prop :=
  V main_v124 = applied (qkv (conv (U main_arg0) (U main_arg1) (U main_arg2)) (U main_arg3) (U main_arg4))
  ∧ V main_v125 = summed (qkv (conv (U main_arg0) (U main_arg1) (U main_arg2)) (U main_arg3) (U main_arg4))
  ∧ V main_arg0 = U main_arg0 ∧ V main_arg1 = U main_arg1 ∧ V main_arg2 = U main_arg2
  ∧ V main_arg3 = U main_arg3 ∧ V main_arg4 = U main_arg4

set_option maxHeartbeats 2000000 in
/-- The reference's run: its two results, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      Leaves (fun b => r.2.mem (c, b)) (fun b => m (c, b)) := by
  refine θ_run_mono (StableHlo.run_hlo defs (main (F := F)) (by hlo_seq) (by decide) (by decide) (by simp)
    (by intro _ h; (repeat (cases h with | head => rfl | tail _ h => ?_)); exact nomatch h) m ρ) ?_
  intro r h c
  suffices H : ∀ V : Valuation τ sig (Elt F), Leaves (StableHlo.after _ V) V by
    obtain ⟨e0, e1, e2, e3, e4, e5, e6⟩ := H (StableHlo.launchContents m c)
    exact ⟨(h c _).trans e0, (h c _).trans e1, (h c _).trans e2, (h c _).trans e3, (h c _).trans e4, (h c _).trans e5, (h c _).trans e6⟩
  clear h
  intro V
  refine cut 98 _ _ (Leaves · V) fun U hU => ?_
  have kU : U main_arg3 = V main_arg3 ∧ U main_arg4 = V main_arg4 ∧ U main_arg0 = V main_arg0 ∧ U main_arg1 = V main_arg1 ∧ U main_arg2 = V main_arg2 := by
    rw [← hU]; simp only [List.take]; refine ⟨?_, ?_, ?_, ?_, ?_⟩ <;> after_reads_simp
  have hX : U main_v97 = conv (V main_arg0) (V main_arg1) (V main_arg2) := by
    rw [← hU]; simp only [List.take]; after_reads_simp; rfl
  clear hU
  simp only [List.drop]
  refine cut 6 _ _ (Leaves · V) fun U' hU' => ?_
  have hQ : U' main_v103 = qkv (conv (V main_arg0) (V main_arg1) (V main_arg2)) (V main_arg3) (V main_arg4) := by
    rw [← hX, ← kU.1, ← kU.2.1, ← hU']; simp only [List.take]; after_reads_simp; rfl
  have kU' : U' main_arg3 = V main_arg3 ∧ U' main_arg4 = V main_arg4 ∧ U' main_arg0 = V main_arg0 ∧ U' main_arg1 = V main_arg1 ∧ U' main_arg2 = V main_arg2 := by
    rw [← kU.1, ← kU.2.1, ← kU.2.2.1, ← kU.2.2.2.1, ← kU.2.2.2.2, ← hU']; simp only [List.take]; refine ⟨?_, ?_, ?_, ?_, ?_⟩ <;> after_reads_simp
  clear hU' hX kU
  simp only [List.drop]
  refine cut 5 _ _ (Leaves · V) fun W hW => ?_
  have hT : W main_v108 = logits (U' main_v103) := by
    rw [← hW]; simp only [List.take]; after_reads_simp; rfl
  have hv : W main_v106 = extractStridedSlice S4x96x256x4 ![0, 0, 0, 8] (U' main_v103) slices_S4x96x256x12_S4x96x256x4_0_0_0_8 := by
    rw [← hW]; simp only [List.take]; after_reads_simp
  have kW : W main_arg3 = V main_arg3 ∧ W main_arg4 = V main_arg4 ∧ W main_arg0 = V main_arg0 ∧ W main_arg1 = V main_arg1 ∧ W main_arg2 = V main_arg2 := by
    rw [← kU'.1, ← kU'.2.1, ← kU'.2.2.1, ← kU'.2.2.2.1, ← kU'.2.2.2.2, ← hW]; simp only [List.take]; refine ⟨?_, ?_, ?_, ?_, ?_⟩ <;> after_reads_simp
  clear hW kU'
  simp only [List.drop]
  refine cut 14 _ _ (Leaves · V) fun W' hW' => ?_
  have hS : W' main_v119 = softmax (W main_v108) := by
    rw [← hW']; simp only [List.take]; after_reads_simp; rfl
  have hv' : W' main_v106 = W main_v106 := by
    rw [← hW']; simp only [List.take]; after_reads_simp
  have kW' : W' main_arg3 = V main_arg3 ∧ W' main_arg4 = V main_arg4 ∧ W' main_arg0 = V main_arg0 ∧ W' main_arg1 = V main_arg1 ∧ W' main_arg2 = V main_arg2 := by
    rw [← kW.1, ← kW.2.1, ← kW.2.2.1, ← kW.2.2.2.1, ← kW.2.2.2.2, ← hW']; simp only [List.take]; refine ⟨?_, ?_, ?_, ?_, ?_⟩ <;> after_reads_simp
  clear hW' kW
  simp only [List.drop]
  unfold Leaves
  rw [← hQ, ← kW'.1, ← kW'.2.1, ← kW'.2.2.1, ← kW'.2.2.2.1, ← kW'.2.2.2.2]
  unfold applied summed
  rw [← hT, ← hv, ← hS, ← hv']
  refine ⟨?_, ?_, ?_, ?_, ?_, ?_, ?_⟩ <;> after_reads_simp <;> rfl

end Cert.CoarseRef
-- ==== Proof.CoarseRefIdx.lean ====
module

public import proofs.«01_k».proof.Proof.CoarseRef
public import proofs.«01_k».proof.Proof.Gen.CoarseRefIdeal
public import Idealize.ShloMosaic.Lib.StableHlo.RunHlo
public import Idealize.ShloMosaic.Lib.StableHlo.RunRead
public import Idealize.ShloMosaic.Lib.Pointwise

@[expose] public section

set_option maxRecDepth 16384

noncomputable section

namespace Cert.CoarseRef

open Cert.CoarseRefIdeal Cert.CoarseRefIdeal.Gen Idealize.SL.Sem Idealize.ShloMosaic Idealize.ShloMosaic.TcCoe

section ideal

variable (x : FVec Ideal S4x192x34x34 .f32) (W : FVec Ideal S384x192x4x4 .f32) (bd : FVec Ideal S384 .f32)
  (u : FVec Ideal S4x192x16x16 .f32) (w : FVec Ideal S384x192x1x1 .f32) (X : FVec Ideal S4x384x16x16 .f32) (wq : FVec Ideal S4x12 .f32) (bq : FVec Ideal S12 .f32)
  (Q : FVec Ideal S4x96x256x12 .f32) (T : FVec Ideal S4x96x256x256 .f32)

/-- One tap at an index: a sum over the channels. -/
theorem tapDot_apply (b : Fin 4) (o : Fin 384) (p q : Fin 16) :
    tapDot u w (ix4 b o p q) = ∑ k : Fin 192, (u (ix4 b k p q) : EReal) * w (ix4 o k 0 0) := by
  pointwise [tapDot]

/-- Queries, keys and values at an index. -/
theorem qkv_apply (b : Fin 4) (h : Fin 96) (n : Fin 256) (r : Fin 12) : qkv X wq bq (ix4 b h n r)
    = ∑ d : Fin 4, (X (ix4 b ⟨h.val * 4 + d.val, by omega⟩ ⟨n / 16, by omega⟩ ⟨n % 16, by omega⟩) : EReal) * wq (ix2 d r) + bq (ix1 r) := by
  pointwise [qkv]

/-- Keys against queries at an index. -/
theorem logits_apply (b : Fin 4) (h : Fin 96) (i j : Fin 256) : logits Q (ix4 b h i j)
    = ∑ d : Fin 4, (Q (ix4 b h i ⟨4 + d.val, by omega⟩) : EReal) * Q (ix4 b h j ⟨d.val, by omega⟩) := by
  pointwise [logits]

/-- The softmax at an index. -/
theorem softmax_apply (b : Fin 4) (h : Fin 96) (i j : Fin 256) : softmax T (ix4 b h i j)
    = Ideal.div (Ideal.exp ((T (ix4 b h i j) : EReal) - top T (ix3 b h i)))
        (∑ x : Fin 256, Ideal.exp ((T (ix4 b h i x) : EReal) - top T (ix3 b h i))) := by
  pointwise [softmax, along, shifted]

/-- The applied weights at an index. -/
theorem applied_apply (b : Fin 4) (o : Fin 384) (i : Fin 256) : applied Q (ix3 b o i)
    = ∑ j : Fin 256, (softmax (logits Q) (ix4 b ⟨o / 4, by omega⟩ i j) : EReal) * Q (ix4 b ⟨o / 4, by omega⟩ j ⟨8 + o % 4, by omega⟩) := by
  pointwise [applied]

/-- The summed weights at an index. -/
theorem summed_apply (b : Fin 4) (j : Fin 256) : summed Q (ix3 b j 0)
    = ∑ h : Fin 96, ∑ i : Fin 256, (softmax (logits Q) (ix4 b h i j) : EReal) := by
  pointwise [summed]

/-- Folding `max` over reals, not all absent, from something below the top, gives a real. -/
theorem fold_real {ι : Type} (f : ι → EReal) (g : ι → ℝ) (hf : ∀ i, f i = (g i : EReal)) (l : List ι) (a : EReal) (ha : a ≠ ⊤)
    (hl : l ≠ [] ∨ a ≠ ⊥) : ∃ r : ℝ, l.foldl (fun r n => max r (f n)) a = (r : EReal) := by
  induction l generalizing a with
  | nil =>
    have h := hl.resolve_left (fun h => h rfl)
    exact ⟨a.toReal, (EReal.coe_toReal ha h).symm⟩
  | cons i l ih =>
    refine ih (max a (f i)) ?_ (Or.inr ?_)
    · rw [hf]; exact ne_of_lt (max_lt (lt_top_iff_ne_top.2 ha) (EReal.coe_lt_top _))
    · rw [hf]; exact ne_of_gt (lt_max_of_lt_right (EReal.bot_lt_coe _))

/-- A reduction by the maximum over reals gives a real, at an index that some entry is reduced into. -/
theorem reduce_real {s t v : Shape} {axes : List (Fin s.rank)} (y : FVec Ideal s .f32) (init : FVec Ideal v .f32) (h : s.ReducesTo axes t)
    (hv : 0 < v.numel) (g : s.Idx → ℝ) (hy : ∀ i, y i = (g i : EReal)) (hi : ∀ i, init i ≠ (⊤ : EReal)) (j : t.Idx) (i₀ : s.Idx) (h₀ : h.drop i₀ = j) :
    ∃ r : ℝ, (Host.reduce FloatOps.maximumf y init h hv : FVec Ideal t .f32) j = (r : EReal) := by
  unfold Host.reduce
  refine fold_real (fun n => y (s.rowMajor.symm n)) (fun n => g (s.rowMajor.symm n)) (fun n => hy _) _ _ (hi _) (Or.inl ?_)
  refine List.ne_nil_of_mem (a := s.rowMajor i₀) (List.mem_filter.2 ⟨List.mem_finRange _, ?_⟩)
  rw [Equiv.symm_apply_apply]
  exact decide_eq_true h₀

/-- The word of minus infinity. -/
theorem neg_top : (Ideal.ofBits .f32 0xFF800000#32) = (⊥ : EReal) := by
  simp [Ideal.ofBits, Ideal.ieee]

/-- The larger of minus infinity and a real is the real. -/
theorem max_floor {s : Shape} (f y : FVec Ideal s .f32) (j : s.Idx) (hf : f j = (⊥ : EReal)) (r : ℝ) (hr : y j = (r : EReal)) :
    maximumf f y j = (r : EReal) := by
  show max (f j : EReal) (y j) = _
  rw [hf, hr]
  exact max_eq_right bot_le

/-- A spread constant is the constant everywhere. -/
theorem spread_floor {s : Shape} {dims : Fin S_.rank → Fin s.rank} (h) (j : s.Idx) :
    (broadcastInDim s dims h (constant S_ .f32 0xFF800000#32) : FVec Ideal s .f32) j = (⊥ : EReal) := neg_top

/-- Dropping the last coordinate of an index. -/
theorem drop_last (b : Fin 4) (h : Fin 96) (i : Fin 256) :
    reducesTo_S4x96x256x256_S4x96x256_d3.drop (ix4 b h i 0) = (ix3 b h i : S4x96x256.Idx) := by
  funext a
  fin_cases a <;> rfl

/-- The largest entry of a row of reals is a real. -/
theorem top_real (t : S4x96x256x256.Idx → ℝ) (hT : ∀ i, T i = (t i : EReal)) (b : Fin 4) (h : Fin 96) (i : Fin 256) :
    ∃ r : ℝ, top T (ix3 b h i) = (r : EReal) := by
  obtain ⟨r, hr⟩ := reduce_real T (constant S_ .f32 0xFF800000#32) reducesTo_S4x96x256x256_S4x96x256_d3 h_S_ t hT
    (fun _ => (neg_top.trans_ne bot_ne_top)) (ix3 b h i) (ix4 b h i 0) (drop_last b h i)
  exact ⟨r, max_floor _ _ _ (spread_floor _ _) r hr⟩

end ideal

end Cert.CoarseRef
-- ==== Proof.CoarseBlock.lean ====
module

public import proofs.«01_k».proof.Proof.CoarseReal
public import Idealize.ShloMosaic.Lib.Pointwise
public import Idealize.ShloMosaic.Lib.Pipeline.ValueKit

@[expose] public section

set_option maxRecDepth 16384

noncomputable section

namespace Cert.CoarseBlock

open Cert.CoarseIdeal Cert.CoarseIdeal.Gen Cert.CoarseOps Cert.CoarseReal Idealize.ShloMosaic Idealize.ShloMosaic.TcCoe

/-- A sum over `a * b` positions, taken block by block. -/
theorem sum_split (a b n : ℕ) (hn : n = a * b) (f : Fin n → ℝ) :
    ∑ k, f k = ∑ i : Fin a, ∑ j : Fin b, f ⟨b * i.val + j.val, by
      subst hn; calc b * i.val + j.val < b * i.val + b := by omega
        _ = (i.val + 1) * b := by ring
        _ ≤ a * b := Nat.mul_le_mul_right b i.isLt⟩ := by
  subst hn
  rw [← finProdFinEquiv.sum_comp, Fintype.sum_prod_type]
  refine Finset.sum_congr rfl fun i _ => Finset.sum_congr rfl fun j _ => ?_
  congr 1
  exact Fin.ext (by simp [finProdFinEquiv]; ring)

/-- Twelve terms added from the left are their sum. -/
theorem sum_twelve (f : Fin 12 → ℝ) :
    0 + f 0 + f 1 + f 2 + f 3 + f 4 + f 5 + f 6 + f 7 + f 8 + f 9 + f 10 + f 11 = ∑ g, f g := by
  simp only [Fin.sum_univ_castSucc (n := 11), Fin.sum_univ_castSucc (n := 10), Fin.sum_univ_castSucc (n := 9),
    Fin.sum_univ_castSucc (n := 8), Fin.sum_univ_eight]
  rw [zero_add]
  rfl

variable (P : Fin 3072 → Fin 256 → ℝ) (W : Fin 384 → Fin 3072 → ℝ) (bd : Fin 384 → ℝ)
  (wq : Fin 4 → Fin 12 → ℝ) (bq : Fin 12 → ℝ)

/-- The features of a block: one sum over the 3072 patch entries, plus the bias. -/
def feat (o : Fin 384) (n : Fin 256) : ℝ := ∑ k, W o k * P k n + bd o

/-- Queries, keys and values (twelve rows) of one head. -/
def rows (X : Fin 384 → Fin 256 → ℝ) (h : Fin 96) (r : Fin 12) (n : Fin 256) : ℝ :=
  ∑ d : Fin 4, wq d r * X ⟨4 * h.val + d.val, by omega⟩ n + bq r

/-- The weights of one head. -/
def attn (X : Fin 384 → Fin 256 → ℝ) (h : Fin 96) : Fin 256 → Fin 256 → ℝ :=
  attnR (fun d n => rows wq bq X h ⟨d.val, by omega⟩ n) (fun d n => rows wq bq X h ⟨4 + d.val, by omega⟩ n)

/-- What the heads return, row `o` of 384. -/
def result (X : Fin 384 → Fin 256 → ℝ) (o : Fin 384) (i : Fin 256) : ℝ :=
  ∑ j, rows wq bq X ⟨o.val / 4, by omega⟩ ⟨8 + o.val % 4, by omega⟩ j * attn wq bq X ⟨o.val / 4, by omega⟩ j i

/-- The scores: the weights of all heads summed over the keys. -/
def score (X : Fin 384 → Fin 256 → ℝ) (j : Fin 256) : ℝ := ∑ i, ∑ h, attn wq bq X h j i

/-- The block-diagonal form of the small weight. -/
def diag (r : Fin 96) (k : Fin 32) : ℝ :=
  (if r.val / 12 = k.val / 4 then 1 else 0) * wq ⟨k % 4, by omega⟩ ⟨r % 12, by omega⟩

/-- The 96 rows the kernel forms for a group of eight heads. -/
def groupRows (X : Fin 384 → Fin 256 → ℝ) (g : Fin 12) (r : Fin 96) (n : Fin 256) : ℝ :=
  ∑ k : Fin 32, diag wq r k * X ⟨32 * g.val + k.val, by omega⟩ n + bq ⟨r % 12, by omega⟩

/-- Every one of them is a row of one head. -/
theorem groupRows_eq (X : Fin 384 → Fin 256 → ℝ) (g : Fin 12) (p : Fin 8) (r : Fin 12) (q : Fin 96) (hq : q.val = 12 * p.val + r.val) (n : Fin 256) :
    groupRows wq bq X g q n = rows wq bq X ⟨8 * g.val + p.val, by omega⟩ r n := by
  unfold groupRows rows
  congr 1
  · rw [sum_split 8 4 32 rfl, Finset.sum_eq_single p]
    · refine Finset.sum_congr rfl fun d _ => ?_
      unfold diag
      rw [if_pos (by simp only; omega), one_mul]
      exact congrArg₂ (· * ·) (congrArg₂ wq (Fin.ext (by dsimp only; omega)) (Fin.ext (by dsimp only; omega)))
        (congrArg (X · n) (Fin.ext (by dsimp only; omega)))
    · intro a _ ha
      refine Finset.sum_eq_zero fun d _ => ?_
      unfold diag
      rw [if_neg (fun h => ha (Fin.ext (by simp only at h; omega))), zero_mul, zero_mul]
    · exact fun h => absurd (Finset.mem_univ _) h
  · congr 1
    exact Fin.ext (by simp only; omega)

/-- The weights of the kernel's head `p` of group `g` are those of the head `8 g + p`. -/
theorem headAttn_eq (X : Fin 384 → Fin 256 → ℝ) (g : Fin 12) (p : Fin 8) :
    headAttn (groupRows wq bq X g) p = attn wq bq X ⟨8 * g.val + p.val, by omega⟩ := by
  unfold headAttn attn
  congr 1
  · funext d n
    exact groupRows_eq wq bq X g p _ _ rfl n
  · funext d n
    exact groupRows_eq wq bq X g p _ _ (by simp only; omega) n

section blocks

variable (x0 x1 : Vec Ideal S1x3072x256 .bf16) (x2 x3 : Vec Ideal S384x3072 .bf16) (x4 : Vec Ideal S384x1 .f32)
  (x5 x6 : Vec Ideal S96x32 .bf16) (x7 : Vec Ideal S96x1 .f32)
  (h0 : ∀ k n, x0 (ix3 0 k n) = (P k n : EReal)) (h1 : ∀ k n, x1 (ix3 0 k n) = (0 : EReal))
  (h2 : ∀ o k, x2 (ix2 o k) = (W o k : EReal)) (h3 : ∀ o k, x3 (ix2 o k) = (0 : EReal))
  (h4 : ∀ o, x4 (ix2 o 0) = (bd o : EReal))
  (h5 : ∀ r k, x5 (ix2 r k) = (diag wq r k : EReal)) (h6 : ∀ r k, x6 (ix2 r k) = (0 : EReal))
  (h7 : ∀ r : Fin 96, x7 (ix2 r 0) = (bq ⟨r % 12, by omega⟩ : EReal))

include h0 h1 h2 h3 h4 h5 h6 h7

/-- The rows of a group, on real blocks. -/
theorem blockQkv_coe (g : Fin 12) (r : Fin 96) (n : Fin 256) :
    blockQkv x0 x1 x2 x3 x4 x5 x6 x7 g (ix2 r n) = (groupRows wq bq (feat P W bd) g r n : EReal) := by
  unfold blockQkv groupRows
  refine qkv_coe _ g _ _ _ (feat P W bd) (diag wq) (fun r => bq ⟨r % 12, by omega⟩) ?_ ?_ ?_ ?_ r n
  · exact fun o n => conv_coe x0 x1 x2 x3 x4 P W bd h0 h1 h2 h3 h4 o n
  · intro r k
    pointwise [k0_pay3]
    exact h5 r k
  · intro r k
    pointwise [k0_pay4]
    exact h6 r k
  · intro r
    pointwise [k0_pay5]
    exact h7 r

/-- A group's 32 rows of output, on real blocks. -/
theorem group_coe (g : Fin 12) (d : Fin 32) (o : Fin 384) (ho : o.val = 32 * g.val + d.val) (i : Fin 256) :
    groupOut (blockQkv x0 x1 x2 x3 x4 x5 x6 x7 g) (ix3 0 d i) = (result wq bq (feat P W bd) o i : EReal) := by
  rw [groupOut_apply, headOut_coe _ (groupRows wq bq (feat P W bd) g)
    (blockQkv_coe P W bd wq bq x0 x1 x2 x3 x4 x5 x6 x7 h0 h1 h2 h3 h4 h5 h6 h7 g)]
  have hh : (⟨8 * g.val + d.val / 4, by omega⟩ : Fin 96) = ⟨o.val / 4, by omega⟩ := Fin.ext (by simp only; omega)
  congr 1
  unfold result
  refine Finset.sum_congr rfl fun j _ => ?_
  rw [headAttn_eq, groupRows_eq wq bq _ g ⟨d.val / 4, by omega⟩ ⟨8 + d.val % 4, by omega⟩ _ (by simp only; omega), hh]
  exact congrArg (fun r => rows wq bq (feat P W bd) _ r j * _) (Fin.ext (by dsimp only; omega))

/-- The block of outputs, on real blocks. -/
theorem out_coe (o : Fin 384) (i : Fin 256) :
    out0_8 x0 x1 x2 x3 x4 x5 x6 x7 (ix3 0 o i) = (result wq bq (feat P W bd) o i : EReal) := by
  rw [out_pieces]
  have G := group_coe P W bd wq bq x0 x1 x2 x3 x4 x5 x6 x7 h0 h1 h2 h3 h4 h5 h6 h7
  clear h0 h1 h2 h3 h4 h5 h6 h7
  canon_tiles z h
  all_goals
    refine (congrArg (groupOut _) (?_ : z = ix3 0 (z 1) i)).trans (G _ (z 1) o ?_ i)
    · blk_ext <;> first | exact h2.symm | omega
    · first | exact h1 | exact h1.trans (Nat.zero_add _).symm

/-- The weights of all heads added up, on real blocks. -/
theorem total_coe (j i : Fin 256) :
    total x0 x1 x2 x3 x4 x5 x6 x7 (ix2 j i) = ((∑ h, attn wq bq (feat P W bd) h j i : ℝ) : EReal) := by
  have G := fun g => addGroup_coe _ _ (blockQkv_coe P W bd wq bq x0 x1 x2 x3 x4 x5 x6 x7 h0 h1 h2 h3 h4 h5 h6 h7 g)
  unfold total
  rw [G 11 _ _ (G 10 _ _ (G 9 _ _ (G 8 _ _ (G 7 _ _ (G 6 _ _ (G 5 _ _ (G 4 _ _ (G 3 _ _ (G 2 _ _ (G 1 _ _ (G 0 _ (fun _ _ => 0) ?_)))))))))))]
  · rw [sum_split 12 8 96 rfl]
    simp only [headAttn_eq]
    congr 1
    exact sum_twelve (fun g => ∑ p : Fin 8, attn wq bq (feat P W bd) ⟨8 * g.val + p.val, by omega⟩ j i)
  · intro j i
    pointwise [k0_pay6]
    exact EReal.coe_zero.symm

/-- The block of scores, on real blocks. -/
theorem score_coe (j : Fin 256) :
    out0_9 x0 x1 x2 x3 x4 x5 x6 x7 (ix3 0 j 0) = (score wq bq (feat P W bd) j : EReal) := by
  rw [score_pieces]
  have G := total_coe P W bd wq bq x0 x1 x2 x3 x4 x5 x6 x7 h0 h1 h2 h3 h4 h5 h6 h7
  clear h0 h1 h2 h3 h4 h5 h6 h7
  canon_tiles z h
  obtain rfl : z = ix3 0 j 0 := by blk_ext <;> first | exact h1.symm | omega
  pointwise [k0_pay1, k0_pay499]
  unfold score
  rw [← coe_sum]
  exact Finset.sum_congr rfl fun i _ => G j i

end blocks

end Cert.CoarseBlock
-- ==== Proof.CoarseRefReal.lean ====
module

public import proofs.«01_k».proof.Proof.CoarseRefIdx
public import proofs.«01_k».proof.Proof.CoarseBlock
public import Idealize.ShloMosaic.Lib.Pointwise

@[expose] public section

set_option maxRecDepth 16384

noncomputable section

namespace Cert.CoarseRef

open Cert.CoarseRefIdeal Cert.CoarseRefIdeal.Gen Idealize.ShloMosaic Idealize.ShloMosaic.TcCoe
open Cert.CoarseReal (coe_sum coe_div coe_sub_self expSum_ne scoreR attnR)
open Cert.CoarseBlock (sum_split feat rows attn result score)

/-- Every second row (column) of the input, starting at an offset. -/
def at2 (o : ℕ) (ho : o < 4) (p : Fin 16) : Fin 34 := ⟨o + 2 * p.val, by omega⟩

/-- A strided slice of the input at an index. -/
theorem slice_apply (x : FVec Ideal S4x192x34x34 .f32) (ky kx : ℕ) (hy : ky < 4) (hx : kx < 4)
    (h : S4x192x34x34.SlicesBy ![0, 0, ky, kx] ![1, 1, 2, 2] S4x192x16x16) (b : Fin 4) (k : Fin 192) (p q : Fin 16) :
    (Host.slice S4x192x16x16 ![0, 0, ky, kx] ![1, 1, 2, 2] x h : FVec Ideal S4x192x16x16 .f32) (ix4 b k p q) = x (ix4 b k (at2 ky hy p) (at2 kx hx q)) := by
  pointwise [at2]

/-- A slice of the weight at an index. -/
theorem wslice_apply (W : FVec Ideal S384x192x4x4 .f32) (ky kx : ℕ) (hy : ky < 4) (hx : kx < 4)
    (h : S384x192x4x4.Slices ![0, 0, ky, kx] S384x192x1x1) (o : Fin 384) (k : Fin 192) :
    (extractStridedSlice S384x192x1x1 ![0, 0, ky, kx] W h : FVec Ideal S384x192x1x1 .f32) (ix4 o k 0 0) = W (ix4 o k ⟨ky, hy⟩ ⟨kx, hx⟩) := by
  pointwise []

/-- The bias at an index. -/
theorem start_apply (bd : FVec Ideal S384 .f32) (b : Fin 4) (o : Fin 384) (p q : Fin 16) : start bd (ix4 b o p q) = bd (ix1 o) := by
  pointwise [start]

/-- A sum at an index. -/
theorem add_at {s : Shape} (f g : FVec Ideal s .f32) (i : s.Idx) : addf f g i = (f i : EReal) + g i := rfl

variable (x : Fin 4 → Fin 192 → Fin 34 → Fin 34 → ℝ) (Wd : Fin 384 → Fin 192 → Fin 4 → Fin 4 → ℝ) (bd : Fin 384 → ℝ)
  (wq : Fin 4 → Fin 12 → ℝ) (bq : Fin 12 → ℝ)

/-- One tap of the convolution over reals. -/
def tapR (ky kx : ℕ) (hy : ky < 4) (hx : kx < 4) (b : Fin 4) (o : Fin 384) (p q : Fin 16) : ℝ :=
  ∑ k : Fin 192, x b k (at2 ky hy p) (at2 kx hx q) * Wd o k ⟨ky, hy⟩ ⟨kx, hx⟩

/-- The convolution over reals, tap after tap. -/
theorem conv_real (X : FVec Ideal S4x192x34x34 .f32) (W : FVec Ideal S384x192x4x4 .f32) (B : FVec Ideal S384 .f32)
    (hX : ∀ b k r s, X (ix4 b k r s) = (x b k r s : EReal)) (hW : ∀ o k r s, W (ix4 o k r s) = (Wd o k r s : EReal))
    (hB : ∀ o, B (ix1 o) = (bd o : EReal)) (b : Fin 4) (o : Fin 384) (p q : Fin 16) :
    conv X W B (ix4 b o p q) = ((bd o + ∑ t : Fin 16, tapR x Wd (t.val / 4) (t.val % 4) (by omega) (by omega) b o p q : ℝ) : EReal) := by
  have T : ∀ (ky kx : ℕ) (hy : ky < 4) (hx : kx < 4) h h',
      tapDot (Host.slice S4x192x16x16 ![0, 0, ky, kx] ![1, 1, 2, 2] X h) (extractStridedSlice S384x192x1x1 ![0, 0, ky, kx] W h') (ix4 b o p q)
        = ((tapR x Wd ky kx hy hx b o p q : ℝ) : EReal) := by
    intro ky kx hy hx h h'
    rw [tapDot_apply]
    unfold tapR
    rw [← coe_sum]
    refine Finset.sum_congr rfl fun k _ => ?_
    rw [slice_apply X ky kx hy hx, wslice_apply W ky kx hy hx, hX, hW, ← EReal.coe_mul]
  unfold conv
  simp only [add_at, start_apply, hB]
  rw [T 0 0 (by omega) (by omega), T 0 1 (by omega) (by omega), T 0 2 (by omega) (by omega), T 0 3 (by omega) (by omega),
    T 1 0 (by omega) (by omega), T 1 1 (by omega) (by omega), T 1 2 (by omega) (by omega), T 1 3 (by omega) (by omega),
    T 2 0 (by omega) (by omega), T 2 1 (by omega) (by omega), T 2 2 (by omega) (by omega), T 2 3 (by omega) (by omega),
    T 3 0 (by omega) (by omega), T 3 1 (by omega) (by omega), T 3 2 (by omega) (by omega), T 3 3 (by omega) (by omega)]
  simp only [← EReal.coe_add]
  congr 1
  simp only [Fin.sum_univ_castSucc (n := 15), Fin.sum_univ_castSucc (n := 14), Fin.sum_univ_castSucc (n := 13), Fin.sum_univ_castSucc (n := 12),
    Fin.sum_univ_castSucc (n := 11), Fin.sum_univ_castSucc (n := 10), Fin.sum_univ_castSucc (n := 9), Fin.sum_univ_castSucc (n := 8), Fin.sum_univ_eight, ← add_assoc]
  rfl

/-- Rows of queries, keys and values over reals. -/
theorem qkv_real (X : FVec Ideal S4x384x16x16 .f32) (W : FVec Ideal S4x12 .f32) (B : FVec Ideal S12 .f32) (Xr : Fin 4 → Fin 384 → Fin 256 → ℝ)
    (hX : ∀ b o (n : Fin 256), X (ix4 b o ⟨n / 16, by omega⟩ ⟨n % 16, by omega⟩) = (Xr b o n : EReal))
    (hW : ∀ d r, W (ix2 d r) = (wq d r : EReal)) (hB : ∀ r, B (ix1 r) = (bq r : EReal)) (b : Fin 4) (h : Fin 96) (n : Fin 256) (r : Fin 12) :
    qkv X W B (ix4 b h n r) = (rows wq bq (Xr b) h r n : EReal) := by
  rw [qkv_apply]
  simp only [hX, hW, hB, ← EReal.coe_mul]
  rw [coe_sum, ← EReal.coe_add]
  congr 1
  unfold rows
  congr 1
  refine Finset.sum_congr rfl fun d _ => ?_
  rw [mul_comm]
  exact congrArg (wq d r * Xr b · n) (Fin.ext (by dsimp only; omega))

/-- A quotient of exponentials does not change when one number is taken from every exponent. -/
theorem shift_free {ι : Type} [Fintype ι] [Nonempty ι] (f : ι → ℝ) (c : ℝ) (j : ι) :
    Real.exp (f j - c) / ∑ i, Real.exp (f i - c) = Real.exp (f j) / ∑ i, Real.exp (f i) := by
  simp only [Real.exp_sub]
  rw [← Finset.sum_div, div_div_div_cancel_right₀ (Real.exp_ne_zero c)]

/-- The softmax over reals. -/
theorem softmax_real (T : FVec Ideal S4x96x256x256 .f32) (t : Fin 4 → Fin 96 → Fin 256 → Fin 256 → ℝ)
    (hT : ∀ b h i j, T (ix4 b h i j) = (t b h i j : EReal)) (b : Fin 4) (h : Fin 96) (i j : Fin 256) :
    softmax T (ix4 b h i j) = ((Real.exp (t b h i j) / ∑ y, Real.exp (t b h i y) : ℝ) : EReal) := by
  obtain ⟨r, hr⟩ := top_real T (fun k => t (k 0) (k 1) (k 2) (k 3)) (fun k => by
    obtain ⟨b, h, i, j, rfl⟩ : ∃ (b : Fin 4) (h : Fin 96) (i j : Fin 256), k = ix4 b h i j := ⟨k 0, k 1, k 2, k 3, by funext a; fin_cases a <;> rfl⟩
    exact hT b h i j) b h i
  rw [softmax_apply, hr]
  simp only [hT, ← EReal.coe_sub, Ideal.exp_coe]
  rw [coe_sum, coe_div (expSum_ne _), shift_free]

/-- The weights of every head over reals. -/
theorem weights_real (Q : FVec Ideal S4x96x256x12 .f32) (Xr : Fin 4 → Fin 384 → Fin 256 → ℝ)
    (hQ : ∀ b h n r, Q (ix4 b h n r) = (rows wq bq (Xr b) h r n : EReal)) (b : Fin 4) (h : Fin 96) (i j : Fin 256) :
    softmax (logits Q) (ix4 b h i j) = (attn wq bq (Xr b) h j i : EReal) := by
  rw [softmax_real (logits Q) (fun b h i j => scoreR (fun d n => rows wq bq (Xr b) h ⟨d.val, by omega⟩ n)
    (fun d n => rows wq bq (Xr b) h ⟨4 + d.val, by omega⟩ n) j i)]
  · rfl
  · intro b h i j
    rw [logits_apply]
    simp only [hQ, ← EReal.coe_mul]
    rw [coe_sum]
    congr 1
    unfold scoreR
    exact Finset.sum_congr rfl fun d _ => mul_comm _ _

/-- The first result over reals. -/
theorem applied_real (Q : FVec Ideal S4x96x256x12 .f32) (Xr : Fin 4 → Fin 384 → Fin 256 → ℝ)
    (hQ : ∀ b h n r, Q (ix4 b h n r) = (rows wq bq (Xr b) h r n : EReal)) (b : Fin 4) (o : Fin 384) (i : Fin 256) :
    applied Q (ix3 b o i) = (result wq bq (Xr b) o i : EReal) := by
  rw [applied_apply]
  simp only [weights_real wq bq Q Xr hQ, hQ, ← EReal.coe_mul]
  rw [coe_sum]
  congr 1
  unfold result
  exact Finset.sum_congr rfl fun j _ => mul_comm _ _

/-- The second result over reals. -/
theorem summed_real (Q : FVec Ideal S4x96x256x12 .f32) (Xr : Fin 4 → Fin 384 → Fin 256 → ℝ)
    (hQ : ∀ b h n r, Q (ix4 b h n r) = (rows wq bq (Xr b) h r n : EReal)) (b : Fin 4) (j : Fin 256) :
    summed Q (ix3 b j 0) = (score wq bq (Xr b) j : EReal) := by
  rw [summed_apply]
  simp only [weights_real wq bq Q Xr hQ, coe_sum]
  congr 1
  unfold score
  exact Finset.sum_comm

end Cert.CoarseRef
-- ==== Proof.CoarsePrep.lean ====
module

public import proofs.«01_k».proof.Proof.CoarseReal
public import Idealize.ShloMosaic.Lib.Pipeline.ValueKit
public import Idealize.ShloMosaic.Lib.Pointwise
public import Idealize.ShloMosaic.Lib.StableHlo.RunRead

@[expose] public section

set_option maxRecDepth 16384

noncomputable section

namespace Cert.CoarsePrep

open Cert.CoarseIdeal Cert.CoarseIdeal.Gen Cert.CoarseOps Cert.CoarseReal Idealize.ShloMosaic Idealize.ShloMosaic.TcCoe

variable (m : (ℓ : Loc nD τ sig) → Buf (Elt Ideal) ℓ)

/-- A line of host operations cut in two. -/
theorem after_cut (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons o l ih => exact ih _

/-- The contents once the sixteen slices have been taken. -/
def sliced (c : Dev nD) : Valuation τ sig (Elt Ideal) := StableHlo.after (hostOps0.take 32) (fun b => m (c, b))

theorem V_cut (c : Dev nD) (b : Ref sig .tc) : V m c b = StableHlo.after (hostOps0.drop 32) (sliced m c) b := by
  unfold V sliced
  rw [← after_cut, List.take_append_drop]

/-- Sixteen taps side by side: the second coordinate picks the tap. -/
theorem beside16 (u : Fin 16 → FVec Ideal S4x1x192x16x16 .f32) (b : Fin 4) (t : Fin 16) (k : Fin 192) (p q : Fin 16) :
    (concatenate S4x16x192x16x16 1
      [⟨S4x1x192x16x16, u 0⟩, ⟨S4x1x192x16x16, u 1⟩, ⟨S4x1x192x16x16, u 2⟩, ⟨S4x1x192x16x16, u 3⟩,
       ⟨S4x1x192x16x16, u 4⟩, ⟨S4x1x192x16x16, u 5⟩, ⟨S4x1x192x16x16, u 6⟩, ⟨S4x1x192x16x16, u 7⟩,
       ⟨S4x1x192x16x16, u 8⟩, ⟨S4x1x192x16x16, u 9⟩, ⟨S4x1x192x16x16, u 10⟩, ⟨S4x1x192x16x16, u 11⟩,
       ⟨S4x1x192x16x16, u 12⟩, ⟨S4x1x192x16x16, u 13⟩, ⟨S4x1x192x16x16, u 14⟩, ⟨S4x1x192x16x16, u 15⟩]
      concatenates_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x16x192x16x16_d1 : FVec Ideal S4x16x192x16x16 .f32) (ix5 b t k p q)
      = u t (ix5 b 0 k p q) := by
  concat_tiles i h
  all_goals
    refine congr (congrArg u (Fin.ext ?_)) ?_
    · exact h.symm
    · blk_ext <;> assumption

theorem flat16 (w : FVec Ideal S4x16x192x16x16 .f32) (b : Fin 4) (k : Fin 3072) (n : Fin 256) :
    (shapeCast S4x3072x256 w shapeCasts_S4x16x192x16x16_S4x3072x256 : FVec Ideal S4x3072x256 .f32) (ix3 b k n)
      = w (ix5 b ⟨k / 192, by omega⟩ ⟨k % 192, by omega⟩ ⟨n / 16, by omega⟩ ⟨n % 16, by omega⟩) := by
  pointwise []

/-- The entries of the five arguments. -/
def argX (c : Dev nD) (b : Fin 4) (k : Fin 192) (r s : Fin 34) : EReal :=
  (m (c, Proc.tc.devRef main_arg0) : FVec Ideal S4x192x34x34 .f32) (ix4 b k r s)
def argWd (c : Dev nD) (o : Fin 384) (k : Fin 192) (r s : Fin 4) : EReal :=
  (m (c, Proc.tc.devRef main_arg1) : FVec Ideal S384x192x4x4 .f32) (ix4 o k r s)
def argBd (c : Dev nD) (o : Fin 384) : EReal := (m (c, Proc.tc.devRef main_arg2) : FVec Ideal S384 .f32) (ix1 o)
def argWq (c : Dev nD) (d : Fin 4) (r : Fin 12) : EReal := (m (c, Proc.tc.devRef main_arg3) : FVec Ideal S4x12 .f32) (ix2 d r)
def argBq (c : Dev nD) (r : Fin 12) : EReal := (m (c, Proc.tc.devRef main_arg4) : FVec Ideal S12 .f32) (ix1 r)

/-- Every second row (column) of the input, starting at the offset of a tap. -/
def cell (o : Fin 4) (p : Fin 16) : Fin 34 := ⟨o.val + 2 * p.val, by omega⟩

/-- The tap number `t`: offset `(t / 4, t % 4)`. -/
def tap (c : Dev nD) (t : Fin 16) : FVec Ideal S4x1x192x16x16 .f32 := fun i =>
  (m (c, Proc.tc.devRef main_arg0) : FVec Ideal S4x192x34x34 .f32)
    (ix4 (i 0) (i 2) (cell ⟨t.val / 4, by omega⟩ (i 3)) (cell ⟨t.val % 4, by omega⟩ (i 4)))

theorem sliced_taps (c : Dev nD) :
    (sliced m c main_v16 : FVec Ideal S4x1x192x16x16 .f32) = tap m c 0 ∧
    (sliced m c main_v17 : FVec Ideal S4x1x192x16x16 .f32) = tap m c 1 ∧
    (sliced m c main_v18 : FVec Ideal S4x1x192x16x16 .f32) = tap m c 2 ∧
    (sliced m c main_v19 : FVec Ideal S4x1x192x16x16 .f32) = tap m c 3 ∧
    (sliced m c main_v20 : FVec Ideal S4x1x192x16x16 .f32) = tap m c 4 ∧
    (sliced m c main_v21 : FVec Ideal S4x1x192x16x16 .f32) = tap m c 5 ∧
    (sliced m c main_v22 : FVec Ideal S4x1x192x16x16 .f32) = tap m c 6 ∧
    (sliced m c main_v23 : FVec Ideal S4x1x192x16x16 .f32) = tap m c 7 ∧
    (sliced m c main_v24 : FVec Ideal S4x1x192x16x16 .f32) = tap m c 8 ∧
    (sliced m c main_v25 : FVec Ideal S4x1x192x16x16 .f32) = tap m c 9 ∧
    (sliced m c main_v26 : FVec Ideal S4x1x192x16x16 .f32) = tap m c 10 ∧
    (sliced m c main_v27 : FVec Ideal S4x1x192x16x16 .f32) = tap m c 11 ∧
    (sliced m c main_v28 : FVec Ideal S4x1x192x16x16 .f32) = tap m c 12 ∧
    (sliced m c main_v29 : FVec Ideal S4x1x192x16x16 .f32) = tap m c 13 ∧
    (sliced m c main_v30 : FVec Ideal S4x1x192x16x16 .f32) = tap m c 14 ∧
    (sliced m c main_v31 : FVec Ideal S4x1x192x16x16 .f32) = tap m c 15 := by
  unfold sliced
  simp only [hostOps0, List.take]
  refine ⟨?_, ?_, ?_, ?_, ?_, ?_, ?_, ?_, ?_, ?_, ?_, ?_, ?_, ?_, ?_, ?_⟩
  all_goals
    after_results
    funext i
    obtain ⟨b, o, k, p, q, rfl⟩ : ∃ b o k p q, i = ix5 b o k p q := ⟨i 0, i 1, i 2, i 3, i 4, by blk_ext⟩
    pointwise [tap, cell]

/-- The patch matrix the kernel splits. -/
theorem patches (c : Dev nD) (b : Fin 4) (k : Fin 3072) (n : Fin 256) :
    (V m c main_v33 : FVec Ideal S4x3072x256 .f32) (ix3 b k n)
      = argX m c b ⟨k % 192, by omega⟩ (cell ⟨k / 192 / 4, by omega⟩ ⟨n / 16, by omega⟩)
            (cell ⟨k / 192 % 4, by omega⟩ ⟨n % 16, by omega⟩) := by
  rw [V_cut]
  have H := sliced_taps m c
  generalize sliced m c = U at H
  obtain ⟨h0, h1, h2, h3, h4, h5, h6, h7, h8, h9, h10, h11, h12, h13, h14, h15⟩ := H
  simp only [hostOps0, List.drop]
  after_results
  refine (flat16 _ b k n).trans ?_
  dsimp only [Matrix.cons_val]
  rw [h0, h1, h2, h3, h4, h5, h6, h7, h8, h9, h10, h11, h12, h13, h14, h15]
  exact beside16 (tap m c) b _ _ _ _

/-- The first part of the split is the patch matrix itself. -/
theorem patches_hi (c : Dev nD) (b : Fin 4) (k : Fin 3072) (n : Fin 256) :
    (V m c main_v34 : FVec Ideal S4x3072x256 .bf16) (ix3 b k n) = (V m c main_v33 : FVec Ideal S4x3072x256 .f32) (ix3 b k n) := by
  rw [V_cut, V_cut]
  generalize sliced m c = U
  simp only [hostOps0, List.drop]
  after_results
  rfl

/-- The second part of the split: what the first left over. -/
theorem patches_lo (c : Dev nD) (b : Fin 4) (k : Fin 3072) (n : Fin 256) (p : EReal)
    (hp : (V m c main_v33 : FVec Ideal S4x3072x256 .f32) (ix3 b k n) = p) :
    (V m c main_v37 : FVec Ideal S4x3072x256 .bf16) (ix3 b k n) = p - p := by
  subst hp
  rw [V_cut, V_cut]
  generalize sliced m c = U
  simp only [hostOps0, List.drop]
  after_results
  rfl

/-- The coarse weight, one row per output channel. -/
theorem down_hi (c : Dev nD) (o : Fin 384) (k : Fin 3072) :
    (V m c main_v40 : FVec Ideal S384x3072 .bf16) (ix2 o k)
      = argWd m c o ⟨k % 192, by omega⟩ ⟨k / 192 / 4, by omega⟩ ⟨k / 192 % 4, by omega⟩ := by
  entry_read
  pointwise [argWd, Nat.div_div_eq_div_mul]

theorem down_lo (c : Dev nD) (o : Fin 384) (k : Fin 3072) :
    (V m c main_v43 : FVec Ideal S384x3072 .bf16) (ix2 o k)
      = argWd m c o ⟨k % 192, by omega⟩ ⟨k / 192 / 4, by omega⟩ ⟨k / 192 % 4, by omega⟩
        - argWd m c o ⟨k % 192, by omega⟩ ⟨k / 192 / 4, by omega⟩ ⟨k / 192 % 4, by omega⟩ := by
  entry_read
  pointwise [argWd, Nat.div_div_eq_div_mul]

theorem down_bias (c : Dev nD) (o : Fin 384) :
    (V m c main_v65 : FVec Ideal S384x1 .f32) (ix2 o 0) = argBd m c o := by
  entry_read
  pointwise [argBd]

/-- The comparison of two small numbers, converted to a float: one on equality, zero otherwise. -/
theorem same_head (a b : Nat) (ha : a < 8) (hb : b < 8) :
    (FloatOps.uitofp .f32 (IntOp.cmpi .eq (IntOp.addi (BitVec.ofNat 32 a) 0#32) (BitVec.ofNat 32 b)) : Ideal .f32)
      = ((if a = b then 1 else 0 : ℝ) : EReal) := by
  show (((IntOp.cmpi .eq (IntOp.addi (BitVec.ofNat 32 a) 0#32) (BitVec.ofNat 32 b)).toNat : ℝ) : EReal) = _
  congr 1
  interval_cases a <;> interval_cases b <;> simp [IntOp.cmpi, IntOp.addi]

/-- The block-diagonal weight: the small weight where row and column belong to one head, zero elsewhere. -/
theorem qkv_hi (c : Dev nD) (r : Fin 96) (k : Fin 32) :
    (V m c main_v57 : FVec Ideal S96x32 .bf16) (ix2 r k)
      = ((if r.val / 12 = k.val / 4 then 1 else 0 : ℝ) : EReal) * argWq m c ⟨k % 4, by omega⟩ ⟨r % 12, by omega⟩ := by
  rw [← same_head _ _ (by omega) (by omega)]
  entry_read
  pointwise [argWq]

theorem qkv_lo (c : Dev nD) (r : Fin 96) (k : Fin 32) :
    (V m c main_v60 : FVec Ideal S96x32 .bf16) (ix2 r k)
      = ((if r.val / 12 = k.val / 4 then 1 else 0 : ℝ) : EReal) * argWq m c ⟨k % 4, by omega⟩ ⟨r % 12, by omega⟩
        - ((if r.val / 12 = k.val / 4 then 1 else 0 : ℝ) : EReal) * argWq m c ⟨k % 4, by omega⟩ ⟨r % 12, by omega⟩ := by
  rw [← same_head _ _ (by omega) (by omega)]
  entry_read
  pointwise [argWq]

theorem qkv_bias (c : Dev nD) (r : Fin 96) :
    (V m c main_v64 : FVec Ideal S96x1 .f32) (ix2 r 0) = argBq m c ⟨r % 12, by omega⟩ := by
  entry_read
  pointwise [argBq]

end Cert.CoarsePrep
-- ==== Proof.CoarseValue.lean ====
module

public import proofs.«01_k».proof.Proof.CoarseBlock
public import proofs.«01_k».proof.Proof.CoarsePrep
public import proofs.«01_k».proof.Proof.Gen.CoarseIdeal.Value
public import Idealize.ShloMosaic.Lib.Pointwise
public import Idealize.ShloMosaic.Lib.Pipeline.ValueKit

@[expose] public section

set_option maxRecDepth 16384

noncomputable section

namespace Cert.CoarseValue

open Cert.CoarseIdeal Cert.CoarseIdeal.Gen Cert.CoarseReal Cert.CoarsePrep Cert.CoarseBlock
open Idealize.ShloMosaic Idealize.ShloMosaic.TcCoe

/-- The patches of image `b`, one row per tap and channel. -/
def patch (x : Fin 4 → Fin 192 → Fin 34 → Fin 34 → ℝ) (b : Fin 4) (k : Fin 3072) (n : Fin 256) : ℝ :=
  x b ⟨k % 192, by omega⟩ (cell ⟨k / 192 / 4, by omega⟩ ⟨n / 16, by omega⟩) (cell ⟨k / 192 % 4, by omega⟩ ⟨n % 16, by omega⟩)

/-- The coarse weight with its taps and channels in one axis. -/
def flat (W : Fin 384 → Fin 192 → Fin 4 → Fin 4 → ℝ) (o : Fin 384) (k : Fin 3072) : ℝ :=
  W o ⟨k % 192, by omega⟩ ⟨k / 192 / 4, by omega⟩ ⟨k / 192 % 4, by omega⟩

/-- The index maps over the grid: the patches and the two results move with the image, the weights stay. -/
theorem idx : ∀ t : Fin cfg0.N, win0_0.index t = ![t.val, 0, 0] ∧ win0_1.index t = ![t.val, 0, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![t.val, 0, 0] ∧
    win0_9.index t = ![t.val, 0, 0] :=
  (by decide +kernel : ∀ t : Fin grid0.N, _)

/-- The grid has one point per image. -/
theorem points : cfg0.N = 4 := by decide +kernel

variable (m : (ℓ : Loc nD τ sig) → Buf (Elt Ideal) ℓ)
  (x : Fin 4 → Fin 192 → Fin 34 → Fin 34 → ℝ) (Wd : Fin 384 → Fin 192 → Fin 4 → Fin 4 → ℝ) (bd : Fin 384 → ℝ)
  (wq : Fin 4 → Fin 12 → ℝ) (bq : Fin 12 → ℝ)

/-- The five arguments on a device are the given real arrays. -/
structure Reals (c : Dev nD) : Prop where
  hx : ∀ b k r s, argX m c b k r s = (x b k r s : EReal)
  hWd : ∀ o k r s, argWd m c o k r s = (Wd o k r s : EReal)
  hbd : ∀ o, argBd m c o = (bd o : EReal)
  hwq : ∀ d r, argWq m c d r = (wq d r : EReal)
  hbq : ∀ r, argBq m c r = (bq r : EReal)

variable {m x Wd bd wq bq}

/-- The eight blocks a grid point reads, on real arguments. -/
theorem read0 {c : Dev nD} (H : Reals m x Wd bd wq bq c) (t : Fin cfg0.N) (b : Fin 4) (hb : b.val = t.val) (k : Fin 3072) (n : Fin 256) :
    (iblk m c 0 t : Vec Ideal S1x3072x256 .bf16) (ix3 0 k n) = (patch x b k n : EReal) := by
  refine Eq.trans ?_ ((patches_hi m c b k n).trans ((patches m c b k n).trans (H.hx _ _ _ _)))
  blk_ext [iblk, idx t]

theorem read1 {c : Dev nD} (H : Reals m x Wd bd wq bq c) (t : Fin cfg0.N) (b : Fin 4) (hb : b.val = t.val) (k : Fin 3072) (n : Fin 256) :
    (iblk m c 1 t : Vec Ideal S1x3072x256 .bf16) (ix3 0 k n) = (0 : EReal) := by
  refine Eq.trans ?_ ((patches_lo m c b k n _ ((patches m c b k n).trans (H.hx _ _ _ _))).trans (coe_sub_self _))
  blk_ext [iblk, idx t]

theorem read2 {c : Dev nD} (H : Reals m x Wd bd wq bq c) (t : Fin cfg0.N) (o : Fin 384) (k : Fin 3072) :
    (iblk m c 2 t : Vec Ideal S384x3072 .bf16) (ix2 o k) = (flat Wd o k : EReal) := by
  refine Eq.trans ?_ ((down_hi m c o k).trans (H.hWd _ _ _ _))
  blk_ext [iblk, idx t]

theorem read3 {c : Dev nD} (H : Reals m x Wd bd wq bq c) (t : Fin cfg0.N) (o : Fin 384) (k : Fin 3072) :
    (iblk m c 3 t : Vec Ideal S384x3072 .bf16) (ix2 o k) = (0 : EReal) := by
  refine Eq.trans ?_ ((down_lo m c o k).trans ((by rw [H.hWd]; rfl) : _ = (flat Wd o k : EReal) - (flat Wd o k : EReal)) |>.trans (coe_sub_self _))
  blk_ext [iblk, idx t]

theorem read4 {c : Dev nD} (H : Reals m x Wd bd wq bq c) (t : Fin cfg0.N) (o : Fin 384) :
    (iblk m c 4 t : Vec Ideal S384x1 .f32) (ix2 o 0) = (bd o : EReal) := by
  refine Eq.trans ?_ ((down_bias m c o).trans (H.hbd _))
  blk_ext [iblk, idx t]

theorem read5 {c : Dev nD} (H : Reals m x Wd bd wq bq c) (t : Fin cfg0.N) (r : Fin 96) (k : Fin 32) :
    (iblk m c 5 t : Vec Ideal S96x32 .bf16) (ix2 r k) = (CoarseBlock.diag wq r k : EReal) := by
  refine Eq.trans ?_ ((qkv_hi m c r k).trans ((by rw [H.hwq, ← EReal.coe_mul]; rfl)))
  blk_ext [iblk, idx t]

theorem read6 {c : Dev nD} (H : Reals m x Wd bd wq bq c) (t : Fin cfg0.N) (r : Fin 96) (k : Fin 32) :
    (iblk m c 6 t : Vec Ideal S96x32 .bf16) (ix2 r k) = (0 : EReal) := by
  refine Eq.trans ?_ ((qkv_lo m c r k).trans ((by rw [H.hwq, ← EReal.coe_mul]; rfl) : _ = (CoarseBlock.diag wq r k : EReal) - (CoarseBlock.diag wq r k : EReal)) |>.trans (coe_sub_self _))
  blk_ext [iblk, idx t]

theorem read7 {c : Dev nD} (H : Reals m x Wd bd wq bq c) (t : Fin cfg0.N) (r : Fin 96) :
    (iblk m c 7 t : Vec Ideal S96x1 .f32) (ix2 r 0) = (bq ⟨r % 12, by omega⟩ : EReal) := by
  refine Eq.trans ?_ ((qkv_bias m c r).trans (H.hbq _))
  blk_ext [iblk, idx t]

/-- The features of image `b`. -/
def feats (x : Fin 4 → Fin 192 → Fin 34 → Fin 34 → ℝ) (Wd : Fin 384 → Fin 192 → Fin 4 → Fin 4 → ℝ) (bd : Fin 384 → ℝ) (b : Fin 4) :
    Fin 384 → Fin 256 → ℝ := feat (patch x b) (flat Wd) bd

/-- The first result after the run. -/
theorem final8 {c : Dev nD} (H : Reals m x Wd bd wq bq c) :
    (dats m 0 c).arrAt 8 cfg0.N
      = (fun y : S4x384x256.Idx => (result wq bq (feats x Wd bd (y 0)) (y 1) (y 2) : EReal)) := by
  refine (dats m 0 c).arrAt_eq_of_covers 8 _ (by decide +kernel) fun t hf y => ?_
  blk_simp
  rw [after0_8]
  have ht : t.val < 4 := lt_of_lt_of_eq t.isLt points
  obtain ⟨o, i, rfl⟩ : ∃ (o : Fin 384) (i : Fin 256), y = (ix3 0 o i : S1x384x256.Idx) := ⟨y 1, y 2, by blk_ext⟩
  have e : (win0_8.blk t).view.emb (ix3 0 o i : S1x384x256.Idx) = (ix3 ⟨t.val, ht⟩ o i : S4x384x256.Idx) := by
    blk_ext [idx t]
  rw [e]
  exact out_coe _ _ _ _ _ _ _ _ _ _ _ _ _ (read0 H t _ rfl) (read1 H t ⟨t.val, ht⟩ rfl) (read2 H t) (read3 H t) (read4 H t) (read5 H t)
    (read6 H t) (read7 H t) o i

/-- The second result after the run. -/
theorem final9 {c : Dev nD} (H : Reals m x Wd bd wq bq c) :
    (dats m 0 c).arrAt 9 cfg0.N
      = (fun y : S4x256x1.Idx => (score wq bq (feats x Wd bd (y 0)) (y 1) : EReal)) := by
  refine (dats m 0 c).arrAt_eq_of_covers 9 _ (by decide +kernel) fun t hf y => ?_
  blk_simp
  rw [after0_9]
  have ht : t.val < 4 := lt_of_lt_of_eq t.isLt points
  obtain ⟨j, rfl⟩ : ∃ j : Fin 256, y = (ix3 0 j 0 : S1x256x1.Idx) := ⟨y 1, by blk_ext⟩
  have e : (win0_9.blk t).view.emb (ix3 0 j 0 : S1x256x1.Idx) = (ix3 ⟨t.val, ht⟩ j 0 : S4x256x1.Idx) := by
    blk_ext [idx t]
  rw [e]
  exact score_coe _ _ _ _ _ _ _ _ _ _ _ _ _ (read0 H t _ rfl) (read1 H t ⟨t.val, ht⟩ rfl) (read2 H t) (read3 H t) (read4 H t) (read5 H t)
    (read6 H t) (read7 H t) j

end Cert.CoarseValue
-- ==== Proof.CoarseEq.lean ====
module

public import proofs.«01_k».proof.Proof.CoarseRefReal
public import proofs.«01_k».proof.Proof.CoarseValue

@[expose] public section

set_option maxRecDepth 16384

noncomputable section

namespace Cert.CoarseEq

open Idealize.ShloMosaic Idealize.ShloMosaic.TcCoe
open Cert.CoarseRef Cert.CoarseValue
open Cert.CoarseBlock (sum_split feat result score)
open Cert.CoarseRefIdeal (S4x192x34x34 S384x192x4x4 S384 S4x12 S12 S4x384x256 S4x256x1)

variable (x : Fin 4 → Fin 192 → Fin 34 → Fin 34 → ℝ) (Wd : Fin 384 → Fin 192 → Fin 4 → Fin 4 → ℝ) (bd : Fin 384 → ℝ)
  (wq : Fin 4 → Fin 12 → ℝ) (bq : Fin 12 → ℝ)

/-- The kernel's one sum over taps and channels, and the reference's sixteen sums. -/
theorem taps (b : Fin 4) (o : Fin 384) (n : Fin 256) :
    bd o + ∑ t : Fin 16, tapR x Wd (t.val / 4) (t.val % 4) (by omega) (by omega) b o ⟨n / 16, by omega⟩ ⟨n % 16, by omega⟩ = feats x Wd bd b o n := by
  unfold feats feat
  rw [add_comm, sum_split 16 192 3072 (by norm_num)]
  congr 1
  refine Finset.sum_congr rfl fun t _ => ?_
  unfold tapR
  refine Finset.sum_congr rfl fun k _ => ?_
  rw [mul_comm]
  have e1 : (192 * t.val + k.val) % 192 = k.val := by omega
  have e2 : (192 * t.val + k.val) / 192 = t.val := by omega
  unfold patch flat at2 Cert.CoarsePrep.cell
  simp only [e1, e2]

variable (X : FVec Ideal S4x192x34x34 .f32) (W : FVec Ideal S384x192x4x4 .f32) (B : FVec Ideal S384 .f32)
  (Q : FVec Ideal S4x12 .f32) (C : FVec Ideal S12 .f32)
  (hX : ∀ b k r s, X (ix4 b k r s) = (x b k r s : EReal)) (hW : ∀ o k r s, W (ix4 o k r s) = (Wd o k r s : EReal))
  (hB : ∀ o, B (ix1 o) = (bd o : EReal)) (hQ : ∀ d r, Q (ix2 d r) = (wq d r : EReal)) (hC : ∀ r, C (ix1 r) = (bq r : EReal))
include hX hW hB hQ hC

/-- The reference's rows of queries, keys and values. -/
theorem heads (b : Fin 4) (h : Fin 96) (n : Fin 256) (r : Fin 12) :
    qkv (conv X W B) Q C (ix4 b h n r) = (Cert.CoarseBlock.rows wq bq (feats x Wd bd b) h r n : EReal) :=
  qkv_real wq bq (conv X W B) Q C (feats x Wd bd) (fun b o n => by rw [conv_real x Wd bd X W B hX hW hB, taps]) hQ hC b h n r

/-- The reference's first result. -/
theorem first : applied (qkv (conv X W B) Q C) = fun y : S4x384x256.Idx => (result wq bq (feats x Wd bd (y 0)) (y 1) (y 2) : EReal) := by
  funext y
  obtain ⟨b, o, i, rfl⟩ : ∃ (b : Fin 4) (o : Fin 384) (i : Fin 256), y = ix3 b o i := ⟨y 0, y 1, y 2, by funext a; fin_cases a <;> rfl⟩
  exact applied_real wq bq _ (feats x Wd bd) (heads x Wd bd wq bq X W B Q C hX hW hB hQ hC) b o i

/-- The reference's second result. -/
theorem second : summed (qkv (conv X W B) Q C) = fun y : S4x256x1.Idx => (score wq bq (feats x Wd bd (y 0)) (y 1) : EReal) := by
  funext y
  obtain ⟨b, j, rfl⟩ : ∃ (b : Fin 4) (j : Fin 256), y = ix3 b j 0 := ⟨y 0, y 1, by
    funext a; fin_cases a
    · rfl
    · rfl
    · exact Subsingleton.elim (α := Fin 1) _ _⟩
  exact summed_real wq bq _ (feats x Wd bd) (heads x Wd bd wq bq X W B Q C hX hW hB hQ hC) b j

end Cert.CoarseEq
-- ==== Proof.UpPick.lean ====
module

public import Idealize.ShloMosaic.Lib.SortFacts
public import Idealize.ShloMosaic.Lib.SortPrefix
public import Mathlib.Data.EReal.Operations
public import Mathlib.Data.Finset.Sort

@[expose] public section

noncomputable section

namespace Cert.UpPick

open Idealize.ShloMosaic

/-- Position `i` comes before position `j`: a greater score, or the same score at a lower position. -/
def Before {n : ℕ} (s : Fin n → EReal) (i j : Fin n) : Prop := s j < s i ∨ (s i = s j ∧ i < j)

open Classical in
/-- How many positions come before `j`. -/
def rank {n : ℕ} (s : Fin n → EReal) (j : Fin n) : ℕ := (Finset.univ.filter fun i => Before s i j).card

/-- The positions of the 64 greatest scores. -/
def best {n : ℕ} (s : Fin n → EReal) : Finset (Fin n) := Finset.univ.filter fun j => rank s j < 64

/-- A stable sort of a list in order, by a relation that agrees with the given one on later elements. -/
theorem stable_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The order in which a stable sort by descending score lists the positions. -/
def order {n : ℕ} (s : Fin n → EReal) : Fin n → Fin n := sortedFrom fun k k' => decide (s k' < s k)

open Classical in
/-- It is the order of `Before`. -/
theorem order_eq {n : ℕ} (s : Fin n → EReal) : order s = sortedFrom fun k k' => decide (s k' < s k) || (decide (s k = s k') && decide (k < k')) := by
  have h : sortPositions n (fun k k' => decide (s k' < s k))
      = sortPositions n (fun k k' => decide (s k' < s k) || (decide (s k = s k') && decide (k < k'))) := by
    refine stable_of_later _ _ _ ?_
    refine (List.pairwise_lt_finRange n).imp fun {a b} hab => ?_
    simp [not_lt_of_gt hab]
  funext k
  unfold order sortedFrom
  rw [List.get_of_eq h]
  rfl

open Classical in
theorem total {n : ℕ} (s : Fin n → EReal) :
    StrictTotalBefore fun k k' : Fin n => decide (s k' < s k) || (decide (s k = s k') && decide (k < k')) := by
  refine StrictTotalBefore.of_key_then_position (fun a b : EReal => decide (b < a)) s (fun a => by simp)
    (fun a b c hab hbc => ?_) (fun a b => ?_)
  · simp only [decide_eq_true_eq] at *
    exact hbc.trans hab
  · simp only [decide_eq_true_eq]
    rcases lt_trichotomy b a with h | h | h
    · exact Or.inl h
    · exact Or.inr (Or.inl h.symm)
    · exact Or.inr (Or.inr h)

/-- Earlier in the order is `Before`. -/
theorem before_iff {n : ℕ} (s : Fin n → EReal) (i j : Fin n) : Before s (order s i) (order s j) ↔ i < j := by
  classical
  have T := total s
  have key : ∀ a b : Fin n, Before s a b ↔ (decide (s b < s a) || (decide (s a = s b) && decide (a < b))) = true := by
    intro a b; simp [Before]
  have fwd : ∀ i j : Fin n, i < j → Before s (order s i) (order s j) := by
    intro i j hij
    have h := sortedFrom_noInversion (fun k k' : Fin n => decide (s k' < s k) || (decide (s k = s k') && decide (k < k'))) _
      (fun a b h => T.asymm a b h) (fun _ _ h => h) T.negTrans i j hij
    rw [← order_eq] at h
    have hne : order s i ≠ order s j := fun e => hij.ne (sortedFrom_injective _ e)
    rw [key]
    rcases T.total _ _ hne with h' | h'
    · exact h'
    · exact absurd (h'.symm.trans h) (by decide)
  constructor
  · intro h
    rcases lt_trichotomy i j with hij | hij | hij
    · exact hij
    · subst hij
      rw [key] at h
      exact absurd (h.symm.trans (T.irrefl _)) (by decide)
    · have h' := fwd j i hij
      rw [key] at h h'
      exact absurd (h'.symm.trans (T.asymm _ _ h)) (by decide)
  · exact fwd i j

/-- The rank of the element listed at place `p` is `p`. -/
theorem rank_order {n : ℕ} (s : Fin n → EReal) (p : Fin n) : rank s (order s p) = p.val := by
  classical
  have hb : Function.Bijective (order s) := ⟨sortedFrom_injective _, sortedFrom_surjective _⟩
  unfold rank
  have : (Finset.univ.filter fun i => Before s i (order s p)) = (Finset.Iio p).image (order s) := by
    ext i
    obtain ⟨k, rfl⟩ := hb.2 i
    simp only [Finset.mem_filter, Finset.mem_univ, true_and, before_iff, Finset.mem_image, Finset.mem_Iio]
    exact ⟨fun h => ⟨k, h, rfl⟩, fun ⟨k', h, e⟩ => hb.1 e ▸ h⟩
  rw [this, Finset.card_image_of_injective _ hb.1]
  simp

/-- Each position is listed once. -/
theorem order_injective {n : ℕ} (s : Fin n → EReal) : Function.Injective (order s) := sortedFrom_injective _

/-- Each position is listed. -/
theorem order_surjective {n : ℕ} (s : Fin n → EReal) : Function.Surjective (order s) := sortedFrom_surjective _

/-- The first 64 places of the order. -/
def pick (s : Fin 256 → EReal) (k : Fin 64) : Fin 256 := order s ⟨k.val, by omega⟩

theorem pick_injective (s : Fin 256 → EReal) : Function.Injective (pick s) := by
  intro a b h
  have h' := congrArg Fin.val (order_injective s h)
  exact Fin.ext h'

theorem best_eq (s : Fin 256 → EReal) : best s = Finset.univ.image (pick s) := by
  ext j
  obtain ⟨p, rfl⟩ : ∃ p, order s p = j := order_surjective s j
  simp only [best, Finset.mem_filter, Finset.mem_univ, true_and, rank_order, Finset.mem_image]
  exact ⟨fun h => ⟨⟨p.val, h⟩, rfl⟩, fun ⟨k, e⟩ => by
    have := order_injective s e
    rw [← this]
    exact k.isLt⟩

theorem best_card (s : Fin 256 → EReal) : (best s).card = 64 := by
  rw [best_eq, Finset.card_image_of_injective _ (pick_injective s)]
  rfl

/-- The picked positions in increasing order. -/
def up (s : Fin 256 → EReal) (k : Fin 64) : Fin 256 := (best s).orderEmbOfFin (best_card s) k

theorem up_mem (s : Fin 256 → EReal) (k : Fin 64) : up s k ∈ best s := Finset.orderEmbOfFin_mem _ _ _

theorem up_injective (s : Fin 256 → EReal) : Function.Injective (up s) := ((best s).orderEmbOfFin (best_card s)).injective

theorem up_surj (s : Fin 256 → EReal) (i : Fin 256) (h : i ∈ best s) : ∃ k, up s k = i := by
  have : i ∈ Set.range ((best s).orderEmbOfFin (best_card s)) := by rw [Finset.range_orderEmbOfFin]; exact h
  exact this

/-- How many picked positions are below `i`. -/
def place (s : Fin 256 → EReal) (i : Fin 256) : ℕ := ((best s).filter (· < i)).card

theorem place_up (s : Fin 256 → EReal) (k : Fin 64) : place s (up s k) = k.val := by
  unfold place
  have : (best s).filter (· < up s k) = (Finset.Iio k).image (up s) := by
    ext i
    simp only [Finset.mem_filter, Finset.mem_image, Finset.mem_Iio]
    constructor
    · rintro ⟨h, hlt⟩
      obtain ⟨k', rfl⟩ := up_surj s i h
      exact ⟨k', ((best s).orderEmbOfFin (best_card s)).lt_iff_lt.mp hlt, rfl⟩
    · rintro ⟨k', h, rfl⟩
      exact ⟨up_mem s k', ((best s).orderEmbOfFin (best_card s)).lt_iff_lt.mpr h⟩
  rw [this, Finset.card_image_of_injective _ (up_injective s)]
  simp

/-- A picked position is at place `k` exactly when it is the `k`-th. -/
theorem picked_iff (s : Fin 256 → EReal) (i : Fin 256) (k : Fin 64) : (i ∈ best s ∧ place s i = k.val) ↔ i = up s k := by
  constructor
  · rintro ⟨h, hp⟩
    obtain ⟨k', rfl⟩ := up_surj s i h
    rw [place_up] at hp
    rw [Fin.ext hp]
  · rintro rfl
    exact ⟨up_mem s k, place_up s k⟩

/-- A sum over the picked positions, in either order. -/
theorem sum_pick {M : Type} [AddCommMonoid M] (s : Fin 256 → EReal) (f : Fin 256 → M) : ∑ k, f (pick s k) = ∑ i ∈ best s, f i := by
  rw [best_eq, Finset.sum_image fun a _ b _ h => pick_injective s h]

theorem sum_up {M : Type} [AddCommMonoid M] (s : Fin 256 → EReal) (f : Fin 256 → M) : ∑ k, f (up s k) = ∑ i ∈ best s, f i := by
  have : best s = Finset.univ.image (up s) := by
    ext i
    simp only [Finset.mem_image, Finset.mem_univ, true_and]
    exact ⟨up_surj s i, fun ⟨k, e⟩ => e ▸ up_mem s k⟩
  rw [this, Finset.sum_image fun a _ b _ h => up_injective s h]

end Cert.UpPick
-- ==== Proof.UpMask.lean ====
module

public import proofs.«01_k».proof.Proof.Gen.UpIdeal.Frame
public import proofs.«01_k».proof.Proof.UpPick
public import Idealize.ShloMosaic.Lib.Pointwise

@[expose] public section

set_option maxRecDepth 16384

noncomputable section

namespace Cert.UpMask

open Cert.UpIdeal Cert.UpIdeal.Gen Cert.UpPick Idealize.ShloMosaic Idealize.ShloMosaic.TcCoe

/-- A word read as a number. -/
theorem read_word (b : BitVec 32) : (FloatOps.sitofp (F := Ideal) FTy.f32 b : EReal) = ((b.toInt : ℝ) : EReal) := rfl

/-- A truth value read as a number is one when true and zero when not. -/
theorem flag (P : Prop) [Decidable P] : (FloatOps.sitofp (F := Ideal) FTy.f32 (BitVec.setWidth 32 (BitVec.ofBool (decide P))) : EReal) = if P then 1 else 0 := by
  rw [read_word]
  by_cases h : P <;> simp [h]

/-- The bitwise form of one of two comparisons. -/
theorem or_or (a b : Bool) : IntOp.ori (BitVec.ofBool a) (BitVec.ofBool b) = BitVec.ofBool (a || b) := by
  revert a b; decide

/-- The bitwise form of two comparisons. -/
theorem and_and (b c : Bool) : IntOp.andi (BitVec.ofBool b) (BitVec.ofBool c) = BitVec.ofBool (b && c) := by
  revert b c; decide

/-- A position as an integer. -/
theorem toInt_pos (x : Fin 256) : (BitVec.ofNat 32 x.val).toInt = (x.val : ℤ) := by revert x; decide +kernel

/-- Comparing positions as words. -/
theorem slt_pos (x n : Fin 256) : IntOp.cmpi CmpIPredicate.slt (BitVec.ofNat 32 x.val) (BitVec.ofNat 32 n.val) = BitVec.ofBool (decide (x < n)) := by
  unfold IntOp.cmpi
  simp only [BitVec.slt, toInt_pos]
  refine congrArg BitVec.ofBool (decide_eq_decide.mpr ?_)
  rw [Nat.cast_lt]
  exact Fin.lt_def.symm

/-- Equal positions as words. -/
theorem eq_pos (x n : Fin 256) : IntOp.cmpi CmpIPredicate.eq (BitVec.ofNat 32 x.val) (BitVec.ofNat 32 n.val) = BitVec.ofBool (decide (x = n)) := by
  unfold IntOp.cmpi
  by_cases h : x = n
  · simp [h]
  · have : BitVec.ofNat 32 x.val ≠ BitVec.ofNat 32 n.val := fun e => h (Fin.ext (by
      have := congrArg BitVec.toInt e
      rw [toInt_pos, toInt_pos] at this
      exact_mod_cast this))
    rw [decide_eq_false h, beq_false_of_ne this]

/-- The last two bits of a position. -/
theorem low_bits (x : Fin 256) (s : Fin 4) : IntOp.cmpi CmpIPredicate.eq (IntOp.andi (BitVec.ofNat 32 x.val) 3#32) (BitVec.ofNat 32 s.val) = BitVec.ofBool (decide (x.val % 4 = s.val)) := by
  revert x s; decide +kernel

/-- Membership of a position in the four columns of a picked region. -/
theorem four_cols (t : Fin 256) (x : Fin 64) : IntOp.andi (IntOp.cmpi CmpIPredicate.sge (BitVec.ofNat 32 t.val) (IntOp.muli (4#32) (BitVec.ofNat 32 x.val)))
    (IntOp.cmpi CmpIPredicate.slt (BitVec.ofNat 32 t.val) (IntOp.addi (IntOp.muli (4#32) (BitVec.ofNat 32 x.val)) 4#32))
    = BitVec.ofBool (decide (x = ⟨t.val / 4, by omega⟩)) := by
  revert t x; decide +kernel

/-- A sum of ones over the positions with a property counts them. -/
theorem count {n : ℕ} (P : Fin n → Prop) [DecidablePred P] : (∑ i, if P i then (1 : EReal) else 0) = ((Finset.univ.filter P).card : EReal) := by
  rw [Finset.sum_ite, Finset.sum_const_zero, add_zero, Finset.sum_const, nsmul_one]

/-- The word of the number 64. -/
theorem sixty_four : Ideal.ofBits .f32 1115684864#32 = ((64 : ℕ) : EReal) := by
  have : Ideal.ofBits .f32 1115684864#32 = ((64 : ℝ) : EReal) := by
    simp [Ideal.ofBits, Ideal.ieee]
    rw [← EReal.coe_mul]
    norm_num
  rw [this]
  rfl

/-- A whole number read back from its real value. -/
theorem read_back (i : Fin 256) : (FloatOps.fptosi (F := Ideal) (φ := FTy.f32) 32 ((i.val : ℕ) : EReal) : BitVec 32) = BitVec.ofNat 32 i.val := by
  have h : FloatOps.fptosi (F := Ideal) (φ := FTy.f32) 32 ((i.val : ℕ) : EReal)
      = BitVec.ofInt 32 (max (-2147483648) (min 2147483647 (if (0 : ℝ) ≤ ((i.val : ℕ) : ℝ) then ⌊((i.val : ℕ) : ℝ)⌋ else ⌈((i.val : ℕ) : ℝ)⌉))) := rfl
  rw [h, if_pos (Nat.cast_nonneg _), Int.floor_natCast, min_eq_right (by omega), max_eq_right (by omega), BitVec.ofInt_natCast]

variable (x0 : Vec Ideal S1x384x256 .f32) (x1 : Vec Ideal S1x256x1 .f32) (x2 : Vec Ideal S16x192x384 .f32) (x3 : Vec Ideal S192x1 .f32)
  (x4 : Vec Ideal S96x32 .f32) (x5 : Vec Ideal S96x1 .f32)

/-- The scores of a block. -/
def sc (x1 : Vec Ideal S1x256x1 .f32) (n : Fin 256) : EReal := x1 (ix3 0 n 0)

open Classical in
/-- The mask is one at the 64 best positions. -/
theorem mask (z : Fin 1) (n : Fin 256) : k0_pay22 x1 (ix2 z n) = if n ∈ best (sc x1) then (1 : EReal) else 0 := by
  obtain rfl : z = 0 := Subsingleton.elim _ _
  pointwise [k0_pay22]
  simp only [slt_pos, or_or, and_and, Finset.sum_const, Finset.card_univ, Fintype.card_fin, one_smul]
  have key : ∀ x : Fin 256, (decide (x1 (ix3 0 n 0) < x1 (ix3 0 x 0)) || decide (x1 (ix3 0 x 0) = x1 (ix3 0 n 0)) && decide (x < n))
      = decide (Before (sc x1) x n) := by
    intro x
    by_cases h : x1 (ix3 0 n 0) < x1 (ix3 0 x 0) <;> by_cases h' : x1 (ix3 0 x 0) = x1 (ix3 0 n 0) <;> by_cases h'' : x < n <;>
      simp [Before, sc, h, h', h'']
  simp only [key]
  simp only [flag]
  refine if_congr ?_ rfl rfl
  rw [count, sixty_four, best, Finset.mem_filter, rank]
  simp only [Finset.mem_univ, true_and]
  exact EReal.natCast_lt_iff

open Classical in
/-- The mask, repeated along the columns. -/
theorem maskCol (n : Fin 256) (k : Fin 64) : k0_pay24 x1 (ix2 n k) = if n ∈ best (sc x1) then (1 : EReal) else 0 := by
  pointwise [k0_pay24]
  simp only [mask]
  have : ∀ z : Fin 1, k0_pay23 (F := Ideal) (ix2 z k) = (1 : EReal) := by
    intro z
    pointwise [k0_pay23]
  simp only [this, mul_one, Finset.sum_const, Finset.card_univ, Fintype.card_fin, one_smul]

open Classical in
/-- The test that a position has `k` picked positions below it. -/
theorem placeCol (n : Fin 256) (k : Fin 64) : k0_pay25 x1 (ix2 n k) = BitVec.ofBool (decide (place (sc x1) n = k.val)) := by
  pointwise [k0_pay25]
  have h1 : ∀ z : Fin 1, k0_pay23 (F := Ideal) (ix2 z k) = (1 : EReal) := by
    intro z
    pointwise [k0_pay23]
  have h2 : (FloatOps.sitofp (F := Ideal) FTy.f32 (BitVec.ofNat 32 k.val) : EReal) = ((k.val : ℕ) : EReal) := by
    rw [read_word, show (k.val) = ((⟨k.val, by omega⟩ : Fin 256)).val from rfl, toInt_pos]
    rfl
  simp only [mask, slt_pos, flag, h1, h2, mul_one, Finset.sum_const, Finset.card_univ, Fintype.card_fin, one_smul]
  have h3 : ∀ i : Fin 256, (if i ∈ best (sc x1) then (1 : EReal) else 0) * (if i < n then (1 : EReal) else 0)
      = if i ∈ (best (sc x1)).filter (· < n) then (1 : EReal) else 0 := by
    intro i
    by_cases h : i ∈ best (sc x1) <;> by_cases h' : i < n <;> simp [h, h']
  simp only [h3]
  rw [count]
  refine congrArg BitVec.ofBool (decide_eq_decide.mpr ?_)
  rw [Finset.filter_univ_mem]
  unfold place
  exact Nat.cast_inj

/-- The column of each token names the region it belongs to. -/
theorem named (z : Fin 1) (t : Fin 256) : k0_pay139 x0 x1 x2 x3 x4 x5 (ix2 z t) = (((up (sc x1) ⟨t.val / 4, by omega⟩).val : ℕ) : EReal) := by
  classical
  obtain rfl : z = 0 := Subsingleton.elim _ _
  have h2 : ∀ x : Fin 256, (FloatOps.sitofp (F := Ideal) FTy.f32 (BitVec.ofNat 32 x.val) : EReal) = ((x.val : ℕ) : EReal) := by
    intro x
    rw [read_word, toInt_pos]
    rfl
  have hs : sc (View.ld x1 r0_18) = sc x1 := by
    funext n
    unfold sc
    pointwise []
  have e7 : ∀ (n : Fin 256) (k : Fin 64), k0_pay137 x0 x1 x2 x3 x4 x5 (ix2 n k) = if n ∈ best (sc x1) then (1 : EReal) else 0 := by
    intro n k
    unfold k0_pay137
    rw [maskCol, hs]
  have e8 : ∀ (n : Fin 256) (k : Fin 64), k0_pay138 x0 x1 x2 x3 x4 x5 (ix2 n k) = BitVec.ofBool (decide (place (sc x1) n = k.val)) := by
    intro n k
    unfold k0_pay138
    rw [placeCol, hs]
  pointwise [k0_pay139, k0_pay26]
  simp only [four_cols, flag, h2, e7, e8]
  have h3 : ∀ (i : Fin 256) (k : Fin 64), (((i.val : ℕ) : EReal) * ((if i ∈ best (sc x1) then (1 : EReal) else 0) * (if place (sc x1) i = k.val then (1 : EReal) else 0)))
      = if i = up (sc x1) k then ((i.val : ℕ) : EReal) else 0 := by
    intro i k
    rw [← if_congr (picked_iff (sc x1) i k) rfl rfl]
    by_cases h : i ∈ best (sc x1) <;> by_cases h' : place (sc x1) i = k.val <;> simp [h, h']
  simp only [h3]
  simp only [Finset.sum_ite_eq', Finset.sum_ite_eq, Finset.mem_univ, if_true, mul_ite, mul_one, mul_zero]

/-- The same, as a word. -/
theorem word (z : Fin 1) (t : Fin 256) : k0_pay140 x0 x1 x2 x3 x4 x5 (ix2 z t) = BitVec.ofNat 32 (up (sc x1) ⟨t.val / 4, by omega⟩).val := by
  have h := named x0 x1 x2 x3 x4 x5 z t
  unfold k0_pay139 at h
  pointwise [k0_pay140, k0_pay27]
  rw [h]
  exact read_back _

/-- The same, along the other axis. -/
theorem wordRow (t n : Fin 256) : k0_pay156 x0 x1 x2 x3 x4 x5 (ix2 t n) = BitVec.ofNat 32 (up (sc x1) ⟨t.val / 4, by omega⟩).val := by
  pointwise [k0_pay156, k0_pay119]
  simp only [named, Finset.sum_const, Finset.card_univ, Fintype.card_fin, one_smul]
  exact read_back _

/-- The four phases of the upsampled image. -/
def ph : Fin 4 → FVec Ideal S192x256 .f32 :=
  ![k0_pay131 x0 x1 x2 x3 x4 x5, k0_pay132 x0 x1 x2 x3 x4 x5, k0_pay133 x0 x1 x2 x3 x4 x5, k0_pay136 x0 x1 x2 x3 x4 x5]

/-- One phase read at the picked regions, in the columns of that phase. -/
theorem picked (y : FVec Ideal S192x256 .f32) (o : Fin 192) (u : Fin 256) (n : Fin 256) (s : Fin 4) :
    ∑ x : Fin 256, y (ix2 o x) * (FloatOps.sitofp (F := Ideal) FTy.f32 (BitVec.setWidth 32 (IntOp.andi (IntOp.cmpi CmpIPredicate.eq (BitVec.ofNat 32 x.val) (BitVec.ofNat 32 u.val))
      (IntOp.cmpi CmpIPredicate.eq (IntOp.andi (BitVec.ofNat 32 n.val) 3#32) (BitVec.ofNat 32 s.val)))) : EReal)
      = if n.val % 4 = s.val then y (ix2 o u) else 0 := by
  simp only [eq_pos, low_bits, and_and, ← Bool.decide_and, flag]
  by_cases h : n.val % 4 = s.val
  · simp [h]
  · simp [h]

/-- The tokens: the four phases of each picked region. -/
theorem tokens (o : Fin 192) (n : Fin 256) : k0_pay144 x0 x1 x2 x3 x4 x5 (ix2 o n)
    = ph x0 x1 x2 x3 x4 x5 ⟨n.val % 4, by omega⟩ (ix2 o (up (sc x1) ⟨n.val / 4, by omega⟩)) := by
  have h := word x0 x1 x2 x3 x4 x5 0 n
  have h' := h
  unfold k0_pay140 at h'
  pointwise [k0_pay144, k0_pay134, k0_pay135, k0_pay28,k0_pay29,k0_pay30,k0_pay31,k0_pay141,k0_pay142,k0_pay143]
  rw [h, h']
  refine (congr (congrArg HAdd.hAdd (congr (congrArg HAdd.hAdd (congr (congrArg HAdd.hAdd (picked _ o _ n 0)) (picked _ o _ n 1))) (picked _ o _ n 2))) (picked _ o _ n 3)).trans ?_
  have h4 : ∀ (r : Fin 4) (f : Fin 4 → EReal), (if r.val = (0 : Fin 4).val then f 0 else 0) + (if r.val = (1 : Fin 4).val then f 1 else 0)
      + (if r.val = (2 : Fin 4).val then f 2 else 0) + (if r.val = (3 : Fin 4).val then f 3 else 0) = f r := by
    intro r f
    fin_cases r <;> simp
  exact h4 ⟨n.val % 4, by omega⟩ fun s => ph x0 x1 x2 x3 x4 x5 s (ix2 o (up (sc x1) ⟨n.val / 4, by omega⟩))

end Cert.UpMask
-- ==== Proof.UpPhase.lean ====
module

public import proofs.«01_k».proof.Proof.UpMask
public import Idealize.ShloMosaic.Lib.Pointwise

@[expose] public section

set_option maxRecDepth 16384

noncomputable section

namespace Cert.UpPhase

open Cert.UpIdeal Cert.UpIdeal.Gen Cert.UpMask Idealize.ShloMosaic Idealize.ShloMosaic.TcCoe

/-- The entry of a flat 16 by 16 image `dy - 1` rows below and `dx - 1` columns right of entry `n`, zero outside the image. -/
def near (f : Fin 256 → EReal) (dy dx : Nat) (n : Fin 256) : EReal :=
  if h : 1 ≤ n.val / 16 + dy ∧ n.val / 16 + dy ≤ 16 ∧ 1 ≤ n.val % 16 + dx ∧ n.val % 16 + dx ≤ 16 then
    f ⟨16 * (n.val / 16 + dy - 1) + (n.val % 16 + dx - 1), by omega⟩ else 0

/-- One tap of phase `(r, t)` of the transposed convolution: kernel row `1 - r + 2 i`, kernel column `1 - t + 2 j`. -/
def tap (X : Fin 384 → Fin 256 → EReal) (W : Fin 16 → Fin 192 → Fin 384 → EReal) (r t i j : Fin 2) (o : Fin 192) (n : Fin 256) : EReal :=
  ∑ c, W ⟨4 * (1 - r.val + 2 * i.val) + (1 - t.val + 2 * j.val), by omega⟩ o c * near (X c) (1 + r.val - i.val) (1 + t.val - j.val) n

/-- Phase `(r, t)` of the transposed convolution: the bias and four taps. -/
def phase (X : Fin 384 → Fin 256 → EReal) (W : Fin 16 → Fin 192 → Fin 384 → EReal) (b : Fin 192 → EReal) (r t : Fin 2) (o : Fin 192) (n : Fin 256) : EReal :=
  b o + tap X W r t 0 0 o n + tap X W r t 0 1 o n + tap X W r t 1 0 o n + tap X W r t 1 1 o n

/-- Choosing by the test that an entry is not in the first column. -/
theorem first_column (n : Fin 256) (a b : EReal) :
    Scalar.select (IntOp.cmpi CmpIPredicate.sge (IntOp.andi (BitVec.ofNat 32 n.val) 15#32) 1#32) a b = if 1 ≤ n.val % 16 then a else b := by
  have h : ∀ n : Fin 256, (IntOp.cmpi CmpIPredicate.sge (IntOp.andi (BitVec.ofNat 32 n.val) 15#32) 1#32 = 1) ↔ 1 ≤ n.val % 16 := by decide +kernel
  exact if_congr (h n) rfl rfl

/-- Choosing by the test that an entry is not in the last column. -/
theorem last_column (n : Fin 256) (a b : EReal) :
    Scalar.select (IntOp.cmpi CmpIPredicate.slt (IntOp.andi (BitVec.ofNat 32 n.val) 15#32) 15#32) a b = if n.val % 16 < 15 then a else b := by
  have h : ∀ n : Fin 256, (IntOp.cmpi CmpIPredicate.slt (IntOp.andi (BitVec.ofNat 32 n.val) 15#32) 15#32 = 1) ↔ n.val % 16 < 15 := by decide +kernel
  exact if_congr (h n) rfl rfl

/-- A shifted image without column test. -/
theorem up_rows (f : Fin 256 → EReal) (w : EReal) (n : Fin 256) :
    (w * if h : n.val < 16 then 0 else f ⟨n.val - 16, by omega⟩) = w * near f 0 1 n := by
  unfold near
  split_ifs <;> first
    | omega
    | rfl
    | (refine congrArg (w * f ·) (Fin.ext ?_); simp only []; omega)

/-- A shifted image without column test. -/
theorem down_rows (f : Fin 256 → EReal) (w : EReal) (n : Fin 256) :
    (w * if h : n.val < 240 then f ⟨16 + n.val, by omega⟩ else 0) = w * near f 2 1 n := by
  unfold near
  split_ifs <;> first
    | omega
    | rfl
    | (refine congrArg (w * f ·) (Fin.ext ?_); simp only []; omega)

/-- An image shifted towards the end, first column left out. -/
theorem from_left (f : Fin 256 → EReal) (w : EReal) (n : Fin 256) (k dy : ℕ) (hk : k = 1 ∧ dy = 1 ∨ k = 17 ∧ dy = 0) :
    Scalar.select (IntOp.cmpi CmpIPredicate.sge (IntOp.andi (BitVec.ofNat 32 n.val) 15#32) 1#32) (w * if h : n.val < k then 0 else f ⟨n.val - k, by omega⟩) 0
      = w * near f dy 0 n := by
  rw [first_column]
  unfold near
  split_ifs <;> first
    | omega
    | rfl
    | rw [mul_zero]
    | (refine congrArg (w * f ·) (Fin.ext ?_); simp only []; omega)

/-- An image shifted towards the start, first column left out. -/
theorem from_below_left (f : Fin 256 → EReal) (w : EReal) (n : Fin 256) :
    Scalar.select (IntOp.cmpi CmpIPredicate.sge (IntOp.andi (BitVec.ofNat 32 n.val) 15#32) 1#32) (w * if h : n.val < 241 then f ⟨15 + n.val, by omega⟩ else 0) 0
      = w * near f 2 0 n := by
  rw [first_column]
  unfold near
  split_ifs <;> first
    | omega
    | rfl
    | rw [mul_zero]
    | (refine congrArg (w * f ·) (Fin.ext ?_); simp only []; omega)

/-- An image shifted towards the end, last column left out. -/
theorem from_above_right (f : Fin 256 → EReal) (w : EReal) (n : Fin 256) :
    Scalar.select (IntOp.cmpi CmpIPredicate.slt (IntOp.andi (BitVec.ofNat 32 n.val) 15#32) 15#32) (w * if h : n.val < 15 then 0 else f ⟨n.val - 15, by omega⟩) 0
      = w * near f 0 2 n := by
  rw [last_column]
  unfold near
  split_ifs <;> first
    | omega
    | rfl
    | rw [mul_zero]
    | (refine congrArg (w * f ·) (Fin.ext ?_); simp only []; omega)

/-- An image shifted towards the start, last column left out. -/
theorem from_right (f : Fin 256 → EReal) (w : EReal) (n : Fin 256) (k l dy : ℕ) (hk : k = 1 ∧ l = 255 ∧ dy = 1 ∨ k = 17 ∧ l = 239 ∧ dy = 2) :
    Scalar.select (IntOp.cmpi CmpIPredicate.slt (IntOp.andi (BitVec.ofNat 32 n.val) 15#32) 15#32) (w * if h : n.val < l then f ⟨k + n.val, by omega⟩ else 0) 0
      = w * near f dy 2 n := by
  rw [last_column]
  unfold near
  split_ifs <;> first
    | omega
    | rfl
    | rw [mul_zero]
    | (refine congrArg (w * f ·) (Fin.ext ?_); simp only []; omega)

/-- The image itself. -/
theorem itself (f : Fin 256 → EReal) (w : EReal) (n : Fin 256) : w * f n = w * near f 1 1 n := by
  unfold near
  rw [dif_pos (by omega)]
  refine congrArg (w * f ·) (Fin.ext ?_)
  simp only []
  omega

variable (x0 : Vec Ideal S1x384x256 .f32) (x1 : Vec Ideal S1x256x1 .f32) (x2 : Vec Ideal S16x192x384 .f32) (x3 : Vec Ideal S192x1 .f32)
  (x4 : Vec Ideal S96x32 .f32) (x5 : Vec Ideal S96x1 .f32)

/-- The phases of a block. -/
def blockPhase (x0 : Vec Ideal S1x384x256 .f32) (x2 : Vec Ideal S16x192x384 .f32) (x3 : Vec Ideal S192x1 .f32) : Fin 2 → Fin 2 → Fin 192 → Fin 256 → EReal :=
  phase (fun c n => x0 (ix3 0 c n)) (fun k o c => x2 (ix3 k o c)) (fun o => x3 (ix2 o 0))

/-- Equal summands give equal sums. -/
theorem add_eq {a b c d : EReal} (h : a = b) (k : c = d) : a + c = b + d := by rw [h, k]

/-- Phase (0, 0). -/
theorem phase00 (o : Fin 192) (n : Fin 256) : k0_pay131 x0 x1 x2 x3 x4 x5 (ix2 o n) = blockPhase x0 x2 x3 0 0 o n := by
  pointwise [k0_pay131, k0_pay125, k0_pay126, k0_pay127, k0_pay128, k0_pay129, k0_pay130, k0_pay3, k0_pay4, k0_pay5, k0_pay7, k0_pay14, k0_pay15]
  exact add_eq (add_eq (add_eq (add_eq (by pointwise [k0_pay13]) (Finset.sum_congr rfl fun c _ => itself (fun n => x0 (ix3 0 c n)) _ n))
    (Finset.sum_congr rfl fun c _ => from_left (fun n => x0 (ix3 0 c n)) _ n 1 1 (by omega)))
    (Finset.sum_congr rfl fun c _ => up_rows (fun n => x0 (ix3 0 c n)) _ n))
    (Finset.sum_congr rfl fun c _ => from_left (fun n => x0 (ix3 0 c n)) _ n 17 0 (by omega))

/-- Phase (0, 1). -/
theorem phase01 (o : Fin 192) (n : Fin 256) : k0_pay132 x0 x1 x2 x3 x4 x5 (ix2 o n) = blockPhase x0 x2 x3 0 1 o n := by
  pointwise [k0_pay132, k0_pay125, k0_pay126, k0_pay127, k0_pay128, k0_pay129, k0_pay130, k0_pay3, k0_pay4, k0_pay5, k0_pay6, k0_pay7, k0_pay8, k0_pay9, k0_pay13, k0_pay16, k0_pay17]
  exact add_eq (add_eq (add_eq (add_eq rfl (Finset.sum_congr rfl fun c _ => from_right (fun n => x0 (ix3 0 c n)) _ n 1 255 1 (by omega)))
    (Finset.sum_congr rfl fun c _ => itself (fun n => x0 (ix3 0 c n)) _ n))
    (Finset.sum_congr rfl fun c _ => from_above_right (fun n => x0 (ix3 0 c n)) _ n))
    (Finset.sum_congr rfl fun c _ => up_rows (fun n => x0 (ix3 0 c n)) _ n)

/-- Phase (1, 0). -/
theorem phase10 (o : Fin 192) (n : Fin 256) : k0_pay133 x0 x1 x2 x3 x4 x5 (ix2 o n) = blockPhase x0 x2 x3 1 0 o n := by
  pointwise [k0_pay133, k0_pay125, k0_pay126, k0_pay127, k0_pay128, k0_pay129, k0_pay130, k0_pay3, k0_pay7, k0_pay10, k0_pay11, k0_pay13, k0_pay18]
  exact add_eq (add_eq (add_eq (add_eq (by pointwise [k0_pay13]) (Finset.sum_congr rfl fun c _ => down_rows (fun n => x0 (ix3 0 c n)) _ n))
    (Finset.sum_congr rfl fun c _ => from_below_left (fun n => x0 (ix3 0 c n)) _ n))
    (Finset.sum_congr rfl fun c _ => itself (fun n => x0 (ix3 0 c n)) _ n))
    (Finset.sum_congr rfl fun c _ => from_left (fun n => x0 (ix3 0 c n)) _ n 1 1 (by omega))

/-- Phase (1, 1). -/
theorem phase11 (o : Fin 192) (n : Fin 256) : k0_pay136 x0 x1 x2 x3 x4 x5 (ix2 o n) = blockPhase x0 x2 x3 1 1 o n := by
  pointwise [k0_pay136, k0_pay125, k0_pay126, k0_pay127, k0_pay128, k0_pay129, k0_pay130, k0_pay3, k0_pay8, k0_pay9, k0_pay11, k0_pay12, k0_pay13, k0_pay19, k0_pay20, k0_pay21]
  exact add_eq (add_eq (add_eq (add_eq rfl (Finset.sum_congr rfl fun c _ => from_right (fun n => x0 (ix3 0 c n)) _ n 17 239 2 (by omega)))
    (Finset.sum_congr rfl fun c _ => down_rows (fun n => x0 (ix3 0 c n)) _ n))
    (Finset.sum_congr rfl fun c _ => from_right (fun n => x0 (ix3 0 c n)) _ n 1 255 1 (by omega)))
    (Finset.sum_congr rfl fun c _ => itself (fun n => x0 (ix3 0 c n)) _ n)

/-- The four phases the kernel computes. -/
theorem ph_eq (s : Fin 4) (o : Fin 192) (n : Fin 256) :
    ph x0 x1 x2 x3 x4 x5 s (ix2 o n) = blockPhase x0 x2 x3 ⟨s.val / 2, by omega⟩ ⟨s.val % 2, by omega⟩ o n := by
  fin_cases s
  · exact phase00 x0 x1 x2 x3 x4 x5 o n
  · exact phase01 x0 x1 x2 x3 x4 x5 o n
  · exact phase10 x0 x1 x2 x3 x4 x5 o n
  · exact phase11 x0 x1 x2 x3 x4 x5 o n

end Cert.UpPhase
-- ==== Proof.UpOps.lean ====
module

public import proofs.«01_k».proof.Proof.Gen.UpIdeal.Frame
public import Idealize.ShloMosaic.Lib.Pointwise

@[expose] public section

set_option maxRecDepth 16384

noncomputable section

namespace Cert.UpOps

open Cert.UpIdeal Cert.UpIdeal.Gen Idealize.ShloMosaic Idealize.ShloMosaic.TcCoe

variable {F : FTy → Type} [FloatOps F]

/-- The six groups of 32 rows lie inside the 192 rows. -/
theorem groupSlices : ∀ g : Fin 6, S192x256.Slices ![32 * g.val, 0] S32x256 := by decide +kernel

/-- The query rows of a head lie inside the 96 rows. -/
theorem queryRows : ∀ p : Fin 8, S96x256.Slices ![12 * p.val, 0] S4x256 := by decide +kernel

/-- The key rows of a head lie inside the 96 rows. -/
theorem keyRows : ∀ p : Fin 8, S96x256.Slices ![12 * p.val + 4, 0] S4x256 := by decide +kernel

/-- The value rows of a head lie inside the 96 rows. -/
theorem valueRows : ∀ p : Fin 8, S96x256.Slices ![12 * p.val + 8, 0] S4x256 := by decide +kernel

/-- Queries, keys and values of the eight heads of group `g`. -/
def qkv (X : FVec F S192x256 .f32) (w : FVec F S96x32 .f32) (b : FVec F S96x1 .f32) (g : Fin 6) : FVec F S96x256 .f32 :=
  addf (matmul dot_S96x32_S32x256_S96x256_1_0_0_1_n_n none w (extractStridedSlice S32x256 ![32 * g.val, 0] X (groupSlices g))
    (constant S96x256 .f32 0x00000000#32)) (broadcastTo S96x256 b broadcasts_S96x1_S96x256)

/-- The exponentials of the scores. -/
def expo (q k : FVec F S4x256 .f32) : FVec F S256x256 .f32 :=
  exp (matmul dot_S4x256_S4x256_S256x256_0_0_1_1_n_n none q k (constant S256x256 .f32 0x00000000#32))

/-- Values combined with exponentials, each column then divided by the sum of its exponentials. -/
def combine (v : FVec F S4x256 .f32) (e : FVec F S256x256 .f32) : FVec F S4x256 .f32 :=
  mulf (matmul dot_S4x256_S256x256_S4x256_1_0_0_1_n_n none v e (constant S4x256 .f32 0x00000000#32))
    (broadcastTo S4x256 (divf (broadcast S1x256 (Scalar.ofBits .f32 0x3F800000#32))
      (shapeCast S1x256 (multiReduction .add [0] S256 e 0x00000000#32 reduces_S256x256_S256 (.inl rfl) rfl)
        shapeCasts_S256_S1x256)) broadcasts_S1x256_S4x256)

/-- What head `p` returns. -/
def headOut (Q : FVec F S96x256 .f32) (p : Fin 8) : FVec F S4x256 .f32 :=
  combine (extractStridedSlice S4x256 ![12 * p.val + 8, 0] Q (valueRows p))
    (expo (extractStridedSlice S4x256 ![12 * p.val, 0] Q (queryRows p)) (extractStridedSlice S4x256 ![12 * p.val + 4, 0] Q (keyRows p)))

/-- What the 48 heads return, one under another. -/
def stack (u : Fin 48 → FVec F S4x256 .f32) : FVec F S192x256 .f32 :=
  concatenate S192x256 0 (List.ofFn fun n : Fin 48 => ⟨S4x256, u n⟩)
    concatenates_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S4x256_S192x256_d0

variable (x0 : Vec F S1x384x256 .f32) (x1 : Vec F S1x256x1 .f32) (x2 : Vec F S16x192x384 .f32) (x3 : Vec F S192x1 .f32)
  (x4 : Vec F S96x32 .f32) (x5 : Vec F S96x1 .f32)

/-- Queries, keys and values of group `g`, from the blocks the body loads. -/
def blockQkv (g : Fin 6) : FVec F S96x256 .f32 :=
  qkv (k0_pay144 x0 x1 x2 x3 x4 x5) (k0_pay145 x0 x1 x2 x3 x4 x5) (k0_pay146 x0 x1 x2 x3 x4 x5) g

/-- The combined rows of all heads. -/
theorem heads : k0_pay155 x0 x1 x2 x3 x4 x5 =
    stack fun h => headOut (blockQkv x0 x1 x2 x3 x4 x5 ⟨h.val / 8, by omega⟩) ⟨h.val % 8, by omega⟩ := by
  rfl

end Cert.UpOps
-- ==== Proof.UpReal.lean ====
module

public import proofs.«01_k».proof.Proof.UpOps
public import proofs.«01_k».proof.Proof.UpPick
public import proofs.«01_k».proof.Proof.CoarseBlock
public import Idealize.ShloMosaic.Lib.Pointwise
public import Idealize.ShloMosaic.Lib.Pipeline.ValueKit

@[expose] public section

set_option maxRecDepth 16384

noncomputable section

namespace Cert.UpReal

open Cert.UpIdeal Cert.UpIdeal.Gen Cert.UpOps Cert.UpPick Idealize.ShloMosaic Idealize.ShloMosaic.TcCoe
open Cert.CoarseReal (coe_sum coe_div scoreR attnR expSum_ne headAttn)
open Cert.CoarseBlock (sum_split diag)

/-- The rows of the 48 heads, one under another. -/
theorem stack_apply (u : Fin 48 → FVec Ideal S4x256 .f32) (o : Fin 192) (i : Fin 256) :
    stack u (ix2 o i) = u ⟨o.val / 4, by omega⟩ (ix2 ⟨o.val % 4, by omega⟩ i) := by
  refine concatenate_ofFn_apply (α := EReal) (t := S192x256) (s₁ := S4x256) (0 : Fin 2) u _ rfl 4 rfl (ix2 o i) ⟨o.val / 4, by omega⟩ rfl (ix2 ⟨o.val % 4, by omega⟩ i) rfl fun b hb => ?_
  fin_cases b
  · exact absurd rfl hb
  · rfl

/-- Queries, keys and values on real inputs. -/
theorem qkv_coe (X : FVec Ideal S192x256 .f32) (w : FVec Ideal S96x32 .f32) (b : FVec Ideal S96x1 .f32) (g : Fin 6)
    (Xr : Fin 192 → Fin 256 → ℝ) (wr : Fin 96 → Fin 32 → ℝ) (br : Fin 96 → ℝ)
    (hX : ∀ o n, X (ix2 o n) = (Xr o n : EReal)) (hw : ∀ r k, w (ix2 r k) = (wr r k : EReal)) (hb : ∀ r, b (ix2 r 0) = (br r : EReal))
    (r : Fin 96) (n : Fin 256) :
    qkv X w b g (ix2 r n) = ((∑ k : Fin 32, wr r k * Xr ⟨32 * g.val + k.val, by omega⟩ n + br r : ℝ) : EReal) := by
  pointwise [qkv]
  simp only [hX, hw, hb, ← EReal.coe_mul, coe_sum, ← EReal.coe_add]

/-- The exponentials on real queries and keys. -/
theorem expo_coe (q k : FVec Ideal S4x256 .f32) (qr kr : Fin 4 → Fin 256 → ℝ)
    (hq : ∀ d n, q (ix2 d n) = (qr d n : EReal)) (hk : ∀ d n, k (ix2 d n) = (kr d n : EReal)) (j i : Fin 256) :
    expo q k (ix2 j i) = ((Real.exp (scoreR qr kr j i) : ℝ) : EReal) := by
  pointwise [expo]
  simp only [hq, hk, ← EReal.coe_mul, coe_sum, Ideal.exp_coe]
  rfl

/-- Values combined with real exponentials. -/
theorem combine_coe (v : FVec Ideal S4x256 .f32) (e : FVec Ideal S256x256 .f32) (vr : Fin 4 → Fin 256 → ℝ) (er : Fin 256 → Fin 256 → ℝ)
    (hv : ∀ d n, v (ix2 d n) = (vr d n : EReal)) (he : ∀ j i, e (ix2 j i) = (er j i : EReal)) (hne : ∀ i, ∑ j, er j i ≠ 0) (d : Fin 4) (i : Fin 256) :
    combine v e (ix2 d i) = ((∑ j, vr d j * (er j i / ∑ j', er j' i) : ℝ) : EReal) := by
  pointwise [combine]
  simp only [hv, he, ← EReal.coe_mul, coe_sum]
  rw [← EReal.coe_one, coe_div (hne i), ← EReal.coe_mul]
  congr 1
  rw [Finset.sum_mul]
  exact Finset.sum_congr rfl fun j _ => by rw [mul_assoc, mul_one_div]

/-- What a head returns on real rows. -/
theorem headOut_coe (Q : FVec Ideal S96x256 .f32) (Qr : Fin 96 → Fin 256 → ℝ) (hQ : ∀ r n, Q (ix2 r n) = (Qr r n : EReal)) (p : Fin 8) (d : Fin 4)
    (i : Fin 256) : headOut Q p (ix2 d i) = ((∑ j, Qr ⟨12 * p.val + 8 + d.val, by omega⟩ j * headAttn Qr p j i : ℝ) : EReal) := by
  refine combine_coe _ _ (fun d n => Qr ⟨12 * p.val + 8 + d.val, by omega⟩ n)
    (fun j i => Real.exp (scoreR (fun d n => Qr ⟨12 * p.val + d.val, by omega⟩ n) (fun d n => Qr ⟨12 * p.val + 4 + d.val, by omega⟩ n) j i))
    (fun d n => ?_) (fun j i => expo_coe _ _ _ _ (fun d n => ?_) (fun d n => ?_) j i) (fun i => expSum_ne _) d i
  all_goals
    pointwise []
    exact hQ _ _

variable (wq : Fin 4 → Fin 12 → ℝ) (bq : Fin 12 → ℝ)

/-- Queries, keys and values (twelve rows) of one head, from its four channels. -/
def rows (x : Fin 4 → ℝ) (r : Fin 12) : ℝ := ∑ d : Fin 4, wq d r * x d + bq r

/-- The score of one token's query against another token's key. -/
def score (x y : Fin 4 → ℝ) : ℝ := ∑ d : Fin 4, rows wq bq x ⟨d.val, by omega⟩ * rows wq bq y ⟨4 + d.val, by omega⟩

/-- The attention over the picked regions: `Y o s j` is channel `o` of pixel `s` of region `j`. -/
def att (S : Finset (Fin 256)) (Y : Fin 192 → Fin 4 → Fin 256 → ℝ) (o : Fin 192) (s : Fin 4) (j : Fin 256) : ℝ :=
  let x : Fin 4 → Fin 256 → Fin 4 → ℝ := fun s j d => Y ⟨4 * (o.val / 4) + d.val, by omega⟩ s j
  ∑ j' ∈ S, ∑ s', rows wq bq (x s' j') ⟨8 + o.val % 4, by omega⟩ *
    (Real.exp (score wq bq (x s' j') (x s j)) / ∑ j'' ∈ S, ∑ s'', Real.exp (score wq bq (x s'' j'') (x s j)))

/-- A sum over the tokens, four to a picked region. -/
theorem sum_tokens (S : Finset (Fin 256)) (e : Fin 64 → Fin 256) (he : ∀ f : Fin 256 → ℝ, ∑ k, f (e k) = ∑ i ∈ S, f i) (f : Fin 4 → Fin 256 → ℝ) :
    ∑ t : Fin 256, f ⟨t.val % 4, by omega⟩ (e ⟨t.val / 4, by omega⟩) = ∑ j ∈ S, ∑ s, f s j := by
  rw [← he, sum_split 64 4 256 rfl]
  refine Finset.sum_congr rfl fun k _ => Finset.sum_congr rfl fun s _ => ?_
  exact congr (congrArg f (Fin.ext (by simp only; omega))) (congrArg e (Fin.ext (by simp only; omega)))

/-- The attention with its tokens listed in an order. -/
theorem att_listed (S : Finset (Fin 256)) (e : Fin 64 → Fin 256) (he : ∀ f : Fin 256 → ℝ, ∑ k, f (e k) = ∑ i ∈ S, f i)
    (Y : Fin 192 → Fin 4 → Fin 256 → ℝ) (o : Fin 192) (x : Fin 256 → Fin 4 → ℝ)
    (hx : x = fun t d => Y ⟨4 * (o.val / 4) + d.val, by omega⟩ ⟨t.val % 4, by omega⟩ (e ⟨t.val / 4, by omega⟩)) (t : Fin 256) :
    ∑ t', rows wq bq (x t') ⟨8 + o.val % 4, by omega⟩ * (Real.exp (score wq bq (x t') (x t)) / ∑ t'', Real.exp (score wq bq (x t'') (x t)))
      = att wq bq S Y o ⟨t.val % 4, by omega⟩ (e ⟨t.val / 4, by omega⟩) := by
  subst hx
  unfold att
  dsimp only
  rw [sum_tokens S e he (fun s'' j'' => Real.exp (score wq bq (fun d => Y ⟨4 * (o.val / 4) + d.val, by omega⟩ s'' j'')
    (fun d => Y ⟨4 * (o.val / 4) + d.val, by omega⟩ ⟨t.val % 4, by omega⟩ (e ⟨t.val / 4, by omega⟩))))]
  exact sum_tokens S e he (fun s' j' => rows wq bq (fun d => Y ⟨4 * (o.val / 4) + d.val, by omega⟩ s' j') ⟨8 + o.val % 4, by omega⟩ *
    (Real.exp (score wq bq (fun d => Y ⟨4 * (o.val / 4) + d.val, by omega⟩ s' j') (fun d => Y ⟨4 * (o.val / 4) + d.val, by omega⟩ ⟨t.val % 4, by omega⟩ (e ⟨t.val / 4, by omega⟩)))
      / ∑ j'' ∈ S, ∑ s'', Real.exp (score wq bq (fun d => Y ⟨4 * (o.val / 4) + d.val, by omega⟩ s'' j'') (fun d => Y ⟨4 * (o.val / 4) + d.val, by omega⟩ ⟨t.val % 4, by omega⟩ (e ⟨t.val / 4, by omega⟩)))))

/-- The 96 rows the kernel forms for a group of eight heads. -/
def groupRows (X : Fin 192 → Fin 256 → ℝ) (g : Fin 6) (r : Fin 96) (n : Fin 256) : ℝ :=
  ∑ k : Fin 32, diag wq r k * X ⟨32 * g.val + k.val, by omega⟩ n + bq ⟨r % 12, by omega⟩

/-- Every one of them is a row of one head. -/
theorem groupRows_eq (X : Fin 192 → Fin 256 → ℝ) (h : Fin 48) (r : Fin 12) (g : Fin 6) (q : Fin 96) (hg : g.val = h.val / 8) (hq : q.val = 12 * (h.val % 8) + r.val)
    (n : Fin 256) : groupRows wq bq X g q n = rows wq bq (fun d => X ⟨4 * h.val + d.val, by omega⟩ n) r := by
  unfold groupRows rows
  congr 1
  · rw [sum_split 8 4 32 rfl, Finset.sum_eq_single ⟨h.val % 8, by omega⟩]
    · refine Finset.sum_congr rfl fun d _ => ?_
      unfold diag
      rw [if_pos (by simp only; omega), one_mul]
      exact congrArg₂ (· * ·) (congrArg₂ wq (Fin.ext (by dsimp only; omega)) (Fin.ext (by dsimp only; omega)))
        (congrArg (X · n) (Fin.ext (by dsimp only; omega)))
    · intro a _ ha
      refine Finset.sum_eq_zero fun d _ => ?_
      unfold diag
      rw [if_neg (fun h => ha (Fin.ext (by simp only at h ⊢; omega))), zero_mul, zero_mul]
    · exact fun h => absurd (Finset.mem_univ _) h
  · congr 1
    exact Fin.ext (by simp only; omega)

/-- What the stacked heads return on real tokens. -/
theorem stacked_coe (X : FVec Ideal S192x256 .f32) (w : FVec Ideal S96x32 .f32) (b : FVec Ideal S96x1 .f32) (Xr : Fin 192 → Fin 256 → ℝ)
    (hX : ∀ o n, X (ix2 o n) = (Xr o n : EReal)) (hw : ∀ r k, w (ix2 r k) = (diag wq r k : EReal)) (hb : ∀ r : Fin 96, b (ix2 r 0) = (bq ⟨r % 12, by omega⟩ : EReal))
    (o : Fin 192) (t : Fin 256) (x : Fin 256 → Fin 4 → ℝ) (hx : x = fun t d => Xr ⟨4 * (o.val / 4) + d.val, by omega⟩ t) :
    stack (fun h => headOut (qkv X w b ⟨h.val / 8, by omega⟩) ⟨h.val % 8, by omega⟩) (ix2 o t)
      = ((∑ t', rows wq bq (x t') ⟨8 + o.val % 4, by omega⟩ * (Real.exp (score wq bq (x t') (x t)) / ∑ t'', Real.exp (score wq bq (x t'') (x t))) : ℝ) : EReal) := by
  subst hx
  rw [stack_apply, headOut_coe _ (groupRows wq bq Xr ⟨o.val / 4 / 8, by omega⟩)
    (fun r n => qkv_coe X w b _ Xr (diag wq) (fun r => bq ⟨r % 12, by omega⟩) hX hw hb r n)]
  congr 1
  have R := fun (r : Fin 12) (q : Fin 96) (hq : q.val = 12 * (o.val / 4 % 8) + r.val) (n : Fin 256) => groupRows_eq wq bq Xr ⟨o.val / 4, by omega⟩ r ⟨o.val / 4 / 8, by omega⟩ q rfl hq n
  refine Finset.sum_congr rfl fun t' _ => congrArg₂ (· * ·) (R _ _ (by dsimp only; omega) t') ?_
  unfold headAttn attnR scoreR
  have C : ∀ t', (∑ d : Fin 4, groupRows wq bq Xr ⟨o.val / 4 / 8, by omega⟩ ⟨12 * (o.val / 4 % 8) + d.val, by omega⟩ t'
      * groupRows wq bq Xr ⟨o.val / 4 / 8, by omega⟩ ⟨12 * (o.val / 4 % 8) + 4 + d.val, by omega⟩ t)
      = score wq bq (fun d => Xr ⟨4 * (o.val / 4) + d.val, by omega⟩ t') (fun d => Xr ⟨4 * (o.val / 4) + d.val, by omega⟩ t) := by
    intro t'
    unfold score
    refine Finset.sum_congr rfl fun d _ => congrArg₂ (· * ·) (R _ _ rfl t') (R _ _ (by dsimp only; omega) t)
  simp only [C]

end Cert.UpReal
-- ==== Proof.UpBlock.lean ====
module

public import proofs.«01_k».proof.Proof.UpPhase
public import proofs.«01_k».proof.Proof.UpReal
public import Idealize.ShloMosaic.Lib.Pointwise
public import Idealize.ShloMosaic.Lib.Pipeline.ValueKit

@[expose] public section

set_option maxRecDepth 16384

noncomputable section

namespace Cert.UpBlock

open Cert.UpIdeal Cert.UpIdeal.Gen Cert.UpOps Cert.UpPick Cert.UpMask Cert.UpPhase Cert.UpReal Idealize.ShloMosaic Idealize.ShloMosaic.TcCoe
open Cert.CoarseReal (coe_sum)
open Cert.CoarseBlock (diag)

/-- The word of the number two. -/
theorem two : Ideal.ofBits .f32 1073741824#32 = ((2 : ℝ) : EReal) := by
  simp [Ideal.ofBits, Ideal.ieee]
  rw [← EReal.coe_mul]
  norm_num

open Classical in
/-- Putting each token back at its region: a region outside the picked ones gets nothing. -/
theorem put_back (s : Fin 256 → EReal) (g : Fin 4 → Fin 256 → ℝ) (p : Fin 4) (n : Fin 256) :
    ∑ t : Fin 256, ((g ⟨t.val % 4, by omega⟩ (up s ⟨t.val / 4, by omega⟩) : ℝ) : EReal) * (FloatOps.sitofp (F := Ideal) FTy.f32 (BitVec.setWidth 32
      (IntOp.andi (IntOp.cmpi CmpIPredicate.eq (BitVec.ofNat 32 n.val) (BitVec.ofNat 32 (up s ⟨t.val / 4, by omega⟩).val))
        (IntOp.cmpi CmpIPredicate.eq (IntOp.andi (BitVec.ofNat 32 t.val) 3#32) (BitVec.ofNat 32 p.val)))) : EReal)
      = ((if n ∈ best s then g p n else 0 : ℝ) : EReal) := by
  simp only [eq_pos, low_bits, and_and, ← Bool.decide_and, flag]
  have term : ∀ t : Fin 256, ((g ⟨t.val % 4, by omega⟩ (up s ⟨t.val / 4, by omega⟩) : ℝ) : EReal)
      * (if n = up s ⟨t.val / 4, by omega⟩ ∧ t.val % 4 = p.val then (1 : EReal) else 0)
      = (((fun (q : Fin 4) (j : Fin 256) => if j = n then (if q = p then g q j else 0) else (0 : ℝ)) ⟨t.val % 4, by omega⟩ (up s ⟨t.val / 4, by omega⟩) : ℝ) : EReal) := by
    intro t
    dsimp only
    by_cases h : n = up s ⟨t.val / 4, by omega⟩ <;> by_cases h' : t.val % 4 = p.val
    · rw [if_pos ⟨h, h'⟩, if_pos h.symm, if_pos (Fin.ext h'), mul_one]
    · rw [if_neg (fun c => h' c.2), if_pos h.symm, if_neg (fun c => h' (congrArg Fin.val c)), mul_zero, EReal.coe_zero]
    · rw [if_neg (fun c => h c.1), if_neg (fun c => h c.symm), mul_zero, EReal.coe_zero]
    · rw [if_neg (fun c => h c.1), if_neg (fun c => h c.symm), mul_zero, EReal.coe_zero]
  rw [Finset.sum_congr rfl fun t _ => term t, coe_sum]
  refine congrArg _ ((sum_tokens (best s) (up s) (fun f => sum_up s f) (fun q j => if j = n then (if q = p then g q j else 0) else (0 : ℝ))).trans ?_)
  simp only [Finset.sum_ite_irrel, Finset.sum_const_zero, Finset.sum_ite_eq', Finset.mem_univ, if_true]

/-- The phases a block holds are these real numbers. -/
abbrev PhasesAre (x0 : Vec Ideal S1x384x256 .f32) (x2 : Vec Ideal S16x192x384 .f32) (x3 : Vec Ideal S192x1 .f32)
    (Y : Fin 192 → Fin 4 → Fin 256 → ℝ) : Prop :=
  ∀ (s : Fin 4) o n, blockPhase x0 x2 x3 ⟨s.val / 2, by omega⟩ ⟨s.val % 2, by omega⟩ o n = (Y o s n : EReal)

/-- The bias column of a block repeats these twelve real numbers. -/
abbrev BiasIs (x5 : Vec Ideal S96x1 .f32) (bq : Fin 12 → ℝ) : Prop :=
  ∀ r : Fin 96, x5 (ix2 r 0) = (bq ⟨r % 12, by omega⟩ : EReal)

variable (x0 : Vec Ideal S1x384x256 .f32) (x1 : Vec Ideal S1x256x1 .f32) (x2 : Vec Ideal S16x192x384 .f32) (x3 : Vec Ideal S192x1 .f32)
  (x4 : Vec Ideal S96x32 .f32) (x5 : Vec Ideal S96x1 .f32)
  (Y : Fin 192 → Fin 4 → Fin 256 → ℝ) (wq : Fin 4 → Fin 12 → ℝ) (bq : Fin 12 → ℝ)
  (hY : PhasesAre x0 x2 x3 Y)
  (h4 : ∀ r k, x4 (ix2 r k) = (diag wq r k : EReal)) (h5 : BiasIs x5 bq)

include hY h4 h5

/-- What the heads return at a token. -/
theorem token_coe (o : Fin 192) (t : Fin 256) : k0_pay155 x0 x1 x2 x3 x4 x5 (ix2 o t)
    = (att wq bq (best (sc x1)) Y o ⟨t.val % 4, by omega⟩ (up (sc x1) ⟨t.val / 4, by omega⟩) : EReal) := by
  rw [heads]
  unfold blockQkv
  rw [stacked_coe wq bq _ _ _ (fun o t => Y o ⟨t.val % 4, by omega⟩ (up (sc x1) ⟨t.val / 4, by omega⟩)) ?_ ?_ ?_ o t _ rfl]
  · exact congrArg _ (att_listed wq bq (best (sc x1)) (up (sc x1)) (fun f => sum_up _ f) Y o _ rfl t)
  · intro o n
    rw [tokens, ph_eq, hY]
  · intro r k
    unfold k0_pay145
    pointwise [k0_pay32]
    exact h4 r k
  · intro r
    unfold k0_pay146
    pointwise [k0_pay33]
    exact h5 r

/-- A store of one phase: twice the phase plus what the heads return. -/
theorem phase_coe (y : FVec Ideal S192x256 .f32) (s : Fin 4) (o : Fin 192) (n : Fin 256) (hy : y (ix2 o n) = ph x0 x1 x2 x3 x4 x5 s (ix2 o n)) :
    (Ideal.ofBits .f32 1073741824#32 * y (ix2 o n) + ∑ t : Fin 256, k0_pay155 x0 x1 x2 x3 x4 x5 (ix2 o t) * (FloatOps.sitofp (F := Ideal) FTy.f32 (BitVec.setWidth 32
      (IntOp.andi (IntOp.cmpi CmpIPredicate.eq (BitVec.ofNat 32 n.val) (k0_pay156 x0 x1 x2 x3 x4 x5 (ix2 t n)))
        (IntOp.cmpi CmpIPredicate.eq (IntOp.andi (BitVec.ofNat 32 t.val) 3#32) (BitVec.ofNat 32 s.val)))) : EReal) : EReal)
      = ((2 * Y o s n + if n ∈ best (sc x1) then att wq bq (best (sc x1)) Y o s n else 0 : ℝ) : EReal) := by
  rw [hy, ph_eq, hY, two, ← EReal.coe_mul]
  simp only [token_coe x0 x1 x2 x3 x4 x5 Y wq bq hY h4 h5, wordRow]
  rw [put_back (sc x1) (fun s j => att wq bq (best (sc x1)) Y o s j) s n, ← EReal.coe_add]

/-- The first store of a block. -/
theorem store0 (o : Fin 192) (n : Fin 256) : k0_pay122 (k0_pay131 x0 x1 x2 x3 x4 x5) (k0_pay155 x0 x1 x2 x3 x4 x5)
      (k0_pay120 (k0_pay135 x0 x1 x2 x3 x4 x5) (k0_pay139 x0 x1 x2 x3 x4 x5)) (k0_pay121 (k0_pay134 x0 x1 x2 x3 x4 x5)) (ix4 0 0 o n)
    = ((2 * Y o 0 n + if n ∈ best (sc x1) then att wq bq (best (sc x1)) Y o 0 n else 0 : ℝ) : EReal) := by
  refine Eq.trans ?_ (phase_coe x0 x1 x2 x3 x4 x5 Y wq bq hY h4 h5 (k0_pay131 x0 x1 x2 x3 x4 x5) 0 o n rfl)
  have e : ∀ t n, k0_pay119 (k0_pay139 x0 x1 x2 x3 x4 x5) (ix2 t n) = k0_pay156 x0 x1 x2 x3 x4 x5 (ix2 t n) := fun _ _ => rfl
  clear hY h4 h5
  pointwise [k0_pay120, k0_pay121, k0_pay122, k0_pay134, k0_pay135]
  simp only [e]

/-- The second store. -/
theorem store1 (o : Fin 192) (n : Fin 256) : k0_pay123 (k0_pay132 x0 x1 x2 x3 x4 x5) (k0_pay134 x0 x1 x2 x3 x4 x5) (k0_pay135 x0 x1 x2 x3 x4 x5)
      (k0_pay155 x0 x1 x2 x3 x4 x5) (k0_pay156 x0 x1 x2 x3 x4 x5) (ix4 0 0 o n)
    = ((2 * Y o 1 n + if n ∈ best (sc x1) then att wq bq (best (sc x1)) Y o 1 n else 0 : ℝ) : EReal) := by
  refine Eq.trans ?_ (phase_coe x0 x1 x2 x3 x4 x5 Y wq bq hY h4 h5 (k0_pay132 x0 x1 x2 x3 x4 x5) 1 o n rfl)
  clear hY h4 h5
  pointwise [k0_pay123, k0_pay134, k0_pay135]

/-- The third store. -/
theorem store2 (o : Fin 192) (n : Fin 256) : k0_pay1 (k0_pay124 (k0_pay133 x0 x1 x2 x3 x4 x5) (k0_pay134 x0 x1 x2 x3 x4 x5) (k0_pay135 x0 x1 x2 x3 x4 x5)
      (k0_pay155 x0 x1 x2 x3 x4 x5) (k0_pay156 x0 x1 x2 x3 x4 x5)) (ix4 0 0 o n)
    = ((2 * Y o 2 n + if n ∈ best (sc x1) then att wq bq (best (sc x1)) Y o 2 n else 0 : ℝ) : EReal) := by
  refine Eq.trans ?_ (phase_coe x0 x1 x2 x3 x4 x5 Y wq bq hY h4 h5 (k0_pay133 x0 x1 x2 x3 x4 x5) 2 o n rfl)
  clear hY h4 h5
  pointwise [k0_pay1, k0_pay124, k0_pay134, k0_pay135]

/-- The fourth store. -/
theorem store3 (o : Fin 192) (n : Fin 256) : k0_pay2 (k0_pay136 x0 x1 x2 x3 x4 x5) (k0_pay134 x0 x1 x2 x3 x4 x5) (k0_pay135 x0 x1 x2 x3 x4 x5)
      (k0_pay155 x0 x1 x2 x3 x4 x5) (k0_pay156 x0 x1 x2 x3 x4 x5) (ix4 0 0 o n)
    = ((2 * Y o 3 n + if n ∈ best (sc x1) then att wq bq (best (sc x1)) Y o 3 n else 0 : ℝ) : EReal) := by
  refine Eq.trans ?_ (phase_coe x0 x1 x2 x3 x4 x5 Y wq bq hY h4 h5 (k0_pay136 x0 x1 x2 x3 x4 x5) 3 o n rfl)
  clear hY h4 h5
  pointwise [k0_pay2, k0_pay134, k0_pay135]

omit hY h4 h5 in
/-- Four stores side by side: the second coordinate picks the store. -/
theorem tiles (p0 p1 p2 p3 : Vec Ideal S1x1x192x256 .f32) (s : Fin 4) (o : Fin 192) (n : Fin 256) :
    (View.canon [⟨r0_24, p3⟩, ⟨r0_23, p2⟩, ⟨r0_22, p1⟩, ⟨r0_21, p0⟩] : Vec Ideal S1x4x192x256 .f32) (ix4 0 s o n)
      = (![p0, p1, p2, p3] s : Vec Ideal S1x1x192x256 .f32) (ix4 0 0 o n) := by
  canon_tiles z h
  all_goals
    obtain rfl : z = ix4 0 0 o n := by blk_ext <;> first | exact h2.symm | exact h3.symm | omega
    fin_cases s <;> first | rfl | (exfalso; simp at h1; done) | (exfalso; simp at h1; omega)

/-- The block the kernel leaves. -/
theorem out_coe (s : Fin 4) (o : Fin 192) (n : Fin 256) : out0_6 x0 x1 x2 x3 x4 x5 (ix4 0 s o n)
    = ((2 * Y o s n + if n ∈ best (sc x1) then att wq bq (best (sc x1)) Y o s n else 0 : ℝ) : EReal) := by
  unfold out0_6
  rw [tiles]
  fin_cases s
  · exact store0 x0 x1 x2 x3 x4 x5 Y wq bq hY h4 h5 o n
  · exact store1 x0 x1 x2 x3 x4 x5 Y wq bq hY h4 h5 o n
  · exact store2 x0 x1 x2 x3 x4 x5 Y wq bq hY h4 h5 o n
  · exact store3 x0 x1 x2 x3 x4 x5 Y wq bq hY h4 h5 o n

end Cert.UpBlock
-- ==== Proof.UpValue.lean ====
module

public import proofs.«01_k».proof.Proof.UpBlock
public import proofs.«01_k».proof.Proof.CoarsePrep
public import Idealize.ShloMosaic.Lib.Pointwise
public import Idealize.ShloMosaic.Lib.Pipeline.ValueKit
public import Idealize.ShloMosaic.Lib.StableHlo.RunRead

@[expose] public section

set_option maxRecDepth 16384

noncomputable section

namespace Cert.UpValue

open Cert.UpIdeal Cert.UpIdeal.Gen Cert.UpBlock Cert.UpPick Cert.UpPhase Cert.UpReal Cert.UpMask
open Idealize.ShloMosaic Idealize.ShloMosaic.TcCoe

/-- The transposed convolution of image `b` at phase `s`, channel `o`, region `n`. -/
def phases (X : FVec Ideal S4x384x256 .f32) (W : FVec Ideal S384x192x4x4 .f32) (B : FVec Ideal S192 .f32)
    (b s : Fin 4) (o : Fin 192) (n : Fin 256) : EReal :=
  phase (fun c n => X (ix3 b c n)) (fun k o c => W (ix4 c o ⟨k / 4, by omega⟩ ⟨k % 4, by omega⟩)) (fun o => B (ix1 o))
    ⟨s.val / 2, by omega⟩ ⟨s.val % 2, by omega⟩ o n

/-- The real numbers behind the transposed convolution and the two small weights. -/
structure Reals (X : FVec Ideal S4x384x256 .f32) (W : FVec Ideal S384x192x4x4 .f32) (B : FVec Ideal S192 .f32)
    (Wq : FVec Ideal S4x12 .f32) (Bq : FVec Ideal S12 .f32)
    (Y : Fin 4 → Fin 192 → Fin 4 → Fin 256 → ℝ) (wq : Fin 4 → Fin 12 → ℝ) (bq : Fin 12 → ℝ) : Prop where
  hY : ∀ b s o n, phases X W B b s o n = (Y b o s n : EReal)
  hwq : ∀ d r, Wq (ix2 d r) = (wq d r : EReal)
  hbq : ∀ r, Bq (ix1 r) = (bq r : EReal)

open Classical in
/-- The result: twice the transposed convolution, and at a picked region the attention on top. -/
def answer (S : FVec Ideal S4x256x1 .f32) (Y : Fin 4 → Fin 192 → Fin 4 → Fin 256 → ℝ) (wq : Fin 4 → Fin 12 → ℝ) (bq : Fin 12 → ℝ)
    (b s : Fin 4) (o : Fin 192) (n : Fin 256) : ℝ :=
  2 * Y b o s n + if n ∈ best (fun n => S (ix3 b n 0)) then att wq bq (best (fun n => S (ix3 b n 0))) (Y b) o s n else 0

variable (m : (ℓ : Loc nD τ sig) → Buf (Elt Ideal) ℓ)

/-- The six arguments. -/
def argX (c : Dev nD) : FVec Ideal S4x384x256 .f32 := m (c, Proc.tc.devRef main_arg0)
def argS (c : Dev nD) : FVec Ideal S4x256x1 .f32 := m (c, Proc.tc.devRef main_arg1)
def argW (c : Dev nD) : FVec Ideal S384x192x4x4 .f32 := m (c, Proc.tc.devRef main_arg2)
def argB (c : Dev nD) : FVec Ideal S192 .f32 := m (c, Proc.tc.devRef main_arg3)
def argWq (c : Dev nD) : FVec Ideal S4x12 .f32 := m (c, Proc.tc.devRef main_arg4)
def argBq (c : Dev nD) : FVec Ideal S12 .f32 := m (c, Proc.tc.devRef main_arg5)

/-- The index maps over the grid: the image, its scores and the result move with the grid point, the weights stay. -/
theorem idx : ∀ t : Fin cfg0.N, win0_0.index t = ![t.val, 0, 0] ∧ win0_1.index t = ![t.val, 0, 0] ∧
    win0_2.index t = ![0, 0, 0] ∧ win0_3.index t = ![0, 0] ∧ win0_4.index t = ![0, 0] ∧ win0_5.index t = ![0, 0] ∧
    win0_6.index t = ![t.val, 0, 0, 0] :=
  (by decide +kernel : ∀ t : Fin grid0.N, _)

/-- The grid has one point per image. -/
theorem points : cfg0.N = 4 := by decide +kernel

/-- The two arguments the kernel reads unchanged. -/
theorem image (c : Dev nD) (b : Fin 4) (k : Fin 384) (n : Fin 256) :
    (V m c main_arg0 : FVec Ideal S4x384x256 .f32) (ix3 b k n) = argX m c (ix3 b k n) := by
  entry_read
  pointwise [argX]

theorem scores (c : Dev nD) (b : Fin 4) (n : Fin 256) :
    (V m c main_arg1 : FVec Ideal S4x256x1 .f32) (ix3 b n 0) = argS m c (ix3 b n 0) := by
  entry_read
  pointwise [argS]

/-- The prepared operands at an index. -/
theorem weight (c : Dev nD) (k : Fin 16) (o : Fin 192) (d : Fin 384) :
    (V m c main_v18 : FVec Ideal S16x192x384 .f32) (ix3 k o d) = argW m c (ix4 d o ⟨k / 4, by omega⟩ ⟨k % 4, by omega⟩) := by
  entry_read
  pointwise [argW]

theorem bias (c : Dev nD) (o : Fin 192) :
    (V m c main_v19 : FVec Ideal S192x1 .f32) (ix2 o 0) = argB m c (ix1 o) := by
  entry_read
  pointwise [argB]

theorem small (c : Dev nD) (r : Fin 96) (k : Fin 32) :
    (V m c main_v12 : FVec Ideal S96x32 .f32) (ix2 r k)
      = ((if r.val / 12 = k.val / 4 then 1 else 0 : ℝ) : EReal) * argWq m c (ix2 ⟨k % 4, by omega⟩ ⟨r % 12, by omega⟩) := by
  rw [← CoarsePrep.same_head _ _ (by omega) (by omega)]
  entry_read
  pointwise [argWq]

theorem small_bias (c : Dev nD) (r : Fin 96) :
    (V m c main_v16 : FVec Ideal S96x1 .f32) (ix2 r 0) = argBq m c (ix1 ⟨r % 12, by omega⟩) := by
  entry_read
  pointwise [argBq]

variable {m} {Y : Fin 4 → Fin 192 → Fin 4 → Fin 256 → ℝ} {wq : Fin 4 → Fin 12 → ℝ} {bq : Fin 12 → ℝ}

/-- The six blocks a grid point reads. -/
theorem read0 (c : Dev nD) (t : Fin cfg0.N) (b : Fin 4) (hb : b.val = t.val) (k : Fin 384) (n : Fin 256) :
    (iblk m c 0 t : Vec Ideal S1x384x256 .f32) (ix3 0 k n) = argX m c (ix3 b k n) := by
  refine Eq.trans ?_ (image m c b k n)
  blk_ext [iblk, idx t]

theorem read1 (c : Dev nD) (t : Fin cfg0.N) (b : Fin 4) (hb : b.val = t.val) (n : Fin 256) :
    (iblk m c 1 t : Vec Ideal S1x256x1 .f32) (ix3 0 n 0) = argS m c (ix3 b n 0) := by
  refine Eq.trans ?_ (scores m c b n)
  blk_ext [iblk, idx t]

theorem read2 (c : Dev nD) (t : Fin cfg0.N) (k : Fin 16) (o : Fin 192) (d : Fin 384) :
    (iblk m c 2 t : Vec Ideal S16x192x384 .f32) (ix3 k o d) = argW m c (ix4 d o ⟨k / 4, by omega⟩ ⟨k % 4, by omega⟩) := by
  refine Eq.trans ?_ (weight m c k o d)
  blk_ext [iblk, idx t]

theorem read3 (c : Dev nD) (t : Fin cfg0.N) (o : Fin 192) :
    (iblk m c 3 t : Vec Ideal S192x1 .f32) (ix2 o 0) = argB m c (ix1 o) := by
  refine Eq.trans ?_ (bias m c o)
  blk_ext [iblk, idx t]

theorem read4 (c : Dev nD) (hwq : ∀ d r, argWq m c (ix2 d r) = (wq d r : EReal)) (t : Fin cfg0.N) (r : Fin 96) (k : Fin 32) :
    (iblk m c 4 t : Vec Ideal S96x32 .f32) (ix2 r k) = (CoarseBlock.diag wq r k : EReal) := by
  refine Eq.trans ?_ ((small m c r k).trans ((by rw [hwq, ← EReal.coe_mul]; rfl)))
  blk_ext [iblk, idx t]

theorem read5 (c : Dev nD) (hbq : ∀ r, argBq m c (ix1 r) = (bq r : EReal)) (t : Fin cfg0.N) (r : Fin 96) :
    (iblk m c 5 t : Vec Ideal S96x1 .f32) (ix2 r 0) = (bq ⟨r % 12, by omega⟩ : EReal) := by
  refine Eq.trans ?_ ((small_bias m c r).trans (hbq _))
  blk_ext [iblk, idx t]

/-- The result after the run. -/
theorem final {c : Dev nD} (H : Reals (argX m c) (argW m c) (argB m c) (argWq m c) (argBq m c) Y wq bq) :
    (dats m 0 c).arrAt 6 cfg0.N
      = (fun y : S4x4x192x256.Idx => (answer (argS m c) Y wq bq (y 0) (y 1) (y 2) (y 3) : EReal)) := by
  refine (dats m 0 c).arrAt_eq_of_covers 6 _ (by decide +kernel) fun t hf y => ?_
  blk_simp
  rw [after0_6]
  have ht : t.val < 4 := lt_of_lt_of_eq t.isLt points
  obtain ⟨s, o, n, rfl⟩ : ∃ (s : Fin 4) (o : Fin 192) (n : Fin 256), y = (ix4 0 s o n : S1x4x192x256.Idx) := ⟨y 1, y 2, y 3, by blk_ext⟩
  have e : (win0_6.blk t).view.emb (ix4 0 s o n : S1x4x192x256.Idx) = (ix4 ⟨t.val, ht⟩ s o n : S4x4x192x256.Idx) := by
    blk_ext [idx t]
  rw [e]
  have hs : sc (iblk m c 1 t : Vec Ideal S1x256x1 .f32) = fun n => argS m c (ix3 ⟨t.val, ht⟩ n 0) := by
    funext n
    exact read1 c t ⟨t.val, ht⟩ rfl n
  refine (out_coe _ _ _ _ _ _ (Y ⟨t.val, ht⟩) wq bq ?_ (read4 c H.hwq t) (read5 c H.hbq t) s o n).trans ?_
  · intro s o n
    refine Eq.trans ?_ (H.hY ⟨t.val, ht⟩ s o n)
    unfold blockPhase phases
    simp only [read0 c t ⟨t.val, ht⟩ rfl, read2 c t, read3 c t]
  · rw [hs]
    rfl

end Cert.UpValue
-- ==== Proof.UpFinite.lean ====
module

public import proofs.«01_k».proof.Pre_up_finite
public import proofs.«01_k».proof.Proof.CoarseFinite
public import proofs.«01_k».proof.Proof.UpValue

@[expose] public section

set_option maxRecDepth 16384

noncomputable section

namespace Cert.UpFinite

open Cert.Pre_up_finite Idealize.ShloMosaic
open Cert.CoarseFinite (real_of_lt)
open Cert.UpPhase (near tap phase)
open Cert.UpValue (phases Reals)

/-- The shape relations the precondition's operations take. -/
instance facts : Cert.Pre_up_finite.Facts where
  bcast_S_S4x384x256 := by decide
  reducesTo_S4x384x256_S_d0_1_2 := by decide
  h_S_ := by decide
  bcast_S_S384x192x4x4 := by decide
  reducesTo_S384x192x4x4_S_d0_1_2_3 := by decide
  bcast_S_S192 := by decide
  reducesTo_S192_S_d0 := by decide
  bcast_S_S4x12 := by decide
  reducesTo_S4x12_S_d0_1 := by decide
  bcast_S_S12 := by decide
  reducesTo_S12_S_d0 := by decide

instance : Subsingleton S_.Idx := ⟨fun a b => funext fun i => i.elim0⟩

/-- An array whose test for finiteness came out true holds reals. -/
theorem reals_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : (x i : EReal) = ((x i : EReal).toReal : EReal) :=
  real_of_lt (x i) (Host.reduce_andi_all _ _ hr hu j h i)

/-- Under the precondition every argument but the score holds reals. -/
theorem reals (X : FVec Ideal S4x384x256 .f32) (S : FVec Ideal S4x256x1 .f32) (W : FVec Ideal S384x192x4x4 .f32) (B : FVec Ideal S192 .f32)
    (wq : FVec Ideal S4x12 .f32) (bq : FVec Ideal S12 .f32) (h : fn (F := Ideal) X S W B wq bq = fun _ => 1#1) :
    (∀ i, (X i : EReal) = ((X i : EReal).toReal : EReal)) ∧ (∀ i, (W i : EReal) = ((W i : EReal).toReal : EReal))
      ∧ (∀ i, (B i : EReal) = ((B i : EReal).toReal : EReal)) ∧ (∀ i, (wq i : EReal) = ((wq i : EReal).toReal : EReal))
      ∧ (∀ i, (bq i : EReal) = ((bq i : EReal).toReal : EReal)) := by
  have e := congrFun h (fun i => i.elim0)
  unfold fn fn_part1 at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all X _ _ _ _ e0, reals_of_all W _ _ _ _ e1, reals_of_all B _ _ _ _ e2, reals_of_all wq _ _ _ _ e3, reals_of_all bq _ _ _ _ e4⟩

/-- One tap over reals is real. -/
theorem tap_real (X : Fin 384 → Fin 256 → EReal) (W : Fin 16 → Fin 192 → Fin 384 → EReal) (x : Fin 384 → Fin 256 → ℝ) (w : Fin 16 → Fin 192 → Fin 384 → ℝ)
    (hX : ∀ c n, X c n = (x c n : EReal)) (hW : ∀ k o c, W k o c = (w k o c : EReal)) (r t i j : Fin 2) (o : Fin 192) (n : Fin 256) :
    ∃ y : ℝ, tap X W r t i j o n = (y : EReal) := by
  have hn : ∀ c dy dx, ∃ z : ℝ, near (X c) dy dx n = (z : EReal) := by
    intro c dy dx
    unfold near
    split_ifs
    · exact ⟨_, hX _ _⟩
    · exact ⟨0, rfl⟩
  choose z hz using hn
  unfold tap
  simp only [hz, hW, ← EReal.coe_mul]
  exact ⟨_, Cert.CoarseReal.coe_sum _ _⟩

/-- The transposed convolution over reals is real. -/
theorem phases_real (X : FVec Ideal S4x384x256 .f32) (W : FVec Ideal S384x192x4x4 .f32) (B : FVec Ideal S192 .f32)
    (hX : ∀ i, (X i : EReal) = ((X i : EReal).toReal : EReal)) (hW : ∀ i, (W i : EReal) = ((W i : EReal).toReal : EReal))
    (hB : ∀ i, (B i : EReal) = ((B i : EReal).toReal : EReal)) (b s : Fin 4) (o : Fin 192) (n : Fin 256) :
    phases X W B b s o n = ((phases X W B b s o n).toReal : EReal) := by
  have H := fun i j => tap_real (fun c n => (X (ix3 b c n) : EReal)) (fun k o c => (W (ix4 c o ⟨k / 4, by omega⟩ ⟨k % 4, by omega⟩) : EReal)) _ _
    (fun _ _ => hX _) (fun _ _ _ => hW _) ⟨s.val / 2, by omega⟩ ⟨s.val % 2, by omega⟩ i j o n
  choose y hy using H
  have e : phases X W B b s o n = ((B (ix1 o) : EReal).toReal + y 0 0 + y 0 1 + y 1 0 + y 1 1 : ℝ) := by
    unfold phases phase
    rw [hy, hy, hy, hy]
    simp only [EReal.coe_add]
    rw [← hB (ix1 o)]
  rw [e, EReal.toReal_coe]

/-- The arguments as reals, from the precondition. -/
theorem lift (X : FVec Ideal S4x384x256 .f32) (S : FVec Ideal S4x256x1 .f32) (W : FVec Ideal S384x192x4x4 .f32) (B : FVec Ideal S192 .f32)
    (wq : FVec Ideal S4x12 .f32) (bq : FVec Ideal S12 .f32) (h : fn (F := Ideal) X S W B wq bq = fun _ => 1#1) :
    Reals X W B wq bq (fun b o s n => (phases X W B b s o n).toReal) (fun d r => (wq (ix2 d r) : EReal).toReal) (fun r => (bq (ix1 r) : EReal).toReal) := by
  obtain ⟨h0, h1, h2, h3, h4⟩ := reals X S W B wq bq h
  exact ⟨phases_real X W B h0 h1 h2, fun _ _ => h3 _, fun _ => h4 _⟩

end Cert.UpFinite
-- ==== Proof.UpRef.lean ====
module

public import proofs.«01_k».proof.Proof.Gen.UpRefIdeal
public import Idealize.ShloMosaic.Lib.StableHlo.RunHlo
public import Idealize.ShloMosaic.Lib.StableHlo.RunRead
public import Idealize.ShloMosaic.Lib.Pointwise

@[expose] public section

set_option maxRecDepth 16384

noncomputable section

namespace Cert.UpRef

open Cert.UpRefIdeal Cert.UpRefIdeal.Gen Idealize.SL.Sem Idealize.ShloMosaic Idealize.ShloMosaic.TcCoe

variable {F : FTy → Type} [FloatOps F]

/-- The coarse output, its pixels two apart in a field of zeros. -/
def dilated (X : FVec F S4x384x256 .f32) : FVec F S4x384x35x35 .f32 :=
  pad S4x384x35x35 ![0, 0, 2, 2] ![0, 0, 2, 2] ![0, 0, 1, 1] (shapeCast _ X shapeCasts_S4x384x256_S4x384x16x16 : FVec F S4x384x16x16 .f32)
    (constant S_ .f32 0x00000000#32) pads_S4x384x16x16_S4x384x35x35_000_000_221_221 h_S_

/-- One tap of the transposed convolution: a slice of the dilated field against the weight's slice. -/
def tapDot (u : FVec F S4x384x32x32 .f32) (w : FVec F S384x192x1x1 .f32) : FVec F S4x192x32x32 .f32 :=
  transpose S4x192x32x32 [0, 3, 1, 2] (Host.dotGeneral dot_S4x384x32x32_S384x192_S4x32x32x192_1_0_023_1_n_n none u
    (shapeCast _ w shapeCasts_S384x192x1x1_S384x192)) transposes_S4x32x32x192_S4x192x32x32_0_3_1_2

/-- Zero everywhere. -/
def spread0 : FVec F S4x192x32x32 .f32 := broadcastInDim S4x192x32x32 ![] bcast_S_S4x192x32x32 (constant S_ .f32 0x00000000#32)

/-- The sixteen taps, one after the other. -/
def taps (x : FVec F S4x384x35x35 .f32) (W : FVec F S384x192x4x4 .f32) : FVec F S4x192x32x32 .f32 :=
  addf (addf (addf (addf (addf (addf (addf (addf (addf (addf (addf (addf (addf (addf (addf (addf spread0 (tapDot (extractStridedSlice S4x384x32x32 ![0, 0, 0, 0] x slices_S4x384x35x35_S4x384x32x32_0_0_0_0)
    (extractStridedSlice S384x192x1x1 ![0, 0, 3, 3] W slices_S384x192x4x4_S384x192x1x1_0_0_3_3))) (tapDot (extractStridedSlice S4x384x32x32 ![0, 0, 0, 1] x slices_S4x384x35x35_S4x384x32x32_0_0_0_1)
    (extractStridedSlice S384x192x1x1 ![0, 0, 3, 2] W slices_S384x192x4x4_S384x192x1x1_0_0_3_2))) (tapDot (extractStridedSlice S4x384x32x32 ![0, 0, 0, 2] x slices_S4x384x35x35_S4x384x32x32_0_0_0_2)
    (extractStridedSlice S384x192x1x1 ![0, 0, 3, 1] W slices_S384x192x4x4_S384x192x1x1_0_0_3_1))) (tapDot (extractStridedSlice S4x384x32x32 ![0, 0, 0, 3] x slices_S4x384x35x35_S4x384x32x32_0_0_0_3)
    (extractStridedSlice S384x192x1x1 ![0, 0, 3, 0] W slices_S384x192x4x4_S384x192x1x1_0_0_3_0))) (tapDot (extractStridedSlice S4x384x32x32 ![0, 0, 1, 0] x slices_S4x384x35x35_S4x384x32x32_0_0_1_0)
    (extractStridedSlice S384x192x1x1 ![0, 0, 2, 3] W slices_S384x192x4x4_S384x192x1x1_0_0_2_3))) (tapDot (extractStridedSlice S4x384x32x32 ![0, 0, 1, 1] x slices_S4x384x35x35_S4x384x32x32_0_0_1_1)
    (extractStridedSlice S384x192x1x1 ![0, 0, 2, 2] W slices_S384x192x4x4_S384x192x1x1_0_0_2_2))) (tapDot (extractStridedSlice S4x384x32x32 ![0, 0, 1, 2] x slices_S4x384x35x35_S4x384x32x32_0_0_1_2)
    (extractStridedSlice S384x192x1x1 ![0, 0, 2, 1] W slices_S384x192x4x4_S384x192x1x1_0_0_2_1))) (tapDot (extractStridedSlice S4x384x32x32 ![0, 0, 1, 3] x slices_S4x384x35x35_S4x384x32x32_0_0_1_3)
    (extractStridedSlice S384x192x1x1 ![0, 0, 2, 0] W slices_S384x192x4x4_S384x192x1x1_0_0_2_0))) (tapDot (extractStridedSlice S4x384x32x32 ![0, 0, 2, 0] x slices_S4x384x35x35_S4x384x32x32_0_0_2_0)
    (extractStridedSlice S384x192x1x1 ![0, 0, 1, 3] W slices_S384x192x4x4_S384x192x1x1_0_0_1_3))) (tapDot (extractStridedSlice S4x384x32x32 ![0, 0, 2, 1] x slices_S4x384x35x35_S4x384x32x32_0_0_2_1)
    (extractStridedSlice S384x192x1x1 ![0, 0, 1, 2] W slices_S384x192x4x4_S384x192x1x1_0_0_1_2))) (tapDot (extractStridedSlice S4x384x32x32 ![0, 0, 2, 2] x slices_S4x384x35x35_S4x384x32x32_0_0_2_2)
    (extractStridedSlice S384x192x1x1 ![0, 0, 1, 1] W slices_S384x192x4x4_S384x192x1x1_0_0_1_1))) (tapDot (extractStridedSlice S4x384x32x32 ![0, 0, 2, 3] x slices_S4x384x35x35_S4x384x32x32_0_0_2_3)
    (extractStridedSlice S384x192x1x1 ![0, 0, 1, 0] W slices_S384x192x4x4_S384x192x1x1_0_0_1_0))) (tapDot (extractStridedSlice S4x384x32x32 ![0, 0, 3, 0] x slices_S4x384x35x35_S4x384x32x32_0_0_3_0)
    (extractStridedSlice S384x192x1x1 ![0, 0, 0, 3] W slices_S384x192x4x4_S384x192x1x1_0_0_0_3))) (tapDot (extractStridedSlice S4x384x32x32 ![0, 0, 3, 1] x slices_S4x384x35x35_S4x384x32x32_0_0_3_1)
    (extractStridedSlice S384x192x1x1 ![0, 0, 0, 2] W slices_S384x192x4x4_S384x192x1x1_0_0_0_2))) (tapDot (extractStridedSlice S4x384x32x32 ![0, 0, 3, 2] x slices_S4x384x35x35_S4x384x32x32_0_0_3_2)
    (extractStridedSlice S384x192x1x1 ![0, 0, 0, 1] W slices_S384x192x4x4_S384x192x1x1_0_0_0_1))) (tapDot (extractStridedSlice S4x384x32x32 ![0, 0, 3, 3] x slices_S4x384x35x35_S4x384x32x32_0_0_3_3)
    (extractStridedSlice S384x192x1x1 ![0, 0, 0, 0] W slices_S384x192x4x4_S384x192x1x1_0_0_0_0))

/-- The transposed convolution with its bias. -/
def conv (X : FVec F S4x384x256 .f32) (W : FVec F S384x192x4x4 .f32) (B : FVec F S192 .f32) : FVec F S4x192x32x32 .f32 :=
  addf (taps (dilated X) W) (broadcastInDim S4x192x32x32 ![0, 1, 2, 3] bcast_S1x192x1x1_S4x192x32x32_0_1_2_3
    (broadcastInDim S1x192x1x1 ![1] bcast_S192_S1x192x1x1_1 B))

/-- The positions of the 64 greatest scores of each image. -/
def listed (S : FVec F S4x256x1 .f32) : IVec S4x64 32 :=
  (Host.topK S4x64 1 (FloatOps.cmpfTotal .gt) (shapeCast _ S shapeCasts_S4x256x1_S4x256 : FVec F S4x256 .f32) sliceFits_S4x256_S4x64).2

/-- The convolution cut into heads, channels, regions and the four pixels of a region. -/
def regions (C : FVec F S4x192x32x32 .f32) : FVec F S4x48x4x256x2x2 .f32 :=
  shapeCast _ (transpose S4x48x4x16x16x2x2 [0, 1, 2, 3, 5, 4, 6] (shapeCast _ C shapeCasts_S4x192x32x32_S4x48x4x16x2x16x2)
    transposes_S4x48x4x16x2x16x2_S4x48x4x16x16x2x2_0_1_2_3_5_4_6) shapeCasts_S4x48x4x16x16x2x2_S4x48x4x256x2x2

/-- The picked positions, one for each entry to gather. -/
def spreadIdx (ix : IVec S4x64 32) : IVec S4x48x4x64x2x2 32 :=
  broadcastInDim S4x48x4x64x2x2 ![0, 1, 2, 3, 4, 5] bcast_S4x1x1x64x1x1_S4x48x4x64x2x2_0_1_2_3_4_5
    (broadcastInDim S4x1x1x64x1x1 ![0, 3] bcast_S4x64_S4x1x1x64x1x1_0_3 ix)

/-- The positions to gather at: a negative one counts from the end. -/
def gatherIdx (ix : IVec S4x48x4x64x2x2 32) : IVec S4x48x4x64x2x2x1 32 :=
  shapeCast _ (select (cmpi .slt ix (broadcastInDim S4x48x4x64x2x2 ![] bcast_S_S4x48x4x64x2x2 (constantI S_ 32 0#32)))
    (addi ix (broadcastInDim S4x48x4x64x2x2 ![] bcast_S_S4x48x4x64x2x2 (constantI S_ 32 256#32))) ix : IVec S4x48x4x64x2x2 32)
    shapeCasts_S4x48x4x64x2x2_S4x48x4x64x2x2x1

/-- The picked regions. -/
def gathered (xr : FVec F S4x48x4x256x2x2 .f32) (ix : IVec S4x64 32) : FVec F S4x48x4x64x2x2 .f32 :=
  Host.gather gather_S4x48x4x256x2x2_S4x48x4x64x2x2x1_S4x48x4x64x2x2_n_3_01245_01245_3_6_111111 xr (gatherIdx (spreadIdx ix))

/-- Queries, keys and values of every head. -/
def qkv (T : FVec F S4x48x4x64x2x2 .f32) (wq : FVec F S4x12 .f32) (bq : FVec F S12 .f32) : FVec F S4x48x256x12 .f32 :=
  addf (Host.dotGeneral dot_S4x48x256x4_S4x12_S4x48x256x12_3_0_012_1_n_n none
      (transpose S4x48x256x4 [0, 1, 3, 2] (shapeCast _ T shapeCasts_S4x48x4x64x2x2_S4x48x4x256) transposes_S4x48x4x256_S4x48x256x4_0_1_3_2) wq)
    (broadcastInDim S4x48x256x12 ![0, 1, 2, 3] bcast_S1x1x1x12_S4x48x256x12_0_1_2_3 (broadcastInDim S1x1x1x12 ![3] bcast_S12_S1x1x1x12_3 bq))

/-- Keys against queries. -/
def logits (Q : FVec F S4x48x256x12 .f32) : FVec F S4x48x256x256 .f32 :=
  Host.dotGeneral dot_S4x48x256x4_S4x48x4x256_S4x48x256x256_3_2_2_3_01_01 none
    (extractStridedSlice S4x48x256x4 ![0, 0, 0, 4] Q slices_S4x48x256x12_S4x48x256x4_0_0_0_4)
    (transpose S4x48x4x256 [0, 1, 3, 2] (extractStridedSlice S4x48x256x4 ![0, 0, 0, 0] Q slices_S4x48x256x12_S4x48x256x4_0_0_0_0)
      transposes_S4x48x256x4_S4x48x4x256_0_1_3_2)

/-- A row's number, repeated along the row. -/
def along (v : FVec F S4x48x256 .f32) : FVec F S4x48x256x256 .f32 :=
  broadcastInDim S4x48x256x256 ![0, 1, 2, 3] bcast_S4x48x256x1_S4x48x256x256_0_1_2_3 (broadcastInDim S4x48x256x1 ![0, 1, 2] bcast_S4x48x256_S4x48x256x1_0_1_2 v)

/-- The largest entry of each row. -/
def top (T : FVec F S4x48x256x256 .f32) : FVec F S4x48x256 .f32 :=
  maximumf (broadcastInDim S4x48x256 ![] bcast_S_S4x48x256 (constant S_ .f32 0xFF800000#32))
    (Host.reduce FloatOps.maximumf T (constant S_ .f32 0xFF800000#32) reducesTo_S4x48x256x256_S4x48x256_d3 h_S_)

/-- Exponentials of the entries, shifted by the largest of their row. -/
def shifted (T : FVec F S4x48x256x256 .f32) : FVec F S4x48x256x256 .f32 := Host.exp (subf T (along (top T)))

/-- The exponentials over the sum of their row. -/
def softmax (T : FVec F S4x48x256x256 .f32) : FVec F S4x48x256x256 .f32 :=
  Host.divf (shifted T) (along (Host.reduceAdd (shifted T) (constant S_ .f32 0x00000000#32) reducesTo_S4x48x256x256_S4x48x256_d3 h_S_))

/-- The weights applied to the values, cut into regions and pixels again. -/
def applied (Q : FVec F S4x48x256x12 .f32) : FVec F S4x48x4x64x2x2 .f32 :=
  shapeCast _ (transpose S4x48x4x256 [0, 1, 3, 2] (Host.dotGeneral dot_S4x48x256x256_S4x48x256x4_S4x48x256x4_3_2_2_3_01_01 none (softmax (logits Q))
    (extractStridedSlice S4x48x256x4 ![0, 0, 0, 8] Q slices_S4x48x256x12_S4x48x256x4_0_0_0_8)) transposes_S4x48x256x4_S4x48x4x256_0_1_3_2)
    shapeCasts_S4x48x4x256_S4x48x4x64x2x2

/-- The positions to add at: a negative one counts from the end. -/
def addIdx (ix : IVec S1x64 32) : IVec S64x1 32 :=
  broadcastInDim S64x1 ![0] bcast_S64_S64x1_0 (select
    (cmpi .slt (shapeCast _ ix shapeCasts_S1x64_S64 : IVec S64 32) (broadcastInDim S64 ![] bcast_S_S64 (constantI S_ 32 0#32)))
    (addi (shapeCast _ ix shapeCasts_S1x64_S64 : IVec S64 32) (broadcastInDim S64 ![] bcast_S_S64 (constantI S_ 32 256#32)))
    (shapeCast _ ix shapeCasts_S1x64_S64 : IVec S64 32))

/-- The regions of one image with the attention added at the picked ones. -/
def added (x : FVec F S1x48x4x256x2x2 .f32) (ix : IVec S1x64 32) (u : FVec F S1x48x4x64x2x2 .f32) : FVec F S1x48x4x256x2x2 .f32 :=
  broadcastInDim S1x48x4x256x2x2 ![1, 2, 3, 4, 5] bcast_S48x4x256x2x2_S1x48x4x256x2x2_1_2_3_4_5
    (Host.scatterAdd scatter_S48x4x256x2x2_S64x1_S48x4x64x2x2_0134_2_2_1 (shapeCast _ x shapeCasts_S1x48x4x256x2x2_S48x4x256x2x2)
      (addIdx ix) (shapeCast _ u shapeCasts_S1x48x4x64x2x2_S48x4x64x2x2))

/-- The first image's regions with the attention added. -/
def image0 (xr : FVec F S4x48x4x256x2x2 .f32) (ix : IVec S4x64 32) (u : FVec F S4x48x4x64x2x2 .f32) : FVec F S1x48x4x256x2x2 .f32 :=
  added (extractStridedSlice S1x48x4x256x2x2 ![0, 0, 0, 0, 0, 0] xr slices_S4x48x4x256x2x2_S1x48x4x256x2x2_0_0_0_0_0_0)
    (extractStridedSlice S1x64 ![0, 0] ix slices_S4x64_S1x64_0_0)
    (extractStridedSlice S1x48x4x64x2x2 ![0, 0, 0, 0, 0, 0] u slices_S4x48x4x64x2x2_S1x48x4x64x2x2_0_0_0_0_0_0)

/-- The second image's regions with the attention added. -/
def image1 (xr : FVec F S4x48x4x256x2x2 .f32) (ix : IVec S4x64 32) (u : FVec F S4x48x4x64x2x2 .f32) : FVec F S1x48x4x256x2x2 .f32 :=
  added (extractStridedSlice S1x48x4x256x2x2 ![1, 0, 0, 0, 0, 0] xr slices_S4x48x4x256x2x2_S1x48x4x256x2x2_1_0_0_0_0_0)
    (extractStridedSlice S1x64 ![1, 0] ix slices_S4x64_S1x64_1_0)
    (extractStridedSlice S1x48x4x64x2x2 ![1, 0, 0, 0, 0, 0] u slices_S4x48x4x64x2x2_S1x48x4x64x2x2_1_0_0_0_0_0)

/-- The third image's regions with the attention added. -/
def image2 (xr : FVec F S4x48x4x256x2x2 .f32) (ix : IVec S4x64 32) (u : FVec F S4x48x4x64x2x2 .f32) : FVec F S1x48x4x256x2x2 .f32 :=
  added (extractStridedSlice S1x48x4x256x2x2 ![2, 0, 0, 0, 0, 0] xr slices_S4x48x4x256x2x2_S1x48x4x256x2x2_2_0_0_0_0_0)
    (extractStridedSlice S1x64 ![2, 0] ix slices_S4x64_S1x64_2_0)
    (extractStridedSlice S1x48x4x64x2x2 ![2, 0, 0, 0, 0, 0] u slices_S4x48x4x64x2x2_S1x48x4x64x2x2_2_0_0_0_0_0)

/-- The fourth image's regions with the attention added. -/
def image3 (xr : FVec F S4x48x4x256x2x2 .f32) (ix : IVec S4x64 32) (u : FVec F S4x48x4x64x2x2 .f32) : FVec F S1x48x4x256x2x2 .f32 :=
  added (extractStridedSlice S1x48x4x256x2x2 ![3, 0, 0, 0, 0, 0] xr slices_S4x48x4x256x2x2_S1x48x4x256x2x2_3_0_0_0_0_0)
    (extractStridedSlice S1x64 ![3, 0] ix slices_S4x64_S1x64_3_0)
    (extractStridedSlice S1x48x4x64x2x2 ![3, 0, 0, 0, 0, 0] u slices_S4x48x4x64x2x2_S1x48x4x64x2x2_3_0_0_0_0_0)

/-- The four images one after the other. -/
def stacked (a b c d : FVec F S1x48x4x256x2x2 .f32) : FVec F S4x48x4x256x2x2 .f32 :=
  concatenate S4x48x4x256x2x2 0 [⟨S1x48x4x256x2x2, a⟩, ⟨S1x48x4x256x2x2, b⟩, ⟨S1x48x4x256x2x2, c⟩, ⟨S1x48x4x256x2x2, d⟩]
    concatenates_S1x48x4x256x2x2_S1x48x4x256x2x2_S1x48x4x256x2x2_S1x48x4x256x2x2_S4x48x4x256x2x2_d0

/-- The residual sum, its pixels listed by their place in a region. -/
def result (C : FVec F S4x192x32x32 .f32) (R : FVec F S4x48x4x256x2x2 .f32) : FVec F S4x4x192x256 .f32 :=
  shapeCast _ (transpose S4x2x2x192x16x16 [0, 3, 5, 1, 2, 4] (shapeCast _ (addf C (shapeCast _ (transpose S4x48x4x16x2x16x2 [0, 1, 2, 3, 5, 4, 6]
    (shapeCast _ R shapeCasts_S4x48x4x256x2x2_S4x48x4x16x16x2x2) transposes_S4x48x4x16x16x2x2_S4x48x4x16x2x16x2_0_1_2_3_5_4_6)
    shapeCasts_S4x48x4x16x2x16x2_S4x192x32x32)) shapeCasts_S4x192x32x32_S4x192x16x2x16x2)
    transposes_S4x192x16x2x16x2_S4x2x2x192x16x16_0_3_5_1_2_4) shapeCasts_S4x2x2x192x16x16_S4x4x192x256

end Cert.UpRef
-- ==== Proof.UpRefConv.lean ====
module

public import proofs.«01_k».proof.Proof.UpRef
public import proofs.«01_k».proof.Proof.UpValue
public import Idealize.ShloMosaic.Lib.Pointwise

@[expose] public section

set_option maxRecDepth 16384

noncomputable section

namespace Cert.UpRef

open Cert.UpRefIdeal Cert.UpRefIdeal.Gen Idealize.ShloMosaic Idealize.ShloMosaic.TcCoe
open Cert.UpPhase (near tap phase)
open Cert.UpValue (phases)

variable (X : FVec Ideal S4x384x256 .f32) (W : FVec Ideal S384x192x4x4 .f32) (B : FVec Ideal S192 .f32)

/-- The dilated field at an index: a pixel at every second row and column, zero elsewhere. -/
theorem dilated_apply (b : Fin 4) (k : Fin 384) (p q : Fin 35) : dilated X (ix4 b k p q)
    = if h : (2 ≤ p.val ∧ p.val ≤ 32 ∧ p.val % 2 = 0) ∧ (2 ≤ q.val ∧ q.val ≤ 32 ∧ q.val % 2 = 0) then
        (X (ix3 b k ⟨16 * ((p.val - 2) / 2) + (q.val - 2) / 2, by omega⟩) : EReal) else 0 := by
  pointwise [dilated]
  by_cases h : (2 ≤ p.val ∧ p.val ≤ 32 ∧ p.val % 2 = 0) ∧ (2 ≤ q.val ∧ q.val ≤ 32 ∧ q.val % 2 = 0)
  · rw [dif_pos h, dif_pos (by omega)]
    exact congrArg (fun p => (X (ix3 b k p) : EReal)) (Fin.ext (by simp only; omega))
  · rw [dif_neg h, dif_neg (by omega)]

/-- One tap at an index: a sum over the channels. -/
theorem tapDot_apply (u : FVec Ideal S4x384x32x32 .f32) (w : FVec Ideal S384x192x1x1 .f32) (b : Fin 4) (o : Fin 192) (p q : Fin 32) :
    tapDot u w (ix4 b o p q) = ∑ k : Fin 384, (u (ix4 b k p q) : EReal) * w (ix4 k o 0 0) := by
  pointwise [tapDot]

/-- A window of the dilated field at an index. -/
theorem window_apply (x : FVec Ideal S4x384x35x35 .f32) (ky kx : ℕ) (hy : ky < 4) (hx : kx < 4)
    (h : S4x384x35x35.Slices ![0, 0, ky, kx] S4x384x32x32) (b : Fin 4) (k : Fin 384) (p q : Fin 32) :
    (extractStridedSlice S4x384x32x32 ![0, 0, ky, kx] x h : FVec Ideal S4x384x32x32 .f32) (ix4 b k p q)
      = x (ix4 b k ⟨ky + p.val, by omega⟩ ⟨kx + q.val, by omega⟩) := by
  pointwise []

/-- A slice of the weight at an index. -/
theorem wslice_apply (wy wx : ℕ) (hy : wy < 4) (hx : wx < 4) (h : S384x192x4x4.Slices ![0, 0, wy, wx] S384x192x1x1) (k : Fin 384) (o : Fin 192) :
    (extractStridedSlice S384x192x1x1 ![0, 0, wy, wx] W h : FVec Ideal S384x192x1x1 .f32) (ix4 k o 0 0) = W (ix4 k o ⟨wy, hy⟩ ⟨wx, hx⟩) := by
  pointwise []

/-- One tap at a pixel: nothing when the kernel's row or column falls between the pixels, a tap of the pixel's phase otherwise. -/
theorem tap_term (ky kx wy wx : ℕ) (hy : wy + ky = 3) (hx : wx + kx = 3) (h : S4x384x35x35.Slices ![0, 0, ky, kx] S4x384x32x32)
    (h' : S384x192x4x4.Slices ![0, 0, wy, wx] S384x192x1x1) (b : Fin 4) (o : Fin 192) (n : Fin 256) (r t : Fin 2) :
    tapDot (extractStridedSlice S4x384x32x32 ![0, 0, ky, kx] (dilated X) h) (extractStridedSlice S384x192x1x1 ![0, 0, wy, wx] W h')
        (ix4 b o ⟨2 * (n.val / 16) + r.val, by omega⟩ ⟨2 * (n.val % 16) + t.val, by omega⟩)
      = if (r.val + ky) % 2 = 0 ∧ (t.val + kx) % 2 = 0 then
          tap (fun c n => X (ix3 b c n)) (fun k o c => W (ix4 c o ⟨k / 4, by omega⟩ ⟨k % 4, by omega⟩)) r t
            ⟨(2 + r.val - ky) / 2, by omega⟩ ⟨(2 + t.val - kx) / 2, by omega⟩ o n else 0 := by
  rw [tapDot_apply]
  simp only [window_apply _ ky kx (by omega) (by omega), wslice_apply W wy wx (by omega) (by omega), dilated_apply]
  by_cases H : (r.val + ky) % 2 = 0 ∧ (t.val + kx) % 2 = 0
  · rw [if_pos H]
    unfold tap
    refine Finset.sum_congr rfl fun c _ => ?_
    rw [mul_comm]
    refine congr (congrArg _ ?_) ?_
    · exact congrArg₂ (fun p q => (W (ix4 c o p q) : EReal)) (Fin.ext (by simp only; omega)) (Fin.ext (by simp only; omega))
    · unfold near
      by_cases g : (2 ≤ ky + (2 * (n.val / 16) + r.val) ∧ ky + (2 * (n.val / 16) + r.val) ≤ 32 ∧ (ky + (2 * (n.val / 16) + r.val)) % 2 = 0)
          ∧ (2 ≤ kx + (2 * (n.val % 16) + t.val) ∧ kx + (2 * (n.val % 16) + t.val) ≤ 32 ∧ (kx + (2 * (n.val % 16) + t.val)) % 2 = 0)
      · rw [dif_pos g, dif_pos (by simp only; omega)]
        exact congrArg (fun p => (X (ix3 b c p) : EReal)) (Fin.ext (by simp only; omega))
      · rw [dif_neg g, dif_neg (by simp only; omega)]
  · rw [if_neg H]
    refine Finset.sum_eq_zero fun c _ => ?_
    rw [dif_neg (by omega), zero_mul]

/-- The zero field at an index. -/
theorem spread0_apply (i : S4x192x32x32.Idx) : (spread0 : FVec Ideal S4x192x32x32 .f32) i = (0 : EReal) := by
  show Ideal.ofBits .f32 0x00000000#32 = 0
  simp [Ideal.ofBits, Ideal.ieee]

/-- A sum at an index. -/
theorem add_at {s : Shape} (f g : FVec Ideal s .f32) (i : s.Idx) : addf f g i = (f i : EReal) + g i := rfl

/-- The bias at an index. -/
theorem bias_apply (b : Fin 4) (o : Fin 192) (p q : Fin 32) :
    (broadcastInDim S4x192x32x32 ![0, 1, 2, 3] bcast_S1x192x1x1_S4x192x32x32_0_1_2_3
      (broadcastInDim S1x192x1x1 ![1] bcast_S192_S1x192x1x1_1 B) : FVec Ideal S4x192x32x32 .f32) (ix4 b o p q) = B (ix1 o) := by
  pointwise []

/-- A sum of five numbers read from its other end. -/
theorem turned (a b c d e : EReal) : a + b + c + d + e = e + d + c + b + a := by ac_rfl

/-- The transposed convolution at a pixel: the pixel's phase at its region. -/
theorem conv_apply (b : Fin 4) (o : Fin 192) (n : Fin 256) (r t : Fin 2) (s : Fin 4) (hs : s.val = 2 * r.val + t.val) :
    conv X W B (ix4 b o ⟨2 * (n.val / 16) + r.val, by omega⟩ ⟨2 * (n.val % 16) + t.val, by omega⟩) = phases X W B b s o n := by
  unfold conv
  refine ((add_at _ _ _).trans (congrArg _ (bias_apply B _ _ _ _))).trans ?_
  unfold taps
  simp only [add_at, spread0_apply]
  rw [tap_term X W 0 0 3 3 rfl rfl, tap_term X W 0 1 3 2 rfl rfl, tap_term X W 0 2 3 1 rfl rfl, tap_term X W 0 3 3 0 rfl rfl,
    tap_term X W 1 0 2 3 rfl rfl, tap_term X W 1 1 2 2 rfl rfl, tap_term X W 1 2 2 1 rfl rfl, tap_term X W 1 3 2 0 rfl rfl,
    tap_term X W 2 0 1 3 rfl rfl, tap_term X W 2 1 1 2 rfl rfl, tap_term X W 2 2 1 1 rfl rfl, tap_term X W 2 3 1 0 rfl rfl,
    tap_term X W 3 0 0 3 rfl rfl, tap_term X W 3 1 0 2 rfl rfl, tap_term X W 3 2 0 1 rfl rfl, tap_term X W 3 3 0 0 rfl rfl]
  unfold phases phase
  rw [show (⟨s.val / 2, by omega⟩ : Fin 2) = r from Fin.ext (by simp only; omega), show (⟨s.val % 2, by omega⟩ : Fin 2) = t from Fin.ext (by simp only; omega)]
  generalize hf : tap (fun c n => (X (ix3 b c n) : EReal)) (fun k o c => W (ix4 c o ⟨k / 4, by omega⟩ ⟨k % 4, by omega⟩)) = f
  clear hf
  fin_cases r <;> fin_cases t <;> simp <;> exact turned _ _ _ _ _

end Cert.UpRef
-- ==== Proof.UpRefPick.lean ====
module

public import proofs.«01_k».proof.Proof.UpRef
public import proofs.«01_k».proof.Proof.UpPick
public import Idealize.ShloMosaic.Lib.Pointwise

@[expose] public section

set_option maxRecDepth 16384

noncomputable section

namespace Cert.UpRef

open Cert.UpRefIdeal Cert.UpRefIdeal.Gen Idealize.ShloMosaic Idealize.ShloMosaic.TcCoe
open Cert.UpPick (pick order best pick_injective best_eq)

/-- The order of the scores, as the comparison the sort is given. -/
theorem gt_word (a b : EReal) : ((FloatOps.cmpfTotal (F := Ideal) (φ := .f32) .gt a b : BitVec 1) == 1#1) = decide (b < a) := by
  show ((Ideal.cmp .ogt a b : BitVec 1) == 1#1) = _
  simp only [Ideal.cmp]
  by_cases h : b < a <;> simp [h]

/-- An entry of a row. -/
theorem along_row {m n : ℕ} (b : Fin m) (k a : Fin n) : (ix2 b k : (⟨2, ![m, n]⟩ : Shape).Idx).along (1 : Fin 2) a = ix2 b a := by
  funext q
  fin_cases q <;> rfl

/-- Sorting every row, with a second array carried along. -/
theorem sort_rows {m n : ℕ} {α β : Type} (cmp : α × β → α × β → BitVec 1) (x : (⟨2, ![m, n]⟩ : Shape).Idx → α) (y : (⟨2, ![m, n]⟩ : Shape).Idx → β)
    (b : Fin m) (k : Fin n) : (Host.sort2 ⟨2, ![m, n]⟩ 1 cmp x y).2 (ix2 b k)
      = y (ix2 b (sortedFrom (fun a c => cmp (x (ix2 b a), y (ix2 b a)) (x (ix2 b c), y (ix2 b c)) == 1#1) k)) := by
  unfold Host.sort2
  rw [dif_pos (show 1 < (⟨2, ![m, n]⟩ : Shape).rank from Nat.one_lt_two)]
  refine Eq.trans (congrArg y (along_row b k _)) ?_
  refine congrArg (fun f : Fin n → Fin n → Bool => y (ix2 b (sortedFrom f k))) ?_
  funext a c
  exact congrArg₂ (fun p q => (cmp (x p, y p) (x q, y q) == 1#1)) (along_row b k a) (along_row b k c)

/-- The listed positions at an index. -/
theorem listed_apply (S : FVec Ideal S4x256x1 .f32) (b : Fin 4) (k : Fin 64) :
    listed S (ix2 b k) = BitVec.ofNat 32 (pick (fun n => S (ix3 b n 0)) k).val := by
  have e : ∀ n : Fin 256, (shapeCast _ S shapeCasts_S4x256x1_S4x256 : FVec Ideal S4x256 .f32) (ix2 b n) = S (ix3 b n 0) := by
    intro n; pointwise []
  unfold listed Host.topK
  refine (?_ : _ = (Host.sort2 S4x256 1 (fun l r => FloatOps.cmpfTotal (F := Ideal) (φ := .f32) .gt l.1 r.1)
    (shapeCast _ S shapeCasts_S4x256x1_S4x256 : FVec Ideal S4x256 .f32) (iotaInDim S4x256 32 1)).2 (ix2 b ⟨k.val, by omega⟩)).trans ?_
  · pointwise []
    rfl
  · rw [sort_rows]
    unfold pick order
    refine congrArg (fun f : Fin 256 → Fin 256 → Bool => BitVec.ofNat 32 (sortedFrom f ⟨k.val, by omega⟩).val) ?_
    funext a c
    rw [gt_word, e, e]

/-- A small position is not negative. -/
theorem wrap (a : Nat) (ha : a < 256) :
    Scalar.select (IntOp.cmpi CmpIPredicate.slt (BitVec.ofNat 32 a) 0#32) (IntOp.addi (BitVec.ofNat 32 a) 256#32) (BitVec.ofNat 32 a) = BitVec.ofNat 32 a := by
  have h : ∀ a : Fin 256, Scalar.select (IntOp.cmpi CmpIPredicate.slt (BitVec.ofNat 32 a.val) 0#32) (IntOp.addi (BitVec.ofNat 32 a.val) 256#32) (BitVec.ofNat 32 a.val) = BitVec.ofNat 32 a.val := by
    decide +kernel
  exact h ⟨a, ha⟩

/-- A small number read back from its word. -/
theorem read_small (a : Nat) (ha : a < 256) : (BitVec.ofNat 32 a).toInt = a := by
  have h : ∀ a : Fin 256, (BitVec.ofNat 32 a.val).toInt = a.val := by decide +kernel
  exact h ⟨a, ha⟩

/-- The gathered entries: those of the picked regions. -/
theorem gathered_apply (xr : FVec Ideal S4x48x4x256x2x2 .f32) (ix : IVec S4x64 32) (p : Fin 4 → Fin 64 → Fin 256)
    (hix : ∀ b k, ix (ix2 b k) = BitVec.ofNat 32 (p b k).val) (b : Fin 4) (h : Fin 48) (d : Fin 4) (k : Fin 64) (r t : Fin 2) :
    gathered xr ix (ix6 b h d k r t) = xr (ix6 b h d (p b k) r t) := by
  have e : gatherIdx (spreadIdx ix) (ix7 b h d k r t 0) = BitVec.ofNat 32 (p b k).val := by
    rw [← wrap _ (p b k).isLt, ← hix]
    pointwise [gatherIdx, spreadIdx]
  unfold gathered Host.gather
  refine congrArg xr ?_
  funext a
  refine Fin.ext ?_
  fin_cases a
  · exact Nat.zero_add _
  · exact Nat.zero_add _
  · exact Nat.zero_add _
  · show min (gatherIdx (spreadIdx ix) _).toInt.toNat 255 + 0 + 0 = (p b k).val
    rw [show GatherDims.siIdx gather_S4x48x4x256x2x2_S4x48x4x64x2x2x1_S4x48x4x64x2x2_n_3_01245_01245_3_6_111111 (ix6 b h d k r t) _ = ix7 b h d k r t 0 from by
      funext q; refine Fin.ext ?_; fin_cases q <;> rfl, e, read_small _ (p b k).isLt]
    have := (p b k).isLt
    omega
  · exact Nat.zero_add _
  · exact Nat.zero_add _

/-- Where an update lands. -/
theorem lands (ix : IVec S1x64 32) (p : Fin 64 → Fin 256) (hix : ∀ k, ix (ix2 0 k) = BitVec.ofNat 32 (p k).val)
    (h : Fin 48) (d : Fin 4) (k : Fin 64) (r t : Fin 2) :
    ScatterDims.resultIdx? scatter_S48x4x256x2x2_S64x1_S48x4x64x2x2_0134_2_2_1 (ix5 h d k r t) (addIdx ix) = some (ix5 h d (p k) r t) := by
  have e : addIdx ix (ix2 k 0) = BitVec.ofNat 32 (p k).val := by
    rw [← wrap _ (p k).isLt, ← hix]
    pointwise [addIdx]
  have s2 : ScatterDims.start scatter_S48x4x256x2x2_S64x1_S48x4x64x2x2_0134_2_2_1 (ix5 h d k r t) (addIdx ix) (2 : Fin 5) = (p k).val := by
    show (addIdx ix _).toInt = _
    rw [show ScatterDims.siIdx scatter_S48x4x256x2x2_S64x1_S48x4x64x2x2_0134_2_2_1 (ix5 h d k r t) _ = ix2 k 0 from by
      funext q; refine Fin.ext ?_; fin_cases q <;> rfl, e, read_small _ (p k).isLt]
  have total : ∀ a : Fin 5, ScatterDims.start scatter_S48x4x256x2x2_S64x1_S48x4x64x2x2_0134_2_2_1 (ix5 h d k r t) (addIdx ix) a
      + ScatterDims.window scatter_S48x4x256x2x2_S64x1_S48x4x64x2x2_0134_2_2_1 (ix5 h d k r t) a = (((ix5 h d (p k) r t : S48x4x256x2x2.Idx) a).val : Int) := by
    intro a
    fin_cases a
    · exact zero_add _
    · exact zero_add _
    · refine (congrArg (· + _) s2).trans ?_
      exact add_zero _
    · exact zero_add _
    · exact zero_add _
  unfold ScatterDims.resultIdx?
  rw [dif_pos (fun a => by rw [total a]; exact ⟨Int.natCast_nonneg _, Int.ofNat_lt.2 (Fin.isLt _)⟩)]
  refine congrArg some ?_
  funext a
  refine Fin.ext ?_
  show Int.toNat _ = _
  rw [total a]
  exact Int.toNat_natCast _

/-- One image's regions: the operand and what lands there. -/
theorem added_apply (x : FVec Ideal S1x48x4x256x2x2 .f32) (ix : IVec S1x64 32) (u : FVec Ideal S1x48x4x64x2x2 .f32) (p : Fin 64 → Fin 256)
    (hix : ∀ k, ix (ix2 0 k) = BitVec.ofNat 32 (p k).val) (h : Fin 48) (d : Fin 4) (n : Fin 256) (r t : Fin 2) :
    added x ix u (ix6 0 h d n r t) = (x (ix6 0 h d n r t) : EReal) + ∑ k, if p k = n then (u (ix6 0 h d k r t) : EReal) else 0 := by
  have ex : (shapeCast _ x shapeCasts_S1x48x4x256x2x2_S48x4x256x2x2 : FVec Ideal S48x4x256x2x2 .f32) (ix5 h d n r t) = x (ix6 0 h d n r t) := by
    pointwise []
  have eu : ∀ k, (shapeCast _ u shapeCasts_S1x48x4x64x2x2_S48x4x64x2x2 : FVec Ideal S48x4x64x2x2 .f32) (ix5 h d k r t) = u (ix6 0 h d k r t) := by
    intro k; pointwise []
  have eb : added x ix u (ix6 0 h d n r t) = (Host.scatterAdd scatter_S48x4x256x2x2_S64x1_S48x4x64x2x2_0134_2_2_1
      (shapeCast _ x shapeCasts_S1x48x4x256x2x2_S48x4x256x2x2 : FVec Ideal S48x4x256x2x2 .f32) (addIdx ix)
      (shapeCast _ u shapeCasts_S1x48x4x64x2x2_S48x4x64x2x2)) (ix5 h d n r t) := by
    unfold added
    generalize Host.scatterAdd (F := Ideal) _ _ _ _ = w
    pointwise []
  rw [eb]
  show (_ : EReal) + ∑ j ∈ Finset.univ.filter (fun j => ScatterDims.resultIdx? _ j (addIdx ix) = some (ix5 h d n r t)), _ = _
  rw [ex, ← Finset.sum_filter]
  congr 1
  refine Finset.sum_nbij' (fun j : S48x4x64x2x2.Idx => (j 2 : Fin 64)) (fun k : Fin 64 => (ix5 h d k r t : S48x4x64x2x2.Idx)) ?_ ?_ ?_ ?_ ?_
  · intro j hj
    obtain ⟨h', d', k', r', t', rfl⟩ : ∃ (h' : Fin 48) (d' : Fin 4) (k' : Fin 64) (r' t' : Fin 2), j = ix5 h' d' k' r' t' :=
      ⟨j 0, j 1, j 2, j 3, j 4, by funext a; fin_cases a <;> rfl⟩
    rw [Finset.mem_filter, lands ix p hix] at hj
    exact Finset.mem_filter.2 ⟨Finset.mem_univ _, congrFun (Option.some.inj hj.2) 2⟩
  · intro k hk
    refine Finset.mem_filter.2 ⟨Finset.mem_univ _, ?_⟩
    rw [lands ix p hix, (Finset.mem_filter.1 hk).2]
  · intro j hj
    obtain ⟨h', d', k', r', t', rfl⟩ : ∃ (h' : Fin 48) (d' : Fin 4) (k' : Fin 64) (r' t' : Fin 2), j = ix5 h' d' k' r' t' :=
      ⟨j 0, j 1, j 2, j 3, j 4, by funext a; fin_cases a <;> rfl⟩
    rw [Finset.mem_filter, lands ix p hix] at hj
    have E := Option.some.inj hj.2
    have e0 : h' = h := congrFun E 0
    have e1 : d' = d := congrFun E 1
    have e3 : r' = r := congrFun E 3
    have e4 : t' = t := congrFun E 4
    subst e0 e1 e3 e4
    rfl
  · intro k _
    rfl
  · intro j hj
    obtain ⟨h', d', k', r', t', rfl⟩ : ∃ (h' : Fin 48) (d' : Fin 4) (k' : Fin 64) (r' t' : Fin 2), j = ix5 h' d' k' r' t' :=
      ⟨j 0, j 1, j 2, j 3, j 4, by funext a; fin_cases a <;> rfl⟩
    rw [Finset.mem_filter, lands ix p hix] at hj
    have E := Option.some.inj hj.2
    have e0 : h' = h := congrFun E 0
    have e1 : d' = d := congrFun E 1
    have e3 : r' = r := congrFun E 3
    have e4 : t' = t := congrFun E 4
    subst e0 e1 e3 e4
    exact eu k'

end Cert.UpRef
-- ==== Proof.UpRefAtt.lean ====
module

public import proofs.«01_k».proof.Proof.UpRefPick
public import proofs.«01_k».proof.Proof.UpReal
public import proofs.«01_k».proof.Proof.CoarseRefReal
public import Idealize.ShloMosaic.Lib.Pointwise

@[expose] public section

set_option maxRecDepth 16384

noncomputable section

namespace Cert.UpRef

open Cert.UpRefIdeal Cert.UpRefIdeal.Gen Idealize.ShloMosaic Idealize.ShloMosaic.TcCoe
open Cert.CoarseReal (coe_sum coe_div expSum_ne)
open Cert.CoarseRef (reduce_real neg_top max_floor shift_free)
open Cert.UpReal (rows score)

/-- Queries, keys and values at an index: token `n` is pixel `n % 4` of the picked region `n / 4`. -/
theorem qkv_apply (T : FVec Ideal S4x48x4x64x2x2 .f32) (wq : FVec Ideal S4x12 .f32) (bq : FVec Ideal S12 .f32)
    (b : Fin 4) (h : Fin 48) (n : Fin 256) (r : Fin 12) : qkv T wq bq (ix4 b h n r)
    = ∑ d : Fin 4, (T (ix6 b h d ⟨n / 4, by omega⟩ ⟨n % 4 / 2, by omega⟩ ⟨n % 2, by omega⟩) : EReal) * wq (ix2 d r) + bq (ix1 r) := by
  have e : ∀ d, (shapeCast _ T shapeCasts_S4x48x4x64x2x2_S4x48x4x256 : FVec Ideal S4x48x4x256 .f32) (ix4 b h d n)
      = T (ix6 b h d ⟨n / 4, by omega⟩ ⟨n % 4 / 2, by omega⟩ ⟨n % 2, by omega⟩) := by
    intro d
    pointwise []
    exact congrArg (fun p => (T (ix6 b h d _ p _) : EReal)) (Fin.ext (by simp only; omega))
  simp only [← e]
  unfold qkv
  generalize (shapeCast _ T shapeCasts_S4x48x4x64x2x2_S4x48x4x256 : FVec Ideal S4x48x4x256 .f32) = T'
  pointwise []

/-- Keys against queries at an index. -/
theorem logits_apply (Q : FVec Ideal S4x48x256x12 .f32) (b : Fin 4) (h : Fin 48) (i j : Fin 256) : logits Q (ix4 b h i j)
    = ∑ d : Fin 4, (Q (ix4 b h i ⟨4 + d.val, by omega⟩) : EReal) * Q (ix4 b h j ⟨d.val, by omega⟩) := by
  pointwise [logits]

/-- The softmax at an index. -/
theorem softmax_apply (T : FVec Ideal S4x48x256x256 .f32) (b : Fin 4) (h : Fin 48) (i j : Fin 256) : softmax T (ix4 b h i j)
    = Ideal.div (Ideal.exp ((T (ix4 b h i j) : EReal) - top T (ix3 b h i)))
        (∑ x : Fin 256, Ideal.exp ((T (ix4 b h i x) : EReal) - top T (ix3 b h i))) := by
  pointwise [softmax, along, shifted]

/-- The applied weights at an index. -/
theorem applied_apply (Q : FVec Ideal S4x48x256x12 .f32) (b : Fin 4) (h : Fin 48) (d : Fin 4) (k : Fin 64) (r t : Fin 2) (i : Fin 256)
    (hi : i.val = 4 * k.val + 2 * r.val + t.val) : applied Q (ix6 b h d k r t)
    = ∑ j : Fin 256, (softmax (logits Q) (ix4 b h i j) : EReal) * Q (ix4 b h j ⟨8 + d.val, by omega⟩) := by
  have hb : 4 * k.val + 2 * r.val + t.val < 256 := hi ▸ i.isLt
  have hi' : i = ⟨4 * k.val + 2 * r.val + t.val, hb⟩ := Fin.ext hi
  subst hi'
  have e : ∀ T : FVec Ideal S4x48x4x256 .f32, (shapeCast _ T shapeCasts_S4x48x4x256_S4x48x4x64x2x2 : FVec Ideal S4x48x4x64x2x2 .f32) (ix6 b h d k r t)
      = T (ix4 b h d ⟨4 * k.val + 2 * r.val + t.val, by omega⟩) := by
    intro T
    pointwise []
    exact congrArg (fun p => (T (ix4 b h d p) : EReal)) (Fin.ext (by simp only; omega))
  unfold applied
  rw [e]
  pointwise []

/-- A spread constant is the constant everywhere. -/
theorem spread_floor {s : Shape} {dims : Fin S_.rank → Fin s.rank} (h) (j : s.Idx) :
    (broadcastInDim s dims h (constant S_ .f32 0xFF800000#32) : FVec Ideal s .f32) j = (⊥ : EReal) := neg_top

/-- Dropping the last coordinate of an index. -/
theorem drop_last (b : Fin 4) (h : Fin 48) (i : Fin 256) :
    reducesTo_S4x48x256x256_S4x48x256_d3.drop (ix4 b h i 0) = (ix3 b h i : S4x48x256.Idx) := by
  funext a
  fin_cases a <;> rfl

/-- The largest entry of a row of reals is a real. -/
theorem top_real (T : FVec Ideal S4x48x256x256 .f32) (t : S4x48x256x256.Idx → ℝ) (hT : ∀ i, T i = (t i : EReal)) (b : Fin 4) (h : Fin 48) (i : Fin 256) :
    ∃ r : ℝ, top T (ix3 b h i) = (r : EReal) := by
  obtain ⟨r, hr⟩ := reduce_real T (constant S_ .f32 0xFF800000#32) reducesTo_S4x48x256x256_S4x48x256_d3 h_S_ t hT
    (fun _ => (neg_top.trans_ne bot_ne_top)) (ix3 b h i) (ix4 b h i 0) (drop_last b h i)
  exact ⟨r, max_floor _ _ _ (spread_floor _ _) r hr⟩

/-- The softmax over reals. -/
theorem softmax_real (T : FVec Ideal S4x48x256x256 .f32) (t : Fin 4 → Fin 48 → Fin 256 → Fin 256 → ℝ)
    (hT : ∀ b h i j, T (ix4 b h i j) = (t b h i j : EReal)) (b : Fin 4) (h : Fin 48) (i j : Fin 256) :
    softmax T (ix4 b h i j) = ((Real.exp (t b h i j) / ∑ y, Real.exp (t b h i y) : ℝ) : EReal) := by
  obtain ⟨r, hr⟩ := top_real T (fun k => t (k 0) (k 1) (k 2) (k 3)) (fun k => by
    obtain ⟨b, h, i, j, rfl⟩ : ∃ (b : Fin 4) (h : Fin 48) (i j : Fin 256), k = ix4 b h i j := ⟨k 0, k 1, k 2, k 3, by funext a; fin_cases a <;> rfl⟩
    exact hT b h i j) b h i
  rw [softmax_apply, hr]
  simp only [hT, ← EReal.coe_sub, Ideal.exp_coe]
  rw [coe_sum, coe_div (expSum_ne _), shift_free]

variable (wq : Fin 4 → Fin 12 → ℝ) (bq : Fin 12 → ℝ)

/-- The applied weights over reals: the attention of a head over its 256 tokens. -/
theorem applied_real (Q : FVec Ideal S4x48x256x12 .f32) (x : Fin 4 → Fin 48 → Fin 256 → Fin 4 → ℝ)
    (hQ : ∀ b h n r, Q (ix4 b h n r) = (rows wq bq (x b h n) r : EReal)) (b : Fin 4) (h : Fin 48) (d : Fin 4) (k : Fin 64) (r t : Fin 2) (i : Fin 256)
    (hi : i.val = 4 * k.val + 2 * r.val + t.val) : applied Q (ix6 b h d k r t)
    = ((∑ j, rows wq bq (x b h j) ⟨8 + d.val, by omega⟩ * (Real.exp (score wq bq (x b h j) (x b h i))
        / ∑ j', Real.exp (score wq bq (x b h j') (x b h i))) : ℝ) : EReal) := by
  have hT : ∀ b h i j, logits Q (ix4 b h i j) = (score wq bq (x b h j) (x b h i) : EReal) := by
    intro b h i j
    rw [logits_apply]
    simp only [hQ, ← EReal.coe_mul]
    rw [coe_sum]
    refine congrArg _ ?_
    unfold score
    exact Finset.sum_congr rfl fun d _ => mul_comm _ _
  rw [applied_apply Q b h d k r t i hi]
  simp only [softmax_real (logits Q) (fun b h i j => score wq bq (x b h j) (x b h i)) hT, hQ, ← EReal.coe_mul]
  rw [coe_sum]
  exact congrArg _ (Finset.sum_congr rfl fun j _ => mul_comm _ _)

/-- Queries, keys and values over reals. -/
theorem qkv_real (T : FVec Ideal S4x48x4x64x2x2 .f32) (Wq : FVec Ideal S4x12 .f32) (Bq : FVec Ideal S12 .f32) (x : Fin 4 → Fin 48 → Fin 256 → Fin 4 → ℝ)
    (hT : ∀ b h d (n : Fin 256), T (ix6 b h d ⟨n / 4, by omega⟩ ⟨n % 4 / 2, by omega⟩ ⟨n % 2, by omega⟩) = (x b h n d : EReal))
    (hW : ∀ d r, Wq (ix2 d r) = (wq d r : EReal)) (hB : ∀ r, Bq (ix1 r) = (bq r : EReal)) (b : Fin 4) (h : Fin 48) (n : Fin 256) (r : Fin 12) :
    qkv T Wq Bq (ix4 b h n r) = (rows wq bq (x b h n) r : EReal) := by
  rw [qkv_apply]
  simp only [hT, hW, hB, ← EReal.coe_mul]
  rw [coe_sum, ← EReal.coe_add]
  refine congrArg _ ?_
  unfold rows
  congr 1
  exact Finset.sum_congr rfl fun d _ => mul_comm _ _

end Cert.UpRef
-- ==== Proof.UpRefRun.lean ====
module

public import proofs.«01_k».proof.Proof.UpRef
public import Idealize.ShloMosaic.Lib.StableHlo.RunHlo
public import Idealize.ShloMosaic.Lib.StableHlo.RunRead
public import Idealize.ShloMosaic.Lib.Pointwise

@[expose] public section

set_option maxRecDepth 16384

noncomputable section

namespace Cert.UpRef

open Cert.UpRefIdeal Cert.UpRefIdeal.Gen Idealize.SL.Sem Idealize.ShloMosaic Idealize.ShloMosaic.TcCoe

variable {F : FTy → Type} [FloatOps F]

/-- A line of host operations cut in two. -/
theorem cut (n : ℕ) (ops : List (HloOp τ sig (Elt F))) (U : Valuation τ sig (Elt F)) (P : Valuation τ sig (Elt F) → Prop)
    (h : ∀ U', StableHlo.after (ops.take n) U = U' → P (StableHlo.after (ops.drop n) U')) : P (StableHlo.after ops U) := by
  have e : ∀ (l₁ l₂ : List (HloOp τ sig (Elt F))) (V : Valuation τ sig (Elt F)),
      StableHlo.after (l₁ ++ l₂) V = StableHlo.after l₂ (StableHlo.after l₁ V) := by
    intro l₁
    induction l₁ with
    | nil => exact fun _ _ => rfl
    | cons o l ih => exact fun l₂ V => ih l₂ _
  rw [← List.take_append_drop n ops, e]
  exact h _ rfl

/-- The arguments are what they were. -/
def Keeps (V U : Valuation τ sig (Elt F)) : Prop :=
  V main_arg0 = U main_arg0 ∧ V main_arg1 = U main_arg1 ∧ V main_arg2 = U main_arg2
  ∧ V main_arg3 = U main_arg3 ∧ V main_arg4 = U main_arg4 ∧ V main_arg5 = U main_arg5

theorem Keeps.trans {V U W : Valuation τ sig (Elt F)} (h : Keeps V U) (h' : Keeps U W) : Keeps V W :=
  ⟨h.1.trans h'.1, h.2.1.trans h'.2.1, h.2.2.1.trans h'.2.2.1, h.2.2.2.1.trans h'.2.2.2.1, h.2.2.2.2.1.trans h'.2.2.2.2.1,
    h.2.2.2.2.2.trans h'.2.2.2.2.2⟩

/-- The result from the convolution, the listed positions and the regions. -/
def fromRegions (C : FVec F S4x192x32x32 .f32) (ix : IVec S4x64 32) (xr : FVec F S4x48x4x256x2x2 .f32) (A : FVec F S4x48x4x64x2x2 .f32) : FVec F S4x4x192x256 .f32 :=
  result C (stacked (image0 xr ix A) (image1 xr ix A) (image2 xr ix A) (image3 xr ix A))

/-- The result from the convolution and the listed positions. -/
def fromConv (C : FVec F S4x192x32x32 .f32) (ix : IVec S4x64 32) (wq : FVec F S4x12 .f32) (bq : FVec F S12 .f32) : FVec F S4x4x192x256 .f32 :=
  fromRegions C ix (regions C) (applied (qkv (gathered (regions C) ix) wq bq))

/-- What the reference leaves, from the contents at its start. -/
def Leaves (V U : Valuation τ sig (Elt F)) : Prop :=
  V main_v197 = fromConv (conv (U main_arg0) (U main_arg2) (U main_arg3)) (listed (U main_arg1)) (U main_arg4) (U main_arg5)
  ∧ Keeps V U

set_option maxHeartbeats 4000000 in
/-- The reference's run: its result, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      Leaves (fun b => r.2.mem (c, b)) (fun b => m (c, b)) := by
  refine θ_run_mono (StableHlo.run_hlo defs (main (F := F)) (by hlo_seq) (by decide) (by decide) (by simp)
    (by intro _ h; (repeat (cases h with | head => rfl | tail _ h => ?_)); exact nomatch h) m ρ) ?_
  intro r h c
  suffices H : ∀ V : Valuation τ sig (Elt F), Leaves (StableHlo.after _ V) V by
    obtain ⟨e0, e1, e2, e3, e4, e5, e6⟩ := H (StableHlo.launchContents m c)
    exact ⟨(h c _).trans e0, (h c _).trans e1, (h c _).trans e2, (h c _).trans e3, (h c _).trans e4, (h c _).trans e5, (h c _).trans e6⟩
  clear h
  intro V
  refine cut 104 _ _ (Leaves · V) fun U hU => ?_
  have kU : Keeps U V := by
    rw [← hU]; simp only [List.take]; refine ⟨?_, ?_, ?_, ?_, ?_, ?_⟩ <;> after_reads_simp
  have hC : U main_v101 = conv (V main_arg0) (V main_arg2) (V main_arg3) := by
    rw [← hU]; simp only [List.take]; after_reads_simp; rfl
  clear hU
  simp only [List.drop]
  suffices H : (StableHlo.after _ U) main_v197 = fromConv (U main_v101) (listed (U main_arg1)) (U main_arg4) (U main_arg5)
      ∧ Keeps (StableHlo.after _ U) U by
    refine ⟨H.1.trans ?_, H.2.trans kU⟩
    rw [hC, kU.2.1, kU.2.2.2.2.1, kU.2.2.2.2.2]
  clear kU hC V
  refine cut 8 _ _ (fun W => W main_v197 = fromConv (U main_v101) (listed (U main_arg1)) (U main_arg4) (U main_arg5) ∧ Keeps W U) fun V hV => ?_
  have kV : Keeps V U := by
    rw [← hV]; simp only [List.take]; refine ⟨?_, ?_, ?_, ?_, ?_, ?_⟩ <;> after_reads_simp
  have h0 : V main_v101 = U main_v101 := by
    rw [← hV]; simp only [List.take]; after_reads_simp
  have h1 : V main_indices = listed (U main_arg1) := by
    rw [← hV]; simp only [List.take]; after_reads_simp; rfl
  have h2 : V main_v105 = regions (U main_v101) := by
    rw [← hV]; simp only [List.take]; after_reads_simp; rfl
  have h3 : V main_v107 = spreadIdx (listed (U main_arg1)) := by
    rw [← hV]; simp only [List.take]; after_reads_simp; rfl
  clear hV
  simp only [List.drop]
  refine cut 15 _ _ (fun W => W main_v197 = fromConv (U main_v101) (listed (U main_arg1)) (U main_arg4) (U main_arg5) ∧ Keeps W U) fun W hW => ?_
  have kW : Keeps W U := by
    refine Keeps.trans ?_ kV
    rw [← hW]; simp only [List.take]; refine ⟨?_, ?_, ?_, ?_, ?_, ?_⟩ <;> after_reads_simp
  have g0 : W main_v101 = U main_v101 := by
    rw [← h0, ← hW]; simp only [List.take]; after_reads_simp
  have g1 : W main_indices = listed (U main_arg1) := by
    rw [← h1, ← hW]; simp only [List.take]; after_reads_simp
  have g2 : W main_v105 = regions (U main_v101) := by
    rw [← h2, ← hW]; simp only [List.take]; after_reads_simp
  have g3 : W main_v114 = qkv (gathered (V main_v105) (listed (U main_arg1))) (V main_arg4) (V main_arg5) := by
    unfold gathered
    rw [← h3, ← hW]; simp only [List.take]; after_reads_simp; rfl
  rw [h2, kV.2.2.2.2.1, kV.2.2.2.2.2] at g3
  clear hW h0 h1 h2 h3 kV V
  simp only [List.drop]
  refine cut 5 _ _ (fun W => W main_v197 = fromConv (U main_v101) (listed (U main_arg1)) (U main_arg4) (U main_arg5) ∧ Keeps W U) fun V hV => ?_
  have kV : Keeps V U := by
    refine Keeps.trans ?_ kW
    rw [← hV]; simp only [List.take]; refine ⟨?_, ?_, ?_, ?_, ?_, ?_⟩ <;> after_reads_simp
  have h0 : V main_v101 = U main_v101 := by
    rw [← g0, ← hV]; simp only [List.take]; after_reads_simp
  have h1 : V main_indices = listed (U main_arg1) := by
    rw [← g1, ← hV]; simp only [List.take]; after_reads_simp
  have h2 : V main_v105 = regions (U main_v101) := by
    rw [← g2, ← hV]; simp only [List.take]; after_reads_simp
  have h3 : V main_v119 = logits (W main_v114) := by
    rw [← hV]; simp only [List.take]; after_reads_simp; rfl
  have h4 : V main_v117 = extractStridedSlice S4x48x256x4 ![0, 0, 0, 8] (W main_v114) slices_S4x48x256x12_S4x48x256x4_0_0_0_8 := by
    rw [← hV]; simp only [List.take]; after_reads_simp
  rw [g3] at h3 h4
  clear hV g0 g1 g2 g3 kW W
  simp only [List.drop]
  refine cut 14 _ _ (fun W => W main_v197 = fromConv (U main_v101) (listed (U main_arg1)) (U main_arg4) (U main_arg5) ∧ Keeps W U) fun W hW => ?_
  have kW : Keeps W U := by
    refine Keeps.trans ?_ kV
    rw [← hW]; simp only [List.take]; refine ⟨?_, ?_, ?_, ?_, ?_, ?_⟩ <;> after_reads_simp
  have g0 : W main_v101 = U main_v101 := by
    rw [← h0, ← hW]; simp only [List.take]; after_reads_simp
  have g1 : W main_indices = listed (U main_arg1) := by
    rw [← h1, ← hW]; simp only [List.take]; after_reads_simp
  have g2 : W main_v105 = regions (U main_v101) := by
    rw [← h2, ← hW]; simp only [List.take]; after_reads_simp
  have g3 : W main_v130 = softmax (V main_v119) := by
    rw [← hW]; simp only [List.take]; after_reads_simp; rfl
  have g4 : W main_v117 = V main_v117 := by
    rw [← hW]; simp only [List.take]; after_reads_simp
  rw [h3] at g3
  rw [h4] at g4
  clear hW h0 h1 h2 h3 h4 kV V
  simp only [List.drop]
  refine cut 3 _ _ (fun W => W main_v197 = fromConv (U main_v101) (listed (U main_arg1)) (U main_arg4) (U main_arg5) ∧ Keeps W U) fun V hV => ?_
  have kV : Keeps V U := by
    refine Keeps.trans ?_ kW
    rw [← hV]; simp only [List.take]; refine ⟨?_, ?_, ?_, ?_, ?_, ?_⟩ <;> after_reads_simp
  have h0 : V main_v101 = U main_v101 := by
    rw [← g0, ← hV]; simp only [List.take]; after_reads_simp
  have h1 : V main_indices = listed (U main_arg1) := by
    rw [← g1, ← hV]; simp only [List.take]; after_reads_simp
  have h2 : V main_v105 = regions (U main_v101) := by
    rw [← g2, ← hV]; simp only [List.take]; after_reads_simp
  have h3 : V main_v133 = applied (qkv (gathered (regions (U main_v101)) (listed (U main_arg1))) (U main_arg4) (U main_arg5)) := by
    unfold applied
    rw [← g3, ← g4, ← hV]; simp only [List.take]; after_reads_simp; rfl
  clear hV g0 g1 g2 g3 g4 kW W
  simp only [List.drop]
  unfold fromConv
  rw [← h3, ← h2, ← h1, ← h0]
  constructor
  · after_reads_simp
    rfl
  · refine Keeps.trans ?_ kV
    refine ⟨?_, ?_, ?_, ?_, ?_, ?_⟩ <;> after_reads_simp

end Cert.UpRef
-- ==== Proof.UpRefReal.lean ====
module

public import proofs.«01_k».proof.Proof.UpRefConv
public import proofs.«01_k».proof.Proof.UpRefAtt
public import proofs.«01_k».proof.Proof.UpRefRun

@[expose] public section

set_option maxRecDepth 16384

noncomputable section

namespace Cert.UpRef

open Cert.UpRefIdeal Cert.UpRefIdeal.Gen Idealize.ShloMosaic Idealize.ShloMosaic.TcCoe
open Cert.UpPick (best pick sum_pick)
open Cert.UpReal (rows score att att_listed)
open Cert.UpValue (phases Reals answer)

/-- The regions at an index. -/
theorem regions_apply (C : FVec Ideal S4x192x32x32 .f32) (b : Fin 4) (h : Fin 48) (d : Fin 4) (n : Fin 256) (r t : Fin 2) :
    regions C (ix6 b h d n r t) = C (ix4 b ⟨4 * h.val + d.val, by omega⟩ ⟨2 * (n.val / 16) + r.val, by omega⟩ ⟨2 * (n.val % 16) + t.val, by omega⟩) := by
  pointwise [regions]
  have key : ∀ (o o' : Fin 192) (p p' q q' : Fin 32), o = o' → p = p' → q = q' → (C (ix4 b o p q) : EReal) = C (ix4 b o' p' q') := by
    rintro _ _ _ _ _ _ rfl rfl rfl
    rfl
  exact key _ _ _ _ _ _ (Fin.ext (by simp only; omega)) (Fin.ext (by simp only; omega)) (Fin.ext (by simp only; omega))

/-- The result at an index. -/
theorem result_apply (C : FVec Ideal S4x192x32x32 .f32) (R : FVec Ideal S4x48x4x256x2x2 .f32) (b s : Fin 4) (o : Fin 192) (n : Fin 256) :
    result C R (ix4 b s o n)
      = (C (ix4 b o ⟨2 * (n.val / 16) + s.val / 2, by omega⟩ ⟨2 * (n.val % 16) + s.val % 2, by omega⟩) : EReal)
        + R (ix6 b ⟨o.val / 4, by omega⟩ ⟨o.val % 4, by omega⟩ n ⟨s.val / 2, by omega⟩ ⟨s.val % 2, by omega⟩) := by
  pointwise [result]
  refine congrArg₂ (fun p q : EReal => p + q) ?_ ?_
  · exact congrArg₂ (fun p q : Fin 32 => (C (ix4 b o p q) : EReal)) (Fin.ext (by simp only; omega)) (Fin.ext (by simp only; omega))
  · exact congrArg₂ (fun p q : Fin 2 => (R (ix6 b _ _ n p q) : EReal)) (Fin.ext (by simp only; omega)) (Fin.ext (by simp only; omega))

/-- The four images one after the other: the first coordinate picks the image. -/
theorem stacked_apply (u : Fin 4 → FVec Ideal S1x48x4x256x2x2 .f32) (b : Fin 4) (h : Fin 48) (d : Fin 4) (n : Fin 256) (r t : Fin 2) :
    stacked (u 0) (u 1) (u 2) (u 3) (ix6 b h d n r t) = u b (ix6 0 h d n r t) := by
  unfold stacked
  concat_tiles i h
  all_goals
    refine congr (congrArg u (Fin.ext ?_)) ?_
    · exact h.symm
    · blk_ext <;> assumption

/-- One image's regions with the attention added, sliced out of the stacks. -/
theorem image_apply (xr : FVec Ideal S4x48x4x256x2x2 .f32) (ix : IVec S4x64 32) (u : FVec Ideal S4x48x4x64x2x2 .f32) (p : Fin 4 → Fin 64 → Fin 256)
    (hix : ∀ b k, ix (ix2 b k) = BitVec.ofNat 32 (p b k).val) (z : ℕ) (hz : z < 4) (h1 : S4x48x4x256x2x2.Slices ![z, 0, 0, 0, 0, 0] S1x48x4x256x2x2)
    (h2 : S4x64.Slices ![z, 0] S1x64) (h3 : S4x48x4x64x2x2.Slices ![z, 0, 0, 0, 0, 0] S1x48x4x64x2x2)
    (h : Fin 48) (d : Fin 4) (n : Fin 256) (r t : Fin 2) :
    added (extractStridedSlice S1x48x4x256x2x2 ![z, 0, 0, 0, 0, 0] xr h1) (extractStridedSlice S1x64 ![z, 0] ix h2)
        (extractStridedSlice S1x48x4x64x2x2 ![z, 0, 0, 0, 0, 0] u h3) (ix6 0 h d n r t)
      = (xr (ix6 ⟨z, hz⟩ h d n r t) : EReal) + ∑ k, if p ⟨z, hz⟩ k = n then (u (ix6 ⟨z, hz⟩ h d k r t) : EReal) else 0 := by
  have e1 : (extractStridedSlice S1x48x4x256x2x2 ![z, 0, 0, 0, 0, 0] xr h1 : FVec Ideal S1x48x4x256x2x2 .f32) (ix6 0 h d n r t) = xr (ix6 ⟨z, hz⟩ h d n r t) := by
    pointwise []
  have e2 : ∀ k, (extractStridedSlice S1x64 ![z, 0] ix h2 : IVec S1x64 32) (ix2 0 k) = ix (ix2 ⟨z, hz⟩ k) := by
    intro k
    pointwise []
  have e3 : ∀ k, (extractStridedSlice S1x48x4x64x2x2 ![z, 0, 0, 0, 0, 0] u h3 : FVec Ideal S1x48x4x64x2x2 .f32) (ix6 0 h d k r t) = u (ix6 ⟨z, hz⟩ h d k r t) := by
    intro k
    pointwise []
  rw [added_apply _ _ _ (p ⟨z, hz⟩) (fun k => (e2 k).trans (hix _ k)), e1]
  simp only [e3]

/-- All the regions with the attention added. -/
theorem images_apply (xr : FVec Ideal S4x48x4x256x2x2 .f32) (ix : IVec S4x64 32) (u : FVec Ideal S4x48x4x64x2x2 .f32) (p : Fin 4 → Fin 64 → Fin 256)
    (hix : ∀ b k, ix (ix2 b k) = BitVec.ofNat 32 (p b k).val) (b : Fin 4) (h : Fin 48) (d : Fin 4) (n : Fin 256) (r t : Fin 2) :
    stacked (image0 xr ix u) (image1 xr ix u) (image2 xr ix u) (image3 xr ix u) (ix6 b h d n r t)
      = (xr (ix6 b h d n r t) : EReal) + ∑ k, if p b k = n then (u (ix6 b h d k r t) : EReal) else 0 := by
  have e0 : image0 xr ix u (ix6 0 h d n r t) = (xr (ix6 0 h d n r t) : EReal) + ∑ k, if p 0 k = n then (u (ix6 0 h d k r t) : EReal) else 0 := by
    unfold image0
    exact image_apply xr ix u p hix 0 (by decide) _ _ _ h d n r t
  have e1 : image1 xr ix u (ix6 0 h d n r t) = (xr (ix6 1 h d n r t) : EReal) + ∑ k, if p 1 k = n then (u (ix6 1 h d k r t) : EReal) else 0 := by
    unfold image1
    exact image_apply xr ix u p hix 1 (by decide) _ _ _ h d n r t
  have e2 : image2 xr ix u (ix6 0 h d n r t) = (xr (ix6 2 h d n r t) : EReal) + ∑ k, if p 2 k = n then (u (ix6 2 h d k r t) : EReal) else 0 := by
    unfold image2
    exact image_apply xr ix u p hix 2 (by decide) _ _ _ h d n r t
  have e3 : image3 xr ix u (ix6 0 h d n r t) = (xr (ix6 3 h d n r t) : EReal) + ∑ k, if p 3 k = n then (u (ix6 3 h d k r t) : EReal) else 0 := by
    unfold image3
    exact image_apply xr ix u p hix 3 (by decide) _ _ _ h d n r t
  generalize image0 xr ix u = v0 at *
  generalize image1 xr ix u = v1 at *
  generalize image2 xr ix u = v2 at *
  generalize image3 xr ix u = v3 at *
  refine (stacked_apply ![v0, v1, v2, v3] b h d n r t).trans ?_
  match b with
  | 0 => exact e0
  | 1 => exact e1
  | 2 => exact e2
  | 3 => exact e3

variable (S : FVec Ideal S4x256x1 .f32) (Y : Fin 4 → Fin 192 → Fin 4 → Fin 256 → ℝ) (wq : Fin 4 → Fin 12 → ℝ) (bq : Fin 12 → ℝ)

/-- The picked positions of an image. -/
abbrev picked (b : Fin 4) : Fin 64 → Fin 256 := pick fun n => S (ix3 b n 0)

/-- The attention of the picked regions, for any listing of them. -/
theorem attention_apply (ix : IVec S4x64 32) (p : Fin 4 → Fin 64 → Fin 256) (T : Fin 4 → Finset (Fin 256))
    (hix : ∀ b k, ix (ix2 b k) = BitVec.ofNat 32 (p b k).val) (hp : ∀ b, ∀ f : Fin 256 → ℝ, ∑ k, f (p b k) = ∑ i ∈ T b, f i)
    (xr : FVec Ideal S4x48x4x256x2x2 .f32) (Wq : FVec Ideal S4x12 .f32) (Bq : FVec Ideal S12 .f32)
    (hx : ∀ b h d n r t, xr (ix6 b h d n r t) = (Y b ⟨4 * h.val + d.val, by omega⟩ ⟨2 * r.val + t.val, by omega⟩ n : EReal))
    (hW : ∀ d r, Wq (ix2 d r) = (wq d r : EReal)) (hB : ∀ r, Bq (ix1 r) = (bq r : EReal)) (b : Fin 4) (h : Fin 48) (d : Fin 4) (k : Fin 64) (r t : Fin 2) :
    applied (qkv (gathered xr ix) Wq Bq) (ix6 b h d k r t)
      = (att wq bq (T b) (Y b) ⟨4 * h.val + d.val, by omega⟩ ⟨2 * r.val + t.val, by omega⟩ (p b k) : EReal) := by
  have hQ : ∀ b h n r, qkv (gathered xr ix) Wq Bq (ix4 b h n r)
      = (rows wq bq (fun d : Fin 4 => Y b ⟨4 * h.val + d.val, by omega⟩ ⟨n.val % 4, by omega⟩ (p b ⟨n.val / 4, by omega⟩)) r : EReal) := by
    refine qkv_real wq bq _ _ _ (fun b h n d => Y b ⟨4 * h.val + d.val, by omega⟩ ⟨n.val % 4, by omega⟩ (p b ⟨n.val / 4, by omega⟩)) ?_ hW hB
    intro b h d n
    have es : (⟨2 * (n.val % 4 / 2) + n.val % 2, by omega⟩ : Fin 4) = ⟨n.val % 4, by omega⟩ := Fin.ext (by simp only; omega)
    rw [gathered_apply xr ix p hix, hx]
    simp only [es]
  generalize qkv (gathered xr ix) Wq Bq = Q at hQ
  have hR := applied_real wq bq Q (fun b h n d => Y b ⟨4 * h.val + d.val, by omega⟩ ⟨n.val % 4, by omega⟩ (p b ⟨n.val / 4, by omega⟩)) hQ
    b h d k r t ⟨4 * k.val + 2 * r.val + t.val, by omega⟩ rfl
  rw [hR]
  refine congrArg (fun x : ℝ => (x : EReal)) ?_
  have := att_listed wq bq (T b) (p b) (hp b) (Y b) ⟨4 * h.val + d.val, by omega⟩
      (fun n d => Y b ⟨4 * h.val + d.val, by omega⟩ ⟨n.val % 4, by omega⟩ (p b ⟨n.val / 4, by omega⟩))
      (funext fun n => funext fun d' => congrArg (fun o => Y b o _ _) (Fin.ext (by simp only; omega))) ⟨4 * k.val + 2 * r.val + t.val, by omega⟩
  have e8 : (⟨8 + (4 * h.val + d.val) % 4, by omega⟩ : Fin 12) = ⟨8 + d.val, by omega⟩ := Fin.ext (by simp only; omega)
  have es : (⟨(4 * k.val + 2 * r.val + t.val) % 4, by omega⟩ : Fin 4) = ⟨2 * r.val + t.val, by omega⟩ := Fin.ext (by simp only; omega)
  have ek : (⟨(4 * k.val + 2 * r.val + t.val) / 4, by omega⟩ : Fin 64) = k := Fin.ext (by simp only; omega)
  simp only [e8, es, ek] at this ⊢
  exact this

open Classical in
/-- A sum over the picked positions that keeps one position only. -/
theorem kept (b : Fin 4) (g : Fin 256 → ℝ) (n : Fin 256) :
    (∑ k, if picked S b k = n then (g (picked S b k) : EReal) else 0) = ((if n ∈ best (fun n => S (ix3 b n 0)) then g n else 0 : ℝ) : EReal) := by
  rw [sum_pick _ (fun j => if j = n then (g j : EReal) else 0)]
  rw [Finset.sum_ite_eq']
  split_ifs <;> rfl

/-- The reference's result over reals. -/
theorem value (X : FVec Ideal S4x384x256 .f32) (W : FVec Ideal S384x192x4x4 .f32) (B : FVec Ideal S192 .f32)
    (Wq : FVec Ideal S4x12 .f32) (Bq : FVec Ideal S12 .f32) (H : Reals X W B Wq Bq Y wq bq) :
    fromConv (conv X W B) (listed S) Wq Bq = fun y : S4x4x192x256.Idx => (answer S Y wq bq (y 0) (y 1) (y 2) (y 3) : EReal) := by
  have hC : ∀ (b : Fin 4) (o : Fin 192) (n : Fin 256) (r t : Fin 2) (s : Fin 4), s.val = 2 * r.val + t.val →
      conv X W B (ix4 b o ⟨2 * (n.val / 16) + r.val, by omega⟩ ⟨2 * (n.val % 16) + t.val, by omega⟩) = (Y b o s n : EReal) :=
    fun b o n r t s hs => (conv_apply X W B b o n r t s hs).trans (H.hY b s o n)
  generalize conv X W B = C at hC
  have hx : ∀ (b : Fin 4) (h : Fin 48) (d : Fin 4) (n : Fin 256) (r t : Fin 2), regions C (ix6 b h d n r t) = (Y b ⟨4 * h.val + d.val, by omega⟩ ⟨2 * r.val + t.val, by omega⟩ n : EReal) :=
    fun b h d n r t => (regions_apply C b h d n r t).trans (hC _ _ _ _ _ _ rfl)
  funext y
  obtain ⟨b, s, o, n, rfl⟩ : ∃ (b s : Fin 4) (o : Fin 192) (n : Fin 256), y = ix4 b s o n := ⟨y 0, y 1, y 2, y 3, by funext a; fin_cases a <;> rfl⟩
  show fromConv C (listed S) Wq Bq (ix4 b s o n) = (answer S Y wq bq b s o n : EReal)
  unfold fromConv fromRegions
  have hA := attention_apply Y wq bq (listed S) (picked S) (fun b => best fun n => S (ix3 b n 0)) (listed_apply S) (fun b f => sum_pick _ f) (regions C) Wq Bq hx H.hwq H.hbq
  generalize applied (qkv (gathered (regions C) (listed S)) Wq Bq) = A at hA
  rw [result_apply, images_apply _ _ _ (picked S) (listed_apply S), hC _ _ _ ⟨s.val / 2, by omega⟩ ⟨s.val % 2, by omega⟩ s (by simp only; omega), hx]
  simp only [hA]
  have eo : (⟨4 * (o.val / 4) + o.val % 4, by omega⟩ : Fin 192) = o := Fin.ext (by simp only; omega)
  have es : (⟨2 * (s.val / 2) + s.val % 2, by omega⟩ : Fin 4) = s := Fin.ext (by simp only; omega)
  simp only [eo, es]
  rw [kept S b (fun j => att wq bq (best fun n => S (ix3 b n 0)) (Y b) o s j) n, ← EReal.coe_add, ← EReal.coe_add]
  refine congrArg _ ?_
  unfold answer
  ring

end Cert.UpRef
-- ==== Proof.MixBlock.lean ====
module

public import proofs.«01_k».proof.Proof.Gen.MixIdeal.Value
public import Idealize.ShloMosaic.Lib.StableHlo.RunRead
public import Idealize.ShloMosaic.Lib.Pointwise
public import Idealize.ShloMosaic.Lib.Pipeline.ValueKit

@[expose] public section

set_option maxRecDepth 16384

noncomputable section

namespace Cert.MixBlock

open Cert.MixIdeal Cert.MixIdeal.Gen Idealize.SL.Sem Idealize.ShloMosaic Idealize.ShloMosaic.TcCoe

/-- The entry of a flat 32 by 32 image `dy - 1` rows below and `dx - 1` columns right of entry `n`, zero outside the image. -/
def near (f : Fin 1024 → EReal) (dy dx : Nat) (n : Fin 1024) : EReal :=
  if h : 1 ≤ n.val / 32 + dy ∧ n.val / 32 + dy ≤ 32 ∧ 1 ≤ n.val % 32 + dx ∧ n.val % 32 + dx ≤ 32 then
    f ⟨32 * (n.val / 32 + dy - 1) + (n.val % 32 + dx - 1), by omega⟩ else 0

/-- The three by three convolution of a flat image padded by zeros. -/
def conv (f : Fin 1024 → EReal) (w : Fin 9 → EReal) (n : Fin 1024) : EReal :=
  near f 0 0 n * w 0 + near f 0 1 n * w 1 + near f 0 2 n * w 2 + near f 1 0 n * w 3 + near f 1 1 n * w 4 + near f 1 2 n * w 5
    + near f 2 0 n * w 6 + near f 2 1 n * w 7 + near f 2 2 n * w 8

/-- Clipping to the range from zero to six. -/
def clip (z : EReal) : EReal := min (Ideal.ofBits .f32 0x40C00000#32) (max 0 z)

/-- The mixing block: a convolution per channel, scale, offset and clip, then a product over the channels, scale, offset and clip. -/
def mixed (Y : Fin 192 → Fin 1024 → EReal) (W : Fin 192 → Fin 9 → EReal) (s t : Fin 192 → EReal) (P : Fin 192 → Fin 192 → EReal)
    (s' t' : Fin 192 → EReal) (o : Fin 192) (n : Fin 1024) : EReal :=
  clip ((∑ c : Fin 192, P o c * clip (conv (Y c) (W c) n * s c + t c)) * s' o + t' o)

/-- One over the square root of one plus the small constant of the normalisation. -/
def unit : EReal := (Host.divf (constant S_ .f32 0x3F800000#32) (Host.sqrt (constant S_ .f32 0x3F800054#32)) : FVec Ideal S_ .f32) ix0

/-- The result on all images, from the seven arguments. -/
def answer (Y : FVec Ideal S4x192x32x32 .f32) (W : FVec Ideal S192x1x3x3 .f32) (g t : FVec Ideal S192 .f32) (P : FVec Ideal S192x192x1x1 .f32)
    (g' t' : FVec Ideal S192 .f32) : FVec Ideal S4x192x1024 .f32 := fun y =>
  mixed (fun c n => Y (ix4 (y 0) c ⟨n / 32, by omega⟩ ⟨n % 32, by omega⟩)) (fun c k => W (ix4 c 0 ⟨k / 3, by omega⟩ ⟨k % 3, by omega⟩))
    (fun c => g (ix1 c) * unit) (fun c => t (ix1 c)) (fun o c => P (ix4 o c 0 0)) (fun c => g' (ix1 c) * unit) (fun c => t' (ix1 c)) (y 1) (y 2)

/-- Choosing by the test that an entry is not in the first column. -/
theorem first_column (n : Fin 1024) (a b : EReal) :
    Scalar.select (IntOp.cmpi CmpIPredicate.sge (IntOp.andi (BitVec.ofNat 32 n.val) 31#32) 1#32) a b = if 1 ≤ n.val % 32 then a else b := by
  have h : ∀ n : Fin 1024, (IntOp.cmpi CmpIPredicate.sge (IntOp.andi (BitVec.ofNat 32 n.val) 31#32) 1#32 = 1) ↔ 1 ≤ n.val % 32 := by decide +kernel
  exact if_congr (h n) rfl rfl

/-- Choosing by the test that an entry is not in the last column. -/
theorem last_column (n : Fin 1024) (a b : EReal) :
    Scalar.select (IntOp.cmpi CmpIPredicate.slt (IntOp.andi (BitVec.ofNat 32 n.val) 31#32) 31#32) a b = if n.val % 32 < 31 then a else b := by
  have h : ∀ n : Fin 1024, (IntOp.cmpi CmpIPredicate.slt (IntOp.andi (BitVec.ofNat 32 n.val) 31#32) 31#32 = 1) ↔ n.val % 32 < 31 := by decide +kernel
  exact if_congr (h n) rfl rfl

/-- The shifted image at offset (0, 0), zero where the shift leaves the image. -/
theorem tap00 (f : Fin 1024 → EReal) (w : EReal) (n : Fin 1024) :
    Scalar.select (IntOp.cmpi CmpIPredicate.sge (IntOp.andi (BitVec.ofNat 32 n.val) 31#32) 1#32) ((if h : n.val < 33 then 0 else f ⟨n.val - 33, by omega⟩) * w) 0 = near f 0 0 n * w := by
  rw [first_column]
  unfold near
  split_ifs <;> first
    | omega
    | rfl
    | simp only [zero_mul]
    | (refine congrArg (f · * w) (Fin.ext ?_); simp only []; omega)

/-- The shifted image at offset (0, 1), zero where the shift leaves the image. -/
theorem tap01 (f : Fin 1024 → EReal) (w : EReal) (n : Fin 1024) :
    (if h : n.val < 32 then 0 else f ⟨n.val - 32, by omega⟩) * w = near f 0 1 n * w := by
  unfold near
  split_ifs <;> first
    | omega
    | rfl
    | simp only [zero_mul]
    | (refine congrArg (f · * w) (Fin.ext ?_); simp only []; omega)

/-- The shifted image at offset (0, 2), zero where the shift leaves the image. -/
theorem tap02 (f : Fin 1024 → EReal) (w : EReal) (n : Fin 1024) :
    Scalar.select (IntOp.cmpi CmpIPredicate.slt (IntOp.andi (BitVec.ofNat 32 n.val) 31#32) 31#32) ((if h : n.val < 31 then 0 else f ⟨n.val - 31, by omega⟩) * w) 0 = near f 0 2 n * w := by
  rw [last_column]
  unfold near
  split_ifs <;> first
    | omega
    | rfl
    | simp only [zero_mul]
    | (refine congrArg (f · * w) (Fin.ext ?_); simp only []; omega)

/-- The shifted image at offset (1, 0), zero where the shift leaves the image. -/
theorem tap10 (f : Fin 1024 → EReal) (w : EReal) (n : Fin 1024) :
    Scalar.select (IntOp.cmpi CmpIPredicate.sge (IntOp.andi (BitVec.ofNat 32 n.val) 31#32) 1#32) ((if h : n.val < 1 then 0 else f ⟨n.val - 1, by omega⟩) * w) 0 = near f 1 0 n * w := by
  rw [first_column]
  unfold near
  split_ifs <;> first
    | omega
    | rfl
    | simp only [zero_mul]
    | (refine congrArg (f · * w) (Fin.ext ?_); simp only []; omega)

/-- The shifted image at offset (1, 2), zero where the shift leaves the image. -/
theorem tap12 (f : Fin 1024 → EReal) (w : EReal) (n : Fin 1024) :
    Scalar.select (IntOp.cmpi CmpIPredicate.slt (IntOp.andi (BitVec.ofNat 32 n.val) 31#32) 31#32) ((if h : n.val < 1023 then f ⟨1 + n.val, by omega⟩ else 0) * w) 0 = near f 1 2 n * w := by
  rw [last_column]
  unfold near
  split_ifs <;> first
    | omega
    | rfl
    | simp only [zero_mul]
    | (refine congrArg (f · * w) (Fin.ext ?_); simp only []; omega)

/-- The shifted image at offset (2, 0), zero where the shift leaves the image. -/
theorem tap20 (f : Fin 1024 → EReal) (w : EReal) (n : Fin 1024) :
    Scalar.select (IntOp.cmpi CmpIPredicate.sge (IntOp.andi (BitVec.ofNat 32 n.val) 31#32) 1#32) ((if h : n.val < 993 then f ⟨31 + n.val, by omega⟩ else 0) * w) 0 = near f 2 0 n * w := by
  rw [first_column]
  unfold near
  split_ifs <;> first
    | omega
    | rfl
    | simp only [zero_mul]
    | (refine congrArg (f · * w) (Fin.ext ?_); simp only []; omega)

/-- The shifted image at offset (2, 1), zero where the shift leaves the image. -/
theorem tap21 (f : Fin 1024 → EReal) (w : EReal) (n : Fin 1024) :
    (if h : n.val < 992 then f ⟨32 + n.val, by omega⟩ else 0) * w = near f 2 1 n * w := by
  unfold near
  split_ifs <;> first
    | omega
    | rfl
    | simp only [zero_mul]
    | (refine congrArg (f · * w) (Fin.ext ?_); simp only []; omega)

/-- The shifted image at offset (2, 2), zero where the shift leaves the image. -/
theorem tap22 (f : Fin 1024 → EReal) (w : EReal) (n : Fin 1024) :
    Scalar.select (IntOp.cmpi CmpIPredicate.slt (IntOp.andi (BitVec.ofNat 32 n.val) 31#32) 31#32) ((if h : n.val < 991 then f ⟨33 + n.val, by omega⟩ else 0) * w) 0 = near f 2 2 n * w := by
  rw [last_column]
  unfold near
  split_ifs <;> first
    | omega
    | rfl
    | simp only [zero_mul]
    | (refine congrArg (f · * w) (Fin.ext ?_); simp only []; omega)

/-- The image itself. -/
theorem tap11 (f : Fin 1024 → EReal) (w : EReal) (n : Fin 1024) : f n * w = near f 1 1 n * w := by
  unfold near
  rw [dif_pos (by omega)]
  refine congrArg (f · * w) (Fin.ext ?_)
  simp only []
  omega

/-- The block the kernel leaves, from the blocks it reads. -/
theorem block (x0 : Vec Ideal S1x192x1024 .f32) (x1 : Vec Ideal S192x9 .f32) (x2 x3 : Vec Ideal S192x1 .f32) (x4 : Vec Ideal S192x192 .f32)
    (x5 x6 : Vec Ideal S192x1 .f32) (o : Fin 192) (n : Fin 1024) :
    out0_7 x0 x1 x2 x3 x4 x5 x6 (ix3 0 o n) = mixed (fun c n => x0 (ix3 0 c n)) (fun c k => x1 (ix2 c k)) (fun c => x2 (ix2 c 0)) (fun c => x3 (ix2 c 0))
      (fun o c => x4 (ix2 o c)) (fun c => x5 (ix2 c 0)) (fun c => x6 (ix2 c 0)) o n := by
  unfold_out out0_7
  canon_tiles z h
  obtain rfl : z = ix3 0 o n := by blk_ext <;> first | exact h1.symm | exact h2.symm | omega
  pointwise [k0_pay1, k0_pay2, k0_pay3, k0_pay4, k0_pay5, k0_pay6, k0_pay7, k0_pay8]
  unfold mixed conv clip
  refine congrArg (min _ ·) (congrArg (max 0 ·) (congrArg (· + _) (congrArg (· * _) (Finset.sum_congr rfl fun c _ => ?_))))
  refine congrArg (_ * ·) (congrArg (min _ ·) (congrArg (max 0 ·) (congrArg (· + _) (congrArg (· * _) ?_))))
  have add {a b c d : EReal} (h : a = b) (k : c = d) : a + c = b + d := by rw [h, k]
  exact add (add (add (add (add (add (add (add (tap00 (fun n => x0 (ix3 0 c n)) _ n) (tap01 (fun n => x0 (ix3 0 c n)) _ n)) (tap02 (fun n => x0 (ix3 0 c n)) _ n))
    (tap10 (fun n => x0 (ix3 0 c n)) _ n)) (tap11 (fun n => x0 (ix3 0 c n)) _ n)) (tap12 (fun n => x0 (ix3 0 c n)) _ n))
    (tap20 (fun n => x0 (ix3 0 c n)) _ n)) (tap21 (fun n => x0 (ix3 0 c n)) _ n)) (tap22 (fun n => x0 (ix3 0 c n)) _ n)

end Cert.MixBlock
-- ==== Proof.MixValue.lean ====
module

public import proofs.«01_k».proof.Proof.MixBlock
public import Idealize.ShloMosaic.Lib.Pointwise
public import Idealize.ShloMosaic.Lib.Pipeline.ValueKit
public import Idealize.ShloMosaic.Lib.StableHlo.RunRead

@[expose] public section

set_option maxRecDepth 16384

noncomputable section

namespace Cert.MixValue

open Cert.MixIdeal Cert.MixIdeal.Gen Cert.MixBlock
open Idealize.ShloMosaic Idealize.ShloMosaic.TcCoe

variable (m : (ℓ : Loc nD τ sig) → Buf (Elt Ideal) ℓ)

/-- The seven arguments. -/
def argY (c : Dev nD) : FVec Ideal S4x192x32x32 .f32 := m (c, Proc.tc.devRef main_arg0)
def argW (c : Dev nD) : FVec Ideal S192x1x3x3 .f32 := m (c, Proc.tc.devRef main_arg1)
def argG (c : Dev nD) : FVec Ideal S192 .f32 := m (c, Proc.tc.devRef main_arg2)
def argT (c : Dev nD) : FVec Ideal S192 .f32 := m (c, Proc.tc.devRef main_arg3)
def argP (c : Dev nD) : FVec Ideal S192x192x1x1 .f32 := m (c, Proc.tc.devRef main_arg4)
def argG' (c : Dev nD) : FVec Ideal S192 .f32 := m (c, Proc.tc.devRef main_arg5)
def argT' (c : Dev nD) : FVec Ideal S192 .f32 := m (c, Proc.tc.devRef main_arg6)

/-- The index maps over the grid: the image and the result move with the grid point, the weights stay. -/
theorem idx : ∀ t : Fin cfg0.N, win0_0.index t = ![t.val, 0, 0] ∧ win0_1.index t = ![0, 0] ∧
    win0_2.index t = ![0, 0] ∧ win0_3.index t = ![0, 0] ∧ win0_4.index t = ![0, 0] ∧ win0_5.index t = ![0, 0] ∧
    win0_6.index t = ![0, 0] ∧ win0_7.index t = ![t.val, 0, 0] :=
  (by decide +kernel : ∀ t : Fin grid0.N, _)

/-- The grid has one point per image. -/
theorem points : cfg0.N = 4 := by decide +kernel

/-- The prepared operands at an index. -/
theorem image (c : Dev nD) (b : Fin 4) (k : Fin 192) (n : Fin 1024) :
    (V m c main_v0 : FVec Ideal S4x192x1024 .f32) (ix3 b k n) = argY m c (ix4 b k ⟨n / 32, by omega⟩ ⟨n % 32, by omega⟩) := by
  entry_read
  pointwise [argY]

theorem taps (c : Dev nD) (k : Fin 192) (t : Fin 9) :
    (V m c main_v3 : FVec Ideal S192x9 .f32) (ix2 k t) = argW m c (ix4 k 0 ⟨t / 3, by omega⟩ ⟨t % 3, by omega⟩) := by
  entry_read
  pointwise [argW]

theorem scale (c : Dev nD) (k : Fin 192) :
    (V m c main_v7 : FVec Ideal S192x1 .f32) (ix2 k 0) = (argG m c (ix1 k) : EReal) * unit := by
  entry_read
  pointwise [argG, unit]

theorem offset (c : Dev nD) (k : Fin 192) :
    (V m c main_v8 : FVec Ideal S192x1 .f32) (ix2 k 0) = argT m c (ix1 k) := by
  entry_read
  pointwise [argT]

theorem weight (c : Dev nD) (o k : Fin 192) :
    (V m c main_v9 : FVec Ideal S192x192 .f32) (ix2 o k) = argP m c (ix4 o k 0 0) := by
  entry_read
  pointwise [argP]

theorem scale' (c : Dev nD) (k : Fin 192) :
    (V m c main_v13 : FVec Ideal S192x1 .f32) (ix2 k 0) = (argG' m c (ix1 k) : EReal) * unit := by
  entry_read
  pointwise [argG', unit]

theorem offset' (c : Dev nD) (k : Fin 192) :
    (V m c main_v14 : FVec Ideal S192x1 .f32) (ix2 k 0) = argT' m c (ix1 k) := by
  entry_read
  pointwise [argT']

/-- The seven blocks a grid point reads. -/
theorem read0 (c : Dev nD) (t : Fin cfg0.N) (b : Fin 4) (hb : b.val = t.val) (k : Fin 192) (n : Fin 1024) :
    (iblk m c 0 t : Vec Ideal S1x192x1024 .f32) (ix3 0 k n) = argY m c (ix4 b k ⟨n / 32, by omega⟩ ⟨n % 32, by omega⟩) := by
  refine Eq.trans ?_ (image m c b k n)
  blk_ext [iblk, idx t]

theorem read1 (c : Dev nD) (t : Fin cfg0.N) (k : Fin 192) (q : Fin 9) :
    (iblk m c 1 t : Vec Ideal S192x9 .f32) (ix2 k q) = argW m c (ix4 k 0 ⟨q / 3, by omega⟩ ⟨q % 3, by omega⟩) := by
  refine Eq.trans ?_ (taps m c k q)
  blk_ext [iblk, idx t]

theorem read2 (c : Dev nD) (t : Fin cfg0.N) (k : Fin 192) :
    (iblk m c 2 t : Vec Ideal S192x1 .f32) (ix2 k 0) = (argG m c (ix1 k) : EReal) * unit := by
  refine Eq.trans ?_ (scale m c k)
  blk_ext [iblk, idx t]

theorem read3 (c : Dev nD) (t : Fin cfg0.N) (k : Fin 192) :
    (iblk m c 3 t : Vec Ideal S192x1 .f32) (ix2 k 0) = argT m c (ix1 k) := by
  refine Eq.trans ?_ (offset m c k)
  blk_ext [iblk, idx t]

theorem read4 (c : Dev nD) (t : Fin cfg0.N) (o k : Fin 192) :
    (iblk m c 4 t : Vec Ideal S192x192 .f32) (ix2 o k) = argP m c (ix4 o k 0 0) := by
  refine Eq.trans ?_ (weight m c o k)
  blk_ext [iblk, idx t]

theorem read5 (c : Dev nD) (t : Fin cfg0.N) (k : Fin 192) :
    (iblk m c 5 t : Vec Ideal S192x1 .f32) (ix2 k 0) = (argG' m c (ix1 k) : EReal) * unit := by
  refine Eq.trans ?_ (scale' m c k)
  blk_ext [iblk, idx t]

theorem read6 (c : Dev nD) (t : Fin cfg0.N) (k : Fin 192) :
    (iblk m c 6 t : Vec Ideal S192x1 .f32) (ix2 k 0) = argT' m c (ix1 k) := by
  refine Eq.trans ?_ (offset' m c k)
  blk_ext [iblk, idx t]

/-- The result after the run. -/
theorem final (c : Dev nD) : (dats m 0 c).arrAt 7 cfg0.N
    = answer (argY m c) (argW m c) (argG m c) (argT m c) (argP m c) (argG' m c) (argT' m c) := by
  refine (dats m 0 c).arrAt_eq_of_covers 7 _ (by decide +kernel) fun t hf y => ?_
  blk_simp
  rw [after0_7]
  have ht : t.val < 4 := lt_of_lt_of_eq t.isLt points
  obtain ⟨o, n, rfl⟩ : ∃ (o : Fin 192) (n : Fin 1024), y = (ix3 0 o n : S1x192x1024.Idx) := ⟨y 1, y 2, by blk_ext⟩
  have e : (win0_7.blk t).view.emb (ix3 0 o n : S1x192x1024.Idx) = (ix3 ⟨t.val, ht⟩ o n : S4x192x1024.Idx) := by
    blk_ext [idx t]
  rw [e]
  refine (block _ _ _ _ _ _ _ o n).trans ?_
  simp only [read0 m c t ⟨t.val, ht⟩ rfl, read1 m c t, read2 m c t, read3 m c t, read4 m c t, read5 m c t, read6 m c t]
  rfl

end Cert.MixValue
-- ==== Proof.MixRef.lean ====
module

public import proofs.«01_k».proof.Proof.MixBlock
public import proofs.«01_k».proof.Proof.Gen.MixRefIdeal.Run
public import Idealize.ShloMosaic.Lib.Pointwise

@[expose] public section

set_option maxRecDepth 16384

noncomputable section

namespace Cert.MixRef

open Cert.MixRefIdeal Cert.MixRefIdeal.Gen Idealize.SL.Sem Idealize.ShloMosaic Idealize.ShloMosaic.TcCoe
open Cert.MixBlock (near mixed clip unit answer)

variable (Y : FVec Ideal S4x192x32x32 .f32) (W : FVec Ideal S192x1x3x3 .f32) (g t : FVec Ideal S192 .f32) (P : FVec Ideal S192x192x1x1 .f32)
    (g' t' : FVec Ideal S192 .f32) (A : FVec Ideal S4x192x32x32 .f32)

/-- The padded images. -/
def padded : FVec Ideal S4x192x34x34 .f32 :=
  pad S4x192x34x34 ![0, 0, 1, 1] ![0, 0, 1, 1] ![0, 0, 0, 0] Y (sitofp .f32 (constantI S_ 32 0#32)) pads_S4x192x32x32_S4x192x34x34_000_000_110_110 h_S_

/-- The padded images at an index. -/
theorem padded_apply (b : Fin 4) (c : Fin 192) (i j : Fin 34) :
    padded Y (ix4 b c i j) = if h : 1 ≤ i.val ∧ i.val ≤ 32 ∧ 1 ≤ j.val ∧ j.val ≤ 32 then
      (Y (ix4 b c ⟨i - 1, by omega⟩ ⟨j - 1, by omega⟩) : EReal) else 0 := by
  have z : (FloatOps.sitofp .f32 0#32 : Ideal .f32) = (0 : EReal) := by
    show (((0#32 : BitVec 32).toInt : ℝ) : EReal) = 0
    simp
  pointwise [padded]
  rw [z]
  by_cases h : 1 ≤ i.val ∧ i.val ≤ 32 ∧ 1 ≤ j.val ∧ j.val ≤ 32
  · rw [dif_pos h, dif_pos (by omega)]
  · rw [dif_neg h, dif_neg (by omega)]

/-- A shifted read of the padded images. -/
theorem padded_near (b : Fin 4) (c : Fin 192) (n : Fin 1024) (dy dx : Nat) (hy : dy ≤ 2) (hx : dx ≤ 2) :
    padded Y (ix4 b c ⟨dy + n / 32, by omega⟩ ⟨dx + n % 32, by omega⟩)
      = near (fun n : Fin 1024 => (Y (ix4 b c ⟨n / 32, by omega⟩ ⟨n % 32, by omega⟩) : EReal)) dy dx n := by
  rw [padded_apply]
  unfold near
  by_cases h : 1 ≤ n.val / 32 + dy ∧ n.val / 32 + dy ≤ 32 ∧ 1 ≤ n.val % 32 + dx ∧ n.val % 32 + dx ≤ 32
  · rw [dif_pos h, dif_pos (show _ ∧ _ ∧ _ ∧ _ from ⟨by simp only []; omega, by simp only []; omega, by simp only []; omega, by simp only []; omega⟩)]
    refine congrArg₂ (fun p q => (Y (ix4 b c p q) : EReal)) (Fin.ext ?_) (Fin.ext ?_) <;> simp only [] <;> omega
  · rw [dif_neg h, dif_neg (by simp only []; omega)]

/-- The product for the tap at offset (0, 0). -/
def part0 (Z : FVec Ideal S4x192x34x34 .f32) : FVec Ideal S4x192x32x32 .f32 :=
  mulf (extractStridedSlice S4x192x32x32 ![0, 0, 0, 0] Z slices_S4x192x34x34_S4x192x32x32_0_0_0_0)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 0, 0] W slices_S192x1x3x3_S192x1x1x1_0_0_0_0) shapeCasts_S192x1x1x1_S192)))

theorem part0_apply (Z : FVec Ideal S4x192x34x34 .f32) (b : Fin 4) (c : Fin 192) (i j : Fin 32) :
    part0 W Z (ix4 b c i j) = (Z (ix4 b c ⟨0 + i, by omega⟩ ⟨0 + j, by omega⟩) : EReal) * W (ix4 c 0 0 0) := by
  pointwise [part0]

/-- The product for the tap at offset (0, 1). -/
def part1 (Z : FVec Ideal S4x192x34x34 .f32) : FVec Ideal S4x192x32x32 .f32 :=
  mulf (extractStridedSlice S4x192x32x32 ![0, 0, 0, 1] Z slices_S4x192x34x34_S4x192x32x32_0_0_0_1)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 0, 1] W slices_S192x1x3x3_S192x1x1x1_0_0_0_1) shapeCasts_S192x1x1x1_S192)))

theorem part1_apply (Z : FVec Ideal S4x192x34x34 .f32) (b : Fin 4) (c : Fin 192) (i j : Fin 32) :
    part1 W Z (ix4 b c i j) = (Z (ix4 b c ⟨0 + i, by omega⟩ ⟨1 + j, by omega⟩) : EReal) * W (ix4 c 0 0 1) := by
  pointwise [part1]

/-- The product for the tap at offset (0, 2). -/
def part2 (Z : FVec Ideal S4x192x34x34 .f32) : FVec Ideal S4x192x32x32 .f32 :=
  mulf (extractStridedSlice S4x192x32x32 ![0, 0, 0, 2] Z slices_S4x192x34x34_S4x192x32x32_0_0_0_2)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 0, 2] W slices_S192x1x3x3_S192x1x1x1_0_0_0_2) shapeCasts_S192x1x1x1_S192)))

theorem part2_apply (Z : FVec Ideal S4x192x34x34 .f32) (b : Fin 4) (c : Fin 192) (i j : Fin 32) :
    part2 W Z (ix4 b c i j) = (Z (ix4 b c ⟨0 + i, by omega⟩ ⟨2 + j, by omega⟩) : EReal) * W (ix4 c 0 0 2) := by
  pointwise [part2]

/-- The product for the tap at offset (1, 0). -/
def part3 (Z : FVec Ideal S4x192x34x34 .f32) : FVec Ideal S4x192x32x32 .f32 :=
  mulf (extractStridedSlice S4x192x32x32 ![0, 0, 1, 0] Z slices_S4x192x34x34_S4x192x32x32_0_0_1_0)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 1, 0] W slices_S192x1x3x3_S192x1x1x1_0_0_1_0) shapeCasts_S192x1x1x1_S192)))

theorem part3_apply (Z : FVec Ideal S4x192x34x34 .f32) (b : Fin 4) (c : Fin 192) (i j : Fin 32) :
    part3 W Z (ix4 b c i j) = (Z (ix4 b c ⟨1 + i, by omega⟩ ⟨0 + j, by omega⟩) : EReal) * W (ix4 c 0 1 0) := by
  pointwise [part3]

/-- The product for the tap at offset (1, 1). -/
def part4 (Z : FVec Ideal S4x192x34x34 .f32) : FVec Ideal S4x192x32x32 .f32 :=
  mulf (extractStridedSlice S4x192x32x32 ![0, 0, 1, 1] Z slices_S4x192x34x34_S4x192x32x32_0_0_1_1)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 1, 1] W slices_S192x1x3x3_S192x1x1x1_0_0_1_1) shapeCasts_S192x1x1x1_S192)))

theorem part4_apply (Z : FVec Ideal S4x192x34x34 .f32) (b : Fin 4) (c : Fin 192) (i j : Fin 32) :
    part4 W Z (ix4 b c i j) = (Z (ix4 b c ⟨1 + i, by omega⟩ ⟨1 + j, by omega⟩) : EReal) * W (ix4 c 0 1 1) := by
  pointwise [part4]

/-- The product for the tap at offset (1, 2). -/
def part5 (Z : FVec Ideal S4x192x34x34 .f32) : FVec Ideal S4x192x32x32 .f32 :=
  mulf (extractStridedSlice S4x192x32x32 ![0, 0, 1, 2] Z slices_S4x192x34x34_S4x192x32x32_0_0_1_2)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 1, 2] W slices_S192x1x3x3_S192x1x1x1_0_0_1_2) shapeCasts_S192x1x1x1_S192)))

theorem part5_apply (Z : FVec Ideal S4x192x34x34 .f32) (b : Fin 4) (c : Fin 192) (i j : Fin 32) :
    part5 W Z (ix4 b c i j) = (Z (ix4 b c ⟨1 + i, by omega⟩ ⟨2 + j, by omega⟩) : EReal) * W (ix4 c 0 1 2) := by
  pointwise [part5]

/-- The product for the tap at offset (2, 0). -/
def part6 (Z : FVec Ideal S4x192x34x34 .f32) : FVec Ideal S4x192x32x32 .f32 :=
  mulf (extractStridedSlice S4x192x32x32 ![0, 0, 2, 0] Z slices_S4x192x34x34_S4x192x32x32_0_0_2_0)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 2, 0] W slices_S192x1x3x3_S192x1x1x1_0_0_2_0) shapeCasts_S192x1x1x1_S192)))

theorem part6_apply (Z : FVec Ideal S4x192x34x34 .f32) (b : Fin 4) (c : Fin 192) (i j : Fin 32) :
    part6 W Z (ix4 b c i j) = (Z (ix4 b c ⟨2 + i, by omega⟩ ⟨0 + j, by omega⟩) : EReal) * W (ix4 c 0 2 0) := by
  pointwise [part6]

/-- The product for the tap at offset (2, 1). -/
def part7 (Z : FVec Ideal S4x192x34x34 .f32) : FVec Ideal S4x192x32x32 .f32 :=
  mulf (extractStridedSlice S4x192x32x32 ![0, 0, 2, 1] Z slices_S4x192x34x34_S4x192x32x32_0_0_2_1)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 2, 1] W slices_S192x1x3x3_S192x1x1x1_0_0_2_1) shapeCasts_S192x1x1x1_S192)))

theorem part7_apply (Z : FVec Ideal S4x192x34x34 .f32) (b : Fin 4) (c : Fin 192) (i j : Fin 32) :
    part7 W Z (ix4 b c i j) = (Z (ix4 b c ⟨2 + i, by omega⟩ ⟨1 + j, by omega⟩) : EReal) * W (ix4 c 0 2 1) := by
  pointwise [part7]

/-- The product for the tap at offset (2, 2). -/
def part8 (Z : FVec Ideal S4x192x34x34 .f32) : FVec Ideal S4x192x32x32 .f32 :=
  mulf (extractStridedSlice S4x192x32x32 ![0, 0, 2, 2] Z slices_S4x192x34x34_S4x192x32x32_0_0_2_2)
    (broadcastInDim S4x192x32x32 ![0, 1, 2, 3] bcast_S1x192x1x1_S4x192x32x32_0_1_2_3 (broadcastInDim S1x192x1x1 ![1] bcast_S192_S1x192x1x1_1
      (shapeCast _ (extractStridedSlice S192x1x1x1 ![0, 0, 2, 2] W slices_S192x1x3x3_S192x1x1x1_0_0_2_2) shapeCasts_S192x1x1x1_S192)))

theorem part8_apply (Z : FVec Ideal S4x192x34x34 .f32) (b : Fin 4) (c : Fin 192) (i j : Fin 32) :
    part8 W Z (ix4 b c i j) = (Z (ix4 b c ⟨2 + i, by omega⟩ ⟨2 + j, by omega⟩) : EReal) * W (ix4 c 0 2 2) := by
  pointwise [part8]

/-- The nine products summed. -/
def summed (Z : FVec Ideal S4x192x34x34 .f32) : FVec Ideal S4x192x32x32 .f32 :=
  addf (addf (addf (addf (addf (addf (addf (addf (addf (broadcastInDim S4x192x32x32 ![] bcast_S_S4x192x32x32 (constant S_ .f32 0x00000000#32)) (part0 W Z)) (part1 W Z)) (part2 W Z)) (part3 W Z)) (part4 W Z)) (part5 W Z)) (part6 W Z)) (part7 W Z)) (part8 W Z)

/-- The rest of the reference on the summed products. -/
def rest : FVec Ideal S4x192x1024 .f32 :=
  shapeCast _ (minimumf (broadcastInDim S4x192x32x32 ![] bcast_S_S4x192x32x32 ((constant S_ .f32 0x40C00000#32))) (maximumf (broadcastInDim S4x192x32x32 ![] bcast_S_S4x192x32x32 ((constant S_ .f32 0x00000000#32))) (addf (mulf (transpose S4x192x32x32 [0, 3, 1, 2] (Host.dotGeneral dot_S4x192x32x32_S192x192_S4x32x32x192_1_1_023_0_n_n none (minimumf (broadcastInDim S4x192x32x32 ![] bcast_S_S4x192x32x32 ((constant S_ .f32 0x40C00000#32))) (maximumf (broadcastInDim S4x192x32x32 ![] bcast_S_S4x192x32x32 ((constant S_ .f32 0x00000000#32))) (addf (mulf A (broadcastInDim S4x192x32x32 ![0, 1, 2, 3] bcast_S1x192x1x1_S4x192x32x32_0_1_2_3 (broadcastInDim S1x192x1x1 ![1] bcast_S192_S1x192x1x1_1 (mulf g (broadcastInDim S192 ![] bcast_S_S192 ((Host.divf (constant S_ .f32 0x3F800000#32) (Host.sqrt (constant S_ .f32 0x3F800054#32))))))))) (broadcastInDim S4x192x32x32 ![0, 1, 2, 3] bcast_S1x192x1x1_S4x192x32x32_0_1_2_3 (broadcastInDim S1x192x1x1 ![1] bcast_S192_S1x192x1x1_1 t))))) (shapeCast _ P shapeCasts_S192x192x1x1_S192x192)) transposes_S4x32x32x192_S4x192x32x32_0_3_1_2) (broadcastInDim S4x192x32x32 ![0, 1, 2, 3] bcast_S1x192x1x1_S4x192x32x32_0_1_2_3 (broadcastInDim S1x192x1x1 ![1] bcast_S192_S1x192x1x1_1 (mulf g' (broadcastInDim S192 ![] bcast_S_S192 ((Host.divf (constant S_ .f32 0x3F800000#32) (Host.sqrt (constant S_ .f32 0x3F800054#32))))))))) (broadcastInDim S4x192x32x32 ![0, 1, 2, 3] bcast_S1x192x1x1_S4x192x32x32_0_1_2_3 (broadcastInDim S1x192x1x1 ![1] bcast_S192_S1x192x1x1_1 t'))))) shapeCasts_S4x192x32x32_S4x192x1024
/-- The rest of the reference at an index. -/
theorem rest_apply (b : Fin 4) (o : Fin 192) (n : Fin 1024) : rest g t P g' t' A (ix3 b o n)
    = clip ((∑ c : Fin 192, P (ix4 o c 0 0) * clip (A (ix4 b c ⟨n / 32, by omega⟩ ⟨n % 32, by omega⟩) * (g (ix1 c) * unit) + t (ix1 c))) * (g' (ix1 o) * unit) + t' (ix1 o)) := by
  pointwise [rest, clip, unit]
  simp only [mul_comm (P _ : EReal)]

/-- The nine products summed, at an index. -/
theorem summed_apply (b : Fin 4) (c : Fin 192) (n : Fin 1024) :
    summed W (padded Y) (ix4 b c ⟨n / 32, by omega⟩ ⟨n % 32, by omega⟩)
      = Cert.MixBlock.conv (fun n : Fin 1024 => (Y (ix4 b c ⟨n / 32, by omega⟩ ⟨n % 32, by omega⟩) : EReal))
          (fun k => W (ix4 c 0 ⟨k / 3, by omega⟩ ⟨k % 3, by omega⟩)) n := by
  have add {a b c d : EReal} (h : a = b) (k : c = d) : a + c = b + d := by rw [h, k]
  have z : (broadcastInDim S4x192x32x32 ![] bcast_S_S4x192x32x32 (constant S_ .f32 0x00000000#32) : FVec Ideal S4x192x32x32 .f32)
      (ix4 b c ⟨n / 32, by omega⟩ ⟨n % 32, by omega⟩) = (0 : EReal) := by pointwise []
  unfold Cert.MixBlock.conv
  refine add (add (add (add (add (add (add (add ((add z ?_).trans (zero_add _)) ?_) ?_) ?_) ?_) ?_) ?_) ?_) ?_
  · exact (part0_apply W _ b c _ _).trans (congrArg (· * _) (padded_near Y b c n 0 0 (by omega) (by omega)))
  · exact (part1_apply W _ b c _ _).trans (congrArg (· * _) (padded_near Y b c n 0 1 (by omega) (by omega)))
  · exact (part2_apply W _ b c _ _).trans (congrArg (· * _) (padded_near Y b c n 0 2 (by omega) (by omega)))
  · exact (part3_apply W _ b c _ _).trans (congrArg (· * _) (padded_near Y b c n 1 0 (by omega) (by omega)))
  · exact (part4_apply W _ b c _ _).trans (congrArg (· * _) (padded_near Y b c n 1 1 (by omega) (by omega)))
  · exact (part5_apply W _ b c _ _).trans (congrArg (· * _) (padded_near Y b c n 1 2 (by omega) (by omega)))
  · exact (part6_apply W _ b c _ _).trans (congrArg (· * _) (padded_near Y b c n 2 0 (by omega) (by omega)))
  · exact (part7_apply W _ b c _ _).trans (congrArg (· * _) (padded_near Y b c n 2 1 (by omega) (by omega)))
  · exact (part8_apply W _ b c _ _).trans (congrArg (· * _) (padded_near Y b c n 2 2 (by omega) (by omega)))

/-- The reference's result. -/
theorem result : rest g t P g' t' (summed W (padded Y)) = answer Y W g t P g' t' := by
  funext y
  obtain ⟨b, o, n, rfl⟩ : ∃ (b : Fin 4) (o : Fin 192) (n : Fin 1024), y = ix3 b o n := ⟨y 0, y 1, y 2, by funext a; fin_cases a <;> rfl⟩
  rw [rest_apply]
  simp only [summed_apply]
  rfl

/-- The reference run on a memory leaves the result and keeps its arguments. -/
theorem run (m : (ℓ : Loc nD τ sig) → Buf (Elt Ideal) ℓ) (c : Dev nD) : Cert.MixRefIdeal.Value.res_main_v92 m c
    = answer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [← result]
  rfl

end Cert.MixRef
-- ==== Proof.WholeRun.lean ====
module

public import proofs.«01_k».proof.Proof.Gen.KernelIdeal.Frame

@[expose] public section

set_option maxRecDepth 16384

noncomputable section

namespace Cert.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The whole kernel's run: its result is what the last stretch of host operations leaves, and the arguments are unchanged. -/
theorem run : θ_run defs (onTc (τ := τ) (main (F := F))) ⟨m, fun _ => 0, ρ⟩ (fun r => (∀ c : Dev nD,
      r.2.mem ((c.tc : Thread nD τ).loc main_v100) = W7 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v100 (by decide)), (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩), funext fun g => hz g (.inr (no_unscoped g.2))⟩)

end Cert.WholeRun
-- ==== Proof.WholePrep.lean ====
module

public import proofs.«01_k».proof.Proof.Gen.KernelIdeal.Frame
public import proofs.«01_k».proof.Proof.CoarsePrep
public import Idealize.ShloMosaic.Lib.Pipeline.ValueKit
public import Idealize.ShloMosaic.Lib.Pointwise
public import Idealize.ShloMosaic.Lib.StableHlo.RunRead

@[expose] public section

set_option maxRecDepth 16384

noncomputable section

namespace Cert.WholePrep

open Cert.KernelIdeal Cert.KernelIdeal.Gen Cert.CoarseOps Cert.CoarseReal Idealize.ShloMosaic Idealize.ShloMosaic.TcCoe

open Cert.CoarsePrep (cell same_head)

variable (U : Valuation τ sig (Elt Ideal))

/-- A line of host operations cut in two. -/
theorem after_cut (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons o l ih => exact ih _

/-- The contents once the sixteen slices have been taken. -/
def sliced : Valuation τ sig (Elt Ideal) := StableHlo.after (hostOps0.take 32) U

theorem V_cut (b : Ref sig .tc) : StableHlo.after hostOps0 U b = StableHlo.after (hostOps0.drop 32) (sliced U) b := by
  unfold sliced
  rw [← after_cut, List.take_append_drop]

/-- Sixteen taps side by side: the second coordinate picks the tap. -/
theorem beside16 (u : Fin 16 → FVec Ideal S4x1x192x16x16 .f32) (b : Fin 4) (t : Fin 16) (k : Fin 192) (p q : Fin 16) :
    (concatenate S4x16x192x16x16 1
      [⟨S4x1x192x16x16, u 0⟩, ⟨S4x1x192x16x16, u 1⟩, ⟨S4x1x192x16x16, u 2⟩, ⟨S4x1x192x16x16, u 3⟩,
       ⟨S4x1x192x16x16, u 4⟩, ⟨S4x1x192x16x16, u 5⟩, ⟨S4x1x192x16x16, u 6⟩, ⟨S4x1x192x16x16, u 7⟩,
       ⟨S4x1x192x16x16, u 8⟩, ⟨S4x1x192x16x16, u 9⟩, ⟨S4x1x192x16x16, u 10⟩, ⟨S4x1x192x16x16, u 11⟩,
       ⟨S4x1x192x16x16, u 12⟩, ⟨S4x1x192x16x16, u 13⟩, ⟨S4x1x192x16x16, u 14⟩, ⟨S4x1x192x16x16, u 15⟩]
      concatenates_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x1x192x16x16_S4x16x192x16x16_d1 : FVec Ideal S4x16x192x16x16 .f32) (ix5 b t k p q)
      = u t (ix5 b 0 k p q) := by
  concat_tiles i h
  all_goals
    refine congr (congrArg u (Fin.ext ?_)) ?_
    · exact h.symm
    · blk_ext <;> assumption

theorem flat16 (w : FVec Ideal S4x16x192x16x16 .f32) (b : Fin 4) (k : Fin 3072) (n : Fin 256) :
    (shapeCast S4x3072x256 w shapeCasts_S4x16x192x16x16_S4x3072x256 : FVec Ideal S4x3072x256 .f32) (ix3 b k n)
      = w (ix5 b ⟨k / 192, by omega⟩ ⟨k % 192, by omega⟩ ⟨n / 16, by omega⟩ ⟨n % 16, by omega⟩) := by
  pointwise []

/-- The entries of the five arguments. -/
def argX (b : Fin 4) (k : Fin 192) (r s : Fin 34) : EReal :=
  (U main_arg0 : FVec Ideal S4x192x34x34 .f32) (ix4 b k r s)
def argWd (o : Fin 384) (k : Fin 192) (r s : Fin 4) : EReal :=
  (U main_arg1 : FVec Ideal S384x192x4x4 .f32) (ix4 o k r s)
def argBd (o : Fin 384) : EReal := (U main_arg2 : FVec Ideal S384 .f32) (ix1 o)
def argWq (d : Fin 4) (r : Fin 12) : EReal := (U main_arg3 : FVec Ideal S4x12 .f32) (ix2 d r)
def argBq (r : Fin 12) : EReal := (U main_arg4 : FVec Ideal S12 .f32) (ix1 r)

/-- The tap number `t`: offset `(t / 4, t % 4)`. -/
def tap (t : Fin 16) : FVec Ideal S4x1x192x16x16 .f32 := fun i =>
  (U main_arg0 : FVec Ideal S4x192x34x34 .f32)
    (ix4 (i 0) (i 2) (cell ⟨t.val / 4, by omega⟩ (i 3)) (cell ⟨t.val % 4, by omega⟩ (i 4)))

theorem sliced_taps :
    (sliced U main_v16 : FVec Ideal S4x1x192x16x16 .f32) = tap U 0 ∧
    (sliced U main_v17 : FVec Ideal S4x1x192x16x16 .f32) = tap U 1 ∧
    (sliced U main_v18 : FVec Ideal S4x1x192x16x16 .f32) = tap U 2 ∧
    (sliced U main_v19 : FVec Ideal S4x1x192x16x16 .f32) = tap U 3 ∧
    (sliced U main_v20 : FVec Ideal S4x1x192x16x16 .f32) = tap U 4 ∧
    (sliced U main_v21 : FVec Ideal S4x1x192x16x16 .f32) = tap U 5 ∧
    (sliced U main_v22 : FVec Ideal S4x1x192x16x16 .f32) = tap U 6 ∧
    (sliced U main_v23 : FVec Ideal S4x1x192x16x16 .f32) = tap U 7 ∧
    (sliced U main_v24 : FVec Ideal S4x1x192x16x16 .f32) = tap U 8 ∧
    (sliced U main_v25 : FVec Ideal S4x1x192x16x16 .f32) = tap U 9 ∧
    (sliced U main_v26 : FVec Ideal S4x1x192x16x16 .f32) = tap U 10 ∧
    (sliced U main_v27 : FVec Ideal S4x1x192x16x16 .f32) = tap U 11 ∧
    (sliced U main_v28 : FVec Ideal S4x1x192x16x16 .f32) = tap U 12 ∧
    (sliced U main_v29 : FVec Ideal S4x1x192x16x16 .f32) = tap U 13 ∧
    (sliced U main_v30 : FVec Ideal S4x1x192x16x16 .f32) = tap U 14 ∧
    (sliced U main_v31 : FVec Ideal S4x1x192x16x16 .f32) = tap U 15 := by
  unfold sliced
  simp only [hostOps0, List.take]
  refine ⟨?_, ?_, ?_, ?_, ?_, ?_, ?_, ?_, ?_, ?_, ?_, ?_, ?_, ?_, ?_, ?_⟩
  all_goals
    after_results
    funext i
    obtain ⟨b, o, k, p, q, rfl⟩ : ∃ b o k p q, i = ix5 b o k p q := ⟨i 0, i 1, i 2, i 3, i 4, by blk_ext⟩
    pointwise [tap, cell]

/-- The patch matrix the kernel splits. -/
theorem patches (b : Fin 4) (k : Fin 3072) (n : Fin 256) :
    (StableHlo.after hostOps0 U main_v33 : FVec Ideal S4x3072x256 .f32) (ix3 b k n)
      = argX U b ⟨k % 192, by omega⟩ (cell ⟨k / 192 / 4, by omega⟩ ⟨n / 16, by omega⟩)
            (cell ⟨k / 192 % 4, by omega⟩ ⟨n % 16, by omega⟩) := by
  rw [V_cut]
  have H := sliced_taps U
  generalize sliced U = U' at H
  obtain ⟨h0, h1, h2, h3, h4, h5, h6, h7, h8, h9, h10, h11, h12, h13, h14, h15⟩ := H
  simp only [hostOps0, List.drop]
  after_results
  refine (flat16 _ b k n).trans ?_
  dsimp only [Matrix.cons_val]
  rw [h0, h1, h2, h3, h4, h5, h6, h7, h8, h9, h10, h11, h12, h13, h14, h15]
  exact beside16 (tap U) b _ _ _ _

/-- The first part of the split is the patch matrix itself. -/
theorem patches_hi (b : Fin 4) (k : Fin 3072) (n : Fin 256) :
    (StableHlo.after hostOps0 U main_v34 : FVec Ideal S4x3072x256 .bf16) (ix3 b k n) = (StableHlo.after hostOps0 U main_v33 : FVec Ideal S4x3072x256 .f32) (ix3 b k n) := by
  rw [V_cut, V_cut]
  generalize sliced U = U'
  simp only [hostOps0, List.drop]
  after_results
  rfl

/-- The second part of the split: what the first left over. -/
theorem patches_lo (b : Fin 4) (k : Fin 3072) (n : Fin 256) (p : EReal)
    (hp : (StableHlo.after hostOps0 U main_v33 : FVec Ideal S4x3072x256 .f32) (ix3 b k n) = p) :
    (StableHlo.after hostOps0 U main_v37 : FVec Ideal S4x3072x256 .bf16) (ix3 b k n) = p - p := by
  subst hp
  rw [V_cut, V_cut]
  generalize sliced U = U'
  simp only [hostOps0, List.drop]
  after_results
  rfl

/-- The coarse weight, one row per output channel. -/
theorem down_hi (o : Fin 384) (k : Fin 3072) :
    (StableHlo.after hostOps0 U main_v40 : FVec Ideal S384x3072 .bf16) (ix2 o k)
      = argWd U o ⟨k % 192, by omega⟩ ⟨k / 192 / 4, by omega⟩ ⟨k / 192 % 4, by omega⟩ := by
  entry_read
  pointwise [argWd, Nat.div_div_eq_div_mul]

theorem down_lo (o : Fin 384) (k : Fin 3072) :
    (StableHlo.after hostOps0 U main_v43 : FVec Ideal S384x3072 .bf16) (ix2 o k)
      = argWd U o ⟨k % 192, by omega⟩ ⟨k / 192 / 4, by omega⟩ ⟨k / 192 % 4, by omega⟩
        - argWd U o ⟨k % 192, by omega⟩ ⟨k / 192 / 4, by omega⟩ ⟨k / 192 % 4, by omega⟩ := by
  entry_read
  pointwise [argWd, Nat.div_div_eq_div_mul]

theorem down_bias (o : Fin 384) :
    (StableHlo.after hostOps0 U main_v76 : FVec Ideal S384x1 .f32) (ix2 o 0) = argBd U o := by
  entry_read
  pointwise [argBd]

/-- The block-diagonal weight: the small weight where row and column belong to one head, zero elsewhere. -/
theorem qkv_hi (r : Fin 96) (k : Fin 32) :
    (StableHlo.after hostOps0 U main_v57 : FVec Ideal S96x32 .bf16) (ix2 r k)
      = ((if r.val / 12 = k.val / 4 then 1 else 0 : ℝ) : EReal) * argWq U ⟨k % 4, by omega⟩ ⟨r % 12, by omega⟩ := by
  rw [← same_head _ _ (by omega) (by omega)]
  entry_read
  pointwise [argWq]

theorem qkv_lo (r : Fin 96) (k : Fin 32) :
    (StableHlo.after hostOps0 U main_v60 : FVec Ideal S96x32 .bf16) (ix2 r k)
      = ((if r.val / 12 = k.val / 4 then 1 else 0 : ℝ) : EReal) * argWq U ⟨k % 4, by omega⟩ ⟨r % 12, by omega⟩
        - ((if r.val / 12 = k.val / 4 then 1 else 0 : ℝ) : EReal) * argWq U ⟨k % 4, by omega⟩ ⟨r % 12, by omega⟩ := by
  rw [← same_head _ _ (by omega) (by omega)]
  entry_read
  pointwise [argWq]

theorem qkv_bias (r : Fin 96) :
    (StableHlo.after hostOps0 U main_v64 : FVec Ideal S96x1 .f32) (ix2 r 0) = argBq U ⟨r % 12, by omega⟩ := by
  entry_read
  pointwise [argBq]

/-- The block-diagonal weight of the second stage. -/
theorem small (r : Fin 96) (k : Fin 32) :
    (StableHlo.after hostOps0 U main_v71 : FVec Ideal S96x32 .f32) (ix2 r k)
      = ((if r.val / 12 = k.val / 4 then 1 else 0 : ℝ) : EReal) * (U main_arg7 : FVec Ideal S4x12 .f32) (ix2 ⟨k % 4, by omega⟩ ⟨r % 12, by omega⟩) := by
  rw [← same_head _ _ (by omega) (by omega)]
  entry_read
  pointwise []

/-- The small bias of the second stage. -/
theorem small_bias (r : Fin 96) :
    (StableHlo.after hostOps0 U main_v75 : FVec Ideal S96x1 .f32) (ix2 r 0) = (U main_arg8 : FVec Ideal S12 .f32) (ix1 ⟨r % 12, by omega⟩) := by
  entry_read
  pointwise []

end Cert.WholePrep
-- ==== Proof.WholeCoarse.lean ====
module

public import proofs.«01_k».proof.Proof.CoarseValue
public import proofs.«01_k».proof.Proof.WholePrep
public import proofs.«01_k».proof.Proof.CoarseBlock
public import proofs.«01_k».proof.Proof.CoarsePrep
public import proofs.«01_k».proof.Proof.Gen.CoarseIdeal.Value
public import Idealize.ShloMosaic.Lib.Pointwise
public import Idealize.ShloMosaic.Lib.Pipeline.ValueKit

@[expose] public section

set_option maxRecDepth 16384

noncomputable section

namespace Cert.WholeCoarse

open Cert.KernelIdeal Cert.KernelIdeal.Gen Cert.CoarseReal Cert.WholePrep
open Cert.CoarseBlock (out_coe score_coe result score)
open Cert.CoarseValue (patch flat feats)
open Idealize.ShloMosaic Idealize.ShloMosaic.TcCoe

/-- The index maps over the grid: the patches and the two results move with the image, the weights stay. -/
theorem idx : ∀ t : Fin cfg0.N, win0_0.index t = ![t.val, 0, 0] ∧ win0_1.index t = ![t.val, 0, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![t.val, 0, 0] ∧
    win0_9.index t = ![t.val, 0, 0] :=
  (by decide +kernel : ∀ t : Fin grid0.N, _)

/-- The grid has one point per image. -/
theorem points : cfg0.N = 4 := by decide +kernel

variable (U : Valuation τ sig (Elt Ideal)) (m : (ℓ : Loc nD τ sig) → Buf (Elt Ideal) ℓ) (ρ : Dev nD → PrngReg)
  (x : Fin 4 → Fin 192 → Fin 34 → Fin 34 → ℝ) (Wd : Fin 384 → Fin 192 → Fin 4 → Fin 4 → ℝ) (bd : Fin 384 → ℝ)
  (wq : Fin 4 → Fin 12 → ℝ) (bq : Fin 12 → ℝ)

/-- The five arguments on a device are the given real arrays. -/
structure Reals : Prop where
  hx : ∀ b k r s, argX U b k r s = (x b k r s : EReal)
  hWd : ∀ o k r s, argWd U o k r s = (Wd o k r s : EReal)
  hbd : ∀ o, argBd U o = (bd o : EReal)
  hwq : ∀ d r, argWq U d r = (wq d r : EReal)
  hbq : ∀ r, argBq U r = (bq r : EReal)

variable {m ρ x Wd bd wq bq}

/-- The eight blocks a grid point reads, on real arguments. -/
theorem read0 {c : Dev nD} (H : Reals (W0 m ρ c) x Wd bd wq bq) (t : Fin cfg0.N) (b : Fin 4) (hb : b.val = t.val) (k : Fin 3072) (n : Fin 256) :
    (iblk0 (V1 m ρ) c 0 t : Vec Ideal S1x3072x256 .bf16) (ix3 0 k n) = (patch x b k n : EReal) := by
  refine Eq.trans ?_ ((patches_hi (W0 m ρ c) b k n).trans ((patches (W0 m ρ c) b k n).trans (H.hx _ _ _ _)))
  blk_ext [iblk0, idx t]

theorem read1 {c : Dev nD} (H : Reals (W0 m ρ c) x Wd bd wq bq) (t : Fin cfg0.N) (b : Fin 4) (hb : b.val = t.val) (k : Fin 3072) (n : Fin 256) :
    (iblk0 (V1 m ρ) c 1 t : Vec Ideal S1x3072x256 .bf16) (ix3 0 k n) = (0 : EReal) := by
  refine Eq.trans ?_ ((patches_lo (W0 m ρ c) b k n _ ((patches (W0 m ρ c) b k n).trans (H.hx _ _ _ _))).trans (coe_sub_self _))
  blk_ext [iblk0, idx t]

theorem read2 {c : Dev nD} (H : Reals (W0 m ρ c) x Wd bd wq bq) (t : Fin cfg0.N) (o : Fin 384) (k : Fin 3072) :
    (iblk0 (V1 m ρ) c 2 t : Vec Ideal S384x3072 .bf16) (ix2 o k) = (flat Wd o k : EReal) := by
  refine Eq.trans ?_ ((down_hi (W0 m ρ c) o k).trans (H.hWd _ _ _ _))
  blk_ext [iblk0, idx t]

theorem read3 {c : Dev nD} (H : Reals (W0 m ρ c) x Wd bd wq bq) (t : Fin cfg0.N) (o : Fin 384) (k : Fin 3072) :
    (iblk0 (V1 m ρ) c 3 t : Vec Ideal S384x3072 .bf16) (ix2 o k) = (0 : EReal) := by
  refine Eq.trans ?_ ((down_lo (W0 m ρ c) o k).trans ((by rw [H.hWd]; rfl) : _ = (flat Wd o k : EReal) - (flat Wd o k : EReal)) |>.trans (coe_sub_self _))
  blk_ext [iblk0, idx t]

theorem read4 {c : Dev nD} (H : Reals (W0 m ρ c) x Wd bd wq bq) (t : Fin cfg0.N) (o : Fin 384) :
    (iblk0 (V1 m ρ) c 4 t : Vec Ideal S384x1 .f32) (ix2 o 0) = (bd o : EReal) := by
  refine Eq.trans ?_ ((down_bias (W0 m ρ c) o).trans (H.hbd _))
  blk_ext [iblk0, idx t]

theorem read5 {c : Dev nD} (H : Reals (W0 m ρ c) x Wd bd wq bq) (t : Fin cfg0.N) (r : Fin 96) (k : Fin 32) :
    (iblk0 (V1 m ρ) c 5 t : Vec Ideal S96x32 .bf16) (ix2 r k) = (CoarseBlock.diag wq r k : EReal) := by
  refine Eq.trans ?_ ((qkv_hi (W0 m ρ c) r k).trans ((by rw [H.hwq, ← EReal.coe_mul]; rfl)))
  blk_ext [iblk0, idx t]

theorem read6 {c : Dev nD} (H : Reals (W0 m ρ c) x Wd bd wq bq) (t : Fin cfg0.N) (r : Fin 96) (k : Fin 32) :
    (iblk0 (V1 m ρ) c 6 t : Vec Ideal S96x32 .bf16) (ix2 r k) = (0 : EReal) := by
  refine Eq.trans ?_ ((qkv_lo (W0 m ρ c) r k).trans ((by rw [H.hwq, ← EReal.coe_mul]; rfl) : _ = (CoarseBlock.diag wq r k : EReal) - (CoarseBlock.diag wq r k : EReal)) |>.trans (coe_sub_self _))
  blk_ext [iblk0, idx t]

theorem read7 {c : Dev nD} (H : Reals (W0 m ρ c) x Wd bd wq bq) (t : Fin cfg0.N) (r : Fin 96) :
    (iblk0 (V1 m ρ) c 7 t : Vec Ideal S96x1 .f32) (ix2 r 0) = (bq ⟨r % 12, by omega⟩ : EReal) := by
  refine Eq.trans ?_ ((qkv_bias (W0 m ρ c) r).trans (H.hbq _))
  blk_ext [iblk0, idx t]

/-- The first result after the run. -/
theorem final8 {c : Dev nD} (H : Reals (W0 m ρ c) x Wd bd wq bq) :
    (dat0 (V1 m ρ) c).arrAt 8 cfg0.N
      = (fun y : S4x384x256.Idx => (result wq bq (feats x Wd bd (y 0)) (y 1) (y 2) : EReal)) := by
  refine (dat0 (V1 m ρ) c).arrAt_eq_of_covers 8 _ (by decide +kernel) fun t hf y => ?_
  blk_simp
  rw [after0_8]
  have ht : t.val < 4 := lt_of_lt_of_eq t.isLt points
  obtain ⟨o, i, rfl⟩ : ∃ (o : Fin 384) (i : Fin 256), y = (ix3 0 o i : S1x384x256.Idx) := ⟨y 1, y 2, by blk_ext⟩
  have e : (win0_8.blk t).view.emb (ix3 0 o i : S1x384x256.Idx) = (ix3 ⟨t.val, ht⟩ o i : S4x384x256.Idx) := by
    blk_ext [idx t]
  rw [e]
  exact out_coe _ _ _ _ _ _ _ _ _ _ _ _ _ (read0 H t _ rfl) (read1 H t ⟨t.val, ht⟩ rfl) (read2 H t) (read3 H t) (read4 H t) (read5 H t)
    (read6 H t) (read7 H t) o i

/-- The second result after the run. -/
theorem final9 {c : Dev nD} (H : Reals (W0 m ρ c) x Wd bd wq bq) :
    (dat0 (V1 m ρ) c).arrAt 9 cfg0.N
      = (fun y : S4x256x1.Idx => (score wq bq (feats x Wd bd (y 0)) (y 1) : EReal)) := by
  refine (dat0 (V1 m ρ) c).arrAt_eq_of_covers 9 _ (by decide +kernel) fun t hf y => ?_
  blk_simp
  rw [after0_9]
  have ht : t.val < 4 := lt_of_lt_of_eq t.isLt points
  obtain ⟨j, rfl⟩ : ∃ j : Fin 256, y = (ix3 0 j 0 : S1x256x1.Idx) := ⟨y 1, by blk_ext⟩
  have e : (win0_9.blk t).view.emb (ix3 0 j 0 : S1x256x1.Idx) = (ix3 ⟨t.val, ht⟩ j 0 : S4x256x1.Idx) := by
    blk_ext [idx t]
  rw [e]
  exact score_coe _ _ _ _ _ _ _ _ _ _ _ _ _ (read0 H t _ rfl) (read1 H t ⟨t.val, ht⟩ rfl) (read2 H t) (read3 H t) (read4 H t) (read5 H t)
    (read6 H t) (read7 H t) j

end Cert.WholeCoarse
-- ==== Proof.WholeUp.lean ====
module

public import proofs.«01_k».proof.Proof.UpValue
public import proofs.«01_k».proof.Proof.WholePrep

@[expose] public section

set_option maxRecDepth 16384

noncomputable section

namespace Cert.WholeUp

open Cert.KernelIdeal Cert.KernelIdeal.Gen
open Cert.UpPhase (blockPhase)
open Cert.UpBlock (out_coe)
open Cert.UpMask (sc)
open Cert.UpValue (phases answer Reals)
open Idealize.ShloMosaic Idealize.ShloMosaic.TcCoe

variable (m : (ℓ : Loc nD τ sig) → Buf (Elt Ideal) ℓ) (ρ : Dev nD → PrngReg)

/-- The first stage's two results and the second stage's four arguments. -/
def argX (c : Dev nD) : FVec Ideal S4x384x256 .f32 := W2 m ρ c main_v77_0
def argS (c : Dev nD) : FVec Ideal S4x256x1 .f32 := W2 m ρ c main_v77_1
def argW (c : Dev nD) : FVec Ideal S384x192x4x4 .f32 := W2 m ρ c main_arg5
def argB (c : Dev nD) : FVec Ideal S192 .f32 := W2 m ρ c main_arg6
def argWq (c : Dev nD) : FVec Ideal S4x12 .f32 := W0 m ρ c main_arg7
def argBq (c : Dev nD) : FVec Ideal S12 .f32 := W0 m ρ c main_arg8

/-- The index maps over the grid: the image, its scores and the result move with the grid point, the weights stay. -/
theorem idx : ∀ t : Fin cfg1.N, win1_0.index t = ![t.val, 0, 0] ∧ win1_1.index t = ![t.val, 0, 0] ∧
    win1_2.index t = ![0, 0, 0] ∧ win1_3.index t = ![0, 0] ∧ win1_4.index t = ![0, 0] ∧ win1_5.index t = ![0, 0] ∧
    win1_6.index t = ![t.val, 0, 0, 0] :=
  (by decide +kernel : ∀ t : Fin grid1.N, _)

/-- The grid has one point per image. -/
theorem points : cfg1.N = 4 := by decide +kernel

/-- The two results the second stage reads unchanged. -/
theorem image (c : Dev nD) (b : Fin 4) (k : Fin 384) (n : Fin 256) :
    (V3 m ρ c main_v77_0 : FVec Ideal S4x384x256 .f32) (ix3 b k n) = argX m ρ c (ix3 b k n) :=
  congrFun (W3_of m ρ c main_v77_0 (by decide)) _

theorem scores (c : Dev nD) (b : Fin 4) (n : Fin 256) :
    (V3 m ρ c main_v77_1 : FVec Ideal S4x256x1 .f32) (ix3 b n 0) = argS m ρ c (ix3 b n 0) :=
  congrFun (W3_of m ρ c main_v77_1 (by decide)) _

/-- The prepared weight, over any contents. -/
theorem weight' (U : Valuation τ sig (Elt Ideal)) (k : Fin 16) (o : Fin 192) (d : Fin 384) :
    (StableHlo.after hostOps1 U main_v79 : FVec Ideal S16x192x384 .f32) (ix3 k o d)
      = (U main_arg5 : FVec Ideal S384x192x4x4 .f32) (ix4 d o ⟨k / 4, by omega⟩ ⟨k % 4, by omega⟩) := by
  entry_read
  pointwise []

theorem bias' (U : Valuation τ sig (Elt Ideal)) (o : Fin 192) :
    (StableHlo.after hostOps1 U main_v80 : FVec Ideal S192x1 .f32) (ix2 o 0) = (U main_arg6 : FVec Ideal S192 .f32) (ix1 o) := by
  entry_read
  pointwise []

theorem weight (c : Dev nD) (k : Fin 16) (o : Fin 192) (d : Fin 384) :
    (V3 m ρ c main_v79 : FVec Ideal S16x192x384 .f32) (ix3 k o d) = argW m ρ c (ix4 d o ⟨k / 4, by omega⟩ ⟨k % 4, by omega⟩) :=
  weight' (W2 m ρ c) k o d

theorem bias (c : Dev nD) (o : Fin 192) :
    (V3 m ρ c main_v80 : FVec Ideal S192x1 .f32) (ix2 o 0) = argB m ρ c (ix1 o) :=
  bias' (W2 m ρ c) o

/-- What the first stretch of host operations prepares for the second stage is still there. -/
theorem kept (c : Dev nD) (r : Ref sig .tc) (h : r ∉ hostOps1_W) (h' : ∀ w : Fin cfg0.W, Pipeline.arrRef spec0 w = r → (cfg0.win w).isOut = false) :
    V3 m ρ c r = StableHlo.after hostOps0 (W0 m ρ c) r :=
  (W3_of m ρ c r h).trans (W2_of m ρ c r h')

theorem small (c : Dev nD) (r : Fin 96) (k : Fin 32) :
    (V3 m ρ c main_v71 : FVec Ideal S96x32 .f32) (ix2 r k)
      = ((if r.val / 12 = k.val / 4 then 1 else 0 : ℝ) : EReal) * argWq m ρ c (ix2 ⟨k % 4, by omega⟩ ⟨r % 12, by omega⟩) :=
  (congrFun (kept m ρ c main_v71 (by decide) (by decide)) _).trans (WholePrep.small (W0 m ρ c) r k)

theorem small_bias (c : Dev nD) (r : Fin 96) :
    (V3 m ρ c main_v75 : FVec Ideal S96x1 .f32) (ix2 r 0) = argBq m ρ c (ix1 ⟨r % 12, by omega⟩) :=
  (congrFun (kept m ρ c main_v75 (by decide) (by decide)) _).trans (WholePrep.small_bias (W0 m ρ c) r)

variable {m ρ} {Y : Fin 4 → Fin 192 → Fin 4 → Fin 256 → ℝ} {wq : Fin 4 → Fin 12 → ℝ} {bq : Fin 12 → ℝ}

/-- The six blocks a grid point reads. -/
theorem read0 (c : Dev nD) (t : Fin cfg1.N) (b : Fin 4) (hb : b.val = t.val) (k : Fin 384) (n : Fin 256) :
    (iblk1 (V3 m ρ) c 0 t : Vec Ideal S1x384x256 .f32) (ix3 0 k n) = argX m ρ c (ix3 b k n) := by
  refine Eq.trans ?_ (image m ρ c b k n)
  blk_ext [iblk1, idx t]

theorem read1 (c : Dev nD) (t : Fin cfg1.N) (b : Fin 4) (hb : b.val = t.val) (n : Fin 256) :
    (iblk1 (V3 m ρ) c 1 t : Vec Ideal S1x256x1 .f32) (ix3 0 n 0) = argS m ρ c (ix3 b n 0) := by
  refine Eq.trans ?_ (scores m ρ c b n)
  blk_ext [iblk1, idx t]

theorem read2 (c : Dev nD) (t : Fin cfg1.N) (k : Fin 16) (o : Fin 192) (d : Fin 384) :
    (iblk1 (V3 m ρ) c 2 t : Vec Ideal S16x192x384 .f32) (ix3 k o d) = argW m ρ c (ix4 d o ⟨k / 4, by omega⟩ ⟨k % 4, by omega⟩) := by
  refine Eq.trans ?_ (weight m ρ c k o d)
  blk_ext [iblk1, idx t]

theorem read3 (c : Dev nD) (t : Fin cfg1.N) (o : Fin 192) :
    (iblk1 (V3 m ρ) c 3 t : Vec Ideal S192x1 .f32) (ix2 o 0) = argB m ρ c (ix1 o) := by
  refine Eq.trans ?_ (bias m ρ c o)
  blk_ext [iblk1, idx t]

theorem read4 (c : Dev nD) (hwq : ∀ d r, argWq m ρ c (ix2 d r) = (wq d r : EReal)) (t : Fin cfg1.N) (r : Fin 96) (k : Fin 32) :
    (iblk1 (V3 m ρ) c 4 t : Vec Ideal S96x32 .f32) (ix2 r k) = (CoarseBlock.diag wq r k : EReal) := by
  refine Eq.trans ?_ ((small m ρ c r k).trans ((by rw [hwq, ← EReal.coe_mul]; rfl)))
  blk_ext [iblk1, idx t]

theorem read5 (c : Dev nD) (hbq : ∀ r, argBq m ρ c (ix1 r) = (bq r : EReal)) (t : Fin cfg1.N) (r : Fin 96) :
    (iblk1 (V3 m ρ) c 5 t : Vec Ideal S96x1 .f32) (ix2 r 0) = (bq ⟨r % 12, by omega⟩ : EReal) := by
  refine Eq.trans ?_ ((small_bias m ρ c r).trans (hbq _))
  blk_ext [iblk1, idx t]

/-- The result after the run. -/
theorem final {c : Dev nD} (H : Reals (argX m ρ c) (argW m ρ c) (argB m ρ c) (argWq m ρ c) (argBq m ρ c) Y wq bq) :
    (dat1 (V3 m ρ) c).arrAt 6 cfg1.N
      = (fun y : S4x4x192x256.Idx => (answer (argS m ρ c) Y wq bq (y 0) (y 1) (y 2) (y 3) : EReal)) := by
  refine (dat1 (V3 m ρ) c).arrAt_eq_of_covers 6 _ (by decide +kernel) fun t hf y => ?_
  blk_simp
  rw [after1_6]
  have ht : t.val < 4 := lt_of_lt_of_eq t.isLt points
  obtain ⟨s, o, n, rfl⟩ : ∃ (s : Fin 4) (o : Fin 192) (n : Fin 256), y = (ix4 0 s o n : S1x4x192x256.Idx) := ⟨y 1, y 2, y 3, by blk_ext⟩
  have e : (win1_6.blk t).view.emb (ix4 0 s o n : S1x4x192x256.Idx) = (ix4 ⟨t.val, ht⟩ s o n : S4x4x192x256.Idx) := by
    blk_ext [idx t]
  rw [e]
  have hs : sc (iblk1 (V3 m ρ) c 1 t : Vec Ideal S1x256x1 .f32) = fun n => argS m ρ c (ix3 ⟨t.val, ht⟩ n 0) := by
    funext n
    exact read1 c t ⟨t.val, ht⟩ rfl n
  refine (out_coe _ _ _ _ _ _ (Y ⟨t.val, ht⟩) wq bq ?_ (read4 c H.hwq t) (read5 c H.hbq t) s o n).trans ?_
  · intro s o n
    refine Eq.trans ?_ (H.hY ⟨t.val, ht⟩ s o n)
    unfold blockPhase phases
    simp only [read0 c t ⟨t.val, ht⟩ rfl, read2 c t, read3 c t]
  · rw [hs]
    rfl

end Cert.WholeUp
-- ==== Proof.WholeMix.lean ====
module

public import proofs.«01_k».proof.Proof.MixBlock
public import proofs.«01_k».proof.Proof.Gen.KernelIdeal.Frame
public import Idealize.ShloMosaic.Lib.Pointwise
public import Idealize.ShloMosaic.Lib.Pipeline.ValueKit
public import Idealize.ShloMosaic.Lib.StableHlo.RunRead

@[expose] public section

set_option maxRecDepth 16384

noncomputable section

namespace Cert.WholeMix

open Cert.KernelIdeal Cert.KernelIdeal.Gen
open Cert.MixBlock (answer unit block)
open Idealize.ShloMosaic Idealize.ShloMosaic.TcCoe

variable (U : Valuation τ sig (Elt Ideal))

/-- The image handed to the third stage, and the six arguments. -/
def argY : FVec Ideal S4x192x32x32 .f32 := fun y => (StableHlo.after hostOps2 U main_v84 : FVec Ideal S4x192x1024 .f32)
  (ix3 (y 0) (y 1) ⟨32 * (y 2).val + (y 3).val, by have := (y 2).isLt; have := (y 3).isLt; dsimp at *; omega⟩)
def argW : FVec Ideal S192x1x3x3 .f32 := U main_arg9
def argG : FVec Ideal S192 .f32 := U main_arg10
def argT : FVec Ideal S192 .f32 := U main_arg11
def argP : FVec Ideal S192x192x1x1 .f32 := U main_arg12
def argG' : FVec Ideal S192 .f32 := U main_arg13
def argT' : FVec Ideal S192 .f32 := U main_arg14

/-- The index maps over the grid: the image and the result move with the grid point, the weights stay. -/
theorem idx : ∀ t : Fin cfg2.N, win2_0.index t = ![t.val, 0, 0] ∧ win2_1.index t = ![0, 0] ∧
    win2_2.index t = ![0, 0] ∧ win2_3.index t = ![0, 0] ∧ win2_4.index t = ![0, 0] ∧ win2_5.index t = ![0, 0] ∧
    win2_6.index t = ![0, 0] ∧ win2_7.index t = ![t.val, 0, 0] :=
  (by decide +kernel : ∀ t : Fin grid2.N, _)

/-- The grid has one point per image. -/
theorem points : cfg2.N = 4 := by decide +kernel

/-- The prepared operands at an index. -/
theorem image (b : Fin 4) (k : Fin 192) (n : Fin 1024) :
    (StableHlo.after hostOps2 U main_v84 : FVec Ideal S4x192x1024 .f32) (ix3 b k n) = argY U (ix4 b k ⟨n / 32, by omega⟩ ⟨n % 32, by omega⟩) := by
  exact congrArg _ (by funext a; fin_cases a <;> first | rfl | exact Fin.ext (by dsimp [ix3, ix4]; omega))

theorem taps (k : Fin 192) (t : Fin 9) :
    (StableHlo.after hostOps2 U main_v87 : FVec Ideal S192x9 .f32) (ix2 k t) = argW U (ix4 k 0 ⟨t / 3, by omega⟩ ⟨t % 3, by omega⟩) := by
  entry_read
  pointwise [argW]

theorem scale (k : Fin 192) :
    (StableHlo.after hostOps2 U main_v91 : FVec Ideal S192x1 .f32) (ix2 k 0) = (argG U (ix1 k) : EReal) * unit := by
  entry_read
  pointwise [argG, unit]

theorem offset (k : Fin 192) :
    (StableHlo.after hostOps2 U main_v92 : FVec Ideal S192x1 .f32) (ix2 k 0) = argT U (ix1 k) := by
  entry_read
  pointwise [argT]

theorem weight (o k : Fin 192) :
    (StableHlo.after hostOps2 U main_v93 : FVec Ideal S192x192 .f32) (ix2 o k) = argP U (ix4 o k 0 0) := by
  entry_read
  pointwise [argP]

theorem scale' (k : Fin 192) :
    (StableHlo.after hostOps2 U main_v97 : FVec Ideal S192x1 .f32) (ix2 k 0) = (argG' U (ix1 k) : EReal) * unit := by
  entry_read
  pointwise [argG', unit]

theorem offset' (k : Fin 192) :
    (StableHlo.after hostOps2 U main_v98 : FVec Ideal S192x1 .f32) (ix2 k 0) = argT' U (ix1 k) := by
  entry_read
  pointwise [argT']

variable (m : (ℓ : Loc nD τ sig) → Buf (Elt Ideal) ℓ) (ρ : Dev nD → PrngReg)

/-- The seven blocks a grid point reads. -/
theorem read0 (c : Dev nD) (t : Fin cfg2.N) (b : Fin 4) (hb : b.val = t.val) (k : Fin 192) (n : Fin 1024) :
    (iblk2 (V5 m ρ) c 0 t : Vec Ideal S1x192x1024 .f32) (ix3 0 k n) = argY (W4 m ρ c) (ix4 b k ⟨n / 32, by omega⟩ ⟨n % 32, by omega⟩) := by
  refine Eq.trans ?_ (image (W4 m ρ c) b k n)
  blk_ext [iblk2, idx t]

theorem read1 (c : Dev nD) (t : Fin cfg2.N) (k : Fin 192) (q : Fin 9) :
    (iblk2 (V5 m ρ) c 1 t : Vec Ideal S192x9 .f32) (ix2 k q) = argW (W4 m ρ c) (ix4 k 0 ⟨q / 3, by omega⟩ ⟨q % 3, by omega⟩) := by
  refine Eq.trans ?_ (taps (W4 m ρ c) k q)
  blk_ext [iblk2, idx t]

theorem read2 (c : Dev nD) (t : Fin cfg2.N) (k : Fin 192) :
    (iblk2 (V5 m ρ) c 2 t : Vec Ideal S192x1 .f32) (ix2 k 0) = (argG (W4 m ρ c) (ix1 k) : EReal) * unit := by
  refine Eq.trans ?_ (scale (W4 m ρ c) k)
  blk_ext [iblk2, idx t]

theorem read3 (c : Dev nD) (t : Fin cfg2.N) (k : Fin 192) :
    (iblk2 (V5 m ρ) c 3 t : Vec Ideal S192x1 .f32) (ix2 k 0) = argT (W4 m ρ c) (ix1 k) := by
  refine Eq.trans ?_ (offset (W4 m ρ c) k)
  blk_ext [iblk2, idx t]

theorem read4 (c : Dev nD) (t : Fin cfg2.N) (o k : Fin 192) :
    (iblk2 (V5 m ρ) c 4 t : Vec Ideal S192x192 .f32) (ix2 o k) = argP (W4 m ρ c) (ix4 o k 0 0) := by
  refine Eq.trans ?_ (weight (W4 m ρ c) o k)
  blk_ext [iblk2, idx t]

theorem read5 (c : Dev nD) (t : Fin cfg2.N) (k : Fin 192) :
    (iblk2 (V5 m ρ) c 5 t : Vec Ideal S192x1 .f32) (ix2 k 0) = (argG' (W4 m ρ c) (ix1 k) : EReal) * unit := by
  refine Eq.trans ?_ (scale' (W4 m ρ c) k)
  blk_ext [iblk2, idx t]

theorem read6 (c : Dev nD) (t : Fin cfg2.N) (k : Fin 192) :
    (iblk2 (V5 m ρ) c 6 t : Vec Ideal S192x1 .f32) (ix2 k 0) = argT' (W4 m ρ c) (ix1 k) := by
  refine Eq.trans ?_ (offset' (W4 m ρ c) k)
  blk_ext [iblk2, idx t]

/-- The result after the run. -/
theorem final (c : Dev nD) : (dat2 (V5 m ρ) c).arrAt 7 cfg2.N
    = answer (argY (W4 m ρ c)) (argW (W4 m ρ c)) (argG (W4 m ρ c)) (argT (W4 m ρ c)) (argP (W4 m ρ c)) (argG' (W4 m ρ c)) (argT' (W4 m ρ c)) := by
  refine (dat2 (V5 m ρ) c).arrAt_eq_of_covers 7 _ (by decide +kernel) fun t hf y => ?_
  blk_simp
  rw [after2_7]
  have ht : t.val < 4 := lt_of_lt_of_eq t.isLt points
  obtain ⟨o, n, rfl⟩ : ∃ (o : Fin 192) (n : Fin 1024), y = (ix3 0 o n : S1x192x1024.Idx) := ⟨y 1, y 2, by blk_ext⟩
  have e : (win2_7.blk t).view.emb (ix3 0 o n : S1x192x1024.Idx) = (ix3 ⟨t.val, ht⟩ o n : S4x192x1024.Idx) := by
    blk_ext [idx t]
  rw [e]
  refine (block _ _ _ _ _ _ _ o n).trans ?_
  simp only [read0 m ρ c t ⟨t.val, ht⟩ rfl, read1 m ρ c t, read2 m ρ c t, read3 m ρ c t, read4 m ρ c t, read5 m ρ c t, read6 m ρ c t]
  rfl

end Cert.WholeMix
-- ==== Proof.WholeJoin.lean ====
module

public import proofs.«01_k».proof.Proof.UpFinite
public import proofs.«01_k».proof.Proof.CoarseEq
public import proofs.«01_k».proof.Proof.UpRefReal
public import proofs.«01_k».proof.Proof.MixBlock

@[expose] public section

set_option maxRecDepth 16384

noncomputable section

namespace Cert.WholeJoin

open Cert.UpRefIdeal Cert.UpRefIdeal.Gen Idealize.ShloMosaic
open Cert.CoarseBlock (result score)
open Cert.CoarseValue (feats)
open Cert.UpValue (phases Reals)

variable (x : Fin 4 → Fin 192 → Fin 34 → Fin 34 → ℝ) (Wd : Fin 384 → Fin 192 → Fin 4 → Fin 4 → ℝ) (bd : Fin 384 → ℝ)
  (wq : Fin 4 → Fin 12 → ℝ) (bq : Fin 12 → ℝ)
  (W : FVec Ideal S384x192x4x4 .f32) (B : FVec Ideal S192 .f32) (Q : FVec Ideal S4x12 .f32) (C : FVec Ideal S12 .f32)

/-- The first stage's first result. -/
def coarse : FVec Ideal S4x384x256 .f32 := fun y => (result wq bq (feats x Wd bd (y 0)) (y 1) (y 2) : EReal)

/-- The first stage's second result. -/
def total : FVec Ideal S4x256x1 .f32 := fun y => (score wq bq (feats x Wd bd (y 0)) (y 1) : EReal)

/-- The transposed convolution of the first stage's result, as reals. -/
def conv (b : Fin 4) (o : Fin 192) (s : Fin 4) (n : Fin 256) : ℝ := (phases (coarse x Wd bd wq bq) W B b s o n).toReal

/-- The second stage's arguments are real when its weights are. -/
theorem reals (hW : ∀ i, (W i : EReal) = ((W i : EReal).toReal : EReal)) (hB : ∀ i, (B i : EReal) = ((B i : EReal).toReal : EReal))
    (hQ : ∀ i, (Q i : EReal) = ((Q i : EReal).toReal : EReal)) (hC : ∀ i, (C i : EReal) = ((C i : EReal).toReal : EReal)) :
    Reals (coarse x Wd bd wq bq) W B Q C (conv x Wd bd wq bq W B) (fun d r => (Q (ix2 d r) : EReal).toReal) (fun r => (C (ix1 r) : EReal).toReal) :=
  ⟨Cert.UpFinite.phases_real _ W B (fun _ => (congrArg _ (EReal.toReal_coe _)).symm) hW hB, fun _ _ => hQ _, fun _ => hC _⟩

/-- The second stage's result, its pixels listed by their place in a region. -/
def regions : FVec Ideal S4x4x192x256 .f32 := fun y =>
  (Cert.UpValue.answer (total x Wd bd wq bq) (conv x Wd bd wq bq W B) (fun d r => (Q (ix2 d r) : EReal).toReal) (fun r => (C (ix1 r) : EReal).toReal)
    (y 0) (y 1) (y 2) (y 3) : EReal)

/-- The pixels of an image from their list by place and region. -/
def pixels (Z : FVec Ideal S4x4x192x256 .f32) : FVec Ideal S4x192x32x32 .f32 := fun y =>
  Z (ix4 (y 0) ⟨2 * ((y 2).val % 2) + (y 3).val % 2, by omega⟩ (y 1)
    ⟨16 * ((y 2).val / 2) + (y 3).val / 2, by have h2 : (y 2).val < 32 := (y 2).isLt; have h3 : (y 3).val < 32 := (y 3).isLt; omega⟩)

/-- The list of an image's pixels by place and region. -/
def listed (y : FVec Ideal S4x192x32x32 .f32) : FVec Ideal S4x4x192x256 .f32 :=
  shapeCast _ (transpose S4x2x2x192x16x16 [0, 3, 5, 1, 2, 4] (shapeCast _ y shapeCasts_S4x192x32x32_S4x192x16x2x16x2)
    transposes_S4x192x16x2x16x2_S4x2x2x192x16x16_0_3_5_1_2_4) shapeCasts_S4x2x2x192x16x16_S4x4x192x256

theorem listed_apply (y : FVec Ideal S4x192x32x32 .f32) (b s : Fin 4) (o : Fin 192) (n : Fin 256) : listed y (ix4 b s o n)
    = y (ix4 b o ⟨2 * (n.val / 16) + s.val / 2, by omega⟩ ⟨2 * (n.val % 16) + s.val % 2, by omega⟩) := by
  pointwise [listed]
  exact congrArg₂ (fun p q : Fin 32 => (y (ix4 b o p q) : EReal)) (Fin.ext (by simp only; omega)) (Fin.ext (by simp only; omega))

/-- An image is the pixels of its list. -/
theorem pixels_listed (y : FVec Ideal S4x192x32x32 .f32) (Z : FVec Ideal S4x4x192x256 .f32) (h : listed y = Z) : y = pixels Z := by
  subst h
  funext i
  obtain ⟨b, o, p, q, rfl⟩ : ∃ (b : Fin 4) (o : Fin 192) (p q : Fin 32), i = ix4 b o p q := ⟨i 0, i 1, i 2, i 3, by funext a; fin_cases a <;> rfl⟩
  symm
  refine (listed_apply y b ⟨2 * (p.val % 2) + q.val % 2, by omega⟩ o ⟨16 * (p.val / 2) + q.val / 2, by omega⟩).trans ?_
  exact congrArg₂ (fun p q : Fin 32 => (y (ix4 b o p q) : EReal)) (Fin.ext (by simp only; omega)) (Fin.ext (by simp only; omega))

section
variable (A0 : FVec Ideal Cert.CoarseRefIdeal.S4x192x34x34 .f32) (A1 : FVec Ideal Cert.CoarseRefIdeal.S384x192x4x4 .f32) (A2 : FVec Ideal Cert.CoarseRefIdeal.S384 .f32)
  (A3 : FVec Ideal Cert.CoarseRefIdeal.S4x12 .f32) (A4 : FVec Ideal Cert.CoarseRefIdeal.S12 .f32) (A5 : FVec Ideal S384x192x4x4 .f32) (A6 : FVec Ideal S192 .f32)
  (A7 : FVec Ideal S4x12 .f32) (A8 : FVec Ideal S12 .f32) (A9 : FVec Ideal Cert.MixIdeal.S192x1x3x3 .f32) (A10 A11 : FVec Ideal S192 .f32)
  (A12 : FVec Ideal Cert.MixIdeal.S192x192x1x1 .f32) (A13 A14 : FVec Ideal S192 .f32)

/-- The arguments of the first two stages hold reals. -/
structure Finite : Prop where
  h0 : ∀ i, (A0 i : EReal) = ((A0 i : EReal).toReal : EReal)
  h1 : ∀ i, (A1 i : EReal) = ((A1 i : EReal).toReal : EReal)
  h2 : ∀ i, (A2 i : EReal) = ((A2 i : EReal).toReal : EReal)
  h3 : ∀ i, (A3 i : EReal) = ((A3 i : EReal).toReal : EReal)
  h4 : ∀ i, (A4 i : EReal) = ((A4 i : EReal).toReal : EReal)
  h5 : ∀ i, (A5 i : EReal) = ((A5 i : EReal).toReal : EReal)
  h6 : ∀ i, (A6 i : EReal) = ((A6 i : EReal).toReal : EReal)
  h7 : ∀ i, (A7 i : EReal) = ((A7 i : EReal).toReal : EReal)
  h8 : ∀ i, (A8 i : EReal) = ((A8 i : EReal).toReal : EReal)

/-- The image after the second stage, from the problem's own arguments. -/
def upsampled : FVec Ideal S4x192x32x32 .f32 :=
  pixels (regions (fun b k r s => (A0 (ix4 b k r s) : EReal).toReal) (fun o k r s => (A1 (ix4 o k r s) : EReal).toReal) (fun o => (A2 (ix1 o) : EReal).toReal)
    (fun d r => (A3 (ix2 d r) : EReal).toReal) (fun r => (A4 (ix1 r) : EReal).toReal) A5 A6 A7 A8)

/-- The problem's result from its own arguments. -/
def out : FVec Ideal S4x192x32x32 .f32 :=
  shapeCast S4x192x32x32 (Cert.MixBlock.answer (upsampled A0 A1 A2 A3 A4 A5 A6 A7 A8) A9 A10 A11 A12 A13 A14 : FVec Ideal Cert.MixIdeal.S4x192x1024 .f32) (by decide)

end

end Cert.WholeJoin
-- ==== Proof.WholeValue.lean ====
module

public import proofs.«01_k».proof.Proof.WholeCoarse
public import proofs.«01_k».proof.Proof.WholeUp
public import proofs.«01_k».proof.Proof.WholeMix
public import proofs.«01_k».proof.Proof.WholeJoin

@[expose] public section

set_option maxRecDepth 16384

noncomputable section

namespace Cert.WholeValue

open Cert.KernelIdeal Cert.KernelIdeal.Gen
open Idealize.ShloMosaic Idealize.ShloMosaic.TcCoe

/-- The image handed to the third stage is the pixels of the second stage's result. -/
theorem image (U : Valuation τ sig (Elt Ideal)) : WholeMix.argY U = WholeJoin.pixels (U main_v81) := by
  funext y
  obtain ⟨b, o, p, q, rfl⟩ : ∃ (b : Fin 4) (o : Fin 192) (p q : Fin 32), y = ix4 b o p q := ⟨y 0, y 1, y 2, y 3, by funext a; fin_cases a <;> rfl⟩
  have e : (StableHlo.after hostOps2 U main_v84 : FVec Ideal S4x192x1024 .f32) (ix3 b o ⟨32 * p.val + q.val, by omega⟩)
      = (U main_v81 : FVec Ideal S4x4x192x256 .f32) (ix4 b ⟨2 * (p.val % 2) + q.val % 2, by omega⟩ o ⟨16 * (p.val / 2) + q.val / 2, by omega⟩) := by
    entry_read
    pointwise
    exact congrArg₂ (fun (s : Fin 4) (n : Fin 256) => ((U main_v81 : FVec Ideal S4x4x192x256 .f32) (ix4 b s o n) : EReal))
      (Fin.ext (by simp only; omega)) (Fin.ext (by simp only; omega))
  exact e

variable (m : (ℓ : Loc nD τ sig) → Buf (Elt Ideal) ℓ) (ρ : Dev nD → PrngReg) (c : Dev nD)

/-- The third stage's image, from the problem's own arguments. -/
theorem upsampled_eq (H : WholeJoin.Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    WholeMix.argY (W4 m ρ c) = WholeJoin.upsampled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [image]
  refine congrArg WholeJoin.pixels ((W4_arr m ρ c 6).trans ?_)
  have C : WholeCoarse.Reals (W0 m ρ c) (fun b k r s => ((m ((c : Thread nD τ).loc main_arg0)) (ix4 b k r s) : EReal).toReal) (fun o k r s => ((m ((c : Thread nD τ).loc main_arg1)) (ix4 o k r s) : EReal).toReal)
      (fun o => ((m ((c : Thread nD τ).loc main_arg2)) (ix1 o) : EReal).toReal) (fun d r => ((m ((c : Thread nD τ).loc main_arg3)) (ix2 d r) : EReal).toReal) (fun r => ((m ((c : Thread nD τ).loc main_arg4)) (ix1 r) : EReal).toReal) :=
    ⟨fun _ _ _ _ => H.h0 _, fun _ _ _ _ => H.h1 _, fun _ => H.h2 _, fun _ _ => H.h3 _, fun _ => H.h4 _⟩
  have eX : WholeUp.argX m ρ c = _ := (W2_arr m ρ c 8).trans (WholeCoarse.final8 C)
  have eS : WholeUp.argS m ρ c = _ := (W2_arr m ρ c 9).trans (WholeCoarse.final9 C)
  have eW : WholeUp.argW m ρ c = (m ((c : Thread nD τ).loc main_arg5)) := W2_args m ρ c main_arg5 (by decide)
  have eB : WholeUp.argB m ρ c = (m ((c : Thread nD τ).loc main_arg6)) := W2_args m ρ c main_arg6 (by decide)
  have R := WholeJoin.reals (W := m ((c : Thread nD τ).loc main_arg5)) (B := m ((c : Thread nD τ).loc main_arg6)) (Q := m ((c : Thread nD τ).loc main_arg7)) (C := m ((c : Thread nD τ).loc main_arg8)) (hW := H.h5) (hB := H.h6) (hQ := H.h7) (hC := H.h8) (x := fun b k r s => ((m ((c : Thread nD τ).loc main_arg0)) (ix4 b k r s) : EReal).toReal)
    (Wd := fun o k r s => ((m ((c : Thread nD τ).loc main_arg1)) (ix4 o k r s) : EReal).toReal) (bd := fun o => ((m ((c : Thread nD τ).loc main_arg2)) (ix1 o) : EReal).toReal)
    (wq := fun d r => ((m ((c : Thread nD τ).loc main_arg3)) (ix2 d r) : EReal).toReal) (bq := fun r => ((m ((c : Thread nD τ).loc main_arg4)) (ix1 r) : EReal).toReal)
  refine (WholeUp.final (c := c) (m := m) (ρ := ρ) (by rw [eX, eW, eB]; exact R)).trans ?_
  rw [eS]
  rfl

/-- The whole kernel's result from the problem's own arguments. -/
theorem value (H : WholeJoin.Finite (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    W7 m ρ c (Proc.devRef .tc main_v100) = WholeJoin.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e : W7 m ρ c (Proc.devRef .tc main_v100)
      = shapeCast S4x192x32x32 (W6 m ρ c (Proc.devRef .tc main_v99) : FVec Ideal S4x192x1024 .f32) shapeCasts_S4x192x1024_S4x192x32x32 := rfl
  rw [e]
  refine congrArg (fun z : FVec Ideal S4x192x1024 .f32 => shapeCast S4x192x32x32 z shapeCasts_S4x192x1024_S4x192x32x32) ((W6_arr m ρ c 7).trans ((WholeMix.final m ρ c).trans ?_))
  have e9 : WholeMix.argW (W4 m ρ c) = (m ((c : Thread nD τ).loc main_arg9)) := W4_args m ρ c main_arg9 (by decide)
  have e10 : WholeMix.argG (W4 m ρ c) = (m ((c : Thread nD τ).loc main_arg10)) := W4_args m ρ c main_arg10 (by decide)
  have e11 : WholeMix.argT (W4 m ρ c) = (m ((c : Thread nD τ).loc main_arg11)) := W4_args m ρ c main_arg11 (by decide)
  have e12 : WholeMix.argP (W4 m ρ c) = (m ((c : Thread nD τ).loc main_arg12)) := W4_args m ρ c main_arg12 (by decide)
  have e13 : WholeMix.argG' (W4 m ρ c) = (m ((c : Thread nD τ).loc main_arg13)) := W4_args m ρ c main_arg13 (by decide)
  have e14 : WholeMix.argT' (W4 m ρ c) = (m ((c : Thread nD τ).loc main_arg14)) := W4_args m ρ c main_arg14 (by decide)
  rw [upsampled_eq m ρ c H, e9, e10, e11, e12, e13, e14]

end Cert.WholeValue
-- ==== Proof.WholeRefOps.lean ====
module

public import proofs.«01_k».proof.Proof.Gen.ReferenceIdeal
public import Idealize.ShloMosaic.Lib.StableHlo.Run

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo

variable {F : FTy → Type} [FloatOps F]

/-- The operations of the strided convolution. -/
abbrev opsA1 : List (HloOp τ sig (Elt F)) :=
  [ unary main_arg2 main_v0 (broadcastInDim S1x384x1x1 ![1] bcast_S384_S1x384x1x1_1 : (⟨S384, .f32⟩ : BufTy).Contents (Elt F) → (⟨S1x384x1x1, .f32⟩ : BufTy).Contents (Elt F)),
    unary main_arg1 main_v1 ((extractStridedSlice S384x192x1x1 ![0, 0, 0, 0] · slices_S384x192x4x4_S384x192x1x1_0_0_0_0) : (⟨S384x192x4x4, .f32⟩ : BufTy).Contents (Elt F) → (⟨S384x192x1x1, .f32⟩ : BufTy).Contents (Elt F)),
    reshape main_v1 main_v2 (rfl : (.f32 : EltTy) = .f32) shapeCasts_S384x192x1x1_S384x192,
    unary main_arg0 main_v3 ((Host.slice S4x192x16x16 ![0, 0, 0, 0] ![1, 1, 2, 2] · slicesBy_S4x192x34x34_S4x192x16x16_0s1_0s1_0s2_0s2) : (⟨S4x192x34x34, .f32⟩ : BufTy).Contents (Elt F) → (⟨S4x192x16x16, .f32⟩ : BufTy).Contents (Elt F)),
    binary main_v3 main_v2 main_v4 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v4 main_v5 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    unary main_v0 main_v6 (broadcastInDim S4x384x16x16 ![0, 1, 2, 3] bcast_S1x384x1x1_S4x384x16x16_0_1_2_3 : (⟨S1x384x1x1, .f32⟩ : BufTy).Contents (Elt F) → (⟨S4x384x16x16, .f32⟩ : BufTy).Contents (Elt F)),
    binary main_v6 main_v5 main_v7 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v8 ((extractStridedSlice S384x192x1x1 ![0, 0, 0, 1] · slices_S384x192x4x4_S384x192x1x1_0_0_0_1) : (⟨S384x192x4x4, .f32⟩ : BufTy).Contents (Elt F) → (⟨S384x192x1x1, .f32⟩ : BufTy).Contents (Elt F)),
    reshape main_v8 main_v9 (rfl : (.f32 : EltTy) = .f32) shapeCasts_S384x192x1x1_S384x192,
    unary main_arg0 main_v10 ((Host.slice S4x192x16x16 ![0, 0, 0, 1] ![1, 1, 2, 2] · slicesBy_S4x192x34x34_S4x192x16x16_0s1_0s1_0s2_1s2) : (⟨S4x192x34x34, .f32⟩ : BufTy).Contents (Elt F) → (⟨S4x192x16x16, .f32⟩ : BufTy).Contents (Elt F)),
    binary main_v10 main_v9 main_v11 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v11 main_v12 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v7 main_v12 main_v13 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v14 ((extractStridedSlice S384x192x1x1 ![0, 0, 0, 2] · slices_S384x192x4x4_S384x192x1x1_0_0_0_2) : (⟨S384x192x4x4, .f32⟩ : BufTy).Contents (Elt F) → (⟨S384x192x1x1, .f32⟩ : BufTy).Contents (Elt F)),
    reshape main_v14 main_v15 (rfl : (.f32 : EltTy) = .f32) shapeCasts_S384x192x1x1_S384x192,
    unary main_arg0 main_v16 ((Host.slice S4x192x16x16 ![0, 0, 0, 2] ![1, 1, 2, 2] · slicesBy_S4x192x34x34_S4x192x16x16_0s1_0s1_0s2_2s2) : (⟨S4x192x34x34, .f32⟩ : BufTy).Contents (Elt F) → (⟨S4x192x16x16, .f32⟩ : BufTy).Contents (Elt F)),
    binary main_v16 main_v15 main_v17 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v17 main_v18 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v13 main_v18 main_v19 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v20 ((extractStridedSlice S384x192x1x1 ![0, 0, 0, 3] · slices_S384x192x4x4_S384x192x1x1_0_0_0_3) : (⟨S384x192x4x4, .f32⟩ : BufTy).Contents (Elt F) → (⟨S384x192x1x1, .f32⟩ : BufTy).Contents (Elt F)),
    reshape main_v20 main_v21 (rfl : (.f32 : EltTy) = .f32) shapeCasts_S384x192x1x1_S384x192,
    unary main_arg0 main_v22 ((Host.slice S4x192x16x16 ![0, 0, 0, 3] ![1, 1, 2, 2] · slicesBy_S4x192x34x34_S4x192x16x16_0s1_0s1_0s2_3s2) : (⟨S4x192x34x34, .f32⟩ : BufTy).Contents (Elt F) → (⟨S4x192x16x16, .f32⟩ : BufTy).Contents (Elt F)),
    binary main_v22 main_v21 main_v23 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v23 main_v24 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v19 main_v24 main_v25 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v26 ((extractStridedSlice S384x192x1x1 ![0, 0, 1, 0] · slices_S384x192x4x4_S384x192x1x1_0_0_1_0) : (⟨S384x192x4x4, .f32⟩ : BufTy).Contents (Elt F) → (⟨S384x192x1x1, .f32⟩ : BufTy).Contents (Elt F)),
    reshape main_v26 main_v27 (rfl : (.f32 : EltTy) = .f32) shapeCasts_S384x192x1x1_S384x192,
    unary main_arg0 main_v28 ((Host.slice S4x192x16x16 ![0, 0, 1, 0] ![1, 1, 2, 2] · slicesBy_S4x192x34x34_S4x192x16x16_0s1_0s1_1s2_0s2) : (⟨S4x192x34x34, .f32⟩ : BufTy).Contents (Elt F) → (⟨S4x192x16x16, .f32⟩ : BufTy).Contents (Elt F)),
    binary main_v28 main_v27 main_v29 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v29 main_v30 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v25 main_v30 main_v31 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v32 ((extractStridedSlice S384x192x1x1 ![0, 0, 1, 1] · slices_S384x192x4x4_S384x192x1x1_0_0_1_1) : (⟨S384x192x4x4, .f32⟩ : BufTy).Contents (Elt F) → (⟨S384x192x1x1, .f32⟩ : BufTy).Contents (Elt F)),
    reshape main_v32 main_v33 (rfl : (.f32 : EltTy) = .f32) shapeCasts_S384x192x1x1_S384x192,
    unary main_arg0 main_v34 ((Host.slice S4x192x16x16 ![0, 0, 1, 1] ![1, 1, 2, 2] · slicesBy_S4x192x34x34_S4x192x16x16_0s1_0s1_1s2_1s2) : (⟨S4x192x34x34, .f32⟩ : BufTy).Contents (Elt F) → (⟨S4x192x16x16, .f32⟩ : BufTy).Contents (Elt F)),
    binary main_v34 main_v33 main_v35 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v35 main_v36 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v31 main_v36 main_v37 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v38 ((extractStridedSlice S384x192x1x1 ![0, 0, 1, 2] · slices_S384x192x4x4_S384x192x1x1_0_0_1_2) : (⟨S384x192x4x4, .f32⟩ : BufTy).Contents (Elt F) → (⟨S384x192x1x1, .f32⟩ : BufTy).Contents (Elt F)),
    reshape main_v38 main_v39 (rfl : (.f32 : EltTy) = .f32) shapeCasts_S384x192x1x1_S384x192,
    unary main_arg0 main_v40 ((Host.slice S4x192x16x16 ![0, 0, 1, 2] ![1, 1, 2, 2] · slicesBy_S4x192x34x34_S4x192x16x16_0s1_0s1_1s2_2s2) : (⟨S4x192x34x34, .f32⟩ : BufTy).Contents (Elt F) → (⟨S4x192x16x16, .f32⟩ : BufTy).Contents (Elt F)),
    binary main_v40 main_v39 main_v41 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v41 main_v42 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v37 main_v42 main_v43 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v44 ((extractStridedSlice S384x192x1x1 ![0, 0, 1, 3] · slices_S384x192x4x4_S384x192x1x1_0_0_1_3) : (⟨S384x192x4x4, .f32⟩ : BufTy).Contents (Elt F) → (⟨S384x192x1x1, .f32⟩ : BufTy).Contents (Elt F)),
    reshape main_v44 main_v45 (rfl : (.f32 : EltTy) = .f32) shapeCasts_S384x192x1x1_S384x192,
    unary main_arg0 main_v46 ((Host.slice S4x192x16x16 ![0, 0, 1, 3] ![1, 1, 2, 2] · slicesBy_S4x192x34x34_S4x192x16x16_0s1_0s1_1s2_3s2) : (⟨S4x192x34x34, .f32⟩ : BufTy).Contents (Elt F) → (⟨S4x192x16x16, .f32⟩ : BufTy).Contents (Elt F)),
    binary main_v46 main_v45 main_v47 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v47 main_v48 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v43 main_v48 main_v49 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v50 ((extractStridedSlice S384x192x1x1 ![0, 0, 2, 0] · slices_S384x192x4x4_S384x192x1x1_0_0_2_0) : (⟨S384x192x4x4, .f32⟩ : BufTy).Contents (Elt F) → (⟨S384x192x1x1, .f32⟩ : BufTy).Contents (Elt F)),
    reshape main_v50 main_v51 (rfl : (.f32 : EltTy) = .f32) shapeCasts_S384x192x1x1_S384x192,
    unary main_arg0 main_v52 ((Host.slice S4x192x16x16 ![0, 0, 2, 0] ![1, 1, 2, 2] · slicesBy_S4x192x34x34_S4x192x16x16_0s1_0s1_2s2_0s2) : (⟨S4x192x34x34, .f32⟩ : BufTy).Contents (Elt F) → (⟨S4x192x16x16, .f32⟩ : BufTy).Contents (Elt F)),
    binary main_v52 main_v51 main_v53 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v53 main_v54 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v49 main_v54 main_v55 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v56 ((extractStridedSlice S384x192x1x1 ![0, 0, 2, 1] · slices_S384x192x4x4_S384x192x1x1_0_0_2_1) : (⟨S384x192x4x4, .f32⟩ : BufTy).Contents (Elt F) → (⟨S384x192x1x1, .f32⟩ : BufTy).Contents (Elt F)),
    reshape main_v56 main_v57 (rfl : (.f32 : EltTy) = .f32) shapeCasts_S384x192x1x1_S384x192,
    unary main_arg0 main_v58 ((Host.slice S4x192x16x16 ![0, 0, 2, 1] ![1, 1, 2, 2] · slicesBy_S4x192x34x34_S4x192x16x16_0s1_0s1_2s2_1s2) : (⟨S4x192x34x34, .f32⟩ : BufTy).Contents (Elt F) → (⟨S4x192x16x16, .f32⟩ : BufTy).Contents (Elt F)),
    binary main_v58 main_v57 main_v59 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v59 main_v60 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v55 main_v60 main_v61 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v62 ((extractStridedSlice S384x192x1x1 ![0, 0, 2, 2] · slices_S384x192x4x4_S384x192x1x1_0_0_2_2) : (⟨S384x192x4x4, .f32⟩ : BufTy).Contents (Elt F) → (⟨S384x192x1x1, .f32⟩ : BufTy).Contents (Elt F)),
    reshape main_v62 main_v63 (rfl : (.f32 : EltTy) = .f32) shapeCasts_S384x192x1x1_S384x192,
    unary main_arg0 main_v64 ((Host.slice S4x192x16x16 ![0, 0, 2, 2] ![1, 1, 2, 2] · slicesBy_S4x192x34x34_S4x192x16x16_0s1_0s1_2s2_2s2) : (⟨S4x192x34x34, .f32⟩ : BufTy).Contents (Elt F) → (⟨S4x192x16x16, .f32⟩ : BufTy).Contents (Elt F)),
    binary main_v64 main_v63 main_v65 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v65 main_v66 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v61 main_v66 main_v67 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v68 ((extractStridedSlice S384x192x1x1 ![0, 0, 2, 3] · slices_S384x192x4x4_S384x192x1x1_0_0_2_3) : (⟨S384x192x4x4, .f32⟩ : BufTy).Contents (Elt F) → (⟨S384x192x1x1, .f32⟩ : BufTy).Contents (Elt F)),
    reshape main_v68 main_v69 (rfl : (.f32 : EltTy) = .f32) shapeCasts_S384x192x1x1_S384x192,
    unary main_arg0 main_v70 ((Host.slice S4x192x16x16 ![0, 0, 2, 3] ![1, 1, 2, 2] · slicesBy_S4x192x34x34_S4x192x16x16_0s1_0s1_2s2_3s2) : (⟨S4x192x34x34, .f32⟩ : BufTy).Contents (Elt F) → (⟨S4x192x16x16, .f32⟩ : BufTy).Contents (Elt F)),
    binary main_v70 main_v69 main_v71 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v71 main_v72 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v67 main_v72 main_v73 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v74 ((extractStridedSlice S384x192x1x1 ![0, 0, 3, 0] · slices_S384x192x4x4_S384x192x1x1_0_0_3_0) : (⟨S384x192x4x4, .f32⟩ : BufTy).Contents (Elt F) → (⟨S384x192x1x1, .f32⟩ : BufTy).Contents (Elt F)),
    reshape main_v74 main_v75 (rfl : (.f32 : EltTy) = .f32) shapeCasts_S384x192x1x1_S384x192,
    unary main_arg0 main_v76 ((Host.slice S4x192x16x16 ![0, 0, 3, 0] ![1, 1, 2, 2] · slicesBy_S4x192x34x34_S4x192x16x16_0s1_0s1_3s2_0s2) : (⟨S4x192x34x34, .f32⟩ : BufTy).Contents (Elt F) → (⟨S4x192x16x16, .f32⟩ : BufTy).Contents (Elt F)),
    binary main_v76 main_v75 main_v77 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v77 main_v78 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v73 main_v78 main_v79 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v80 ((extractStridedSlice S384x192x1x1 ![0, 0, 3, 1] · slices_S384x192x4x4_S384x192x1x1_0_0_3_1) : (⟨S384x192x4x4, .f32⟩ : BufTy).Contents (Elt F) → (⟨S384x192x1x1, .f32⟩ : BufTy).Contents (Elt F)),
    reshape main_v80 main_v81 (rfl : (.f32 : EltTy) = .f32) shapeCasts_S384x192x1x1_S384x192,
    unary main_arg0 main_v82 ((Host.slice S4x192x16x16 ![0, 0, 3, 1] ![1, 1, 2, 2] · slicesBy_S4x192x34x34_S4x192x16x16_0s1_0s1_3s2_1s2) : (⟨S4x192x34x34, .f32⟩ : BufTy).Contents (Elt F) → (⟨S4x192x16x16, .f32⟩ : BufTy).Contents (Elt F)),
    binary main_v82 main_v81 main_v83 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v83 main_v84 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v79 main_v84 main_v85 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v86 ((extractStridedSlice S384x192x1x1 ![0, 0, 3, 2] · slices_S384x192x4x4_S384x192x1x1_0_0_3_2) : (⟨S384x192x4x4, .f32⟩ : BufTy).Contents (Elt F) → (⟨S384x192x1x1, .f32⟩ : BufTy).Contents (Elt F)),
    reshape main_v86 main_v87 (rfl : (.f32 : EltTy) = .f32) shapeCasts_S384x192x1x1_S384x192,
    unary main_arg0 main_v88 ((Host.slice S4x192x16x16 ![0, 0, 3, 2] ![1, 1, 2, 2] · slicesBy_S4x192x34x34_S4x192x16x16_0s1_0s1_3s2_2s2) : (⟨S4x192x34x34, .f32⟩ : BufTy).Contents (Elt F) → (⟨S4x192x16x16, .f32⟩ : BufTy).Contents (Elt F)),
    binary main_v88 main_v87 main_v89 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v89 main_v90 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v85 main_v90 main_v91 (addf : (⟨S4x384x16x16, .f32⟩ : BufTy).Contents (Elt F) → (⟨S4x384x16x16, .f32⟩ : BufTy).Contents (Elt F) → (⟨S4x384x16x16, .f32⟩ : BufTy).Contents (Elt F)),
    unary main_arg1 main_v92 ((extractStridedSlice S384x192x1x1 ![0, 0, 3, 3] · slices_S384x192x4x4_S384x192x1x1_0_0_3_3) : (⟨S384x192x4x4, .f32⟩ : BufTy).Contents (Elt F) → (⟨S384x192x1x1, .f32⟩ : BufTy).Contents (Elt F)),
    reshape main_v92 main_v93 (rfl : (.f32 : EltTy) = .f32) shapeCasts_S384x192x1x1_S384x192,
    unary main_arg0 main_v94 ((Host.slice S4x192x16x16 ![0, 0, 3, 3] ![1, 1, 2, 2] · slicesBy_S4x192x34x34_S4x192x16x16_0s1_0s1_3s2_3s2) : (⟨S4x192x34x34, .f32⟩ : BufTy).Contents (Elt F) → (⟨S4x192x16x16, .f32⟩ : BufTy).Contents (Elt F)),
    binary main_v94 main_v93 main_v95 ((fun l r => Host.dotGeneral dot_S4x192x16x16_S384x192_S4x16x16x384_1_1_023_0_n_n none l r) : (⟨S4x192x16x16, .f32⟩ : BufTy).Contents (Elt F) → (⟨S384x192, .f32⟩ : BufTy).Contents (Elt F) → (⟨S4x16x16x384, .f32⟩ : BufTy).Contents (Elt F)),
    unary main_v95 main_v96 ((transpose S4x384x16x16 [0, 3, 1, 2] · transposes_S4x16x16x384_S4x384x16x16_0_3_1_2) : (⟨S4x16x16x384, .f32⟩ : BufTy).Contents (Elt F) → (⟨S4x384x16x16, .f32⟩ : BufTy).Contents (Elt F)),
    binary main_v91 main_v96 main_v97 (addf : (⟨S4x384x16x16, .f32⟩ : BufTy).Contents (Elt F) → (⟨S4x384x16x16, .f32⟩ : BufTy).Contents (Elt F) → (⟨S4x384x16x16, .f32⟩ : BufTy).Contents (Elt F)) ]

/-- The buffers they write. -/
abbrev wA1 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97]

/-- They take buffers of the device. -/
theorem subA1 : (opsA1 : List (HloOp τ sig (Elt F))).Forall fun op => op.bufs ⊆ tcRefs τ sig :=
  ⟨unary_bufs_sub .., unary_bufs_sub .., reshape_bufs_sub .., unary_bufs_sub .., binary_bufs_sub .., unary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub ..⟩

/-- A buffer they do not write keeps its contents. -/
theorem keepA1 (V : Valuation τ sig (Elt F)) (r : Ref sig .tc) (h : r ∉ wA1) : after opsA1 V r = V r :=
  after_of_writes_sub _ V (forall_writes_sub_of_map (W := wA1) rfl) h

/-- The operations of the queries, keys and values of the coarse attention. -/
abbrev opsA2 : List (HloOp τ sig (Elt F)) :=
  [ reshape main_v97 main_v98 (rfl : (.f32 : EltTy) = .f32) shapeCasts_S4x384x16x16_S4x96x4x256,
    unary main_v98 main_v99 ((transpose S4x96x256x4 [0, 1, 3, 2] · transposes_S4x96x4x256_S4x96x256x4_0_1_3_2) : (⟨S4x96x4x256, .f32⟩ : BufTy).Contents (Elt F) → (⟨S4x96x256x4, .f32⟩ : BufTy).Contents (Elt F)),
    binary main_v99 main_arg3 main_v100 ((fun l r => Host.dotGeneral dot_S4x96x256x4_S4x12_S4x96x256x12_3_0_012_1_n_n none l r) : (⟨S4x96x256x4, .f32⟩ : BufTy).Contents (Elt F) → (⟨S4x12, .f32⟩ : BufTy).Contents (Elt F) → (⟨S4x96x256x12, .f32⟩ : BufTy).Contents (Elt F)),
    unary main_arg4 main_v101 (broadcastInDim S1x1x1x12 ![3] bcast_S12_S1x1x1x12_3 : (⟨S12, .f32⟩ : BufTy).Contents (Elt F) → (⟨S1x1x1x12, .f32⟩ : BufTy).Contents (Elt F)),
    unary main_v101 main_v102 (broadcastInDim S4x96x256x12 ![0, 1, 2, 3] bcast_S1x1x1x12_S4x96x256x12_0_1_2_3 : (⟨S1x1x1x12, .f32⟩ : BufTy).Contents (Elt F) → (⟨S4x96x256x12, .f32⟩ : BufTy).Contents (Elt F)),
    binary main_v100 main_v102 main_v103 (addf : (⟨S4x96x256x12, .f32⟩ : BufTy).Contents (Elt F) → (⟨S4x96x256x12, .f32⟩ : BufTy).Contents (Elt F) → (⟨S4x96x256x12, .f32⟩ : BufTy).Contents (Elt F)) ]

/-- The buffers they write. -/
abbrev wA2 : List (Ref sig .tc) :=
  [main_v98, main_v99, main_v100, main_v101, main_v102, main_v103]

/-- They take buffers of the device. -/
theorem subA2 : (opsA2 : List (HloOp τ sig (Elt F))).Forall fun op => op.bufs ⊆ tcRefs τ sig :=
  ⟨reshape_bufs_sub .., unary_bufs_sub .., binary_bufs_sub .., unary_bufs_sub .., unary_bufs_sub .., binary_bufs_sub ..⟩

/-- A buffer they do not write keeps its contents. -/
theorem keepA2 (V : Valuation τ sig (Elt F)) (r : Ref sig .tc) (h : r ∉ wA2) : after opsA2 V r = V r :=
  after_of_writes_sub _ V (forall_writes_sub_of_map (W := wA2) rfl) h

/-- The operations of the products of keys and queries. -/
abbrev opsA3 : List (HloOp τ sig (Elt F)) :=
  [ unary main_v103 main_v104 ((extractStridedSlice S4x96x256x4 ![0, 0, 0, 0] · slices_S4x96x256x12_S4x96x256x4_0_0_0_0) : (⟨S4x96x256x12, .f32⟩ : BufTy).Contents (Elt F) → (⟨S4x96x256x4, .f32⟩ : BufTy).Contents (Elt F)),
    unary main_v103 main_v105 ((extractStridedSlice S4x96x256x4 ![0, 0, 0, 4] · slices_S4x96x256x12_S4x96x256x4_0_0_0_4) : (⟨S4x96x256x12, .f32⟩ : BufTy).Contents (Elt F) → (⟨S4x96x256x4, .f32⟩ : BufTy).Contents (Elt F)),
    unary main_v103 main_v106 ((extractStridedSlice S4x96x256x4 ![0, 0, 0, 8] · slices_S4x96x256x12_S4x96x256x4_0_0_0_8) : (⟨S4x96x256x12, .f32⟩ : BufTy).Contents (Elt F) → (⟨S4x96x256x4, .f32⟩ : BufTy).Contents (Elt F)),
    unary main_v104 main_v107 ((transpose S4x96x4x256 [0, 1, 3, 2] · transposes_S4x96x256x4_S4x96x4x256_0_1_3_2) : (⟨S4x96x256x4, .f32⟩ : BufTy).Contents (Elt F) → (⟨S4x96x4x256, .f32⟩ : BufTy).Contents (Elt F)),
    binary main_v105 main_v107 main_v108 ((fun l r => Host.dotGeneral dot_S4x96x256x4_S4x96x4x256_S4x96x256x256_3_2_2_3_01_01 none l r) : (⟨S4x96x256x4, .f32⟩ : BufTy).Contents (Elt F) → (⟨S4x96x4x256, .f32⟩ : BufTy).Contents (Elt F) → (⟨S4x96x256x256, .f32⟩ : BufTy).Contents (Elt F)) ]

/-- The buffers they write. -/
abbrev wA3 : List (Ref sig .tc) :=
  [main_v104, main_v105, main_v106, main_v107, main_v108]

/-- They take buffers of the device. -/
theorem subA3 : (opsA3 : List (HloOp τ sig (Elt F))).Forall fun op => op.bufs ⊆ tcRefs τ sig :=
  ⟨unary_bufs_sub .., unary_bufs_sub .., unary_bufs_sub .., unary_bufs_sub .., binary_bufs_sub ..⟩

/-- A buffer they do not write keeps its contents. -/
theorem keepA3 (V : Valuation τ sig (Elt F)) (r : Ref sig .tc) (h : r ∉ wA3) : after opsA3 V r = V r :=
  after_of_writes_sub _ V (forall_writes_sub_of_map (W := wA3) rfl) h

/-- The operations of the softmax. -/
abbrev opsA4 : List (HloOp τ sig (Elt F)) :=
  [ nullary main_cst (constant S_ .f32 0xFF800000#32),
    binary main_v108 main_cst main_v109 ((fun x v => Host.reduce FloatOps.maximumf x v reducesTo_S4x96x256x256_S4x96x256_d3 h_S_) : (⟨S4x96x256x256, .f32⟩ : BufTy).Contents (Elt F) → (⟨S_, .f32⟩ : BufTy).Contents (Elt F) → (⟨S4x96x256, .f32⟩ : BufTy).Contents (Elt F)),
    nullary main_cst_0 (constant S_ .f32 0xFF800000#32),
    unary main_cst_0 main_v110 (broadcastInDim S4x96x256 ![] bcast_S_S4x96x256 : (⟨S_, .f32⟩ : BufTy).Contents (Elt F) → (⟨S4x96x256, .f32⟩ : BufTy).Contents (Elt F)),
    binary main_v110 main_v109 main_v111 (maximumf : (⟨S4x96x256, .f32⟩ : BufTy).Contents (Elt F) → (⟨S4x96x256, .f32⟩ : BufTy).Contents (Elt F) → (⟨S4x96x256, .f32⟩ : BufTy).Contents (Elt F)),
    unary main_v111 main_v112 (broadcastInDim S4x96x256x1 ![0, 1, 2] bcast_S4x96x256_S4x96x256x1_0_1_2 : (⟨S4x96x256, .f32⟩ : BufTy).Contents (Elt F) → (⟨S4x96x256x1, .f32⟩ : BufTy).Contents (Elt F)),
    unary main_v112 main_v113 (broadcastInDim S4x96x256x256 ![0, 1, 2, 3] bcast_S4x96x256x1_S4x96x256x256_0_1_2_3 : (⟨S4x96x256x1, .f32⟩ : BufTy).Contents (Elt F) → (⟨S4x96x256x256, .f32⟩ : BufTy).Contents (Elt F)),
    binary main_v108 main_v113 main_v114 (subf : (⟨S4x96x256x256, .f32⟩ : BufTy).Contents (Elt F) → (⟨S4x96x256x256, .f32⟩ : BufTy).Contents (Elt F) → (⟨S4x96x256x256, .f32⟩ : BufTy).Contents (Elt F)),
    unary main_v114 main_v115 (Host.exp : (⟨S4x96x256x256, .f32⟩ : BufTy).Contents (Elt F) → (⟨S4x96x256x256, .f32⟩ : BufTy).Contents (Elt F)),
    nullary main_cst_1 (constant S_ .f32 0x00000000#32),
    binary main_v115 main_cst_1 main_v116 ((fun x v => Host.reduceAdd x v reducesTo_S4x96x256x256_S4x96x256_d3 h_S_) : (⟨S4x96x256x256, .f32⟩ : BufTy).Contents (Elt F) → (⟨S_, .f32⟩ : BufTy).Contents (Elt F) → (⟨S4x96x256, .f32⟩ : BufTy).Contents (Elt F)),
    unary main_v116 main_v117 (broadcastInDim S4x96x256x1 ![0, 1, 2] bcast_S4x96x256_S4x96x256x1_0_1_2 : (⟨S4x96x256, .f32⟩ : BufTy).Contents (Elt F) → (⟨S4x96x256x1, .f32⟩ : BufTy).Contents (Elt F)),
    unary main_v117 main_v118 (broadcastInDim S4x96x256x256 ![0, 1, 2, 3] bcast_S4x96x256x1_S4x96x256x256_0_1_2_3 : (⟨S4x96x256x1, .f32⟩ : BufTy).Contents (Elt F) → (⟨S4x96x256x256, .f32⟩ : BufTy).Contents (Elt F)),
    binary main_v115 main_v118 main_v119 (Host.divf : (⟨S4x96x256x256, .f32⟩ : BufTy).Contents (Elt F) → (⟨S4x96x256x256, .f32⟩ : BufTy).Contents (Elt F) → (⟨S4x96x256x256, .f32⟩ : BufTy).Contents (Elt F)) ]

/-- The buffers they write. -/
abbrev wA4 : List (Ref sig .tc) :=
  [main_cst, main_v109, main_cst_0, main_v110, main_v111, main_v112, main_v113, main_v114, main_v115, main_cst_1, main_v116, main_v117, main_v118, main_v119]

/-- They take buffers of the device. -/
theorem subA4 : (opsA4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- A buffer they do not write keeps its contents. -/
theorem keepA4 (V : Valuation τ sig (Elt F)) (r : Ref sig .tc) (h : r ∉ wA4) : after opsA4 V r = V r :=
  after_of_writes_sub _ V (forall_writes_sub_of_map (W := wA4) rfl) h

/-- The operations of the two coarse results. -/
abbrev opsA5 : List (HloOp τ sig (Elt F)) :=
  [ nullary main_cst_2 (constant S_ .f32 0x00000000#32),
    binary main_v119 main_cst_2 main_v120 ((fun x v => Host.reduceAdd x v reducesTo_S4x96x256x256_S4x96x256_d2 h_S_) : (⟨S4x96x256x256, .f32⟩ : BufTy).Contents (Elt F) → (⟨S_, .f32⟩ : BufTy).Contents (Elt F) → (⟨S4x96x256, .f32⟩ : BufTy).Contents (Elt F)),
    nullary main_cst_3 (constant S_ .f32 0x00000000#32),
    binary main_v120 main_cst_3 main_v121 ((fun x v => Host.reduceAdd x v reducesTo_S4x96x256_S4x256_d1 h_S_) : (⟨S4x96x256, .f32⟩ : BufTy).Contents (Elt F) → (⟨S_, .f32⟩ : BufTy).Contents (Elt F) → (⟨S4x256, .f32⟩ : BufTy).Contents (Elt F)),
    binary main_v119 main_v106 main_v122 ((fun l r => Host.dotGeneral dot_S4x96x256x256_S4x96x256x4_S4x96x256x4_3_2_2_3_01_01 none l r) : (⟨S4x96x256x256, .f32⟩ : BufTy).Contents (Elt F) → (⟨S4x96x256x4, .f32⟩ : BufTy).Contents (Elt F) → (⟨S4x96x256x4, .f32⟩ : BufTy).Contents (Elt F)),
    unary main_v122 main_v123 ((transpose S4x96x4x256 [0, 1, 3, 2] · transposes_S4x96x256x4_S4x96x4x256_0_1_3_2) : (⟨S4x96x256x4, .f32⟩ : BufTy).Contents (Elt F) → (⟨S4x96x4x256, .f32⟩ : BufTy).Contents (Elt F)),
    reshape main_v123 main_v124 (rfl : (.f32 : EltTy) = .f32) shapeCasts_S4x96x4x256_S4x384x256,
    unary main_v121 main_v125 (broadcastInDim S4x256x1 ![0, 1] bcast_S4x256_S4x256x1_0_1 : (⟨S4x256, .f32⟩ : BufTy).Contents (Elt F) → (⟨S4x256x1, .f32⟩ : BufTy).Contents (Elt F)) ]

/-- The buffers they write. -/
abbrev wA5 : List (Ref sig .tc) :=
  [main_cst_2, main_v120, main_cst_3, main_v121, main_v122, main_v123, main_v124, main_v125]

/-- They take buffers of the device. -/
theorem subA5 : (opsA5 : List (HloOp τ sig (Elt F))).Forall fun op => op.bufs ⊆ tcRefs τ sig :=
  ⟨nullary_bufs_sub .., binary_bufs_sub .., nullary_bufs_sub .., binary_bufs_sub .., binary_bufs_sub .., unary_bufs_sub .., reshape_bufs_sub .., unary_bufs_sub ..⟩

/-- A buffer they do not write keeps its contents. -/
theorem keepA5 (V : Valuation τ sig (Elt F)) (r : Ref sig .tc) (h : r ∉ wA5) : after opsA5 V r = V r :=
  after_of_writes_sub _ V (forall_writes_sub_of_map (W := wA5) rfl) h

/-- The operations of the transposed convolution. -/
abbrev opsB1 : List (HloOp τ sig (Elt F)) :=
  [ reshape main_v124 main_v126 (rfl : (.f32 : EltTy) = .f32) shapeCasts_S4x384x256_S4x384x16x16,
    nullary main_cst_4 (constant S_ .f32 0x00000000#32),
    binary main_v126 main_cst_4 main_v127 ((fun x v => pad S4x384x35x35 ![0, 0, 2, 2] ![0, 0, 2, 2] ![0, 0, 1, 1] x v pads_S4x384x16x16_S4x384x35x35_000_000_221_221 h_S_) : (⟨S4x384x16x16, .f32⟩ : BufTy).Contents (Elt F) → (⟨S_, .f32⟩ : BufTy).Contents (Elt F) → (⟨S4x384x35x35, .f32⟩ : BufTy).Contents (Elt F)),
    nullary main_cst_5 (constant S_ .f32 0x00000000#32),
    unary main_cst_5 main_v128 (broadcastInDim S4x192x32x32 ![] bcast_S_S4x192x32x32 : (⟨S_, .f32⟩ : BufTy).Contents (Elt F) → (⟨S4x192x32x32, .f32⟩ : BufTy).Contents (Elt F)),
    unary main_arg5 main_v129 ((extractStridedSlice S384x192x1x1 ![0, 0, 3, 3] · slices_S384x192x4x4_S384x192x1x1_0_0_3_3) : (⟨S384x192x4x4, .f32⟩ : BufTy).Contents (Elt F) → (⟨S384x192x1x1, .f32⟩ : BufTy).Contents (Elt F)),
    reshape main_v129 main_v130 (rfl : (.f32 : EltTy) = .f32) shapeCasts_S384x192x1x1_S384x192,
    unary main_v127 main_v131 ((extractStridedSlice S4x384x32x32 ![0, 0, 0, 0] · slices_S4x384x35x35_S4x384x32x32_0_0_0_0) : (⟨S4x384x35x35, .f32⟩ : BufTy).Contents (Elt F) → (⟨S4x384x32x32, .f32⟩ : BufTy).Contents (Elt F)),
    binary main_v131 main_v130 main_v132 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v132 main_v133 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v128 main_v133 main_v134 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v135 ((extractStridedSlice S384x192x1x1 ![0, 0, 3, 2] · slices_S384x192x4x4_S384x192x1x1_0_0_3_2) : (⟨S384x192x4x4, .f32⟩ : BufTy).Contents (Elt F) → (⟨S384x192x1x1, .f32⟩ : BufTy).Contents (Elt F)),
    reshape main_v135 main_v136 (rfl : (.f32 : EltTy) = .f32) shapeCasts_S384x192x1x1_S384x192,
    unary main_v127 main_v137 ((extractStridedSlice S4x384x32x32 ![0, 0, 0, 1] · slices_S4x384x35x35_S4x384x32x32_0_0_0_1) : (⟨S4x384x35x35, .f32⟩ : BufTy).Contents (Elt F) → (⟨S4x384x32x32, .f32⟩ : BufTy).Contents (Elt F)),
    binary main_v137 main_v136 main_v138 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v138 main_v139 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v134 main_v139 main_v140 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v141 ((extractStridedSlice S384x192x1x1 ![0, 0, 3, 1] · slices_S384x192x4x4_S384x192x1x1_0_0_3_1) : (⟨S384x192x4x4, .f32⟩ : BufTy).Contents (Elt F) → (⟨S384x192x1x1, .f32⟩ : BufTy).Contents (Elt F)),
    reshape main_v141 main_v142 (rfl : (.f32 : EltTy) = .f32) shapeCasts_S384x192x1x1_S384x192,
    unary main_v127 main_v143 ((extractStridedSlice S4x384x32x32 ![0, 0, 0, 2] · slices_S4x384x35x35_S4x384x32x32_0_0_0_2) : (⟨S4x384x35x35, .f32⟩ : BufTy).Contents (Elt F) → (⟨S4x384x32x32, .f32⟩ : BufTy).Contents (Elt F)),
    binary main_v143 main_v142 main_v144 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v144 main_v145 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v140 main_v145 main_v146 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v147 ((extractStridedSlice S384x192x1x1 ![0, 0, 3, 0] · slices_S384x192x4x4_S384x192x1x1_0_0_3_0) : (⟨S384x192x4x4, .f32⟩ : BufTy).Contents (Elt F) → (⟨S384x192x1x1, .f32⟩ : BufTy).Contents (Elt F)),
    reshape main_v147 main_v148 (rfl : (.f32 : EltTy) = .f32) shapeCasts_S384x192x1x1_S384x192,
    unary main_v127 main_v149 ((extractStridedSlice S4x384x32x32 ![0, 0, 0, 3] · slices_S4x384x35x35_S4x384x32x32_0_0_0_3) : (⟨S4x384x35x35, .f32⟩ : BufTy).Contents (Elt F) → (⟨S4x384x32x32, .f32⟩ : BufTy).Contents (Elt F)),
    binary main_v149 main_v148 main_v150 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v150 main_v151 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v146 main_v151 main_v152 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v153 ((extractStridedSlice S384x192x1x1 ![0, 0, 2, 3] · slices_S384x192x4x4_S384x192x1x1_0_0_2_3) : (⟨S384x192x4x4, .f32⟩ : BufTy).Contents (Elt F) → (⟨S384x192x1x1, .f32⟩ : BufTy).Contents (Elt F)),
    reshape main_v153 main_v154 (rfl : (.f32 : EltTy) = .f32) shapeCasts_S384x192x1x1_S384x192,
    unary main_v127 main_v155 ((extractStridedSlice S4x384x32x32 ![0, 0, 1, 0] · slices_S4x384x35x35_S4x384x32x32_0_0_1_0) : (⟨S4x384x35x35, .f32⟩ : BufTy).Contents (Elt F) → (⟨S4x384x32x32, .f32⟩ : BufTy).Contents (Elt F)),
    binary main_v155 main_v154 main_v156 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v156 main_v157 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v152 main_v157 main_v158 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v159 ((extractStridedSlice S384x192x1x1 ![0, 0, 2, 2] · slices_S384x192x4x4_S384x192x1x1_0_0_2_2) : (⟨S384x192x4x4, .f32⟩ : BufTy).Contents (Elt F) → (⟨S384x192x1x1, .f32⟩ : BufTy).Contents (Elt F)),
    reshape main_v159 main_v160 (rfl : (.f32 : EltTy) = .f32) shapeCasts_S384x192x1x1_S384x192,
    unary main_v127 main_v161 ((extractStridedSlice S4x384x32x32 ![0, 0, 1, 1] · slices_S4x384x35x35_S4x384x32x32_0_0_1_1) : (⟨S4x384x35x35, .f32⟩ : BufTy).Contents (Elt F) → (⟨S4x384x32x32, .f32⟩ : BufTy).Contents (Elt F)),
    binary main_v161 main_v160 main_v162 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v162 main_v163 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v158 main_v163 main_v164 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v165 ((extractStridedSlice S384x192x1x1 ![0, 0, 2, 1] · slices_S384x192x4x4_S384x192x1x1_0_0_2_1) : (⟨S384x192x4x4, .f32⟩ : BufTy).Contents (Elt F) → (⟨S384x192x1x1, .f32⟩ : BufTy).Contents (Elt F)),
    reshape main_v165 main_v166 (rfl : (.f32 : EltTy) = .f32) shapeCasts_S384x192x1x1_S384x192,
    unary main_v127 main_v167 ((extractStridedSlice S4x384x32x32 ![0, 0, 1, 2] · slices_S4x384x35x35_S4x384x32x32_0_0_1_2) : (⟨S4x384x35x35, .f32⟩ : BufTy).Contents (Elt F) → (⟨S4x384x32x32, .f32⟩ : BufTy).Contents (Elt F)),
    binary main_v167 main_v166 main_v168 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v168 main_v169 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v164 main_v169 main_v170 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v171 ((extractStridedSlice S384x192x1x1 ![0, 0, 2, 0] · slices_S384x192x4x4_S384x192x1x1_0_0_2_0) : (⟨S384x192x4x4, .f32⟩ : BufTy).Contents (Elt F) → (⟨S384x192x1x1, .f32⟩ : BufTy).Contents (Elt F)),
    reshape main_v171 main_v172 (rfl : (.f32 : EltTy) = .f32) shapeCasts_S384x192x1x1_S384x192,
    unary main_v127 main_v173 ((extractStridedSlice S4x384x32x32 ![0, 0, 1, 3] · slices_S4x384x35x35_S4x384x32x32_0_0_1_3) : (⟨S4x384x35x35, .f32⟩ : BufTy).Contents (Elt F) → (⟨S4x384x32x32, .f32⟩ : BufTy).Contents (Elt F)),
    binary main_v173 main_v172 main_v174 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v174 main_v175 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v170 main_v175 main_v176 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v177 ((extractStridedSlice S384x192x1x1 ![0, 0, 1, 3] · slices_S384x192x4x4_S384x192x1x1_0_0_1_3) : (⟨S384x192x4x4, .f32⟩ : BufTy).Contents (Elt F) → (⟨S384x192x1x1, .f32⟩ : BufTy).Contents (Elt F)),
    reshape main_v177 main_v178 (rfl : (.f32 : EltTy) = .f32) shapeCasts_S384x192x1x1_S384x192,
    unary main_v127 main_v179 ((extractStridedSlice S4x384x32x32 ![0, 0, 2, 0] · slices_S4x384x35x35_S4x384x32x32_0_0_2_0) : (⟨S4x384x35x35, .f32⟩ : BufTy).Contents (Elt F) → (⟨S4x384x32x32, .f32⟩ : BufTy).Contents (Elt F)),
    binary main_v179 main_v178 main_v180 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v180 main_v181 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v176 main_v181 main_v182 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v183 ((extractStridedSlice S384x192x1x1 ![0, 0, 1, 2] · slices_S384x192x4x4_S384x192x1x1_0_0_1_2) : (⟨S384x192x4x4, .f32⟩ : BufTy).Contents (Elt F) → (⟨S384x192x1x1, .f32⟩ : BufTy).Contents (Elt F)),
    reshape main_v183 main_v184 (rfl : (.f32 : EltTy) = .f32) shapeCasts_S384x192x1x1_S384x192,
    unary main_v127 main_v185 ((extractStridedSlice S4x384x32x32 ![0, 0, 2, 1] · slices_S4x384x35x35_S4x384x32x32_0_0_2_1) : (⟨S4x384x35x35, .f32⟩ : BufTy).Contents (Elt F) → (⟨S4x384x32x32, .f32⟩ : BufTy).Contents (Elt F)),
    binary main_v185 main_v184 main_v186 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v186 main_v187 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v182 main_v187 main_v188 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v189 ((extractStridedSlice S384x192x1x1 ![0, 0, 1, 1] · slices_S384x192x4x4_S384x192x1x1_0_0_1_1) : (⟨S384x192x4x4, .f32⟩ : BufTy).Contents (Elt F) → (⟨S384x192x1x1, .f32⟩ : BufTy).Contents (Elt F)),
    reshape main_v189 main_v190 (rfl : (.f32 : EltTy) = .f32) shapeCasts_S384x192x1x1_S384x192,
    unary main_v127 main_v191 ((extractStridedSlice S4x384x32x32 ![0, 0, 2, 2] · slices_S4x384x35x35_S4x384x32x32_0_0_2_2) : (⟨S4x384x35x35, .f32⟩ : BufTy).Contents (Elt F) → (⟨S4x384x32x32, .f32⟩ : BufTy).Contents (Elt F)),
    binary main_v191 main_v190 main_v192 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v192 main_v193 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v188 main_v193 main_v194 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v195 ((extractStridedSlice S384x192x1x1 ![0, 0, 1, 0] · slices_S384x192x4x4_S384x192x1x1_0_0_1_0) : (⟨S384x192x4x4, .f32⟩ : BufTy).Contents (Elt F) → (⟨S384x192x1x1, .f32⟩ : BufTy).Contents (Elt F)),
    reshape main_v195 main_v196 (rfl : (.f32 : EltTy) = .f32) shapeCasts_S384x192x1x1_S384x192,
    unary main_v127 main_v197 ((extractStridedSlice S4x384x32x32 ![0, 0, 2, 3] · slices_S4x384x35x35_S4x384x32x32_0_0_2_3) : (⟨S4x384x35x35, .f32⟩ : BufTy).Contents (Elt F) → (⟨S4x384x32x32, .f32⟩ : BufTy).Contents (Elt F)),
    binary main_v197 main_v196 main_v198 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v198 main_v199 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v194 main_v199 main_v200 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v201 ((extractStridedSlice S384x192x1x1 ![0, 0, 0, 3] · slices_S384x192x4x4_S384x192x1x1_0_0_0_3) : (⟨S384x192x4x4, .f32⟩ : BufTy).Contents (Elt F) → (⟨S384x192x1x1, .f32⟩ : BufTy).Contents (Elt F)),
    reshape main_v201 main_v202 (rfl : (.f32 : EltTy) = .f32) shapeCasts_S384x192x1x1_S384x192,
    unary main_v127 main_v203 ((extractStridedSlice S4x384x32x32 ![0, 0, 3, 0] · slices_S4x384x35x35_S4x384x32x32_0_0_3_0) : (⟨S4x384x35x35, .f32⟩ : BufTy).Contents (Elt F) → (⟨S4x384x32x32, .f32⟩ : BufTy).Contents (Elt F)),
    binary main_v203 main_v202 main_v204 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v204 main_v205 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v200 main_v205 main_v206 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v207 ((extractStridedSlice S384x192x1x1 ![0, 0, 0, 2] · slices_S384x192x4x4_S384x192x1x1_0_0_0_2) : (⟨S384x192x4x4, .f32⟩ : BufTy).Contents (Elt F) → (⟨S384x192x1x1, .f32⟩ : BufTy).Contents (Elt F)),
    reshape main_v207 main_v208 (rfl : (.f32 : EltTy) = .f32) shapeCasts_S384x192x1x1_S384x192,
    unary main_v127 main_v209 ((extractStridedSlice S4x384x32x32 ![0, 0, 3, 1] · slices_S4x384x35x35_S4x384x32x32_0_0_3_1) : (⟨S4x384x35x35, .f32⟩ : BufTy).Contents (Elt F) → (⟨S4x384x32x32, .f32⟩ : BufTy).Contents (Elt F)),
    binary main_v209 main_v208 main_v210 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v210 main_v211 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v206 main_v211 main_v212 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v213 ((extractStridedSlice S384x192x1x1 ![0, 0, 0, 1] · slices_S384x192x4x4_S384x192x1x1_0_0_0_1) : (⟨S384x192x4x4, .f32⟩ : BufTy).Contents (Elt F) → (⟨S384x192x1x1, .f32⟩ : BufTy).Contents (Elt F)),
    reshape main_v213 main_v214 (rfl : (.f32 : EltTy) = .f32) shapeCasts_S384x192x1x1_S384x192,
    unary main_v127 main_v215 ((extractStridedSlice S4x384x32x32 ![0, 0, 3, 2] · slices_S4x384x35x35_S4x384x32x32_0_0_3_2) : (⟨S4x384x35x35, .f32⟩ : BufTy).Contents (Elt F) → (⟨S4x384x32x32, .f32⟩ : BufTy).Contents (Elt F)),
    binary main_v215 main_v214 main_v216 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v216 main_v217 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v212 main_v217 main_v218 (addf : (⟨S4x192x32x32, .f32⟩ : BufTy).Contents (Elt F) → (⟨S4x192x32x32, .f32⟩ : BufTy).Contents (Elt F) → (⟨S4x192x32x32, .f32⟩ : BufTy).Contents (Elt F)),
    unary main_arg5 main_v219 ((extractStridedSlice S384x192x1x1 ![0, 0, 0, 0] · slices_S384x192x4x4_S384x192x1x1_0_0_0_0) : (⟨S384x192x4x4, .f32⟩ : BufTy).Contents (Elt F) → (⟨S384x192x1x1, .f32⟩ : BufTy).Contents (Elt F)),
    reshape main_v219 main_v220 (rfl : (.f32 : EltTy) = .f32) shapeCasts_S384x192x1x1_S384x192,
    unary main_v127 main_v221 ((extractStridedSlice S4x384x32x32 ![0, 0, 3, 3] · slices_S4x384x35x35_S4x384x32x32_0_0_3_3) : (⟨S4x384x35x35, .f32⟩ : BufTy).Contents (Elt F) → (⟨S4x384x32x32, .f32⟩ : BufTy).Contents (Elt F)),
    binary main_v221 main_v220 main_v222 ((fun l r => Host.dotGeneral dot_S4x384x32x32_S384x192_S4x32x32x192_1_0_023_1_n_n none l r) : (⟨S4x384x32x32, .f32⟩ : BufTy).Contents (Elt F) → (⟨S384x192, .f32⟩ : BufTy).Contents (Elt F) → (⟨S4x32x32x192, .f32⟩ : BufTy).Contents (Elt F)),
    unary main_v222 main_v223 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    binary main_v218 main_v223 main_v224 (addf : (⟨S4x192x32x32, .f32⟩ : BufTy).Contents (Elt F) → (⟨S4x192x32x32, .f32⟩ : BufTy).Contents (Elt F) → (⟨S4x192x32x32, .f32⟩ : BufTy).Contents (Elt F)),
    unary main_arg6 main_v225 (broadcastInDim S1x192x1x1 ![1] bcast_S192_S1x192x1x1_1 : (⟨S192, .f32⟩ : BufTy).Contents (Elt F) → (⟨S1x192x1x1, .f32⟩ : BufTy).Contents (Elt F)),
    unary main_v225 main_v226 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v224 main_v226 main_v227 (addf : (⟨S4x192x32x32, .f32⟩ : BufTy).Contents (Elt F) → (⟨S4x192x32x32, .f32⟩ : BufTy).Contents (Elt F) → (⟨S4x192x32x32, .f32⟩ : BufTy).Contents (Elt F)) ]

/-- The buffers they write. -/
abbrev wB1 : List (Ref sig .tc) :=
  [main_v126, main_cst_4, main_v127, main_cst_5, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227]

/-- They take buffers of the device. -/
theorem subB1 : (opsB1 : List (HloOp τ sig (Elt F))).Forall fun op => op.bufs ⊆ tcRefs τ sig :=
  ⟨reshape_bufs_sub .., nullary_bufs_sub .., binary_bufs_sub .., nullary_bufs_sub .., unary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., reshape_bufs_sub .., unary_bufs_sub .., binary_bufs_sub .., unary_bufs_sub .., binary_bufs_sub .., unary_bufs_sub .., unary_bufs_sub .., binary_bufs_sub ..⟩

/-- A buffer they do not write keeps its contents. -/
theorem keepB1 (V : Valuation τ sig (Elt F)) (r : Ref sig .tc) (h : r ∉ wB1) : after opsB1 V r = V r :=
  after_of_writes_sub _ V (forall_writes_sub_of_map (W := wB1) rfl) h

/-- The operations of the listed positions and the regions. -/
abbrev opsB2 : List (HloOp τ sig (Elt F)) :=
  [ reshape main_v125 main_v228 (rfl : (.f32 : EltTy) = .f32) shapeCasts_S4x256x1_S4x256,
    unary main_v228 main_values ((fun x => (Host.topK S4x64 1 (FloatOps.cmpfTotal .gt) x sliceFits_S4x256_S4x64).1) : (⟨S4x256, .f32⟩ : BufTy).Contents (Elt F) → (⟨S4x64, .f32⟩ : BufTy).Contents (Elt F)),
    unary main_v228 main_indices ((fun x => (Host.topK S4x64 1 (FloatOps.cmpfTotal .gt) x sliceFits_S4x256_S4x64).2) : (⟨S4x256, .f32⟩ : BufTy).Contents (Elt F) → (⟨S4x64, .i32⟩ : BufTy).Contents (Elt F)),
    reshape main_v227 main_v229 (rfl : (.f32 : EltTy) = .f32) shapeCasts_S4x192x32x32_S4x48x4x16x2x16x2,
    unary main_v229 main_v230 ((transpose S4x48x4x16x16x2x2 [0, 1, 2, 3, 5, 4, 6] · transposes_S4x48x4x16x2x16x2_S4x48x4x16x16x2x2_0_1_2_3_5_4_6) : (⟨S4x48x4x16x2x16x2, .f32⟩ : BufTy).Contents (Elt F) → (⟨S4x48x4x16x16x2x2, .f32⟩ : BufTy).Contents (Elt F)),
    reshape main_v230 main_v231 (rfl : (.f32 : EltTy) = .f32) shapeCasts_S4x48x4x16x16x2x2_S4x48x4x256x2x2,
    unary main_indices main_v232 (broadcastInDim S4x1x1x64x1x1 ![0, 3] bcast_S4x64_S4x1x1x64x1x1_0_3 : (⟨S4x64, .i32⟩ : BufTy).Contents (Elt F) → (⟨S4x1x1x64x1x1, .i32⟩ : BufTy).Contents (Elt F)),
    unary main_v232 main_v233 (broadcastInDim S4x48x4x64x2x2 ![0, 1, 2, 3, 4, 5] bcast_S4x1x1x64x1x1_S4x48x4x64x2x2_0_1_2_3_4_5 : (⟨S4x1x1x64x1x1, .i32⟩ : BufTy).Contents (Elt F) → (⟨S4x48x4x64x2x2, .i32⟩ : BufTy).Contents (Elt F)) ]

/-- The buffers they write. -/
abbrev wB2 : List (Ref sig .tc) :=
  [main_v228, main_values, main_indices, main_v229, main_v230, main_v231, main_v232, main_v233]

/-- They take buffers of the device. -/
theorem subB2 : (opsB2 : List (HloOp τ sig (Elt F))).Forall fun op => op.bufs ⊆ tcRefs τ sig :=
  ⟨reshape_bufs_sub .., unary_bufs_sub .., unary_bufs_sub .., reshape_bufs_sub .., unary_bufs_sub .., reshape_bufs_sub .., unary_bufs_sub .., unary_bufs_sub ..⟩

/-- A buffer they do not write keeps its contents. -/
theorem keepB2 (V : Valuation τ sig (Elt F)) (r : Ref sig .tc) (h : r ∉ wB2) : after opsB2 V r = V r :=
  after_of_writes_sub _ V (forall_writes_sub_of_map (W := wB2) rfl) h

/-- The operations of the queries, keys and values at the listed regions. -/
abbrev opsB3 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S4x48x4x64x2x2, .i32⟩) main_call0_v0) (broadcastInDim S4x48x4x64x2x2 ![] bcast_S_S4x48x4x64x2x2),
    TRef.binary (TRef.of (T := ⟨S4x48x4x64x2x2, .i32⟩) main_v233) (TRef.of (T := ⟨S4x48x4x64x2x2, .i32⟩) main_call0_v0) (TRef.of (T := ⟨S4x48x4x64x2x2, .i1⟩) main_call0_v1) (cmpi .slt),
    TRef.nullary (TRef.of (T := ⟨S_, .i32⟩) main_call0_c_0) (constantI S_ 32 256#32),
    TRef.unary (TRef.of (T := ⟨S_, .i32⟩) main_call0_c_0) (TRef.of (T := ⟨S4x48x4x64x2x2, .i32⟩) main_call0_v2) (broadcastInDim S4x48x4x64x2x2 ![] bcast_S_S4x48x4x64x2x2),
    TRef.binary (TRef.of (T := ⟨S4x48x4x64x2x2, .i32⟩) main_v233) (TRef.of (T := ⟨S4x48x4x64x2x2, .i32⟩) main_call0_v2) (TRef.of (T := ⟨S4x48x4x64x2x2, .i32⟩) main_call0_v3) addi,
    TRef.ternary (TRef.of (T := ⟨S4x48x4x64x2x2, .i1⟩) main_call0_v1) (TRef.of (T := ⟨S4x48x4x64x2x2, .i32⟩) main_call0_v3) (TRef.of (T := ⟨S4x48x4x64x2x2, .i32⟩) main_v233) (TRef.of (T := ⟨S4x48x4x64x2x2, .i32⟩) main_call0_v4) select,
    TRef.reshape (TRef.of (T := ⟨S4x48x4x64x2x2, .i32⟩) main_call0_v4) (TRef.of (T := ⟨S4x48x4x64x2x2x1, .i32⟩) main_call0_v5) (rfl : (.i32 : EltTy) = .i32) shapeCasts_S4x48x4x64x2x2_S4x48x4x64x2x2x1,
    TRef.binary (TRef.of (T := ⟨S4x48x4x256x2x2, .f32⟩) main_v231) (TRef.of (T := ⟨S4x48x4x64x2x2x1, .i32⟩) main_call0_v5) (TRef.of (T := ⟨S4x48x4x64x2x2, .f32⟩) main_v234) (fun x i => Host.gather gather_S4x48x4x256x2x2_S4x48x4x64x2x2x1_S4x48x4x64x2x2_n_3_01245_01245_3_6_111111 x i),
    reshape main_v234 main_v235 (rfl : (.f32 : EltTy) = .f32) shapeCasts_S4x48x4x64x2x2_S4x48x4x256,
    unary main_v235 main_v236 ((transpose S4x48x256x4 [0, 1, 3, 2] · transposes_S4x48x4x256_S4x48x256x4_0_1_3_2) : (⟨S4x48x4x256, .f32⟩ : BufTy).Contents (Elt F) → (⟨S4x48x256x4, .f32⟩ : BufTy).Contents (Elt F)),
    binary main_v236 main_arg7 main_v237 ((fun l r => Host.dotGeneral dot_S4x48x256x4_S4x12_S4x48x256x12_3_0_012_1_n_n none l r) : (⟨S4x48x256x4, .f32⟩ : BufTy).Contents (Elt F) → (⟨S4x12, .f32⟩ : BufTy).Contents (Elt F) → (⟨S4x48x256x12, .f32⟩ : BufTy).Contents (Elt F)),
    unary main_arg8 main_v238 (broadcastInDim S1x1x1x12 ![3] bcast_S12_S1x1x1x12_3 : (⟨S12, .f32⟩ : BufTy).Contents (Elt F) → (⟨S1x1x1x12, .f32⟩ : BufTy).Contents (Elt F)),
    unary main_v238 main_v239 (broadcastInDim S4x48x256x12 ![0, 1, 2, 3] bcast_S1x1x1x12_S4x48x256x12_0_1_2_3 : (⟨S1x1x1x12, .f32⟩ : BufTy).Contents (Elt F) → (⟨S4x48x256x12, .f32⟩ : BufTy).Contents (Elt F)),
    binary main_v237 main_v239 main_v240 (addf : (⟨S4x48x256x12, .f32⟩ : BufTy).Contents (Elt F) → (⟨S4x48x256x12, .f32⟩ : BufTy).Contents (Elt F) → (⟨S4x48x256x12, .f32⟩ : BufTy).Contents (Elt F)) ]

/-- The buffers they write. -/
abbrev wB3 : List (Ref sig .tc) :=
  [main_call0_c, main_call0_v0, main_call0_v1, main_call0_c_0, main_call0_v2, main_call0_v3, main_call0_v4, main_call0_v5, main_v234, main_v235, main_v236, main_v237, main_v238, main_v239, main_v240]

/-- They take buffers of the device. -/
theorem subB3 : (opsB3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., binary_bufs_sub .., reshape_bufs_sub .., unary_bufs_sub .., binary_bufs_sub .., unary_bufs_sub .., unary_bufs_sub .., binary_bufs_sub ..⟩

/-- A buffer they do not write keeps its contents. -/
theorem keepB3 (V : Valuation τ sig (Elt F)) (r : Ref sig .tc) (h : r ∉ wB3) : after opsB3 V r = V r :=
  after_of_writes_sub _ V (forall_writes_sub_of_map (W := wB3) rfl) h

/-- The operations of the products of keys and queries. -/
abbrev opsB4 : List (HloOp τ sig (Elt F)) :=
  [ unary main_v240 main_v241 ((extractStridedSlice S4x48x256x4 ![0, 0, 0, 0] · slices_S4x48x256x12_S4x48x256x4_0_0_0_0) : (⟨S4x48x256x12, .f32⟩ : BufTy).Contents (Elt F) → (⟨S4x48x256x4, .f32⟩ : BufTy).Contents (Elt F)),
    unary main_v240 main_v242 ((extractStridedSlice S4x48x256x4 ![0, 0, 0, 4] · slices_S4x48x256x12_S4x48x256x4_0_0_0_4) : (⟨S4x48x256x12, .f32⟩ : BufTy).Contents (Elt F) → (⟨S4x48x256x4, .f32⟩ : BufTy).Contents (Elt F)),
    unary main_v240 main_v243 ((extractStridedSlice S4x48x256x4 ![0, 0, 0, 8] · slices_S4x48x256x12_S4x48x256x4_0_0_0_8) : (⟨S4x48x256x12, .f32⟩ : BufTy).Contents (Elt F) → (⟨S4x48x256x4, .f32⟩ : BufTy).Contents (Elt F)),
    unary main_v241 main_v244 ((transpose S4x48x4x256 [0, 1, 3, 2] · transposes_S4x48x256x4_S4x48x4x256_0_1_3_2) : (⟨S4x48x256x4, .f32⟩ : BufTy).Contents (Elt F) → (⟨S4x48x4x256, .f32⟩ : BufTy).Contents (Elt F)),
    binary main_v242 main_v244 main_v245 ((fun l r => Host.dotGeneral dot_S4x48x256x4_S4x48x4x256_S4x48x256x256_3_2_2_3_01_01 none l r) : (⟨S4x48x256x4, .f32⟩ : BufTy).Contents (Elt F) → (⟨S4x48x4x256, .f32⟩ : BufTy).Contents (Elt F) → (⟨S4x48x256x256, .f32⟩ : BufTy).Contents (Elt F)) ]

/-- The buffers they write. -/
abbrev wB4 : List (Ref sig .tc) :=
  [main_v241, main_v242, main_v243, main_v244, main_v245]

/-- They take buffers of the device. -/
theorem subB4 : (opsB4 : List (HloOp τ sig (Elt F))).Forall fun op => op.bufs ⊆ tcRefs τ sig :=
  ⟨unary_bufs_sub .., unary_bufs_sub .., unary_bufs_sub .., unary_bufs_sub .., binary_bufs_sub ..⟩

/-- A buffer they do not write keeps its contents. -/
theorem keepB4 (V : Valuation τ sig (Elt F)) (r : Ref sig .tc) (h : r ∉ wB4) : after opsB4 V r = V r :=
  after_of_writes_sub _ V (forall_writes_sub_of_map (W := wB4) rfl) h

/-- The operations of the softmax. -/
abbrev opsB5 : List (HloOp τ sig (Elt F)) :=
  [ nullary main_cst_6 (constant S_ .f32 0xFF800000#32),
    binary main_v245 main_cst_6 main_v246 ((fun x v => Host.reduce FloatOps.maximumf x v reducesTo_S4x48x256x256_S4x48x256_d3 h_S_) : (⟨S4x48x256x256, .f32⟩ : BufTy).Contents (Elt F) → (⟨S_, .f32⟩ : BufTy).Contents (Elt F) → (⟨S4x48x256, .f32⟩ : BufTy).Contents (Elt F)),
    nullary main_cst_7 (constant S_ .f32 0xFF800000#32),
    unary main_cst_7 main_v247 (broadcastInDim S4x48x256 ![] bcast_S_S4x48x256 : (⟨S_, .f32⟩ : BufTy).Contents (Elt F) → (⟨S4x48x256, .f32⟩ : BufTy).Contents (Elt F)),
    binary main_v247 main_v246 main_v248 (maximumf : (⟨S4x48x256, .f32⟩ : BufTy).Contents (Elt F) → (⟨S4x48x256, .f32⟩ : BufTy).Contents (Elt F) → (⟨S4x48x256, .f32⟩ : BufTy).Contents (Elt F)),
    unary main_v248 main_v249 (broadcastInDim S4x48x256x1 ![0, 1, 2] bcast_S4x48x256_S4x48x256x1_0_1_2 : (⟨S4x48x256, .f32⟩ : BufTy).Contents (Elt F) → (⟨S4x48x256x1, .f32⟩ : BufTy).Contents (Elt F)),
    unary main_v249 main_v250 (broadcastInDim S4x48x256x256 ![0, 1, 2, 3] bcast_S4x48x256x1_S4x48x256x256_0_1_2_3 : (⟨S4x48x256x1, .f32⟩ : BufTy).Contents (Elt F) → (⟨S4x48x256x256, .f32⟩ : BufTy).Contents (Elt F)),
    binary main_v245 main_v250 main_v251 (subf : (⟨S4x48x256x256, .f32⟩ : BufTy).Contents (Elt F) → (⟨S4x48x256x256, .f32⟩ : BufTy).Contents (Elt F) → (⟨S4x48x256x256, .f32⟩ : BufTy).Contents (Elt F)),
    unary main_v251 main_v252 (Host.exp : (⟨S4x48x256x256, .f32⟩ : BufTy).Contents (Elt F) → (⟨S4x48x256x256, .f32⟩ : BufTy).Contents (Elt F)),
    nullary main_cst_8 (constant S_ .f32 0x00000000#32),
    binary main_v252 main_cst_8 main_v253 ((fun x v => Host.reduceAdd x v reducesTo_S4x48x256x256_S4x48x256_d3 h_S_) : (⟨S4x48x256x256, .f32⟩ : BufTy).Contents (Elt F) → (⟨S_, .f32⟩ : BufTy).Contents (Elt F) → (⟨S4x48x256, .f32⟩ : BufTy).Contents (Elt F)),
    unary main_v253 main_v254 (broadcastInDim S4x48x256x1 ![0, 1, 2] bcast_S4x48x256_S4x48x256x1_0_1_2 : (⟨S4x48x256, .f32⟩ : BufTy).Contents (Elt F) → (⟨S4x48x256x1, .f32⟩ : BufTy).Contents (Elt F)),
    unary main_v254 main_v255 (broadcastInDim S4x48x256x256 ![0, 1, 2, 3] bcast_S4x48x256x1_S4x48x256x256_0_1_2_3 : (⟨S4x48x256x1, .f32⟩ : BufTy).Contents (Elt F) → (⟨S4x48x256x256, .f32⟩ : BufTy).Contents (Elt F)),
    binary main_v252 main_v255 main_v256 (Host.divf : (⟨S4x48x256x256, .f32⟩ : BufTy).Contents (Elt F) → (⟨S4x48x256x256, .f32⟩ : BufTy).Contents (Elt F) → (⟨S4x48x256x256, .f32⟩ : BufTy).Contents (Elt F)) ]

/-- The buffers they write. -/
abbrev wB5 : List (Ref sig .tc) :=
  [main_cst_6, main_v246, main_cst_7, main_v247, main_v248, main_v249, main_v250, main_v251, main_v252, main_cst_8, main_v253, main_v254, main_v255, main_v256]

/-- They take buffers of the device. -/
theorem subB5 : (opsB5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- A buffer they do not write keeps its contents. -/
theorem keepB5 (V : Valuation τ sig (Elt F)) (r : Ref sig .tc) (h : r ∉ wB5) : after opsB5 V r = V r :=
  after_of_writes_sub _ V (forall_writes_sub_of_map (W := wB5) rfl) h

/-- The operations of the weights applied to the values. -/
abbrev opsB6 : List (HloOp τ sig (Elt F)) :=
  [ binary main_v256 main_v243 main_v257 ((fun l r => Host.dotGeneral dot_S4x48x256x256_S4x48x256x4_S4x48x256x4_3_2_2_3_01_01 none l r) : (⟨S4x48x256x256, .f32⟩ : BufTy).Contents (Elt F) → (⟨S4x48x256x4, .f32⟩ : BufTy).Contents (Elt F) → (⟨S4x48x256x4, .f32⟩ : BufTy).Contents (Elt F)),
    unary main_v257 main_v258 ((transpose S4x48x4x256 [0, 1, 3, 2] · transposes_S4x48x256x4_S4x48x4x256_0_1_3_2) : (⟨S4x48x256x4, .f32⟩ : BufTy).Contents (Elt F) → (⟨S4x48x4x256, .f32⟩ : BufTy).Contents (Elt F)),
    reshape main_v258 main_v259 (rfl : (.f32 : EltTy) = .f32) shapeCasts_S4x48x4x256_S4x48x4x64x2x2 ]

/-- The buffers they write. -/
abbrev wB6 : List (Ref sig .tc) :=
  [main_v257, main_v258, main_v259]

/-- They take buffers of the device. -/
theorem subB6 : (opsB6 : List (HloOp τ sig (Elt F))).Forall fun op => op.bufs ⊆ tcRefs τ sig :=
  ⟨binary_bufs_sub .., unary_bufs_sub .., reshape_bufs_sub ..⟩

/-- A buffer they do not write keeps its contents. -/
theorem keepB6 (V : Valuation τ sig (Elt F)) (r : Ref sig .tc) (h : r ∉ wB6) : after opsB6 V r = V r :=
  after_of_writes_sub _ V (forall_writes_sub_of_map (W := wB6) rfl) h

/-- The operations of the additions at the listed regions. -/
abbrev opsB7 : List (HloOp τ sig (Elt F)) :=
  [ unary main_v231 main_v260 ((extractStridedSlice S1x48x4x256x2x2 ![0, 0, 0, 0, 0, 0] · slices_S4x48x4x256x2x2_S1x48x4x256x2x2_0_0_0_0_0_0) : (⟨S4x48x4x256x2x2, .f32⟩ : BufTy).Contents (Elt F) → (⟨S1x48x4x256x2x2, .f32⟩ : BufTy).Contents (Elt F)),
    reshape main_v260 main_v261 (rfl : (.f32 : EltTy) = .f32) shapeCasts_S1x48x4x256x2x2_S48x4x256x2x2,
    unary main_indices main_v262 ((extractStridedSlice S1x64 ![0, 0] · slices_S4x64_S1x64_0_0) : (⟨S4x64, .i32⟩ : BufTy).Contents (Elt F) → (⟨S1x64, .i32⟩ : BufTy).Contents (Elt F)),
    reshape main_v262 main_v263 (rfl : (.i32 : EltTy) = .i32) shapeCasts_S1x64_S64,
    unary main_v259 main_v264 ((extractStridedSlice S1x48x4x64x2x2 ![0, 0, 0, 0, 0, 0] · slices_S4x48x4x64x2x2_S1x48x4x64x2x2_0_0_0_0_0_0) : (⟨S4x48x4x64x2x2, .f32⟩ : BufTy).Contents (Elt F) → (⟨S1x48x4x64x2x2, .f32⟩ : BufTy).Contents (Elt F)),
    reshape main_v264 main_v265 (rfl : (.f32 : EltTy) = .f32) shapeCasts_S1x48x4x64x2x2_S48x4x64x2x2,
    nullary main_c (constantI S_ 32 0#32),
    unary main_c main_v266 (broadcastInDim S64 ![] bcast_S_S64 : (⟨S_, .i32⟩ : BufTy).Contents (Elt F) → (⟨S64, .i32⟩ : BufTy).Contents (Elt F)),
    binary main_v263 main_v266 main_v267 (cmpi .slt : (⟨S64, .i32⟩ : BufTy).Contents (Elt F) → (⟨S64, .i32⟩ : BufTy).Contents (Elt F) → (⟨S64, .i1⟩ : BufTy).Contents (Elt F)),
    nullary main_c_9 (constantI S_ 32 256#32),
    unary main_c_9 main_v268 (broadcastInDim S64 ![] bcast_S_S64 : (⟨S_, .i32⟩ : BufTy).Contents (Elt F) → (⟨S64, .i32⟩ : BufTy).Contents (Elt F)),
    binary main_v263 main_v268 main_v269 (addi : (⟨S64, .i32⟩ : BufTy).Contents (Elt F) → (⟨S64, .i32⟩ : BufTy).Contents (Elt F) → (⟨S64, .i32⟩ : BufTy).Contents (Elt F)),
    ternary main_v267 main_v269 main_v263 main_v270 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v270 main_v271 (broadcastInDim S64x1 ![0] bcast_S64_S64x1_0 : (⟨S64, .i32⟩ : BufTy).Contents (Elt F) → (⟨S64x1, .i32⟩ : BufTy).Contents (Elt F)),
    ternary main_v261 main_v271 main_v265 main_v272 ((fun x i u => Host.scatterAdd scatter_S48x4x256x2x2_S64x1_S48x4x64x2x2_0134_2_2_1 x i u) : (⟨S48x4x256x2x2, .f32⟩ : BufTy).Contents (Elt F) → (⟨S64x1, .i32⟩ : BufTy).Contents (Elt F) → (⟨S48x4x64x2x2, .f32⟩ : BufTy).Contents (Elt F) → (⟨S48x4x256x2x2, .f32⟩ : BufTy).Contents (Elt F)),
    unary main_v231 main_v273 ((extractStridedSlice S1x48x4x256x2x2 ![1, 0, 0, 0, 0, 0] · slices_S4x48x4x256x2x2_S1x48x4x256x2x2_1_0_0_0_0_0) : (⟨S4x48x4x256x2x2, .f32⟩ : BufTy).Contents (Elt F) → (⟨S1x48x4x256x2x2, .f32⟩ : BufTy).Contents (Elt F)),
    reshape main_v273 main_v274 (rfl : (.f32 : EltTy) = .f32) shapeCasts_S1x48x4x256x2x2_S48x4x256x2x2,
    unary main_indices main_v275 ((extractStridedSlice S1x64 ![1, 0] · slices_S4x64_S1x64_1_0) : (⟨S4x64, .i32⟩ : BufTy).Contents (Elt F) → (⟨S1x64, .i32⟩ : BufTy).Contents (Elt F)),
    reshape main_v275 main_v276 (rfl : (.i32 : EltTy) = .i32) shapeCasts_S1x64_S64,
    unary main_v259 main_v277 ((extractStridedSlice S1x48x4x64x2x2 ![1, 0, 0, 0, 0, 0] · slices_S4x48x4x64x2x2_S1x48x4x64x2x2_1_0_0_0_0_0) : (⟨S4x48x4x64x2x2, .f32⟩ : BufTy).Contents (Elt F) → (⟨S1x48x4x64x2x2, .f32⟩ : BufTy).Contents (Elt F)),
    reshape main_v277 main_v278 (rfl : (.f32 : EltTy) = .f32) shapeCasts_S1x48x4x64x2x2_S48x4x64x2x2,
    nullary main_c_10 (constantI S_ 32 0#32),
    unary main_c_10 main_v279 (broadcastInDim S64 ![] bcast_S_S64 : (⟨S_, .i32⟩ : BufTy).Contents (Elt F) → (⟨S64, .i32⟩ : BufTy).Contents (Elt F)),
    binary main_v276 main_v279 main_v280 (cmpi .slt : (⟨S64, .i32⟩ : BufTy).Contents (Elt F) → (⟨S64, .i32⟩ : BufTy).Contents (Elt F) → (⟨S64, .i1⟩ : BufTy).Contents (Elt F)),
    nullary main_c_11 (constantI S_ 32 256#32),
    unary main_c_11 main_v281 (broadcastInDim S64 ![] bcast_S_S64 : (⟨S_, .i32⟩ : BufTy).Contents (Elt F) → (⟨S64, .i32⟩ : BufTy).Contents (Elt F)),
    binary main_v276 main_v281 main_v282 (addi : (⟨S64, .i32⟩ : BufTy).Contents (Elt F) → (⟨S64, .i32⟩ : BufTy).Contents (Elt F) → (⟨S64, .i32⟩ : BufTy).Contents (Elt F)),
    ternary main_v280 main_v282 main_v276 main_v283 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v283 main_v284 (broadcastInDim S64x1 ![0] bcast_S64_S64x1_0 : (⟨S64, .i32⟩ : BufTy).Contents (Elt F) → (⟨S64x1, .i32⟩ : BufTy).Contents (Elt F)),
    ternary main_v274 main_v284 main_v278 main_v285 ((fun x i u => Host.scatterAdd scatter_S48x4x256x2x2_S64x1_S48x4x64x2x2_0134_2_2_1 x i u) : (⟨S48x4x256x2x2, .f32⟩ : BufTy).Contents (Elt F) → (⟨S64x1, .i32⟩ : BufTy).Contents (Elt F) → (⟨S48x4x64x2x2, .f32⟩ : BufTy).Contents (Elt F) → (⟨S48x4x256x2x2, .f32⟩ : BufTy).Contents (Elt F)),
    unary main_v231 main_v286 ((extractStridedSlice S1x48x4x256x2x2 ![2, 0, 0, 0, 0, 0] · slices_S4x48x4x256x2x2_S1x48x4x256x2x2_2_0_0_0_0_0) : (⟨S4x48x4x256x2x2, .f32⟩ : BufTy).Contents (Elt F) → (⟨S1x48x4x256x2x2, .f32⟩ : BufTy).Contents (Elt F)),
    reshape main_v286 main_v287 (rfl : (.f32 : EltTy) = .f32) shapeCasts_S1x48x4x256x2x2_S48x4x256x2x2,
    unary main_indices main_v288 ((extractStridedSlice S1x64 ![2, 0] · slices_S4x64_S1x64_2_0) : (⟨S4x64, .i32⟩ : BufTy).Contents (Elt F) → (⟨S1x64, .i32⟩ : BufTy).Contents (Elt F)),
    reshape main_v288 main_v289 (rfl : (.i32 : EltTy) = .i32) shapeCasts_S1x64_S64,
    unary main_v259 main_v290 ((extractStridedSlice S1x48x4x64x2x2 ![2, 0, 0, 0, 0, 0] · slices_S4x48x4x64x2x2_S1x48x4x64x2x2_2_0_0_0_0_0) : (⟨S4x48x4x64x2x2, .f32⟩ : BufTy).Contents (Elt F) → (⟨S1x48x4x64x2x2, .f32⟩ : BufTy).Contents (Elt F)),
    reshape main_v290 main_v291 (rfl : (.f32 : EltTy) = .f32) shapeCasts_S1x48x4x64x2x2_S48x4x64x2x2,
    nullary main_c_12 (constantI S_ 32 0#32),
    unary main_c_12 main_v292 (broadcastInDim S64 ![] bcast_S_S64 : (⟨S_, .i32⟩ : BufTy).Contents (Elt F) → (⟨S64, .i32⟩ : BufTy).Contents (Elt F)),
    binary main_v289 main_v292 main_v293 (cmpi .slt : (⟨S64, .i32⟩ : BufTy).Contents (Elt F) → (⟨S64, .i32⟩ : BufTy).Contents (Elt F) → (⟨S64, .i1⟩ : BufTy).Contents (Elt F)),
    nullary main_c_13 (constantI S_ 32 256#32),
    unary main_c_13 main_v294 (broadcastInDim S64 ![] bcast_S_S64 : (⟨S_, .i32⟩ : BufTy).Contents (Elt F) → (⟨S64, .i32⟩ : BufTy).Contents (Elt F)),
    binary main_v289 main_v294 main_v295 (addi : (⟨S64, .i32⟩ : BufTy).Contents (Elt F) → (⟨S64, .i32⟩ : BufTy).Contents (Elt F) → (⟨S64, .i32⟩ : BufTy).Contents (Elt F)),
    ternary main_v293 main_v295 main_v289 main_v296 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v296 main_v297 (broadcastInDim S64x1 ![0] bcast_S64_S64x1_0 : (⟨S64, .i32⟩ : BufTy).Contents (Elt F) → (⟨S64x1, .i32⟩ : BufTy).Contents (Elt F)),
    ternary main_v287 main_v297 main_v291 main_v298 ((fun x i u => Host.scatterAdd scatter_S48x4x256x2x2_S64x1_S48x4x64x2x2_0134_2_2_1 x i u) : (⟨S48x4x256x2x2, .f32⟩ : BufTy).Contents (Elt F) → (⟨S64x1, .i32⟩ : BufTy).Contents (Elt F) → (⟨S48x4x64x2x2, .f32⟩ : BufTy).Contents (Elt F) → (⟨S48x4x256x2x2, .f32⟩ : BufTy).Contents (Elt F)),
    unary main_v231 main_v299 ((extractStridedSlice S1x48x4x256x2x2 ![3, 0, 0, 0, 0, 0] · slices_S4x48x4x256x2x2_S1x48x4x256x2x2_3_0_0_0_0_0) : (⟨S4x48x4x256x2x2, .f32⟩ : BufTy).Contents (Elt F) → (⟨S1x48x4x256x2x2, .f32⟩ : BufTy).Contents (Elt F)),
    reshape main_v299 main_v300 (rfl : (.f32 : EltTy) = .f32) shapeCasts_S1x48x4x256x2x2_S48x4x256x2x2,
    unary main_indices main_v301 ((extractStridedSlice S1x64 ![3, 0] · slices_S4x64_S1x64_3_0) : (⟨S4x64, .i32⟩ : BufTy).Contents (Elt F) → (⟨S1x64, .i32⟩ : BufTy).Contents (Elt F)),
    reshape main_v301 main_v302 (rfl : (.i32 : EltTy) = .i32) shapeCasts_S1x64_S64,
    unary main_v259 main_v303 ((extractStridedSlice S1x48x4x64x2x2 ![3, 0, 0, 0, 0, 0] · slices_S4x48x4x64x2x2_S1x48x4x64x2x2_3_0_0_0_0_0) : (⟨S4x48x4x64x2x2, .f32⟩ : BufTy).Contents (Elt F) → (⟨S1x48x4x64x2x2, .f32⟩ : BufTy).Contents (Elt F)),
    reshape main_v303 main_v304 (rfl : (.f32 : EltTy) = .f32) shapeCasts_S1x48x4x64x2x2_S48x4x64x2x2,
    nullary main_c_14 (constantI S_ 32 0#32),
    unary main_c_14 main_v305 (broadcastInDim S64 ![] bcast_S_S64 : (⟨S_, .i32⟩ : BufTy).Contents (Elt F) → (⟨S64, .i32⟩ : BufTy).Contents (Elt F)),
    binary main_v302 main_v305 main_v306 (cmpi .slt : (⟨S64, .i32⟩ : BufTy).Contents (Elt F) → (⟨S64, .i32⟩ : BufTy).Contents (Elt F) → (⟨S64, .i1⟩ : BufTy).Contents (Elt F)),
    nullary main_c_15 (constantI S_ 32 256#32),
    unary main_c_15 main_v307 (broadcastInDim S64 ![] bcast_S_S64 : (⟨S_, .i32⟩ : BufTy).Contents (Elt F) → (⟨S64, .i32⟩ : BufTy).Contents (Elt F)),
    binary main_v302 main_v307 main_v308 (addi : (⟨S64, .i32⟩ : BufTy).Contents (Elt F) → (⟨S64, .i32⟩ : BufTy).Contents (Elt F) → (⟨S64, .i32⟩ : BufTy).Contents (Elt F)),
    ternary main_v306 main_v308 main_v302 main_v309 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v309 main_v310 (broadcastInDim S64x1 ![0] bcast_S64_S64x1_0 : (⟨S64, .i32⟩ : BufTy).Contents (Elt F) → (⟨S64x1, .i32⟩ : BufTy).Contents (Elt F)),
    ternary main_v300 main_v310 main_v304 main_v311 ((fun x i u => Host.scatterAdd scatter_S48x4x256x2x2_S64x1_S48x4x64x2x2_0134_2_2_1 x i u) : (⟨S48x4x256x2x2, .f32⟩ : BufTy).Contents (Elt F) → (⟨S64x1, .i32⟩ : BufTy).Contents (Elt F) → (⟨S48x4x64x2x2, .f32⟩ : BufTy).Contents (Elt F) → (⟨S48x4x256x2x2, .f32⟩ : BufTy).Contents (Elt F)),
    unary main_v272 main_v312 (broadcastInDim S1x48x4x256x2x2 ![1, 2, 3, 4, 5] bcast_S48x4x256x2x2_S1x48x4x256x2x2_1_2_3_4_5 : (⟨S48x4x256x2x2, .f32⟩ : BufTy).Contents (Elt F) → (⟨S1x48x4x256x2x2, .f32⟩ : BufTy).Contents (Elt F)),
    unary main_v285 main_v313 (broadcastInDim S1x48x4x256x2x2 ![1, 2, 3, 4, 5] bcast_S48x4x256x2x2_S1x48x4x256x2x2_1_2_3_4_5 : (⟨S48x4x256x2x2, .f32⟩ : BufTy).Contents (Elt F) → (⟨S1x48x4x256x2x2, .f32⟩ : BufTy).Contents (Elt F)),
    unary main_v298 main_v314 (broadcastInDim S1x48x4x256x2x2 ![1, 2, 3, 4, 5] bcast_S48x4x256x2x2_S1x48x4x256x2x2_1_2_3_4_5 : (⟨S48x4x256x2x2, .f32⟩ : BufTy).Contents (Elt F) → (⟨S1x48x4x256x2x2, .f32⟩ : BufTy).Contents (Elt F)),
    unary main_v311 main_v315 (broadcastInDim S1x48x4x256x2x2 ![1, 2, 3, 4, 5] bcast_S48x4x256x2x2_S1x48x4x256x2x2_1_2_3_4_5 : (⟨S48x4x256x2x2, .f32⟩ : BufTy).Contents (Elt F) → (⟨S1x48x4x256x2x2, .f32⟩ : BufTy).Contents (Elt F)),
    nary ![main_v312, main_v313, main_v314, main_v315] main_v316 (fun u => (concatenate S4x48x4x256x2x2 0 [⟨S1x48x4x256x2x2, (u 0 : (⟨S1x48x4x256x2x2, .f32⟩ : BufTy).Contents (Elt F))⟩, ⟨S1x48x4x256x2x2, (u 1 : (⟨S1x48x4x256x2x2, .f32⟩ : BufTy).Contents (Elt F))⟩, ⟨S1x48x4x256x2x2, (u 2 : (⟨S1x48x4x256x2x2, .f32⟩ : BufTy).Contents (Elt F))⟩, ⟨S1x48x4x256x2x2, (u 3 : (⟨S1x48x4x256x2x2, .f32⟩ : BufTy).Contents (Elt F))⟩] concatenates_S1x48x4x256x2x2_S1x48x4x256x2x2_S1x48x4x256x2x2_S1x48x4x256x2x2_S4x48x4x256x2x2_d0 : (⟨S4x48x4x256x2x2, .f32⟩ : BufTy).Contents (Elt F))),
    reshape main_v316 main_v317 (rfl : (.f32 : EltTy) = .f32) shapeCasts_S4x48x4x256x2x2_S4x48x4x16x16x2x2,
    unary main_v317 main_v318 ((transpose S4x48x4x16x2x16x2 [0, 1, 2, 3, 5, 4, 6] · transposes_S4x48x4x16x16x2x2_S4x48x4x16x2x16x2_0_1_2_3_5_4_6) : (⟨S4x48x4x16x16x2x2, .f32⟩ : BufTy).Contents (Elt F) → (⟨S4x48x4x16x2x16x2, .f32⟩ : BufTy).Contents (Elt F)),
    reshape main_v318 main_v319 (rfl : (.f32 : EltTy) = .f32) shapeCasts_S4x48x4x16x2x16x2_S4x192x32x32,
    binary main_v227 main_v319 main_v320 (addf : (⟨S4x192x32x32, .f32⟩ : BufTy).Contents (Elt F) → (⟨S4x192x32x32, .f32⟩ : BufTy).Contents (Elt F) → (⟨S4x192x32x32, .f32⟩ : BufTy).Contents (Elt F)) ]

/-- The buffers they write. -/
abbrev wB7 : List (Ref sig .tc) :=
  [main_v260, main_v261, main_v262, main_v263, main_v264, main_v265, main_c, main_v266, main_v267, main_c_9, main_v268, main_v269, main_v270, main_v271, main_v272, main_v273, main_v274, main_v275, main_v276, main_v277, main_v278, main_c_10, main_v279, main_v280, main_c_11, main_v281, main_v282, main_v283, main_v284, main_v285, main_v286, main_v287, main_v288, main_v289, main_v290, main_v291, main_c_12, main_v292, main_v293, main_c_13, main_v294, main_v295, main_v296, main_v297, main_v298, main_v299, main_v300, main_v301, main_v302, main_v303, main_v304, main_c_14, main_v305, main_v306, main_c_15, main_v307, main_v308, main_v309, main_v310, main_v311, main_v312, main_v313, main_v314, main_v315, main_v316, main_v317, main_v318, main_v319, main_v320]

/-- They take buffers of the device. -/
theorem subB7 : (opsB7 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., unary_bufs_sub .., nary_bufs_sub .., reshape_bufs_sub .., unary_bufs_sub .., reshape_bufs_sub .., binary_bufs_sub ..⟩

/-- A buffer they do not write keeps its contents. -/
theorem keepB7 (V : Valuation τ sig (Elt F)) (r : Ref sig .tc) (h : r ∉ wB7) : after opsB7 V r = V r :=
  after_of_writes_sub _ V (forall_writes_sub_of_map (W := wB7) rfl) h

/-- The operations of the depthwise convolution. -/
abbrev opsC1 : List (HloOp τ sig (Elt F)) :=
  [ nullary main_c_16 (constantI S_ 32 0#32),
    TRef.unary (TRef.of (T := ⟨S_, .i32⟩) main_c_16) (TRef.of (T := ⟨S_, .f32⟩) main_call1_v0) (sitofp .f32),
    TRef.binary (TRef.of (T := ⟨S4x192x32x32, .f32⟩) main_v320) (TRef.of (T := ⟨S_, .f32⟩) main_call1_v0) (TRef.of (T := ⟨S4x192x34x34, .f32⟩) main_v321) (fun x v => pad S4x192x34x34 ![0, 0, 1, 1] ![0, 0, 1, 1] ![0, 0, 0, 0] x v pads_S4x192x32x32_S4x192x34x34_000_000_110_110 h_S_),
    nullary main_cst_17 (constant S_ .f32 0x00000000#32),
    unary main_cst_17 main_v322 (broadcastInDim S4x192x32x32 ![] bcast_S_S4x192x32x32 : (⟨S_, .f32⟩ : BufTy).Contents (Elt F) → (⟨S4x192x32x32, .f32⟩ : BufTy).Contents (Elt F)),
    unary main_v321 main_v323 ((extractStridedSlice S4x192x32x32 ![0, 0, 0, 0] · slices_S4x192x34x34_S4x192x32x32_0_0_0_0) : (⟨S4x192x34x34, .f32⟩ : BufTy).Contents (Elt F) → (⟨S4x192x32x32, .f32⟩ : BufTy).Contents (Elt F)),
    unary main_arg9 main_v324 ((extractStridedSlice S192x1x1x1 ![0, 0, 0, 0] · slices_S192x1x3x3_S192x1x1x1_0_0_0_0) : (⟨S192x1x3x3, .f32⟩ : BufTy).Contents (Elt F) → (⟨S192x1x1x1, .f32⟩ : BufTy).Contents (Elt F)),
    reshape main_v324 main_v325 (rfl : (.f32 : EltTy) = .f32) shapeCasts_S192x1x1x1_S192,
    unary main_v325 main_v326 (broadcastInDim S1x192x1x1 ![1] bcast_S192_S1x192x1x1_1 : (⟨S192, .f32⟩ : BufTy).Contents (Elt F) → (⟨S1x192x1x1, .f32⟩ : BufTy).Contents (Elt F)),
    unary main_v326 main_v327 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v323 main_v327 main_v328 (mulf : (⟨S4x192x32x32, .f32⟩ : BufTy).Contents (Elt F) → (⟨S4x192x32x32, .f32⟩ : BufTy).Contents (Elt F) → (⟨S4x192x32x32, .f32⟩ : BufTy).Contents (Elt F)),
    binary main_v322 main_v328 main_v329 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v330 ((extractStridedSlice S4x192x32x32 ![0, 0, 0, 1] · slices_S4x192x34x34_S4x192x32x32_0_0_0_1) : (⟨S4x192x34x34, .f32⟩ : BufTy).Contents (Elt F) → (⟨S4x192x32x32, .f32⟩ : BufTy).Contents (Elt F)),
    unary main_arg9 main_v331 ((extractStridedSlice S192x1x1x1 ![0, 0, 0, 1] · slices_S192x1x3x3_S192x1x1x1_0_0_0_1) : (⟨S192x1x3x3, .f32⟩ : BufTy).Contents (Elt F) → (⟨S192x1x1x1, .f32⟩ : BufTy).Contents (Elt F)),
    reshape main_v331 main_v332 (rfl : (.f32 : EltTy) = .f32) shapeCasts_S192x1x1x1_S192,
    unary main_v332 main_v333 (broadcastInDim S1x192x1x1 ![1] bcast_S192_S1x192x1x1_1 : (⟨S192, .f32⟩ : BufTy).Contents (Elt F) → (⟨S1x192x1x1, .f32⟩ : BufTy).Contents (Elt F)),
    unary main_v333 main_v334 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v330 main_v334 main_v335 (mulf : (⟨S4x192x32x32, .f32⟩ : BufTy).Contents (Elt F) → (⟨S4x192x32x32, .f32⟩ : BufTy).Contents (Elt F) → (⟨S4x192x32x32, .f32⟩ : BufTy).Contents (Elt F)),
    binary main_v329 main_v335 main_v336 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v337 ((extractStridedSlice S4x192x32x32 ![0, 0, 0, 2] · slices_S4x192x34x34_S4x192x32x32_0_0_0_2) : (⟨S4x192x34x34, .f32⟩ : BufTy).Contents (Elt F) → (⟨S4x192x32x32, .f32⟩ : BufTy).Contents (Elt F)),
    unary main_arg9 main_v338 ((extractStridedSlice S192x1x1x1 ![0, 0, 0, 2] · slices_S192x1x3x3_S192x1x1x1_0_0_0_2) : (⟨S192x1x3x3, .f32⟩ : BufTy).Contents (Elt F) → (⟨S192x1x1x1, .f32⟩ : BufTy).Contents (Elt F)),
    reshape main_v338 main_v339 (rfl : (.f32 : EltTy) = .f32) shapeCasts_S192x1x1x1_S192,
    unary main_v339 main_v340 (broadcastInDim S1x192x1x1 ![1] bcast_S192_S1x192x1x1_1 : (⟨S192, .f32⟩ : BufTy).Contents (Elt F) → (⟨S1x192x1x1, .f32⟩ : BufTy).Contents (Elt F)),
    unary main_v340 main_v341 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v337 main_v341 main_v342 (mulf : (⟨S4x192x32x32, .f32⟩ : BufTy).Contents (Elt F) → (⟨S4x192x32x32, .f32⟩ : BufTy).Contents (Elt F) → (⟨S4x192x32x32, .f32⟩ : BufTy).Contents (Elt F)),
    binary main_v336 main_v342 main_v343 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v344 ((extractStridedSlice S4x192x32x32 ![0, 0, 1, 0] · slices_S4x192x34x34_S4x192x32x32_0_0_1_0) : (⟨S4x192x34x34, .f32⟩ : BufTy).Contents (Elt F) → (⟨S4x192x32x32, .f32⟩ : BufTy).Contents (Elt F)),
    unary main_arg9 main_v345 ((extractStridedSlice S192x1x1x1 ![0, 0, 1, 0] · slices_S192x1x3x3_S192x1x1x1_0_0_1_0) : (⟨S192x1x3x3, .f32⟩ : BufTy).Contents (Elt F) → (⟨S192x1x1x1, .f32⟩ : BufTy).Contents (Elt F)),
    reshape main_v345 main_v346 (rfl : (.f32 : EltTy) = .f32) shapeCasts_S192x1x1x1_S192,
    unary main_v346 main_v347 (broadcastInDim S1x192x1x1 ![1] bcast_S192_S1x192x1x1_1 : (⟨S192, .f32⟩ : BufTy).Contents (Elt F) → (⟨S1x192x1x1, .f32⟩ : BufTy).Contents (Elt F)),
    unary main_v347 main_v348 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v344 main_v348 main_v349 (mulf : (⟨S4x192x32x32, .f32⟩ : BufTy).Contents (Elt F) → (⟨S4x192x32x32, .f32⟩ : BufTy).Contents (Elt F) → (⟨S4x192x32x32, .f32⟩ : BufTy).Contents (Elt F)),
    binary main_v343 main_v349 main_v350 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v351 ((extractStridedSlice S4x192x32x32 ![0, 0, 1, 1] · slices_S4x192x34x34_S4x192x32x32_0_0_1_1) : (⟨S4x192x34x34, .f32⟩ : BufTy).Contents (Elt F) → (⟨S4x192x32x32, .f32⟩ : BufTy).Contents (Elt F)),
    unary main_arg9 main_v352 ((extractStridedSlice S192x1x1x1 ![0, 0, 1, 1] · slices_S192x1x3x3_S192x1x1x1_0_0_1_1) : (⟨S192x1x3x3, .f32⟩ : BufTy).Contents (Elt F) → (⟨S192x1x1x1, .f32⟩ : BufTy).Contents (Elt F)),
    reshape main_v352 main_v353 (rfl : (.f32 : EltTy) = .f32) shapeCasts_S192x1x1x1_S192,
    unary main_v353 main_v354 (broadcastInDim S1x192x1x1 ![1] bcast_S192_S1x192x1x1_1 : (⟨S192, .f32⟩ : BufTy).Contents (Elt F) → (⟨S1x192x1x1, .f32⟩ : BufTy).Contents (Elt F)),
    unary main_v354 main_v355 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v351 main_v355 main_v356 (mulf : (⟨S4x192x32x32, .f32⟩ : BufTy).Contents (Elt F) → (⟨S4x192x32x32, .f32⟩ : BufTy).Contents (Elt F) → (⟨S4x192x32x32, .f32⟩ : BufTy).Contents (Elt F)),
    binary main_v350 main_v356 main_v357 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v358 ((extractStridedSlice S4x192x32x32 ![0, 0, 1, 2] · slices_S4x192x34x34_S4x192x32x32_0_0_1_2) : (⟨S4x192x34x34, .f32⟩ : BufTy).Contents (Elt F) → (⟨S4x192x32x32, .f32⟩ : BufTy).Contents (Elt F)),
    unary main_arg9 main_v359 ((extractStridedSlice S192x1x1x1 ![0, 0, 1, 2] · slices_S192x1x3x3_S192x1x1x1_0_0_1_2) : (⟨S192x1x3x3, .f32⟩ : BufTy).Contents (Elt F) → (⟨S192x1x1x1, .f32⟩ : BufTy).Contents (Elt F)),
    reshape main_v359 main_v360 (rfl : (.f32 : EltTy) = .f32) shapeCasts_S192x1x1x1_S192,
    unary main_v360 main_v361 (broadcastInDim S1x192x1x1 ![1] bcast_S192_S1x192x1x1_1 : (⟨S192, .f32⟩ : BufTy).Contents (Elt F) → (⟨S1x192x1x1, .f32⟩ : BufTy).Contents (Elt F)),
    unary main_v361 main_v362 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v358 main_v362 main_v363 (mulf : (⟨S4x192x32x32, .f32⟩ : BufTy).Contents (Elt F) → (⟨S4x192x32x32, .f32⟩ : BufTy).Contents (Elt F) → (⟨S4x192x32x32, .f32⟩ : BufTy).Contents (Elt F)),
    binary main_v357 main_v363 main_v364 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v365 ((extractStridedSlice S4x192x32x32 ![0, 0, 2, 0] · slices_S4x192x34x34_S4x192x32x32_0_0_2_0) : (⟨S4x192x34x34, .f32⟩ : BufTy).Contents (Elt F) → (⟨S4x192x32x32, .f32⟩ : BufTy).Contents (Elt F)),
    unary main_arg9 main_v366 ((extractStridedSlice S192x1x1x1 ![0, 0, 2, 0] · slices_S192x1x3x3_S192x1x1x1_0_0_2_0) : (⟨S192x1x3x3, .f32⟩ : BufTy).Contents (Elt F) → (⟨S192x1x1x1, .f32⟩ : BufTy).Contents (Elt F)),
    reshape main_v366 main_v367 (rfl : (.f32 : EltTy) = .f32) shapeCasts_S192x1x1x1_S192,
    unary main_v367 main_v368 (broadcastInDim S1x192x1x1 ![1] bcast_S192_S1x192x1x1_1 : (⟨S192, .f32⟩ : BufTy).Contents (Elt F) → (⟨S1x192x1x1, .f32⟩ : BufTy).Contents (Elt F)),
    unary main_v368 main_v369 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v365 main_v369 main_v370 (mulf : (⟨S4x192x32x32, .f32⟩ : BufTy).Contents (Elt F) → (⟨S4x192x32x32, .f32⟩ : BufTy).Contents (Elt F) → (⟨S4x192x32x32, .f32⟩ : BufTy).Contents (Elt F)),
    binary main_v364 main_v370 main_v371 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v372 ((extractStridedSlice S4x192x32x32 ![0, 0, 2, 1] · slices_S4x192x34x34_S4x192x32x32_0_0_2_1) : (⟨S4x192x34x34, .f32⟩ : BufTy).Contents (Elt F) → (⟨S4x192x32x32, .f32⟩ : BufTy).Contents (Elt F)),
    unary main_arg9 main_v373 ((extractStridedSlice S192x1x1x1 ![0, 0, 2, 1] · slices_S192x1x3x3_S192x1x1x1_0_0_2_1) : (⟨S192x1x3x3, .f32⟩ : BufTy).Contents (Elt F) → (⟨S192x1x1x1, .f32⟩ : BufTy).Contents (Elt F)),
    reshape main_v373 main_v374 (rfl : (.f32 : EltTy) = .f32) shapeCasts_S192x1x1x1_S192,
    unary main_v374 main_v375 (broadcastInDim S1x192x1x1 ![1] bcast_S192_S1x192x1x1_1 : (⟨S192, .f32⟩ : BufTy).Contents (Elt F) → (⟨S1x192x1x1, .f32⟩ : BufTy).Contents (Elt F)),
    unary main_v375 main_v376 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v372 main_v376 main_v377 (mulf : (⟨S4x192x32x32, .f32⟩ : BufTy).Contents (Elt F) → (⟨S4x192x32x32, .f32⟩ : BufTy).Contents (Elt F) → (⟨S4x192x32x32, .f32⟩ : BufTy).Contents (Elt F)),
    binary main_v371 main_v377 main_v378 (addf : (⟨S4x192x32x32, .f32⟩ : BufTy).Contents (Elt F) → (⟨S4x192x32x32, .f32⟩ : BufTy).Contents (Elt F) → (⟨S4x192x32x32, .f32⟩ : BufTy).Contents (Elt F)),
    unary main_v321 main_v379 ((extractStridedSlice S4x192x32x32 ![0, 0, 2, 2] · slices_S4x192x34x34_S4x192x32x32_0_0_2_2) : (⟨S4x192x34x34, .f32⟩ : BufTy).Contents (Elt F) → (⟨S4x192x32x32, .f32⟩ : BufTy).Contents (Elt F)),
    unary main_arg9 main_v380 ((extractStridedSlice S192x1x1x1 ![0, 0, 2, 2] · slices_S192x1x3x3_S192x1x1x1_0_0_2_2) : (⟨S192x1x3x3, .f32⟩ : BufTy).Contents (Elt F) → (⟨S192x1x1x1, .f32⟩ : BufTy).Contents (Elt F)),
    reshape main_v380 main_v381 (rfl : (.f32 : EltTy) = .f32) shapeCasts_S192x1x1x1_S192,
    unary main_v381 main_v382 (broadcastInDim S1x192x1x1 ![1] bcast_S192_S1x192x1x1_1 : (⟨S192, .f32⟩ : BufTy).Contents (Elt F) → (⟨S1x192x1x1, .f32⟩ : BufTy).Contents (Elt F)),
    unary main_v382 main_v383 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v379 main_v383 main_v384 (mulf : (⟨S4x192x32x32, .f32⟩ : BufTy).Contents (Elt F) → (⟨S4x192x32x32, .f32⟩ : BufTy).Contents (Elt F) → (⟨S4x192x32x32, .f32⟩ : BufTy).Contents (Elt F)),
    binary main_v378 main_v384 main_v385 (addf : (⟨S4x192x32x32, .f32⟩ : BufTy).Contents (Elt F) → (⟨S4x192x32x32, .f32⟩ : BufTy).Contents (Elt F) → (⟨S4x192x32x32, .f32⟩ : BufTy).Contents (Elt F)) ]

/-- The buffers they write. -/
abbrev wC1 : List (Ref sig .tc) :=
  [main_c_16, main_call1_v0, main_v321, main_cst_17, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385]

/-- They take buffers of the device. -/
theorem subC1 : (opsC1 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub ..⟩

/-- A buffer they do not write keeps its contents. -/
theorem keepC1 (V : Valuation τ sig (Elt F)) (r : Ref sig .tc) (h : r ∉ wC1) : after opsC1 V r = V r :=
  after_of_writes_sub _ V (forall_writes_sub_of_map (W := wC1) rfl) h

/-- The operations of the rest of the mixing. -/
abbrev opsC2 : List (HloOp τ sig (Elt F)) :=
  [ nullary main_cst_18 (constant S_ .f32 0x3F800054#32),
    unary main_cst_18 main_v386 (Host.sqrt : (⟨S_, .f32⟩ : BufTy).Contents (Elt F) → (⟨S_, .f32⟩ : BufTy).Contents (Elt F)),
    nullary main_cst_19 (constant S_ .f32 0x3F800000#32),
    binary main_cst_19 main_v386 main_v387 (Host.divf : (⟨S_, .f32⟩ : BufTy).Contents (Elt F) → (⟨S_, .f32⟩ : BufTy).Contents (Elt F) → (⟨S_, .f32⟩ : BufTy).Contents (Elt F)),
    unary main_v387 main_v388 (id : (⟨S_, .f32⟩ : BufTy).Contents (Elt F) → (⟨S_, .f32⟩ : BufTy).Contents (Elt F)),
    unary main_v388 main_v389 (broadcastInDim S192 ![] bcast_S_S192 : (⟨S_, .f32⟩ : BufTy).Contents (Elt F) → (⟨S192, .f32⟩ : BufTy).Contents (Elt F)),
    binary main_arg10 main_v389 main_v390 (mulf : (⟨S192, .f32⟩ : BufTy).Contents (Elt F) → (⟨S192, .f32⟩ : BufTy).Contents (Elt F) → (⟨S192, .f32⟩ : BufTy).Contents (Elt F)),
    unary main_v390 main_v391 (broadcastInDim S1x192x1x1 ![1] bcast_S192_S1x192x1x1_1 : (⟨S192, .f32⟩ : BufTy).Contents (Elt F) → (⟨S1x192x1x1, .f32⟩ : BufTy).Contents (Elt F)),
    unary main_v391 main_v392 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v385 main_v392 main_v393 (mulf : (⟨S4x192x32x32, .f32⟩ : BufTy).Contents (Elt F) → (⟨S4x192x32x32, .f32⟩ : BufTy).Contents (Elt F) → (⟨S4x192x32x32, .f32⟩ : BufTy).Contents (Elt F)),
    unary main_arg11 main_v394 (broadcastInDim S1x192x1x1 ![1] bcast_S192_S1x192x1x1_1 : (⟨S192, .f32⟩ : BufTy).Contents (Elt F) → (⟨S1x192x1x1, .f32⟩ : BufTy).Contents (Elt F)),
    unary main_v394 main_v395 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v393 main_v395 main_v396 (addf : (⟨S4x192x32x32, .f32⟩ : BufTy).Contents (Elt F) → (⟨S4x192x32x32, .f32⟩ : BufTy).Contents (Elt F) → (⟨S4x192x32x32, .f32⟩ : BufTy).Contents (Elt F)),
    nullary main_cst_20 (constant S_ .f32 0x00000000#32),
    nullary main_cst_21 (constant S_ .f32 0x40C00000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S4x192x32x32, .f32⟩) main_call2_v1) (broadcastInDim S4x192x32x32 ![] bcast_S_S4x192x32x32),
    TRef.binary (TRef.of (T := ⟨S4x192x32x32, .f32⟩) main_call2_v1) (TRef.of (T := ⟨S4x192x32x32, .f32⟩) main_v396) (TRef.of (T := ⟨S4x192x32x32, .f32⟩) main_call2_v2) maximumf,
    TRef.unary (TRef.of (T := ⟨S_, .f32⟩) main_cst_21) (TRef.of (T := ⟨S_, .f32⟩) main_call2_v3) id,
    TRef.unary (TRef.of (T := ⟨S_, .f32⟩) main_call2_v3) (TRef.of (T := ⟨S4x192x32x32, .f32⟩) main_call2_v4) (broadcastInDim S4x192x32x32 ![] bcast_S_S4x192x32x32),
    TRef.binary (TRef.of (T := ⟨S4x192x32x32, .f32⟩) main_call2_v4) (TRef.of (T := ⟨S4x192x32x32, .f32⟩) main_call2_v2) (TRef.of (T := ⟨S4x192x32x32, .f32⟩) main_v397) minimumf,
    reshape main_arg12 main_v398 (rfl : (.f32 : EltTy) = .f32) shapeCasts_S192x192x1x1_S192x192,
    binary main_v397 main_v398 main_v399 ((fun l r => Host.dotGeneral dot_S4x192x32x32_S192x192_S4x32x32x192_1_1_023_0_n_n none l r) : (⟨S4x192x32x32, .f32⟩ : BufTy).Contents (Elt F) → (⟨S192x192, .f32⟩ : BufTy).Contents (Elt F) → (⟨S4x32x32x192, .f32⟩ : BufTy).Contents (Elt F)),
    unary main_v399 main_v400 ((transpose S4x192x32x32 [0, 3, 1, 2] · transposes_S4x32x32x192_S4x192x32x32_0_3_1_2) : (⟨S4x32x32x192, .f32⟩ : BufTy).Contents (Elt F) → (⟨S4x192x32x32, .f32⟩ : BufTy).Contents (Elt F)),
    nullary main_cst_22 (constant S_ .f32 0x3F800054#32),
    unary main_cst_22 main_v401 (Host.sqrt : (⟨S_, .f32⟩ : BufTy).Contents (Elt F) → (⟨S_, .f32⟩ : BufTy).Contents (Elt F)),
    nullary main_cst_23 (constant S_ .f32 0x3F800000#32),
    binary main_cst_23 main_v401 main_v402 (Host.divf : (⟨S_, .f32⟩ : BufTy).Contents (Elt F) → (⟨S_, .f32⟩ : BufTy).Contents (Elt F) → (⟨S_, .f32⟩ : BufTy).Contents (Elt F)),
    unary main_v402 main_v403 (id : (⟨S_, .f32⟩ : BufTy).Contents (Elt F) → (⟨S_, .f32⟩ : BufTy).Contents (Elt F)),
    unary main_v403 main_v404 (broadcastInDim S192 ![] bcast_S_S192 : (⟨S_, .f32⟩ : BufTy).Contents (Elt F) → (⟨S192, .f32⟩ : BufTy).Contents (Elt F)),
    binary main_arg13 main_v404 main_v405 (mulf : (⟨S192, .f32⟩ : BufTy).Contents (Elt F) → (⟨S192, .f32⟩ : BufTy).Contents (Elt F) → (⟨S192, .f32⟩ : BufTy).Contents (Elt F)),
    unary main_v405 main_v406 (broadcastInDim S1x192x1x1 ![1] bcast_S192_S1x192x1x1_1 : (⟨S192, .f32⟩ : BufTy).Contents (Elt F) → (⟨S1x192x1x1, .f32⟩ : BufTy).Contents (Elt F)),
    unary main_v406 main_v407 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v400 main_v407 main_v408 (mulf : (⟨S4x192x32x32, .f32⟩ : BufTy).Contents (Elt F) → (⟨S4x192x32x32, .f32⟩ : BufTy).Contents (Elt F) → (⟨S4x192x32x32, .f32⟩ : BufTy).Contents (Elt F)),
    unary main_arg14 main_v409 (broadcastInDim S1x192x1x1 ![1] bcast_S192_S1x192x1x1_1 : (⟨S192, .f32⟩ : BufTy).Contents (Elt F) → (⟨S1x192x1x1, .f32⟩ : BufTy).Contents (Elt F)),
    unary main_v409 main_v410 (broadcastInDim S4x192x32x32 ![0, 1, 2, 3] bcast_S1x192x1x1_S4x192x32x32_0_1_2_3 : (⟨S1x192x1x1, .f32⟩ : BufTy).Contents (Elt F) → (⟨S4x192x32x32, .f32⟩ : BufTy).Contents (Elt F)),
    binary main_v408 main_v410 main_v411 (addf : (⟨S4x192x32x32, .f32⟩ : BufTy).Contents (Elt F) → (⟨S4x192x32x32, .f32⟩ : BufTy).Contents (Elt F) → (⟨S4x192x32x32, .f32⟩ : BufTy).Contents (Elt F)),
    nullary main_cst_24 (constant S_ .f32 0x00000000#32),
    nullary main_cst_25 (constant S_ .f32 0x40C00000#32),
    TRef.unary (TRef.of (T := ⟨S_, .f32⟩) main_cst_24) (TRef.of (T := ⟨S_, .f32⟩) main_call3_v0) id,
    TRef.unary (TRef.of (T := ⟨S_, .f32⟩) main_call3_v0) (TRef.of (T := ⟨S4x192x32x32, .f32⟩) main_call3_v1) (broadcastInDim S4x192x32x32 ![] bcast_S_S4x192x32x32),
    TRef.binary (TRef.of (T := ⟨S4x192x32x32, .f32⟩) main_call3_v1) (TRef.of (T := ⟨S4x192x32x32, .f32⟩) main_v411) (TRef.of (T := ⟨S4x192x32x32, .f32⟩) main_call3_v2) maximumf,
    TRef.unary (TRef.of (T := ⟨S_, .f32⟩) main_cst_25) (TRef.of (T := ⟨S_, .f32⟩) main_call3_v3) id,
    TRef.unary (TRef.of (T := ⟨S_, .f32⟩) main_call3_v3) (TRef.of (T := ⟨S4x192x32x32, .f32⟩) main_call3_v4) (broadcastInDim S4x192x32x32 ![] bcast_S_S4x192x32x32),
    TRef.binary (TRef.of (T := ⟨S4x192x32x32, .f32⟩) main_call3_v4) (TRef.of (T := ⟨S4x192x32x32, .f32⟩) main_call3_v2) (TRef.of (T := ⟨S4x192x32x32, .f32⟩) main_v412) minimumf,
    reshape main_v412 main_v413 (rfl : (.f32 : EltTy) = .f32) shapeCasts_S4x192x32x32_S4x192x1024 ]

/-- The buffers they write. -/
abbrev wC2 : List (Ref sig .tc) :=
  [main_cst_18, main_v386, main_cst_19, main_v387, main_v388, main_v389, main_v390, main_v391, main_v392, main_v393, main_v394, main_v395, main_v396, main_cst_20, main_cst_21, main_call2_v0, main_call2_v1, main_call2_v2, main_call2_v3, main_call2_v4, main_v397, main_v398, main_v399, main_v400, main_cst_22, main_v401, main_cst_23, main_v402, main_v403, main_v404, main_v405, main_v406, main_v407, main_v408, main_v409, main_v410, main_v411, main_cst_24, main_cst_25, main_call3_v0, main_call3_v1, main_call3_v2, main_call3_v3, main_call3_v4, main_v412, main_v413]

/-- They take buffers of the device. -/
theorem subC2 : (opsC2 : List (HloOp τ sig (Elt F))).Forall fun op => op.bufs ⊆ tcRefs τ sig :=
  ⟨nullary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., reshape_bufs_sub .., binary_bufs_sub .., unary_bufs_sub .., nullary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., reshape_bufs_sub ..⟩

/-- A buffer they do not write keeps its contents. -/
theorem keepC2 (V : Valuation τ sig (Elt F)) (r : Ref sig .tc) (h : r ∉ wC2) : after opsC2 V r = V r :=
  after_of_writes_sub _ V (forall_writes_sub_of_map (W := wC2) rfl) h

/-- The operations of the final reshape. -/
abbrev opsD : List (HloOp τ sig (Elt F)) :=
  [ reshape main_v413 main_v414 (rfl : (.f32 : EltTy) = .f32) shapeCasts_S4x192x1024_S4x192x32x32 ]

/-- The buffers they write. -/
abbrev wD : List (Ref sig .tc) :=
  [main_v414]

/-- They take buffers of the device. -/
theorem subD : (opsD : List (HloOp τ sig (Elt F))).Forall fun op => op.bufs ⊆ tcRefs τ sig :=
  reshape_bufs_sub ..

/-- A buffer they do not write keeps its contents. -/
theorem keepD (V : Valuation τ sig (Elt F)) (r : Ref sig .tc) (h : r ∉ wD) : after opsD V r = V r :=
  after_of_writes_sub _ V (forall_writes_sub_of_map (W := wD) rfl) h

end Cert.WholeRef
-- ==== Proof.WholeRefCoarse.lean ====
module

public import proofs.«01_k».proof.Proof.WholeRefOps
public import proofs.«01_k».proof.Proof.CoarseRef

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo
open Cert.CoarseRef (conv qkv logits softmax applied summed)

variable {F : FTy → Type} [FloatOps F] (V : Valuation τ sig (Elt F))

set_option maxHeartbeats 2000000 in
/-- The strided convolution. -/
theorem coarse1 : after opsA1 V main_v97 = conv (V main_arg0) (V main_arg1) (V main_arg2) := by
  after_reads_simp; rfl

/-- Queries, keys and values. -/
theorem coarse2 : after opsA2 V main_v103 = qkv (V main_v97) (V main_arg3) (V main_arg4) := by
  after_reads_simp; rfl

/-- Keys against queries. -/
theorem coarse3 : after opsA3 V main_v108 = logits (V main_v103) := by
  after_reads_simp; rfl

/-- The values. -/
theorem coarse3' : after opsA3 V main_v106
    = extractStridedSlice S4x96x256x4 ![0, 0, 0, 8] (V main_v103) slices_S4x96x256x12_S4x96x256x4_0_0_0_8 := by
  after_reads_simp

/-- The softmax. -/
theorem coarse4 : after opsA4 V main_v119 = softmax (V main_v108) := by
  after_reads_simp; rfl

/-- The contents after the first stage. -/
def atA : Valuation τ sig (Elt F) := after opsA5 (after opsA4 (after opsA3 (after opsA2 (after opsA1 V))))

/-- The first stage's first result. -/
theorem atA_first : atA V main_v124 = applied (qkv (conv (V main_arg0) (V main_arg1) (V main_arg2)) (V main_arg3) (V main_arg4)) := by
  have h : ∀ U : Valuation τ sig (Elt F), ∀ Q, U main_v119 = softmax (logits Q) →
      U main_v106 = extractStridedSlice S4x96x256x4 ![0, 0, 0, 8] Q slices_S4x96x256x12_S4x96x256x4_0_0_0_8 → after opsA5 U main_v124 = applied Q := by
    intro U Q h1 h2
    unfold applied
    rw [← h1]
    erw [← h2]
    after_reads_simp
    rfl
  refine h _ _ ?_ ?_
  · rw [coarse4, coarse3, coarse2, coarse1, keepA1 V main_arg3 (by decide), keepA1 V main_arg4 (by decide)]
  · rw [keepA4 _ main_v106 (by decide), coarse3', coarse2, coarse1, keepA1 V main_arg3 (by decide), keepA1 V main_arg4 (by decide)]

/-- The first stage's second result. -/
theorem atA_second : atA V main_v125 = summed (qkv (conv (V main_arg0) (V main_arg1) (V main_arg2)) (V main_arg3) (V main_arg4)) := by
  have h : ∀ U : Valuation τ sig (Elt F), ∀ Q, U main_v119 = softmax (logits Q) → after opsA5 U main_v125 = summed Q := by
    intro U Q h1
    unfold summed
    rw [← h1]
    after_reads_simp
  refine h _ _ ?_
  rw [coarse4, coarse3, coarse2, coarse1, keepA1 V main_arg3 (by decide), keepA1 V main_arg4 (by decide)]

/-- The first stage keeps what it does not write. -/
theorem atA_keep (r : Ref sig .tc) (h1 : r ∉ wA1) (h2 : r ∉ wA2) (h3 : r ∉ wA3) (h4 : r ∉ wA4) (h5 : r ∉ wA5) : atA V r = V r := by
  unfold atA
  rw [keepA5 _ r h5, keepA4 _ r h4, keepA3 _ r h3, keepA2 _ r h2, keepA1 _ r h1]

end Cert.WholeRef
-- ==== Proof.WholeRefUp.lean ====
module

public import proofs.«01_k».proof.Proof.WholeRefOps
public import proofs.«01_k».proof.Proof.UpRefRun

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo
open Cert.UpRef (listed regions spreadIdx gathered image0 image1 image2 image3 stacked)

variable {F : FTy → Type} [FloatOps F] (V : Valuation τ sig (Elt F))

set_option maxHeartbeats 4000000 in
/-- The transposed convolution. -/
theorem up1 : after opsB1 V main_v227 = UpRef.conv (V main_v124) (V main_arg5) (V main_arg6) := by
  after_reads_simp; rfl

/-- The listed positions. -/
theorem up2a : after opsB2 V main_indices = listed (V main_v125) := by
  after_reads_simp; rfl

/-- The regions. -/
theorem up2b : after opsB2 V main_v231 = regions (V main_v227) := by
  after_reads_simp; rfl

/-- The listed positions, spread over the heads. -/
theorem up2c : after opsB2 V main_v233 = spreadIdx (listed (V main_v125)) := by
  after_reads_simp; rfl

/-- Queries, keys and values at the listed regions. -/
theorem up3 (ix : IVec S4x64 32) (h : V main_v233 = spreadIdx ix) :
    after opsB3 V main_v240 = UpRef.qkv (gathered (V main_v231) ix) (V main_arg7) (V main_arg8) := by
  unfold gathered
  erw [← h]
  after_reads_simp; rfl

/-- Keys against queries. -/
theorem up4a : after opsB4 V main_v245 = UpRef.logits (V main_v240) := by
  after_reads_simp; rfl

/-- The values. -/
theorem up4b : after opsB4 V main_v243 = extractStridedSlice S4x48x256x4 ![0, 0, 0, 8] (V main_v240) slices_S4x48x256x12_S4x48x256x4_0_0_0_8 := by
  after_reads_simp

/-- The softmax. -/
theorem up5 : after opsB5 V main_v256 = UpRef.softmax (V main_v245) := by
  after_reads_simp; rfl

/-- The weights applied to the values. -/
theorem up6 (Q : FVec F S4x48x256x12 .f32) (h1 : V main_v256 = UpRef.softmax (UpRef.logits Q))
    (h2 : V main_v243 = extractStridedSlice S4x48x256x4 ![0, 0, 0, 8] Q slices_S4x48x256x12_S4x48x256x4_0_0_0_8) :
    after opsB6 V main_v259 = UpRef.applied Q := by
  unfold UpRef.applied
  rw [← h1]
  erw [← h2]
  after_reads_simp
  rfl

/-- The four images' additions laid side by side. -/
def sums (xr : FVec F S4x48x4x256x2x2 .f32) (ix : IVec S4x64 32) (A : FVec F S4x48x4x64x2x2 .f32) : FVec F S4x192x32x32 .f32 :=
  shapeCast S4x192x32x32 (transpose S4x48x4x16x2x16x2 [0, 1, 2, 3, 5, 4, 6]
    (shapeCast S4x48x4x16x16x2x2 (stacked (image0 xr ix A) (image1 xr ix A) (image2 xr ix A) (image3 xr ix A)) shapeCasts_S4x48x4x256x2x2_S4x48x4x16x16x2x2)
    transposes_S4x48x4x16x16x2x2_S4x48x4x16x2x16x2_0_1_2_3_5_4_6) shapeCasts_S4x48x4x16x2x16x2_S4x192x32x32

set_option maxHeartbeats 4000000 in
/-- The additions at the listed regions, and the sum with the convolution. -/
theorem up7 : after opsB7 V main_v320 = addf (V main_v227) (sums (V main_v231) (V main_indices) (V main_v259)) := by
  after_reads_simp; rfl

end Cert.WholeRef
-- ==== Proof.WholeRefMix.lean ====
module

public import proofs.«01_k».proof.Proof.WholeRefOps
public import proofs.«01_k».proof.Proof.MixRef

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo
open Cert.MixRef (padded rest result)
open Cert.MixBlock (answer)

variable (V : Valuation τ sig (Elt Ideal))

set_option maxHeartbeats 4000000 in
/-- The depthwise convolution. -/
theorem mix1 : after opsC1 V main_v385 = MixRef.summed (V main_arg9) (padded (V main_v320)) := by
  after_reads_simp; rfl

set_option maxHeartbeats 4000000 in
/-- The rest of the mixing. -/
theorem mix2 : after opsC2 V main_v413 = rest (V main_arg10) (V main_arg11) (V main_arg12) (V main_arg13) (V main_arg14) (V main_v385) := by
  after_reads_simp; rfl

/-- The final reshape. -/
theorem mix3 : after opsD V main_v414 = shapeCast S4x192x32x32 (V main_v413 : FVec Ideal S4x192x1024 .f32) shapeCasts_S4x192x1024_S4x192x32x32 := by
  after_reads_simp; rfl

end Cert.WholeRef
-- ==== Proof.WholeRefRun.lean ====
module

public import proofs.«01_k».proof.Proof.WholeRefCoarse
public import proofs.«01_k».proof.Proof.WholeRefUp
public import proofs.«01_k».proof.Proof.WholeRefMix

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo

section
variable {F : FTy → Type} [FloatOps F]

/-- The contents after the second stage. -/
def atB (V : Valuation τ sig (Elt F)) : Valuation τ sig (Elt F) :=
  after opsB7 (after opsB6 (after opsB5 (after opsB4 (after opsB3 (after opsB2 (after opsB1 V))))))

/-- The second stage's result. -/
theorem atB_sum (V : Valuation τ sig (Elt F)) : atB V main_v320
    = addf (UpRef.conv (V main_v124) (V main_arg5) (V main_arg6))
        (sums (UpRef.regions (UpRef.conv (V main_v124) (V main_arg5) (V main_arg6))) (UpRef.listed (V main_v125))
          (UpRef.applied (UpRef.qkv (UpRef.gathered (UpRef.regions (UpRef.conv (V main_v124) (V main_arg5) (V main_arg6))) (UpRef.listed (V main_v125)))
            (V main_arg7) (V main_arg8)))) := by
  unfold atB
  have k1 : after opsB1 V main_v125 = V main_v125 := keepB1 V main_v125 (by decide)
  have k2 : after opsB2 (after opsB1 V) main_arg7 = V main_arg7 := (keepB2 _ main_arg7 (by decide)).trans (keepB1 V main_arg7 (by decide))
  have k3 : after opsB2 (after opsB1 V) main_arg8 = V main_arg8 := (keepB2 _ main_arg8 (by decide)).trans (keepB1 V main_arg8 (by decide))
  have c1 := up1 V
  have c2 : after opsB2 (after opsB1 V) main_v227 = after opsB1 V main_v227 := keepB2 _ main_v227 (by decide)
  have i2 := up2a (after opsB1 V)
  have r2 := up2b (after opsB1 V)
  have s2 := up2c (after opsB1 V)
  rw [k1] at i2 s2
  rw [c1] at c2 r2
  generalize after opsB2 (after opsB1 V) = U at *
  have q3 := up3 U _ s2
  rw [r2, k2, k3] at q3
  have c3 : after opsB3 U main_v227 = _ := (keepB3 U main_v227 (by decide)).trans c2
  have i3 : after opsB3 U main_indices = _ := (keepB3 U main_indices (by decide)).trans i2
  have r3 : after opsB3 U main_v231 = _ := (keepB3 U main_v231 (by decide)).trans r2
  clear c2 i2 r2 s2 k1 k2 k3 c1
  generalize after opsB3 U = U3 at *
  have l4 := (up5 _).trans (congrArg UpRef.softmax ((up4a U3).trans (congrArg UpRef.logits q3)))
  have v4 : after opsB5 (after opsB4 U3) main_v243 = _ := (keepB5 _ main_v243 (by decide)).trans (up4b U3)
  rw [q3] at v4
  have a6 := up6 _ _ l4 v4
  rw [up7, a6]
  rw [keepB6 _ main_v227 (by decide), keepB5 _ main_v227 (by decide), keepB4 _ main_v227 (by decide), c3,
    keepB6 _ main_v231 (by decide), keepB5 _ main_v231 (by decide), keepB4 _ main_v231 (by decide), r3,
    keepB6 _ main_indices (by decide), keepB5 _ main_indices (by decide), keepB4 _ main_indices (by decide), i3]

/-- The second stage keeps what it does not write. -/
theorem atB_keep (V : Valuation τ sig (Elt F)) (r : Ref sig .tc) (h1 : r ∉ wB1) (h2 : r ∉ wB2) (h3 : r ∉ wB3) (h4 : r ∉ wB4) (h5 : r ∉ wB5)
    (h6 : r ∉ wB6) (h7 : r ∉ wB7) : atB V r = V r := by
  unfold atB
  rw [keepB7 _ r h7, keepB6 _ r h6, keepB5 _ r h5, keepB4 _ r h4, keepB3 _ r h3, keepB2 _ r h2, keepB1 _ r h1]

/-- The contents at the end. -/
def atEnd (V : Valuation τ sig (Elt F)) : Valuation τ sig (Elt F) := after opsD (after opsC2 (after opsC1 (atB (atA V))))

/-- An argument is what it was through all the stages. -/
theorem arg_A (V : Valuation τ sig (Elt F)) (r : Ref sig .tc) (h : r ∈ [main_arg0, main_arg1, main_arg2, main_arg3, main_arg4, main_arg5, main_arg6, main_arg7,
    main_arg8, main_arg9, main_arg10, main_arg11, main_arg12, main_arg13, main_arg14]) : atA V r = V r :=
  atA_keep V r ((by decide : ∀ r ∈ _, r ∉ wA1) r h) ((by decide : ∀ r ∈ _, r ∉ wA2) r h) ((by decide : ∀ r ∈ _, r ∉ wA3) r h)
    ((by decide : ∀ r ∈ _, r ∉ wA4) r h) ((by decide : ∀ r ∈ _, r ∉ wA5) r h)

theorem arg_B (V : Valuation τ sig (Elt F)) (r : Ref sig .tc) (h : r ∈ [main_arg0, main_arg1, main_arg2, main_arg3, main_arg4, main_arg5, main_arg6, main_arg7,
    main_arg8, main_arg9, main_arg10, main_arg11, main_arg12, main_arg13, main_arg14]) : atB (atA V) r = V r :=
  (atB_keep _ r ((by decide : ∀ r ∈ _, r ∉ wB1) r h) ((by decide : ∀ r ∈ _, r ∉ wB2) r h) ((by decide : ∀ r ∈ _, r ∉ wB3) r h)
    ((by decide : ∀ r ∈ _, r ∉ wB4) r h) ((by decide : ∀ r ∈ _, r ∉ wB5) r h) ((by decide : ∀ r ∈ _, r ∉ wB6) r h)
    ((by decide : ∀ r ∈ _, r ∉ wB7) r h)).trans (arg_A V r h)

theorem arg_C (V : Valuation τ sig (Elt F)) (r : Ref sig .tc) (h : r ∈ [main_arg0, main_arg1, main_arg2, main_arg3, main_arg4, main_arg5, main_arg6, main_arg7,
    main_arg8, main_arg9, main_arg10, main_arg11, main_arg12, main_arg13, main_arg14]) : after opsC1 (atB (atA V)) r = V r :=
  (keepC1 _ r ((by decide : ∀ r ∈ _, r ∉ wC1) r h)).trans (arg_B V r h)

theorem arg_end (V : Valuation τ sig (Elt F)) (r : Ref sig .tc) (h : r ∈ [main_arg0, main_arg1, main_arg2, main_arg3, main_arg4, main_arg5, main_arg6, main_arg7,
    main_arg8, main_arg9, main_arg10, main_arg11, main_arg12, main_arg13, main_arg14]) : atEnd V r = V r :=
  (keepD _ r ((by decide : ∀ r ∈ _, r ∉ wD) r h)).trans ((keepC2 _ r ((by decide : ∀ r ∈ _, r ∉ wC2) r h)).trans (arg_C V r h))

/-- All the operations. -/
abbrev ops : List (HloOp τ sig (Elt F)) :=
  opsA1 ++ (opsA2 ++ (opsA3 ++ (opsA4 ++ (opsA5 ++ (opsB1 ++ (opsB2 ++ (opsB3 ++ (opsB4 ++ (opsB5 ++ (opsB6 ++ (opsB7 ++ (opsC1 ++ (opsC2 ++ opsD)))))))))))))

theorem ops_sub : (ops : List (HloOp τ sig (Elt F))).Forall fun op => op.bufs ⊆ tcRefs τ sig := by
  simp only [ops, List.forall_append]
  exact ⟨subA1, subA2, subA3, subA4, subA5, subB1, subB2, subB3, subB4, subB5, subB6, subB7, subC1, subC2, subD⟩

theorem after_cut (l₁ l₂ : List (HloOp τ sig (Elt F))) (V : Valuation τ sig (Elt F)) : after (l₁ ++ l₂) V = after l₂ (after l₁ V) := by
  induction l₁ generalizing V with
  | nil => rfl
  | cons o l ih => exact ih _

theorem after_ops (V : Valuation τ sig (Elt F)) : after ops V = atEnd V := by
  unfold ops
  rw [after_cut, after_cut, after_cut, after_cut, after_cut, after_cut, after_cut, after_cut, after_cut, after_cut, after_cut, after_cut, after_cut, after_cut]
  rfl

theorem main_eq (c : Dev nD) : main (F := F) c = seq ops := rfl

/-- The whole reference's run: every buffer ends as the operations leave it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = atEnd (launchContents m d) b := by
  refine θ_run_mono (run_seq (by decide) (by decide) defs main (fun _ => ops) main_eq (fun _ => ops_sub) m ρ) ?_
  intro r h d b
  rw [← after_ops]
  exact h d b

end

/-- The whole reference's result from its second stage's. -/
theorem atEnd_result (V : Valuation τ sig (Elt Ideal)) : atEnd V main_v414
    = shapeCast S4x192x32x32 (MixBlock.answer (atB (atA V) main_v320) (V main_arg9) (V main_arg10) (V main_arg11) (V main_arg12) (V main_arg13)
        (V main_arg14) : FVec Ideal S4x192x1024 .f32) shapeCasts_S4x192x1024_S4x192x32x32 := by
  unfold atEnd
  rw [mix3, mix2, mix1, arg_B V main_arg9 (by decide), arg_C V main_arg10 (by decide), arg_C V main_arg11 (by decide), arg_C V main_arg12 (by decide),
    arg_C V main_arg13 (by decide), arg_C V main_arg14 (by decide)]
  rw [← MixRef.result]

end Cert.WholeRef
-- ==== Proof.WholeRefValue.lean ====
module

public import proofs.«01_k».proof.Proof.WholeRefRun
public import proofs.«01_k».proof.Proof.WholeJoin

@[expose] public section

set_option maxRecDepth 16384

noncomputable section

namespace Cert.WholeRef

open Cert.ReferenceIdeal Cert.ReferenceIdeal.Gen Idealize.ShloMosaic Idealize.ShloMosaic.TcCoe Idealize.SL.Sem Idealize.ShloMosaic.StableHlo

variable (V : Valuation τ sig (Elt Ideal))

/-- The image after the reference's second stage. -/
theorem upsampled_eq (H : WholeJoin.Finite (V main_arg0) (V main_arg1) (V main_arg2) (V main_arg3) (V main_arg4) (V main_arg5) (V main_arg6) (V main_arg7) (V main_arg8)) : atB (atA V) main_v320
    = WholeJoin.upsampled (V main_arg0) (V main_arg1) (V main_arg2) (V main_arg3) (V main_arg4) (V main_arg5) (V main_arg6) (V main_arg7) (V main_arg8) := by
  refine WholeJoin.pixels_listed _ _ ?_
  rw [atB_sum, atA_first, atA_second, arg_A V main_arg5 (by decide), arg_A V main_arg6 (by decide), arg_A V main_arg7 (by decide), arg_A V main_arg8 (by decide),
    CoarseEq.first _ _ _ _ _ _ _ _ _ _ (fun _ _ _ _ => H.h0 _) (fun _ _ _ _ => H.h1 _) (fun _ => H.h2 _) (fun _ _ => H.h3 _) (fun _ => H.h4 _),
    CoarseEq.second _ _ _ _ _ _ _ _ _ _ (fun _ _ _ _ => H.h0 _) (fun _ _ _ _ => H.h1 _) (fun _ => H.h2 _) (fun _ _ => H.h3 _) (fun _ => H.h4 _)]
  exact UpRef.value _ _ _ _ _ _ _ _ _ (WholeJoin.reals _ _ _ _ _ _ _ _ _ H.h5 H.h6 H.h7 H.h8)

/-- The whole reference's result from the problem's own arguments. -/
theorem value (H : WholeJoin.Finite (V main_arg0) (V main_arg1) (V main_arg2) (V main_arg3) (V main_arg4) (V main_arg5) (V main_arg6) (V main_arg7) (V main_arg8)) : atEnd V main_v414
    = WholeJoin.out (V main_arg0) (V main_arg1) (V main_arg2) (V main_arg3) (V main_arg4) (V main_arg5) (V main_arg6) (V main_arg7) (V main_arg8) (V main_arg9) (V main_arg10) (V main_arg11) (V main_arg12) (V main_arg13) (V main_arg14) := by
  rw [atEnd_result, upsampled_eq V H]
  rfl

end Cert.WholeRef
-- ==== Proof.WholeFinite.lean ====
module

public import proofs.«01_k».proof.Pre_whole_finite
public import proofs.«01_k».proof.Proof.CoarseFinite
public import proofs.«01_k».proof.Proof.WholeJoin

@[expose] public section

set_option maxRecDepth 16384

noncomputable section

namespace Cert.WholeFinite

open Cert.Pre_whole_finite Idealize.ShloMosaic
open Cert.CoarseFinite (reals_of_all)

/-- The shape relations the precondition's operations take. -/
instance facts : Cert.Pre_whole_finite.Facts where
  bcast_S_S4x192x34x34 := by decide
  reducesTo_S4x192x34x34_S_d0_1_2_3 := by decide
  h_S_ := by decide
  bcast_S_S384x192x4x4 := by decide
  reducesTo_S384x192x4x4_S_d0_1_2_3 := by decide
  bcast_S_S384 := by decide
  reducesTo_S384_S_d0 := by decide
  bcast_S_S4x12 := by decide
  reducesTo_S4x12_S_d0_1 := by decide
  bcast_S_S12 := by decide
  reducesTo_S12_S_d0 := by decide
  bcast_S_S192 := by decide
  reducesTo_S192_S_d0 := by decide

/-- Under the precondition the arguments of the first two stages hold reals. -/
theorem reals (A0 : FVec Ideal S4x192x34x34 .f32) (A1 : FVec Ideal S384x192x4x4 .f32) (A2 : FVec Ideal S384 .f32) (A3 : FVec Ideal S4x12 .f32) (A4 : FVec Ideal S12 .f32)
    (A5 : FVec Ideal S384x192x4x4 .f32) (A6 : FVec Ideal S192 .f32) (A7 : FVec Ideal S4x12 .f32) (A8 : FVec Ideal S12 .f32) (A9 : FVec Ideal S192x1x3x3 .f32)
    (A10 A11 : FVec Ideal S192 .f32) (A12 : FVec Ideal S192x192x1x1 .f32) (A13 A14 : FVec Ideal S192 .f32)
    (h : fn (F := Ideal) A0 A1 A2 A3 A4 A5 A6 A7 A8 A9 A10 A11 A12 A13 A14 = fun _ => 1#1) : Cert.WholeJoin.Finite A0 A1 A2 A3 A4 A5 A6 A7 A8 := by
  have e := congrFun h (fun i => i.elim0)
  unfold fn fn_part1 fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨reals_of_all A0 _ _ _ _ e0, reals_of_all A1 _ _ _ _ e1, reals_of_all A2 _ _ _ _ e2, reals_of_all A3 _ _ _ _ e3, reals_of_all A4 _ _ _ _ e4,
    reals_of_all A5 _ _ _ _ e5, reals_of_all A6 _ _ _ _ e6, reals_of_all A7 _ _ _ _ e7, reals_of_all A8 _ _ _ _ e8⟩

end Cert.WholeFinite
-- ==== Proof.lean ====
module

public import proofs.«01_k».proof.Defs
public import proofs.«01_k».proof.Proof.Gen.Coarse
public import proofs.«01_k».proof.Proof.Gen.Coarse.Frame
public import proofs.«01_k».proof.Proof.Gen.CoarseIdeal
public import proofs.«01_k».proof.Proof.Gen.CoarseIdeal.Frame
public import proofs.«01_k».proof.Proof.Gen.CoarseIdeal.Value
public import proofs.«01_k».proof.Proof.Gen.CoarseRefIdeal
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.CoarseFinite
public import proofs.«01_k».proof.Proof.CoarseRefRun
public import proofs.«01_k».proof.Proof.CoarseEq
public import proofs.«01_k».proof.Proof.UpFinite
public import proofs.«01_k».proof.Proof.UpRefReal
public import proofs.«01_k».proof.Proof.MixValue
public import proofs.«01_k».proof.Proof.MixRef
public import proofs.«01_k».proof.Proof.WholeRun
public import proofs.«01_k».proof.Proof.WholeValue
public import proofs.«01_k».proof.Proof.WholeRefValue
public import proofs.«01_k».proof.Proof.WholeFinite
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The reference terminates, leaves its arguments, and has no semaphore. -/
theorem ref_frame : quiescent_CoarseRefIdeal := fun m g _ =>
  θ_run_mono (Cert.CoarseRef.run m g) fun r h =>
    ⟨fun c => (h c).2.2, sem_eq_zero_of_no_sems (by decide) r.2⟩

/-- The arguments of the ideal kernel as reals, from the precondition. -/
theorem lift (m : (ℓ : Loc Cert.CoarseIdeal.nD Cert.CoarseIdeal.τ Cert.CoarseIdeal.sig) → Buf (Elt Ideal) ℓ)
    (h : Pre_CoarseIdeal_coarse_finite m) (c : Dev Cert.CoarseIdeal.nD) :
    Cert.CoarseValue.Reals m (fun b k r s => (Cert.CoarsePrep.argX m c b k r s).toReal) (fun o k r s => (Cert.CoarsePrep.argWd m c o k r s).toReal)
      (fun o => (Cert.CoarsePrep.argBd m c o).toReal) (fun d r => (Cert.CoarsePrep.argWq m c d r).toReal) (fun r => (Cert.CoarsePrep.argBq m c r).toReal) c := by
  obtain ⟨h0, h1, h2, h3, h4⟩ := Cert.CoarseFinite.reals _ _ _ _ _ (h c)
  exact ⟨fun _ _ _ _ => h0 _, fun _ _ _ _ => h1 _, fun _ => h2 _, fun _ _ => h3 _, fun _ => h4 _⟩

/-- The ideal kernel and the reference end with equal results on finite arguments. -/
theorem algebraic : algebraic_CoarseIdeal_CoarseRefIdeal_pre_coarse_finite := by
  intro m g m' g' hpre hagree
  refine ⟨fun c => (Cert.CoarseIdeal.Gen.dats m 0 c).arrAt 8 Cert.CoarseIdeal.cfg0.N,
    fun c => (Cert.CoarseIdeal.Gen.dats m 0 c).arrAt 9 Cert.CoarseIdeal.cfg0.N, ?_, ?_⟩
  · exact Cert.CoarseIdeal.Value.run_blocks m g
  · refine θ_run_mono (Cert.CoarseRef.run m' g') fun r h c => ?_
    obtain ⟨e0, e1, e2⟩ := h c
    obtain ⟨a0, a1, a2, a3, a4⟩ := hagree c
    have H := lift m hpre c
    refine ⟨e0.trans ?_, e1.trans ?_, e2⟩
    · refine Eq.trans ?_ (Cert.CoarseValue.final8 H).symm
      exact Cert.CoarseEq.first _ _ _ _ _ _ _ _ _ _ (fun b k p q => (congrFun a0 _).trans (H.hx b k p q)) (fun o k p q => (congrFun a1 _).trans (H.hWd o k p q))
        (fun o => (congrFun a2 _).trans (H.hbd o)) (fun d p => (congrFun a3 _).trans (H.hwq d p)) (fun p => (congrFun a4 _).trans (H.hbq p))
    · refine Eq.trans ?_ (Cert.CoarseValue.final9 H).symm
      exact Cert.CoarseEq.second _ _ _ _ _ _ _ _ _ _ (fun b k p q => (congrFun a0 _).trans (H.hx b k p q)) (fun o k p q => (congrFun a1 _).trans (H.hWd o k p q))
        (fun o => (congrFun a2 _).trans (H.hbd o)) (fun d p => (congrFun a3 _).trans (H.hwq d p)) (fun p => (congrFun a4 _).trans (H.hbq p))

/-- The upsampling reference terminates, leaves its arguments, and has no semaphore. -/
theorem up_ref_frame : quiescent_UpRefIdeal := fun m g _ =>
  θ_run_mono (Cert.UpRef.run m g) fun r h =>
    ⟨fun c => (h c).2, sem_eq_zero_of_no_sems (by decide) r.2⟩

/-- The reference's result on arguments that agree with the kernel's. -/
theorem up_value {X X' : FVec Ideal Cert.UpRefIdeal.S4x384x256 .f32} {S S' : FVec Ideal Cert.UpRefIdeal.S4x256x1 .f32}
    {W W' : FVec Ideal Cert.UpRefIdeal.S384x192x4x4 .f32} {B B' : FVec Ideal Cert.UpRefIdeal.S192 .f32} {Q Q' : FVec Ideal Cert.UpRefIdeal.S4x12 .f32}
    {C C' : FVec Ideal Cert.UpRefIdeal.S12 .f32} {Y : Fin 4 → Fin 192 → Fin 4 → Fin 256 → ℝ} {wq : Fin 4 → Fin 12 → ℝ} {bq : Fin 12 → ℝ}
    (h0 : X' = X) (h1 : S' = S) (h2 : W' = W) (h3 : B' = B) (h4 : Q' = Q) (h5 : C' = C) (H : Cert.UpValue.Reals X W B Q C Y wq bq) :
    Cert.UpRef.fromConv (Cert.UpRef.conv X' W' B') (Cert.UpRef.listed S') Q' C'
      = fun y : Cert.UpRefIdeal.S4x4x192x256.Idx => (Cert.UpValue.answer S Y wq bq (y 0) (y 1) (y 2) (y 3) : EReal) := by
  subst h0 h1 h2 h3 h4 h5
  exact Cert.UpRef.value _ _ _ _ _ _ _ _ _ H

/-- The ideal upsampling kernel and its reference end with equal results on finite arguments. -/
theorem up_algebraic : algebraic_UpIdeal_UpRefIdeal_pre_up_finite := by
  intro m g m' g' hpre hagree
  refine ⟨fun c => (Cert.UpIdeal.Gen.dats m 0 c).arrAt 6 Cert.UpIdeal.cfg0.N, ?_, ?_⟩
  · exact Cert.UpIdeal.Value.run_blocks m g
  · refine θ_run_mono (Cert.UpRef.run m' g') fun r h c => ?_
    obtain ⟨e0, e1⟩ := h c
    obtain ⟨a0, a1, a2, a3, a4, a5⟩ := hagree c
    have H := Cert.UpFinite.lift _ _ _ _ _ _ (hpre c)
    refine ⟨e0.trans ?_, e1⟩
    refine Eq.trans ?_ (Cert.UpValue.final H).symm
    exact up_value a0 a1 a2 a3 a4 a5 H

/-- The mixing reference leaves no transfer pending. -/
theorem mix_ref_frame : quiescent_MixRefIdeal := fun m g _ =>
  θ_run_mono (Cert.MixRefIdeal.Value.run m g) fun r h =>
    ⟨fun c => (h c).2, sem_eq_zero_of_no_sems (by decide) r.2⟩

/-- The ideal mixing kernel and its reference end with equal results. -/
theorem mix_algebraic : algebraic_MixIdeal_MixRefIdeal := by
  intro m g m' g' _ hagree
  refine ⟨fun c => (Cert.MixIdeal.Gen.dats m 0 c).arrAt 7 Cert.MixIdeal.cfg0.N, ?_, ?_⟩
  · exact Cert.MixIdeal.Value.run_blocks m g
  · refine θ_run_mono (Cert.MixRefIdeal.Value.run m' g') fun r h c => ?_
    obtain ⟨e0, e1⟩ := h c
    obtain ⟨a0, a1, a2, a3, a4, a5, a6⟩ := hagree c
    refine ⟨e0.trans ?_, e1⟩
    refine Eq.trans ?_ (Cert.MixValue.final m c).symm
    refine (Cert.MixRef.run m' c).trans ?_
    rw [a0, a1, a2, a3, a4, a5, a6]
    rfl

/-- The whole reference leaves its arguments. -/
theorem whole_ref_args (m : (ℓ : Loc Cert.ReferenceIdeal.nD Cert.ReferenceIdeal.τ Cert.ReferenceIdeal.sig) → Buf (Elt Ideal) ℓ) (d : Dev Cert.ReferenceIdeal.nD)
    (M : (ℓ : Loc Cert.ReferenceIdeal.nD Cert.ReferenceIdeal.τ Cert.ReferenceIdeal.sig) → Buf (Elt Ideal) ℓ)
    (h : ∀ b : Ref Cert.ReferenceIdeal.sig .tc, M ((d.tc : Thread Cert.ReferenceIdeal.nD Cert.ReferenceIdeal.τ).loc b) = Cert.WholeRef.atEnd (StableHlo.launchContents m d) (Proc.devRef .tc b)) :
    M ((d.tc : Thread Cert.ReferenceIdeal.nD Cert.ReferenceIdeal.τ).loc Cert.ReferenceIdeal.main_arg0) = m ((d.tc : Thread Cert.ReferenceIdeal.nD Cert.ReferenceIdeal.τ).loc Cert.ReferenceIdeal.main_arg0)
      ∧ M ((d.tc : Thread Cert.ReferenceIdeal.nD Cert.ReferenceIdeal.τ).loc Cert.ReferenceIdeal.main_arg1) = m ((d.tc : Thread Cert.ReferenceIdeal.nD Cert.ReferenceIdeal.τ).loc Cert.ReferenceIdeal.main_arg1)
      ∧ M ((d.tc : Thread Cert.ReferenceIdeal.nD Cert.ReferenceIdeal.τ).loc Cert.ReferenceIdeal.main_arg2) = m ((d.tc : Thread Cert.ReferenceIdeal.nD Cert.ReferenceIdeal.τ).loc Cert.ReferenceIdeal.main_arg2)
      ∧ M ((d.tc : Thread Cert.ReferenceIdeal.nD Cert.ReferenceIdeal.τ).loc Cert.ReferenceIdeal.main_arg3) = m ((d.tc : Thread Cert.ReferenceIdeal.nD Cert.ReferenceIdeal.τ).loc Cert.ReferenceIdeal.main_arg3)
      ∧ M ((d.tc : Thread Cert.ReferenceIdeal.nD Cert.ReferenceIdeal.τ).loc Cert.ReferenceIdeal.main_arg4) = m ((d.tc : Thread Cert.ReferenceIdeal.nD Cert.ReferenceIdeal.τ).loc Cert.ReferenceIdeal.main_arg4)
      ∧ M ((d.tc : Thread Cert.ReferenceIdeal.nD Cert.ReferenceIdeal.τ).loc Cert.ReferenceIdeal.main_arg5) = m ((d.tc : Thread Cert.ReferenceIdeal.nD Cert.ReferenceIdeal.τ).loc Cert.ReferenceIdeal.main_arg5)
      ∧ M ((d.tc : Thread Cert.ReferenceIdeal.nD Cert.ReferenceIdeal.τ).loc Cert.ReferenceIdeal.main_arg6) = m ((d.tc : Thread Cert.ReferenceIdeal.nD Cert.ReferenceIdeal.τ).loc Cert.ReferenceIdeal.main_arg6)
      ∧ M ((d.tc : Thread Cert.ReferenceIdeal.nD Cert.ReferenceIdeal.τ).loc Cert.ReferenceIdeal.main_arg7) = m ((d.tc : Thread Cert.ReferenceIdeal.nD Cert.ReferenceIdeal.τ).loc Cert.ReferenceIdeal.main_arg7)
      ∧ M ((d.tc : Thread Cert.ReferenceIdeal.nD Cert.ReferenceIdeal.τ).loc Cert.ReferenceIdeal.main_arg8) = m ((d.tc : Thread Cert.ReferenceIdeal.nD Cert.ReferenceIdeal.τ).loc Cert.ReferenceIdeal.main_arg8)
      ∧ M ((d.tc : Thread Cert.ReferenceIdeal.nD Cert.ReferenceIdeal.τ).loc Cert.ReferenceIdeal.main_arg9) = m ((d.tc : Thread Cert.ReferenceIdeal.nD Cert.ReferenceIdeal.τ).loc Cert.ReferenceIdeal.main_arg9)
      ∧ M ((d.tc : Thread Cert.ReferenceIdeal.nD Cert.ReferenceIdeal.τ).loc Cert.ReferenceIdeal.main_arg10) = m ((d.tc : Thread Cert.ReferenceIdeal.nD Cert.ReferenceIdeal.τ).loc Cert.ReferenceIdeal.main_arg10)
      ∧ M ((d.tc : Thread Cert.ReferenceIdeal.nD Cert.ReferenceIdeal.τ).loc Cert.ReferenceIdeal.main_arg11) = m ((d.tc : Thread Cert.ReferenceIdeal.nD Cert.ReferenceIdeal.τ).loc Cert.ReferenceIdeal.main_arg11)
      ∧ M ((d.tc : Thread Cert.ReferenceIdeal.nD Cert.ReferenceIdeal.τ).loc Cert.ReferenceIdeal.main_arg12) = m ((d.tc : Thread Cert.ReferenceIdeal.nD Cert.ReferenceIdeal.τ).loc Cert.ReferenceIdeal.main_arg12)
      ∧ M ((d.tc : Thread Cert.ReferenceIdeal.nD Cert.ReferenceIdeal.τ).loc Cert.ReferenceIdeal.main_arg13) = m ((d.tc : Thread Cert.ReferenceIdeal.nD Cert.ReferenceIdeal.τ).loc Cert.ReferenceIdeal.main_arg13)
      ∧ M ((d.tc : Thread Cert.ReferenceIdeal.nD Cert.ReferenceIdeal.τ).loc Cert.ReferenceIdeal.main_arg14) = m ((d.tc : Thread Cert.ReferenceIdeal.nD Cert.ReferenceIdeal.τ).loc Cert.ReferenceIdeal.main_arg14) :=
  ⟨(h _).trans (Cert.WholeRef.arg_end _ Cert.ReferenceIdeal.main_arg0 (by decide)),
    (h _).trans (Cert.WholeRef.arg_end _ Cert.ReferenceIdeal.main_arg1 (by decide)),
    (h _).trans (Cert.WholeRef.arg_end _ Cert.ReferenceIdeal.main_arg2 (by decide)),
    (h _).trans (Cert.WholeRef.arg_end _ Cert.ReferenceIdeal.main_arg3 (by decide)),
    (h _).trans (Cert.WholeRef.arg_end _ Cert.ReferenceIdeal.main_arg4 (by decide)),
    (h _).trans (Cert.WholeRef.arg_end _ Cert.ReferenceIdeal.main_arg5 (by decide)),
    (h _).trans (Cert.WholeRef.arg_end _ Cert.ReferenceIdeal.main_arg6 (by decide)),
    (h _).trans (Cert.WholeRef.arg_end _ Cert.ReferenceIdeal.main_arg7 (by decide)),
    (h _).trans (Cert.WholeRef.arg_end _ Cert.ReferenceIdeal.main_arg8 (by decide)),
    (h _).trans (Cert.WholeRef.arg_end _ Cert.ReferenceIdeal.main_arg9 (by decide)),
    (h _).trans (Cert.WholeRef.arg_end _ Cert.ReferenceIdeal.main_arg10 (by decide)),
    (h _).trans (Cert.WholeRef.arg_end _ Cert.ReferenceIdeal.main_arg11 (by decide)),
    (h _).trans (Cert.WholeRef.arg_end _ Cert.ReferenceIdeal.main_arg12 (by decide)),
    (h _).trans (Cert.WholeRef.arg_end _ Cert.ReferenceIdeal.main_arg13 (by decide)),
    (h _).trans (Cert.WholeRef.arg_end _ Cert.ReferenceIdeal.main_arg14 (by decide))⟩

/-- The whole reference terminates, leaves its arguments, and has no semaphore. -/
theorem whole_ref_frame : quiescent_ReferenceIdeal := fun m g _ =>
  θ_run_mono (Cert.WholeRef.run m g) fun r h =>
    ⟨fun c => whole_ref_args m c r.2.mem (h c), sem_eq_zero_of_no_sems (by decide) r.2⟩

/-- The whole ideal kernel and the whole reference end with equal results on finite arguments. -/
theorem whole_algebraic : algebraic_KernelIdeal_ReferenceIdeal_pre_whole_finite := by
  intro m g m' g' hpre hagree
  refine ⟨fun c => Cert.KernelIdeal.Gen.W7 m g c (Proc.devRef .tc Cert.KernelIdeal.main_v100), ?_, ?_⟩
  · exact θ_run_mono (Cert.WholeRun.run m g) fun r h => h.1
  · refine θ_run_mono (Cert.WholeRef.run m' g') fun r h c => ?_
    refine ⟨(h c _).trans ?_, whole_ref_args m' c r.2.mem (h c)⟩
    obtain ⟨a0, a1, a2, a3, a4, a5, a6, a7, a8, a9, a10, a11, a12, a13, a14⟩ := hagree c
    have H := Cert.WholeFinite.reals _ _ _ _ _ _ _ _ _ _ _ _ _ _ _ (hpre c)
    refine Eq.trans ?_ (Cert.WholeValue.value m g c H).symm
    rw [← a0, ← a1, ← a2, ← a3, ← a4, ← a5, ← a6, ← a7, ← a8] at H
    rw [← a0, ← a1, ← a2, ← a3, ← a4, ← a5, ← a6, ← a7, ← a8, ← a9, ← a10, ← a11, ← a12, ← a13, ← a14]
    exact Cert.WholeRef.value (StableHlo.launchContents m' c) H

/-- Everything claimed. -/
theorem claim : Cert.Claim :=
  ⟨Cert.Coarse.Gen.facts, Cert.CoarseIdeal.Gen.facts, Cert.CoarseRefIdeal.Gen.facts, Cert.Up.Gen.facts, Cert.UpIdeal.Gen.facts,
    Cert.UpRefIdeal.Gen.facts, Cert.Mix.Gen.facts, Cert.MixIdeal.Gen.facts, Cert.MixRefIdeal.Gen.facts, Cert.Kernel.Gen.facts, Cert.KernelIdeal.Gen.facts,
    Cert.ReferenceIdeal.Gen.facts, Cert.CoarseFinite.facts, Cert.UpFinite.facts, Cert.WholeFinite.facts,
    fun m g _ => Cert.Coarse.Gen.frame m g, fun m g _ => Cert.CoarseIdeal.Gen.frame m g, fun m g _ => Cert.CoarseIdeal.Gen.frame m g,
    ref_frame, fun m g _ => ref_frame m g trivial,
    fun m g _ => Cert.Up.Gen.frame m g, fun m g _ => Cert.UpIdeal.Gen.frame m g, fun m g _ => Cert.UpIdeal.Gen.frame m g,
    up_ref_frame, fun m g _ => up_ref_frame m g trivial,
    fun m g _ => Cert.Mix.Gen.frame m g, fun m g _ => Cert.MixIdeal.Gen.frame m g, mix_ref_frame,
    fun m g _ => Cert.Kernel.Gen.frame m g, fun m g _ => Cert.KernelIdeal.Gen.frame m g, fun m g _ => Cert.KernelIdeal.Gen.frame m g,
    whole_ref_frame, fun m g _ => whole_ref_frame m g trivial,
    trivial, algebraic, trivial, up_algebraic, trivial, mix_algebraic, trivial, whole_algebraic⟩

end Cert.Proof

end
